-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample [hPre_finite_sample : Cert.Pre_finite_sample.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample [hPre_finite_sample : Cert.Pre_finite_sample.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_below_infinity [hPre_below_infinity : Cert.Pre_below_infinity.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_below_infinity.fn (F := Ideal) (m ((c.tc : Thread Cert.Kernel8Ideal.nD Cert.Kernel8Ideal.τ).loc Cert.Kernel8Ideal.main_arg0))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_below_infinity [hPre_below_infinity : Cert.Pre_below_infinity.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_below_infinity.fn (F := Ideal) (m ((c.tc : Thread Cert.Reference8Ideal.nD Cert.Reference8Ideal.τ).loc Cert.Reference8Ideal.main_arg0))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_sample [hKernel5Ideal : Cert.Kernel5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_sample [hReference5Ideal : Cert.Reference5Ideal.Facts] [hPre_finite_sample : Cert.Pre_finite_sample.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Kernel8Ideal_pre_below_infinity [hKernel8Ideal : Cert.Kernel8Ideal.Facts] [hPre_below_infinity : Cert.Pre_below_infinity.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_below_infinity m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8Ideal_pre_below_infinity [hReference8Ideal : Cert.Reference8Ideal.Facts] [hPre_below_infinity : Cert.Pre_below_infinity.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_below_infinity m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_v68) = v4 c
          ∧ r.2.mem ((c.tc : Thread Cert.Reference4Ideal.nD Cert.Reference4Ideal.τ).loc Cert.Reference4Ideal.main_v70) = v5 c
          ∧ r.2.mem ((c.tc : Thread Cert.Reference4Ideal.nD Cert.Reference4Ideal.τ).loc Cert.Reference4Ideal.main_v71) = v6 c
          ∧ r.2.mem ((c.tc : Thread Cert.Reference4Ideal.nD Cert.Reference4Ideal.τ).loc Cert.Reference4Ideal.main_v73) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "mask" .f32 0xF149F2CA#32 ⊥

def algebraic_Kernel5Ideal_Reference5Ideal_pre_finite_sample [hKernel5Ideal : Cert.Kernel5Ideal.Facts] [hReference5Ideal : Cert.Reference5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_below_infinity [hKernel8Ideal : Cert.Kernel8Ideal.Facts] [hReference8Ideal : Cert.Reference8Ideal.Facts] [hPre_below_infinity : Cert.Pre_below_infinity.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_below_infinity m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v110) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_finite_sample : Cert.Pre_finite_sample.Facts) (hPre_below_infinity : Cert.Pre_below_infinity.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_sample (hKernel5Ideal := hKernel5Ideal) (hPre_finite_sample := hPre_finite_sample)
    ∧ quiescent_Reference5Ideal (hReference5Ideal := hReference5Ideal)
    ∧ quiescent_Reference5Ideal_pre_finite_sample (hReference5Ideal := hReference5Ideal) (hPre_finite_sample := hPre_finite_sample)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_below_infinity (hKernel8Ideal := hKernel8Ideal) (hPre_below_infinity := hPre_below_infinity)
    ∧ quiescent_Reference8Ideal (hReference8Ideal := hReference8Ideal)
    ∧ quiescent_Reference8Ideal_pre_below_infinity (hReference8Ideal := hReference8Ideal) (hPre_below_infinity := hPre_below_infinity)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_sample (hKernel5Ideal := hKernel5Ideal) (hReference5Ideal := hReference5Ideal) (hPre_finite_sample := hPre_finite_sample)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_below_infinity (hKernel8Ideal := hKernel8Ideal) (hReference8Ideal := hReference8Ideal) (hPre_below_infinity := hPre_below_infinity)
    ∧ preserves_Kernel9_Kernel9Ideal
    ∧ algebraic_Kernel9Ideal_Reference9Ideal (hKernel9Ideal := hKernel9Ideal) (hReference9Ideal := hReference9Ideal)
-- ==== Pre_below_infinity.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)

variable [Facts]

def fn {F : FTy → Type} [FloatOps F] (main_arg0 : FVec F S8192x128 .f32) : IVec S8192x128 1 :=
  let main_cst : FVec F S_ .f32 := constant S_ .f32 0x7F800000#32
  let main_v0 : FVec F S8192x128 .f32 := broadcastInDim S8192x128 ![] bcast_S_S8192x128 main_cst
  let main_v1 : IVec S8192x128 1 := cmpf .olt main_arg0 main_v0
  main_v1
-- ==== Pre_finite_sample.lean ====
abbrev S1024x1024 : Shape := ⟨2, ![1024, 1024]⟩
abbrev S2x16x32768x128 : Shape := ⟨4, ![2, 16, 32768, 128]⟩
abbrev S16x8x4096 : Shape := ⟨3, ![16, 8, 4096]⟩
abbrev S1024x128 : Shape := ⟨2, ![1024, 128]⟩
abbrev S16x8x128 : Shape := ⟨3, ![16, 8, 128]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  bcast_S_S2x16x32768x128 : S_.BroadcastsInDim S2x16x32768x128 (![] : Fin 0 → Fin S2x16x32768x128.rank)
  bcast_S_S16x8x4096 : S_.BroadcastsInDim S16x8x4096 (![] : Fin 0 → Fin S16x8x4096.rank)
  bcast_S_S1024x128 : S_.BroadcastsInDim S1024x128 (![] : Fin 0 → Fin S1024x128.rank)
  bcast_S_S16x8x128 : S_.BroadcastsInDim S16x8x128 (![] : Fin 0 → Fin S16x8x128.rank)

variable [Facts]

def fn_part1 {F : FTy → Type} [FloatOps F] (main_v3 : IVec S1024x1024 1) (main_v6 : IVec S2x16x32768x128 1) (main_v9 : IVec S16x8x4096 1) (main_v12 : IVec S1024x128 1) (main_v15 : IVec S16x8x128 1) (main_v17 : FVec F S1024x1024 .f32) (main_cst_4 : FVec F S_ .f32) : IVec S1024x1024 1 × IVec S2x16x32768x128 1 × IVec S16x8x4096 1 × IVec S1024x128 1 × IVec S16x8x128 1 × IVec S1024x1024 1 :=
  let main_v18 : FVec F S1024x1024 .f32 := broadcastInDim S1024x1024 ![] bcast_S_S1024x1024 main_cst_4
  let main_v19 : IVec S1024x1024 1 := cmpf .olt main_v17 main_v18
  (main_v3, main_v6, main_v9, main_v12, main_v15, main_v19)

def fn {F : FTy → Type} [FloatOps F] (main_arg0 : FVec F S1024x1024 .bf16) (main_arg1 : FVec F S2x16x32768x128 .f32) (main_arg2 : FVec F S2x16x32768x128 .f32) (main_arg3 : FVec F S16x8x4096 .f32) (main_arg4 : FVec F S1024x128 .f32) (main_arg5 : FVec F S16x8x128 .f32) (main_arg6 : FVec F S1024x1024 .bf16) (main_arg7 : FVec F S1024x1024 .bf16) (main_arg8 : FVec F S1024x1024 .bf16) : IVec S1024x1024 1 × IVec S2x16x32768x128 1 × IVec S16x8x4096 1 × IVec S1024x128 1 × IVec S16x8x128 1 × IVec S1024x1024 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_v4 : FVec F S2x16x32768x128 .f32 := Host.absf main_arg1
  let main_cst_0 : FVec F S_ .f32 := constant S_ .f32 0x7F800000#32
  let main_v5 : FVec F S2x16x32768x128 .f32 := broadcastInDim S2x16x32768x128 ![] bcast_S_S2x16x32768x128 main_cst_0
  let main_v6 : IVec S2x16x32768x128 1 := cmpf .olt main_v4 main_v5
  let main_v7 : FVec F S16x8x4096 .f32 := Host.absf main_arg3
  let main_cst_1 : FVec F S_ .f32 := constant S_ .f32 0x7F800000#32
  let main_v8 : FVec F S16x8x4096 .f32 := broadcastInDim S16x8x4096 ![] bcast_S_S16x8x4096 main_cst_1
  let main_v9 : IVec S16x8x4096 1 := cmpf .olt main_v7 main_v8
  let main_v10 : FVec F S1024x128 .f32 := Host.absf main_arg4
  let main_cst_2 : FVec F S_ .f32 := constant S_ .f32 0x7F800000#32
  let main_v11 : FVec F S1024x128 .f32 := broadcastInDim S1024x128 ![] bcast_S_S1024x128 main_cst_2
  let main_v12 : IVec S1024x128 1 := cmpf .olt main_v10 main_v11
  let main_v13 : FVec F S16x8x128 .f32 := Host.absf main_arg5
  let main_cst_3 : FVec F S_ .f32 := constant S_ .f32 0x7F800000#32
  let main_v14 : FVec F S16x8x128 .f32 := broadcastInDim S16x8x128 ![] bcast_S_S16x8x128 main_cst_3
  let main_v15 : IVec S16x8x128 1 := cmpf .olt main_v13 main_v14
  let main_v16 : FVec F S1024x1024 .f32 := (extf .f32 · bitsLt_bf16_f32) main_arg6
  let main_v17 : FVec F S1024x1024 .f32 := Host.absf main_v16
  let main_cst_4 : FVec F S_ .f32 := constant S_ .f32 0x7F800000#32
  fn_part1 (F := F) main_v3 main_v6 main_v9 main_v12 main_v15 main_v17 main_cst_4
-- ==== Pre_finite_scores.lean ====
abbrev S8192x1024 : Shape := ⟨2, ![8192, 1024]⟩
abbrev S8192x128 : Shape := ⟨2, ![8192, 128]⟩
abbrev S4x8x2048 : Shape := ⟨3, ![4, 8, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x128 : S_.BroadcastsInDim S8192x128 (![] : Fin 0 → Fin S8192x128.rank)
  bcast_S_S4x8x2048 : S_.BroadcastsInDim S4x8x2048 (![] : Fin 0 → Fin S4x8x2048.rank)

variable [Facts]

def fn {F : FTy → Type} [FloatOps F] (main_arg0 : FVec F S8192x1024 .bf16) (main_arg1 : FVec F S8192x1024 .bf16) (main_arg2 : FVec F S8192x1024 .bf16) (main_arg3 : FVec F S8192x128 .f32) (main_arg4 : FVec F S4x8x2048 .f32) (main_arg5 : FVec F S8192x1024 .bf16) : IVec S8192x1024 1 × IVec S8192x1024 1 × IVec S8192x128 1 × IVec S4x8x2048 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x128 .f32 := Host.absf main_arg3
  let main_cst_1 : FVec F S_ .f32 := constant S_ .f32 0x7F800000#32
  let main_v9 : FVec F S8192x128 .f32 := broadcastInDim S8192x128 ![] bcast_S_S8192x128 main_cst_1
  let main_v10 : IVec S8192x128 1 := cmpf .olt main_v8 main_v9
  let main_v11 : FVec F S4x8x2048 .f32 := Host.absf main_arg4
  let main_cst_2 : FVec F S_ .f32 := constant S_ .f32 0x7F800000#32
  let main_v12 : FVec F S4x8x2048 .f32 := broadcastInDim S4x8x2048 ![] bcast_S_S4x8x2048 main_cst_2
  let main_v13 : IVec S4x8x2048 1 := cmpf .olt main_v11 main_v12
  (main_v3, main_v7, main_v10, main_v13)
-- ==== Kernel.lean ====
abbrev S8192x1024 : Shape := ⟨2, ![8192, 1024]⟩
abbrev S8192x128 : Shape := ⟨2, ![8192, 128]⟩
abbrev S4x8x2048 : Shape := ⟨3, ![4, 8, 2048]⟩
abbrev S2048x128 : Shape := ⟨2, ![2048, 128]⟩
abbrev S1x8x2048 : Shape := ⟨3, ![1, 8, 2048]⟩
abbrev S2048 : Shape := ⟨1, ![2048]⟩
abbrev S2048x1 : Shape := ⟨2, ![2048, 1]⟩
abbrev S1x1x2048 : Shape := ⟨3, ![1, 1, 2048]⟩
abbrev S1x2048 : Shape := ⟨2, ![1, 2048]⟩
abbrev S512x128 : Shape := ⟨2, ![512, 128]⟩
abbrev S512x512 : Shape := ⟨2, ![512, 512]⟩
abbrev S1x512 : Shape := ⟨2, ![1, 512]⟩
abbrev S512x1 : Shape := ⟨2, ![512, 1]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x128, .f32⟩
  | .hbm, ⟨4, _⟩ => ⟨S4x8x2048, .f32⟩
  | .hbm, ⟨5, _⟩ => ⟨S8192x1024, .bf16⟩
  | .hbm, ⟨6, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_2 : Index := 0#32
  let arg1 : BitVec 32 := BitVec.ofNat 32 (i 1).val
  let v8 : Index := Scalar.indexCast arg1
  let c0_3 : Index := 0#32
  ![0, v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x128 : Shape := ⟨2, ![8192, 128]⟩
abbrev S4x8x2048 : Shape := ⟨3, ![4, 8, 2048]⟩
abbrev S4x2048x8x128 : Shape := ⟨4, ![4, 2048, 8, 128]⟩
abbrev S4x2048x128 : Shape := ⟨3, ![4, 2048, 128]⟩
abbrev S4x2048x8 : Shape := ⟨3, ![4, 2048, 8]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x128x2048 : Shape := ⟨4, ![4, 8, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x128, .f32⟩
  | .hbm, ⟨4, _⟩ => ⟨S4x8x2048, .f32⟩
  | .hbm, ⟨5, _⟩ => ⟨S8192x1024, .bf16⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S8192x1024, .f32⟩
  | .hbm, ⟨11, _⟩ => ⟨S4x2048x8x128, .f32⟩
  | .hbm, ⟨12, _⟩ => ⟨S4x2048x128, .f32⟩
  | .hbm, ⟨13, _⟩ => ⟨S4x2048x8, .f32⟩
  | .hbm, ⟨14, _⟩ => ⟨S4x8x2048, .f32⟩
  | .hbm, ⟨15, _⟩ => ⟨S4x8x2048x2048, .f32⟩
  | .hbm, ⟨16, _⟩ => ⟨S4x8x2048x1, .f32⟩
  | .hbm, ⟨17, _⟩ => ⟨S4x8x1x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S4x8x2048x2048, .f32⟩
  | .hbm, ⟨28, _⟩ => ⟨S_, .f32⟩
  | .hbm, ⟨29, _⟩ => ⟨S_, .f32⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S_, .f32⟩
  | .hbm, ⟨34, _⟩ => ⟨S4x8x2048x2048, .i1⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x8x128x2048, .f32⟩
  | .hbm, ⟨52, _⟩ => ⟨S4x2048x8x128, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S8192x2048 : Shape := ⟨2, ![8192, 2048]⟩
abbrev S2x11264x2048 : Shape := ⟨3, ![2, 11264, 2048]⟩
abbrev S8192x1024 : Shape := ⟨2, ![8192, 1024]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x11264x2048, .bf16⟩
  | .hbm, ⟨2, _⟩ => ⟨S8192x1024, .f32⟩
  | .hbm, ⟨3, _⟩ => ⟨S8192x1024, .bf16⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 7], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c2_i32_3 : BitVec 32 := 2#32
  let v9 : BitVec 1 := Scalar.cmpi .sgt arg1 c2_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c3_i32_0 : BitVec 32 := 3#32
  let v1 : BitVec 32 := Scalar.maxsi c0_i32 v0
  let v2 : BitVec 32 := Scalar.minsi c3_i32_0 v1
  let c0_i32_1 : BitVec 32 := 0#32
  ![arg0.toNat, v2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x2048 : Shape := ⟨2, ![8192, 2048]⟩
abbrev S2x11264x2048 : Shape := ⟨3, ![2, 11264, 2048]⟩
abbrev S1x7168x2048 : Shape := ⟨3, ![1, 7168, 2048]⟩
abbrev S7168x2048 : Shape := ⟨2, ![7168, 2048]⟩
abbrev S8192x7168 : Shape := ⟨2, ![8192, 7168]⟩
abbrev S8192x1024 : Shape := ⟨2, ![8192, 1024]⟩
abbrev S_ : Shape := ⟨0, ![]⟩
abbrev S8192x4096 : Shape := ⟨2, ![8192, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x11264x2048, .bf16⟩
  | .hbm, ⟨2, _⟩ => ⟨S1x7168x2048, .bf16⟩
  | .hbm, ⟨3, _⟩ => ⟨S7168x2048, .bf16⟩
  | .hbm, ⟨4, _⟩ => ⟨S8192x7168, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x4096, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S8192x2048 : Shape := ⟨2, ![8192, 2048]⟩
abbrev S2x24x6144 : Shape := ⟨3, ![2, 24, 6144]⟩
abbrev S2x1x2048 : Shape := ⟨3, ![2, 1, 2048]⟩
abbrev S2x1024x2048 : Shape := ⟨3, ![2, 1024, 2048]⟩
abbrev S2x2048x2048 : Shape := ⟨3, ![2, 2048, 2048]⟩
abbrev S512x1024 : Shape := ⟨2, ![512, 1024]⟩
abbrev S512x4096 : Shape := ⟨2, ![512, 4096]⟩
abbrev S512x2048 : Shape := ⟨2, ![512, 2048]⟩
abbrev S1x24x6144 : Shape := ⟨3, ![1, 24, 6144]⟩
abbrev S1x1024x2048 : Shape := ⟨3, ![1, 1024, 2048]⟩
abbrev S1x2048x2048 : Shape := ⟨3, ![1, 2048, 2048]⟩
abbrev S1x1x2048 : Shape := ⟨3, ![1, 1, 2048]⟩
abbrev S1x1024x512 : Shape := ⟨3, ![1, 1024, 512]⟩
abbrev S1024x512 : Shape := ⟨2, ![1024, 512]⟩
abbrev S512x512 : Shape := ⟨2, ![512, 512]⟩
abbrev S2048x2048 : Shape := ⟨2, ![2048, 2048]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S2x24x6144, .f32⟩
  | .hbm, ⟨5, _⟩ => ⟨S2x1x2048, .f32⟩
  | .hbm, ⟨6, _⟩ => ⟨S2x1024x2048, .bf16⟩
  | .hbm, ⟨7, _⟩ => ⟨S2x1024x2048, .bf16⟩
  | .hbm, ⟨8, _⟩ => ⟨S2x2048x2048, .bf16⟩
  | .hbm, ⟨9, _⟩ => ⟨S8192x2048, .f32⟩
  | .hbm, ⟨10, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .f32⟩
  | .local _ .vmem, ⟨7, _⟩ => ⟨S512x2048, .f32⟩
  | .local _ .vmem, ⟨8, _⟩ => ⟨S1x24x6144, .f32⟩
  | .local _ .vmem, ⟨9, _⟩ => ⟨S1x1024x2048, .bf16⟩
  | .local _ .vmem, ⟨10, _⟩ => ⟨S1x1024x2048, .bf16⟩
  | .local _ .vmem, ⟨11, _⟩ => ⟨S1x2048x2048, .bf16⟩
  | .local _ .vmem, ⟨12, _⟩ => ⟨S1x24x6144, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0_58 : Index := 0#32
  let c0_i32_57 : BitVec 32 := 0#32
  let arg0 : BitVec 32 := BitVec.ofNat 32 (i 0).val
  let c512_i32 : BitVec 32 := 512#32
  let v74 : BitVec 32 := Scalar.muli arg0 c512_i32
  let c0_i32 : BitVec 32 := 0#32
  let v75 : BitVec 32 := Scalar.addi v74 c0_i32
  let c2048_i32 : BitVec 32 := 2048#32
  let v76 : BitVec 32 := Scalar.divsi v75 c2048_i32
  let v77 : BitVec 32 := Scalar.addi c0_i32_57 v76
  let v78 : Index := Scalar.indexCast v77
  let c4096 : Index := 4096#32
  ![0, v78.toNat, 4096]
def k0_off2 (i : grid0.Coords) : Fin 3 → Nat :=
  let c0_63 : Index := 0#32
  let c0_i32_57 : BitVec 32 := 0#32
  let arg0 : BitVec 32 := BitVec.ofNat 32 (i 0).val
  let c512_i32 : BitVec 32 := 512#32
  let v74 : BitVec 32 := Scalar.muli arg0 c512_i32
  let c0_i32 : BitVec 32 := 0#32
  let v75 : BitVec 32 := Scalar.addi v74 c0_i32
  let c2048_i32 : BitVec 32 := 2048#32
  let v76 : BitVec 32 := Scalar.divsi v75 c2048_i32
  let v77 : BitVec 32 := Scalar.addi c0_i32_57 v76
  let v86 : Index := Scalar.indexCast v77
  let c0_64 : Index := 0#32
  ![0, v86.toNat, 0]
def k0_off3 (i : grid0.Coords) : Fin 3 → Nat :=
  let c0_65 : Index := 0#32
  let c0_i32_57 : BitVec 32 := 0#32
  let arg0 : BitVec 32 := BitVec.ofNat 32 (i 0).val
  let c512_i32 : BitVec 32 := 512#32
  let v74 : BitVec 32 := Scalar.muli arg0 c512_i32
  let c0_i32 : BitVec 32 := 0#32
  let v75 : BitVec 32 := Scalar.addi v74 c0_i32
  let c2048_i32 : BitVec 32 := 2048#32
  let v76 : BitVec 32 := Scalar.divsi v75 c2048_i32
  let v77 : BitVec 32 := Scalar.addi c0_i32_57 v76
  let v89 : Index := Scalar.indexCast v77
  let c2048_66 : Index := 2048#32
  ![0, v89.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x24x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x24x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x1024 : Shape := ⟨2, ![8192, 1024]⟩
abbrev S8192x4096 : Shape := ⟨2, ![8192, 4096]⟩
abbrev S8192x2048 : Shape := ⟨2, ![8192, 2048]⟩
abbrev S2x24x6144 : Shape := ⟨3, ![2, 24, 6144]⟩
abbrev S2x1x2048 : Shape := ⟨3, ![2, 1, 2048]⟩
abbrev S2x1024x2048 : Shape := ⟨3, ![2, 1024, 2048]⟩
abbrev S2x2048x2048 : Shape := ⟨3, ![2, 2048, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x4x2048 : Shape := ⟨3, ![1, 4, 2048]⟩
abbrev S4x2048 : Shape := ⟨2, ![4, 2048]⟩
abbrev S4x2048x2048 : Shape := ⟨3, ![4, 2048, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S1x2048 : Shape := ⟨2, ![1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8192x2048, .f32⟩
  | .hbm, ⟨4, _⟩ => ⟨S2x24x6144, .f32⟩
  | .hbm, ⟨5, _⟩ => ⟨S2x1x2048, .f32⟩
  | .hbm, ⟨6, _⟩ => ⟨S2x1024x2048, .bf16⟩
  | .hbm, ⟨7, _⟩ => ⟨S2x1024x2048, .bf16⟩
  | .hbm, ⟨8, _⟩ => ⟨S2x2048x2048, .bf16⟩
  | .hbm, ⟨9, _⟩ => ⟨S1x1024x2048, .bf16⟩
  | .hbm, ⟨10, _⟩ => ⟨S1024x2048, .bf16⟩
  | .hbm, ⟨11, _⟩ => ⟨S8192x2048, .f32⟩
  | .hbm, ⟨12, _⟩ => ⟨S1x1024x2048, .bf16⟩
  | .hbm, ⟨13, _⟩ => ⟨S1024x2048, .bf16⟩
  | .hbm, ⟨14, _⟩ => ⟨S8192x2048, .f32⟩
  | .hbm, ⟨15, _⟩ => ⟨S8192x4096, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x2048x2048, .bf16⟩
  | .hbm, ⟨22, _⟩ => ⟨S2048x2048, .bf16⟩
  | .hbm, ⟨23, _⟩ => ⟨S2048x2048, .f32⟩
  | .hbm, ⟨24, _⟩ => ⟨S8192x2048, .f32⟩
  | .hbm, ⟨25, _⟩ => ⟨S1x4x2048, .f32⟩
  | .hbm, ⟨26, _⟩ => ⟨S4x2048, .f32⟩
  | .hbm, ⟨27, _⟩ => ⟨S1x4x2048, .f32⟩
  | .hbm, ⟨28, _⟩ => ⟨S4x2048, .f32⟩
  | .hbm, ⟨29, _⟩ => ⟨S1x4x2048, .f32⟩
  | .hbm, ⟨30, _⟩ => ⟨S4x2048, .f32⟩
  | .hbm, ⟨31, _⟩ => ⟨S4x2048x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x2048x2048, .f32⟩
  | .hbm, ⟨49, _⟩ => ⟨S4x2048x2048, .f32⟩
  | .hbm, ⟨50, _⟩ => ⟨S1x1x2048, .f32⟩
  | .hbm, ⟨51, _⟩ => ⟨S1x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S4x1x2048, .f32⟩
  | .hbm, ⟨56, _⟩ => ⟨S_, .f32⟩
  | .hbm, ⟨57, _⟩ => ⟨S4x1x2048, .f32⟩
  | .hbm, ⟨58, _⟩ => ⟨S4x1x2048, .f32⟩
  | .hbm, ⟨59, _⟩ => ⟨S4x2048x2048, .f32⟩
  | .hbm, ⟨60, _⟩ => ⟨S4x2048x2048, .f32⟩
  | .hbm, ⟨61, _⟩ => ⟨S4x1x2048, .f32⟩
  | .hbm, ⟨62, _⟩ => ⟨S4x2048x2048, .f32⟩
  | .hbm, ⟨63, _⟩ => ⟨S4x2048x2048, .f32⟩
  | .hbm, ⟨64, _⟩ => ⟨S8192x2048, .f32⟩
  | .hbm, ⟨65, _⟩ => ⟨S8192x2048, .f32⟩
  | .hbm, ⟨66, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Kernel4.lean ====
abbrev S8192x2048 : Shape := ⟨2, ![8192, 2048]⟩
abbrev S2x11264x2048 : Shape := ⟨3, ![2, 11264, 2048]⟩
abbrev S2x128x2048 : Shape := ⟨3, ![2, 128, 2048]⟩
abbrev S2x1x128 : Shape := ⟨3, ![2, 1, 128]⟩
abbrev S2x8192x8 : Shape := ⟨3, ![2, 8192, 8]⟩
abbrev S2x65536x128 : Shape := ⟨3, ![2, 65536, 128]⟩
abbrev S8192x128 : Shape := ⟨2, ![8192, 128]⟩
abbrev S8192x1024 : Shape := ⟨2, ![8192, 1024]⟩
abbrev S1024x2048 : Shape := ⟨2, ![1024, 2048]⟩
abbrev S1x1024x2048 : Shape := ⟨3, ![1, 1024, 2048]⟩
abbrev S1x128x2048 : Shape := ⟨3, ![1, 128, 2048]⟩
abbrev S1x1x128 : Shape := ⟨3, ![1, 1, 128]⟩
abbrev S1024x128 : Shape := ⟨2, ![1024, 128]⟩
abbrev S1x1024x8 : Shape := ⟨3, ![1, 1024, 8]⟩
abbrev S1024x1024 : Shape := ⟨2, ![1024, 1024]⟩
abbrev S1x8192x128 : Shape := ⟨3, ![1, 8192, 128]⟩
abbrev S128x2048 : Shape := ⟨2, ![128, 2048]⟩
abbrev S1x128 : Shape := ⟨2, ![1, 128]⟩
abbrev S1024x8 : Shape := ⟨2, ![1024, 8]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 17
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S2x11264x2048, .bf16⟩
  | .hbm, ⟨2, _⟩ => ⟨S2x128x2048, .bf16⟩
  | .hbm, ⟨3, _⟩ => ⟨S2x1x128, .f32⟩
  | .hbm, ⟨4, _⟩ => ⟨S2x1x128, .f32⟩
  | .hbm, ⟨5, _⟩ => ⟨S2x1x128, .f32⟩
  | .hbm, ⟨6, _⟩ => ⟨S2x8192x8, .f32⟩
  | .hbm, ⟨7, _⟩ => ⟨S2x65536x128, .f32⟩
  | .hbm, ⟨8, _⟩ => ⟨S2x65536x128, .f32⟩
  | .hbm, ⟨9, _⟩ => ⟨S8192x128, .f32⟩
  | .hbm, ⟨10, _⟩ => ⟨S2x8192x8, .f32⟩
  | .hbm, ⟨11, _⟩ => ⟨S8192x1024, .bf16⟩
  | .hbm, ⟨12, _⟩ => ⟨S2x65536x128, .f32⟩
  | .hbm, ⟨13, _⟩ => ⟨S2x65536x128, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x128x2048, .bf16⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1024x128, .f32⟩
  | .local _ .vmem, ⟨9, _⟩ => ⟨S1024x128, .f32⟩
  | .local _ .vmem, ⟨10, _⟩ => ⟨S1x1024x8, .f32⟩
  | .local _ .vmem, ⟨11, _⟩ => ⟨S1x1024x8, .f32⟩
  | .local _ .vmem, ⟨12, _⟩ => ⟨S1024x1024, .bf16⟩
  | .local _ .vmem, ⟨13, _⟩ => ⟨S1024x1024, .bf16⟩
  | .local _ .vmem, ⟨14, _⟩ => ⟨S1x8192x128, .f32⟩
  | .local _ .vmem, ⟨15, _⟩ => ⟨S1x8192x128, .f32⟩
  | .local _ .vmem, ⟨16, _⟩ => ⟨S1x8192x128, .f32⟩
  | .local _ .vmem, ⟨17, _⟩ => ⟨S1x8192x128, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S8192x2048 : Shape := ⟨2, ![8192, 2048]⟩
abbrev S2x11264x2048 : Shape := ⟨3, ![2, 11264, 2048]⟩
abbrev S2x128x2048 : Shape := ⟨3, ![2, 128, 2048]⟩
abbrev S2x1x128 : Shape := ⟨3, ![2, 1, 128]⟩
abbrev S2x8192x8 : Shape := ⟨3, ![2, 8192, 8]⟩
abbrev S2x65536x128 : Shape := ⟨3, ![2, 65536, 128]⟩
abbrev S1x128x2048 : Shape := ⟨3, ![1, 128, 2048]⟩
abbrev S128x2048 : Shape := ⟨2, ![128, 2048]⟩
abbrev S8192x128 : Shape := ⟨2, ![8192, 128]⟩
abbrev S1x1x128 : Shape := ⟨3, ![1, 1, 128]⟩
abbrev S1x128 : Shape := ⟨2, ![1, 128]⟩
abbrev S_ : Shape := ⟨0, ![]⟩
abbrev S1x4096x2048 : Shape := ⟨3, ![1, 4096, 2048]⟩
abbrev S4096x2048 : Shape := ⟨2, ![4096, 2048]⟩
abbrev S8192x4096 : Shape := ⟨2, ![8192, 4096]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩
abbrev S1x8192x8 : Shape := ⟨3, ![1, 8192, 8]⟩
abbrev S1x65536x128 : Shape := ⟨3, ![1, 65536, 128]⟩
abbrev S65536x128 : Shape := ⟨2, ![65536, 128]⟩

abbrev nBuf : Space → Nat
  | .hbm => 113
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x11264x2048, .bf16⟩
  | .hbm, ⟨2, _⟩ => ⟨S2x128x2048, .bf16⟩
  | .hbm, ⟨3, _⟩ => ⟨S2x1x128, .f32⟩
  | .hbm, ⟨4, _⟩ => ⟨S2x1x128, .f32⟩
  | .hbm, ⟨5, _⟩ => ⟨S2x1x128, .f32⟩
  | .hbm, ⟨6, _⟩ => ⟨S2x8192x8, .f32⟩
  | .hbm, ⟨7, _⟩ => ⟨S2x65536x128, .f32⟩
  | .hbm, ⟨8, _⟩ => ⟨S2x65536x128, .f32⟩
  | .hbm, ⟨9, _⟩ => ⟨S1x128x2048, .bf16⟩
  | .hbm, ⟨10, _⟩ => ⟨S128x2048, .bf16⟩
  | .hbm, ⟨11, _⟩ => ⟨S8192x128, .f32⟩
  | .hbm, ⟨12, _⟩ => ⟨S1x1x128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .i1⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S1x4096x2048, .bf16⟩
  | .hbm, ⟨33, _⟩ => ⟨S4096x2048, .bf16⟩
  | .hbm, ⟨34, _⟩ => ⟨S8192x4096, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x8x128, .f32⟩
  | .hbm, ⟨40, _⟩ => ⟨S1x1x128, .f32⟩
  | .hbm, ⟨41, _⟩ => ⟨S1x128, .f32⟩
  | .hbm, ⟨42, _⟩ => ⟨S8192x8x128, .f32⟩
  | .hbm, ⟨43, _⟩ => ⟨S_, .f32⟩
  | .hbm, ⟨44, _⟩ => ⟨S8192x8, .f32⟩
  | .hbm, ⟨45, _⟩ => ⟨S8192x8x1, .f32⟩
  | .hbm, ⟨46, _⟩ => ⟨S_, .f32⟩
  | .hbm, ⟨47, _⟩ => ⟨S8192x8x1, .f32⟩
  | .hbm, ⟨48, _⟩ => ⟨S8192x8x1, .f32⟩
  | .hbm, ⟨49, _⟩ => ⟨S_, .f32⟩
  | .hbm, ⟨50, _⟩ => ⟨S8192x8x1, .f32⟩
  | .hbm, ⟨51, _⟩ => ⟨S8192x8x1, .f32⟩
  | .hbm, ⟨52, _⟩ => ⟨S8192x8x1, .f32⟩
  | .hbm, ⟨53, _⟩ => ⟨S8192x8x128, .f32⟩
  | .hbm, ⟨54, _⟩ => ⟨S8192x8x128, .f32⟩
  | .hbm, ⟨55, _⟩ => ⟨S1x1x128, .f32⟩
  | .hbm, ⟨56, _⟩ => ⟨S8192x8x128, .f32⟩
  | .hbm, ⟨57, _⟩ => ⟨S8192x8x128, .f32⟩
  | .hbm, ⟨58, _⟩ => ⟨S_, .f32⟩
  | .hbm, ⟨59, _⟩ => ⟨S8192x8x128, .f32⟩
  | .hbm, ⟨60, _⟩ => ⟨S8192x8x128, .f32⟩
  | .hbm, ⟨61, _⟩ => ⟨S8192x8x128, .f32⟩
  | .hbm, ⟨62, _⟩ => ⟨S1x1x128, .f32⟩
  | .hbm, ⟨63, _⟩ => ⟨S1x128, .f32⟩
  | .hbm, ⟨64, _⟩ => ⟨S8192x8x128, .f32⟩
  | .hbm, ⟨65, _⟩ => ⟨S_, .f32⟩
  | .hbm, ⟨66, _⟩ => ⟨S8192x8, .f32⟩
  | .hbm, ⟨67, _⟩ => ⟨S8192x8x1, .f32⟩
  | .hbm, ⟨68, _⟩ => ⟨S_, .f32⟩
  | .hbm, ⟨69, _⟩ => ⟨S8192x8x1, .f32⟩
  | .hbm, ⟨70, _⟩ => ⟨S8192x8x1, .f32⟩
  | .hbm, ⟨71, _⟩ => ⟨S_, .f32⟩
  | .hbm, ⟨72, _⟩ => ⟨S8192x8x1, .f32⟩
  | .hbm, ⟨73, _⟩ => ⟨S8192x8x1, .f32⟩
  | .hbm, ⟨74, _⟩ => ⟨S8192x8x1, .f32⟩
  | .hbm, ⟨75, _⟩ => ⟨S8192x8x128, .f32⟩
  | .hbm, ⟨76, _⟩ => ⟨S8192x8x128, .f32⟩
  | .hbm, ⟨77, _⟩ => ⟨S1x1x128, .f32⟩
  | .hbm, ⟨78, _⟩ => ⟨S8192x8x128, .f32⟩
  | .hbm, ⟨79, _⟩ => ⟨S8192x8x128, .f32⟩
  | .hbm, ⟨80, _⟩ => ⟨S8192x8, .f32⟩
  | .hbm, ⟨81, _⟩ => ⟨S1x8192x8, .f32⟩
  | .hbm, ⟨82, _⟩ => ⟨S8192x8, .f32⟩
  | .hbm, ⟨83, _⟩ => ⟨S1x8192x8, .f32⟩
  | .hbm, ⟨84, _⟩ => ⟨S1x8192x8, .f32⟩
  | .hbm, ⟨85, _⟩ => ⟨S2x8192x8, .f32⟩
  | .hbm, ⟨86, _⟩ => ⟨S8192x1024, .f32⟩
  | .hbm, ⟨87, _⟩ => ⟨S8192x1024, .bf16⟩
  | .hbm, ⟨88, _⟩ => ⟨S1x65536x128, .f32⟩
  | .hbm, ⟨89, _⟩ => ⟨S65536x128, .f32⟩
  | .hbm, ⟨90, _⟩ => ⟨S65536x128, .f32⟩
  | .hbm, ⟨91, _⟩ => ⟨S1x65536x128, .f32⟩
  | .hbm, ⟨92, _⟩ => ⟨S1x65536x128, .f32⟩
  | .hbm, ⟨93, _⟩ => ⟨S2x65536x128, .f32⟩
  | .hbm, ⟨94, _⟩ => ⟨S1x65536x128, .f32⟩
  | .hbm, ⟨95, _⟩ => ⟨S65536x128, .f32⟩
  | .hbm, ⟨96, _⟩ => ⟨S65536x128, .f32⟩
  | .hbm, ⟨97, _⟩ => ⟨S1x65536x128, .f32⟩
  | .hbm, ⟨98, _⟩ => ⟨S1x65536x128, .f32⟩
  | .hbm, ⟨99, _⟩ => ⟨S2x65536x128, .f32⟩
  | .hbm, ⟨100, _⟩ => ⟨S8192x1024, .f32⟩
  | .hbm, ⟨101, _⟩ => ⟨S8192x1024, .bf16⟩
  | .hbm, ⟨102, _⟩ => ⟨S8192x1024, .bf16⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_cst_0 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v72 : Ref sig .tc := ⟨.hbm, 111, rfl⟩
abbrev main_v73 : Ref sig .tc := ⟨.hbm, 112, rfl⟩

abbrev nD : Nat := 1
abbrev τ : Topo := Topo.v7x

variable {F : FTy → Type} [FloatOps F]
-- ==== Kernel5.lean ====
abbrev S1024x1024 : Shape := ⟨2, ![1024, 1024]⟩
abbrev S2x16x32768x128 : Shape := ⟨4, ![2, 16, 32768, 128]⟩
abbrev S16x8x4096 : Shape := ⟨3, ![16, 8, 4096]⟩
abbrev S1024x128 : Shape := ⟨2, ![1024, 128]⟩
abbrev S16x8x128 : Shape := ⟨3, ![16, 8, 128]⟩
abbrev S64x1024 : Shape := ⟨2, ![64, 1024]⟩
abbrev S1x1x16384x128 : Shape := ⟨4, ![1, 1, 16384, 128]⟩
abbrev S1x8x2048 : Shape := ⟨3, ![1, 8, 2048]⟩
abbrev S64x128 : Shape := ⟨2, ![64, 128]⟩
abbrev S1x8x128 : Shape := ⟨3, ![1, 8, 128]⟩
abbrev S8x64x128 : Shape := ⟨3, ![8, 64, 128]⟩
abbrev S1x64x128 : Shape := ⟨3, ![1, 64, 128]⟩
abbrev S64x1 : Shape := ⟨2, ![64, 1]⟩
abbrev S16384x128 : Shape := ⟨2, ![16384, 128]⟩
abbrev S2048x8x128 : Shape := ⟨3, ![2048, 8, 128]⟩
abbrev S8x2048x128 : Shape := ⟨3, ![8, 2048, 128]⟩
abbrev S1x2048x128 : Shape := ⟨3, ![1, 2048, 128]⟩
abbrev S2048x128 : Shape := ⟨2, ![2048, 128]⟩
abbrev S64x2048 : Shape := ⟨2, ![64, 2048]⟩
abbrev S1x1x2048 : Shape := ⟨3, ![1, 1, 2048]⟩
abbrev S1x2048 : Shape := ⟨2, ![1, 2048]⟩
abbrev S64 : Shape := ⟨1, ![64]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 10
  | .vmem => 23
  | .smem => 0
  | _ => 0

abbrev bufTy : (tb : Table) → Fin (tcTables nBuf tb) → BufTy
  | .hbm, ⟨0, _⟩ => ⟨S1024x1024, .bf16⟩
  | .hbm, ⟨1, _⟩ => ⟨S2x16x32768x128, .f32⟩
  | .hbm, ⟨2, _⟩ => ⟨S2x16x32768x128, .f32⟩
  | .hbm, ⟨3, _⟩ => ⟨S16x8x4096, .f32⟩
  | .hbm, ⟨4, _⟩ => ⟨S1024x128, .f32⟩
  | .hbm, ⟨5, _⟩ => ⟨S16x8x128, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .local _ .vmem, ⟨0, _⟩ => ⟨S64x1024, .bf16⟩
  | .local _ .vmem, ⟨1, _⟩ => ⟨S64x1024, .bf16⟩
  | .local _ .vmem, ⟨2, _⟩ => ⟨S1x1x16384x128, .f32⟩
  | .local _ .vmem, ⟨3, _⟩ => ⟨S1x1x16384x128, .f32⟩
  | .local _ .vmem, ⟨4, _⟩ => ⟨S1x1x16384x128, .f32⟩
  | .local _ .vmem, ⟨5, _⟩ => ⟨S1x1x16384x128, .f32⟩
  | .local _ .vmem, ⟨6, _⟩ => ⟨S1x8x2048, .f32⟩
  | .local _ .vmem, ⟨7, _⟩ => ⟨S1x8x2048, .f32⟩
  | .local _ .vmem, ⟨8, _⟩ => ⟨S64x128, .f32⟩
  | .local _ .vmem, ⟨9, _⟩ => ⟨S64x128, .f32⟩
  | .local _ .vmem, ⟨10, _⟩ => ⟨S1x8x128, .f32⟩
  | .local _ .vmem, ⟨11, _⟩ => ⟨S1x8x128, .f32⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S64x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S8x64x128, .f32⟩
  | .local _ .vmem, ⟨21, _⟩ => ⟨S8x64x128, .f32⟩
  | .local _ .vmem, ⟨22, _⟩ => ⟨S64x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v413 : BitVec 1 := Scalar.cmpi .eq arg1 c1_i32
  let v414 : BitVec 32 := Scalar.extui v413
  let c0_i32_209 : BitVec 32 := 0#32
  let v415 : BitVec 1 := Scalar.cmpi .ne v414 c0_i32_209
  v415

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel5Ideal.lean ====
variable {F : FTy → Type} [FloatOps F] [Named F]
def κ : String → Option EReal := fun
  | "mask" => some ⊥
  | _ => none
-- ==== Reference5Ideal.lean ====
abbrev S1024x1024 : Shape := ⟨2, ![1024, 1024]⟩
abbrev S2x16x32768x128 : Shape := ⟨4, ![2, 16, 32768, 128]⟩
abbrev S16x8x4096 : Shape := ⟨3, ![16, 8, 4096]⟩
abbrev S1024x128 : Shape := ⟨2, ![1024, 128]⟩
abbrev S16x8x128 : Shape := ⟨3, ![16, 8, 128]⟩
abbrev S16x64x8x128 : Shape := ⟨4, ![16, 64, 8, 128]⟩
abbrev S1x16x32768x128 : Shape := ⟨4, ![1, 16, 32768, 128]⟩
abbrev S16x32768x128 : Shape := ⟨3, ![16, 32768, 128]⟩
abbrev S16x4096x8x128 : Shape := ⟨4, ![16, 4096, 8, 128]⟩
abbrev S16x4160x8x128 : Shape := ⟨4, ![16, 4160, 8, 128]⟩
abbrev S16x64x128 : Shape := ⟨3, ![16, 64, 128]⟩
abbrev S16x64x8 : Shape := ⟨3, ![16, 64, 8]⟩
abbrev S16x8x64 : Shape := ⟨3, ![16, 8, 64]⟩
abbrev S16x8x4160 : Shape := ⟨3, ![16, 8, 4160]⟩
abbrev S16x8x64x4160 : Shape := ⟨4, ![16, 8, 64, 4160]⟩
abbrev S16x8x64x1 : Shape := ⟨4, ![16, 8, 64, 1]⟩
abbrev S16x8x1x4160 : Shape := ⟨4, ![16, 8, 1, 4160]⟩
abbrev S4160 : Shape := ⟨1, ![4160]⟩
abbrev S1x4160 : Shape := ⟨2, ![1, 4160]⟩
abbrev S64 : Shape := ⟨1, ![64]⟩
abbrev S64x1 : Shape := ⟨2, ![64, 1]⟩
abbrev S_ : Shape := ⟨0, ![]⟩
abbrev S64x4160 : Shape := ⟨2, ![64, 4160]⟩
abbrev S16x8x128x64 : Shape := ⟨4, ![16, 8, 128, 64]⟩

abbrev nBuf : Space → Nat
  | .hbm => 75
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2x16x32768x128, .f32⟩
  | .hbm, ⟨2, _⟩ => ⟨S2x16x32768x128, .f32⟩
  | .hbm, ⟨3, _⟩ => ⟨S16x8x4096, .f32⟩
  | .hbm, ⟨4, _⟩ => ⟨S1024x128, .f32⟩
  | .hbm, ⟨5, _⟩ => ⟨S16x8x128, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .f32⟩
  | .hbm, ⟨10, _⟩ => ⟨S16x64x8x128, .f32⟩
  | .hbm, ⟨11, _⟩ => ⟨S1x16x32768x128, .f32⟩
  | .hbm, ⟨12, _⟩ => ⟨S16x32768x128, .f32⟩
  | .hbm, ⟨13, _⟩ => ⟨S16x4096x8x128, .f32⟩
  | .hbm, ⟨14, _⟩ => ⟨S1024x1024, .f32⟩
  | .hbm, ⟨15, _⟩ => ⟨S16x64x8x128, .f32⟩
  | .hbm, ⟨16, _⟩ => ⟨S16x4160x8x128, .f32⟩
  | .hbm, ⟨17, _⟩ => ⟨S1x16x32768x128, .f32⟩
  | .hbm, ⟨18, _⟩ => ⟨S16x32768x128, .f32⟩
  | .hbm, ⟨19, _⟩ => ⟨S16x4096x8x128, .f32⟩
  | .hbm, ⟨20, _⟩ => ⟨S1024x1024, .f32⟩
  | .hbm, ⟨21, _⟩ => ⟨S16x64x8x128, .f32⟩
  | .hbm, ⟨22, _⟩ => ⟨S16x4160x8x128, .f32⟩
  | .hbm, ⟨23, _⟩ => ⟨S16x64x128, .f32⟩
  | .hbm, ⟨24, _⟩ => ⟨S16x64x8, .f32⟩
  | .hbm, ⟨25, _⟩ => ⟨S16x8x64, .f32⟩
  | .hbm, ⟨26, _⟩ => ⟨S16x8x4096, .f32⟩
  | .hbm, ⟨27, _⟩ => ⟨S16x8x64, .f32⟩
  | .hbm, ⟨28, _⟩ => ⟨S16x8x4160, .f32⟩
  | .hbm, ⟨29, _⟩ => ⟨S16x8x64x4160, .f32⟩
  | .hbm, ⟨30, _⟩ => ⟨S16x8x64x1, .f32⟩
  | .hbm, ⟨31, _⟩ => ⟨S16x8x1x4160, .f32⟩
  | .hbm, ⟨32, _⟩ => ⟨S16x8x64x4160, .f32⟩
  | .hbm, ⟨33, _⟩ => ⟨S16x8x64x4160, .f32⟩
  | .hbm, ⟨34, _⟩ => ⟨S16x8x64x4160, .f32⟩
  | .hbm, ⟨35, _⟩ => ⟨S4160, .i32⟩
  | .hbm, ⟨36, _⟩ => ⟨S1x4160, .i32⟩
  | .hbm, ⟨37, _⟩ => ⟨S64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S64x4160, .i32⟩
  | .hbm, ⟨43, _⟩ => ⟨S64x4160, .i32⟩
  | .hbm, ⟨44, _⟩ => ⟨S64x4160, .i1⟩
  | .hbm, ⟨45, _⟩ => ⟨S16x8x64x4160, .f32⟩
  | .hbm, ⟨46, _⟩ => ⟨S_, .f32⟩
  | .hbm, ⟨47, _⟩ => ⟨S_, .f32⟩
  | .hbm, ⟨48, _⟩ => ⟨S16x8x64x4160, .f32⟩
  | .hbm, ⟨49, _⟩ => ⟨S16x8x64x4160, .f32⟩
  | .hbm, ⟨50, _⟩ => ⟨S_, .f32⟩
  | .hbm, ⟨51, _⟩ => ⟨S_, .f32⟩
  | .hbm, ⟨52, _⟩ => ⟨S16x8x64x4160, .i1⟩
  | .hbm, ⟨53, _⟩ => ⟨S16x8x64x4160, .f32⟩
  | .hbm, ⟨54, _⟩ => ⟨S16x8x64x4160, .f32⟩
  | .hbm, ⟨55, _⟩ => ⟨S_, .f32⟩
  | .hbm, ⟨56, _⟩ => ⟨S16x8x64, .f32⟩
  | .hbm, ⟨57, _⟩ => ⟨S_, .f32⟩
  | .hbm, ⟨58, _⟩ => ⟨S16x8x64, .f32⟩
  | .hbm, ⟨59, _⟩ => ⟨S16x8x64, .f32⟩
  | .hbm, ⟨60, _⟩ => ⟨S16x8x64x1, .f32⟩
  | .hbm, ⟨61, _⟩ => ⟨S16x8x64x4160, .f32⟩
  | .hbm, ⟨62, _⟩ => ⟨S16x8x64x4160, .f32⟩
  | .hbm, ⟨63, _⟩ => ⟨S16x8x64x4160, .f32⟩
  | .hbm, ⟨64, _⟩ => ⟨S_, .f32⟩
  | .hbm, ⟨65, _⟩ => ⟨S16x8x64, .f32⟩
  | .hbm, ⟨66, _⟩ => ⟨S16x8x64x1, .f32⟩
  | .hbm, ⟨67, _⟩ => ⟨S16x8x64x4160, .f32⟩
  | .hbm, ⟨68, _⟩ => ⟨S16x8x64x4160, .f32⟩
  | .hbm, ⟨69, _⟩ => ⟨S16x8x128x64, .f32⟩
  | .hbm, ⟨70, _⟩ => ⟨S16x64x8x128, .f32⟩
  | .hbm, ⟨71, _⟩ => ⟨S1024x1024, .f32⟩
  | .hbm, ⟨72, _⟩ => ⟨S1024x1024, .f32⟩
  | .hbm, ⟨73, _⟩ => ⟨S1024x1024, .f32⟩
  | .hbm, ⟨74, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v39 : Ref sig .tc := ⟨.hbm, 54, rfl⟩
abbrev main_cst_1 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel6.lean ====
abbrev S8192x2048 : Shape := ⟨2, ![8192, 2048]⟩
abbrev S2x24x6144 : Shape := ⟨3, ![2, 24, 6144]⟩
abbrev S2x1x2048 : Shape := ⟨3, ![2, 1, 2048]⟩
abbrev S1024x2048 : Shape := ⟨2, ![1024, 2048]⟩
abbrev S1x24x6144 : Shape := ⟨3, ![1, 24, 6144]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x24x6144, .f32⟩
  | .hbm, ⟨2, _⟩ => ⟨S2x1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x24x6144, .f32⟩
  | .local _ .vmem, ⟨3, _⟩ => ⟨S1x1x2048, .f32⟩
  | .local _ .vmem, ⟨4, _⟩ => ⟨S1024x2048, .bf16⟩
  | .local _ .vmem, ⟨5, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0 : Index := 0#32
  let c0_i32_0 : BitVec 32 := 0#32
  let arg0 : BitVec 32 := BitVec.ofNat 32 (i 0).val
  let c1024_i32 : BitVec 32 := 1024#32
  let v0 : BitVec 32 := Scalar.muli arg0 c1024_i32
  let c0_i32 : BitVec 32 := 0#32
  let v1 : BitVec 32 := Scalar.addi v0 c0_i32
  let c2048_i32 : BitVec 32 := 2048#32
  let v2 : BitVec 32 := Scalar.divsi v1 c2048_i32
  let v3 : BitVec 32 := Scalar.addi c0_i32_0 v2
  let v4 : Index := Scalar.indexCast v3
  let c0_1 : Index := 0#32
  ![0, v4.toNat, 0]
def k0_off2 (i : grid0.Coords) : Fin 3 → Nat :=
  let c0_2 : Index := 0#32
  let c0_i32_0 : BitVec 32 := 0#32
  let arg0 : BitVec 32 := BitVec.ofNat 32 (i 0).val
  let c1024_i32 : BitVec 32 := 1024#32
  let v0 : BitVec 32 := Scalar.muli arg0 c1024_i32
  let c0_i32 : BitVec 32 := 0#32
  let v1 : BitVec 32 := Scalar.addi v0 c0_i32
  let c2048_i32 : BitVec 32 := 2048#32
  let v2 : BitVec 32 := Scalar.divsi v1 c2048_i32
  let v3 : BitVec 32 := Scalar.addi c0_i32_0 v2
  let v7 : Index := Scalar.indexCast v3
  let c2048 : Index := 2048#32
  ![0, v7.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x24x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x2048 : Shape := ⟨2, ![8192, 2048]⟩
abbrev S2x24x6144 : Shape := ⟨3, ![2, 24, 6144]⟩
abbrev S2x1x2048 : Shape := ⟨3, ![2, 1, 2048]⟩
abbrev S1x4x2048 : Shape := ⟨3, ![1, 4, 2048]⟩
abbrev S4x2048 : Shape := ⟨2, ![4, 2048]⟩
abbrev S4x2048x2048 : Shape := ⟨3, ![4, 2048, 2048]⟩
abbrev S_ : Shape := ⟨0, ![]⟩
abbrev S4x2048x1 : Shape := ⟨3, ![4, 2048, 1]⟩
abbrev S1x1x2048 : Shape := ⟨3, ![1, 1, 2048]⟩
abbrev S1x2048 : Shape := ⟨2, ![1, 2048]⟩
abbrev S4x1x2048 : Shape := ⟨3, ![4, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x24x6144, .f32⟩
  | .hbm, ⟨2, _⟩ => ⟨S2x1x2048, .f32⟩
  | .hbm, ⟨3, _⟩ => ⟨S1x4x2048, .f32⟩
  | .hbm, ⟨4, _⟩ => ⟨S4x2048, .f32⟩
  | .hbm, ⟨5, _⟩ => ⟨S1x4x2048, .f32⟩
  | .hbm, ⟨6, _⟩ => ⟨S4x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S1x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x2048x2048, .f32⟩
  | .hbm, ⟨31, _⟩ => ⟨S4x2048x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | .hbm, ⟨36, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel7.lean ====
abbrev S24x2048 : Shape := ⟨2, ![24, 2048]⟩
abbrev S2x2048x6144 : Shape := ⟨3, ![2, 2048, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x2048x1024 : Shape := ⟨3, ![1, 2048, 1024]⟩
abbrev S1x1x1024 : Shape := ⟨3, ![1, 1, 1024]⟩
abbrev S1x24x1024 : Shape := ⟨3, ![1, 24, 1024]⟩
abbrev S2048x1024 : Shape := ⟨2, ![2048, 1024]⟩
abbrev S24x1024 : Shape := ⟨2, ![24, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x2048, .f32⟩
  | .hbm, ⟨1, _⟩ => ⟨S2x2048x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S24x2048 : Shape := ⟨2, ![24, 2048]⟩
abbrev S2x2048x6144 : Shape := ⟨3, ![2, 2048, 6144]⟩
abbrev S2x6144 : Shape := ⟨2, ![2, 6144]⟩
abbrev S_ : Shape := ⟨0, ![]⟩
abbrev S2x6144x24 : Shape := ⟨3, ![2, 6144, 24]⟩
abbrev S2x24x6144 : Shape := ⟨3, ![2, 24, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S2x2048x6144, .f32⟩
  | .hbm, ⟨2, _⟩ => ⟨S2x6144, .f32⟩
  | .hbm, ⟨3, _⟩ => ⟨S24x2048, .f32⟩
  | .hbm, ⟨4, _⟩ => ⟨S24x2048, .f32⟩
  | .hbm, ⟨5, _⟩ => ⟨S_, .f32⟩
  | .hbm, ⟨6, _⟩ => ⟨S24x2048, .f32⟩
  | .hbm, ⟨7, _⟩ => ⟨S24x2048, .f32⟩
  | .hbm, ⟨8, _⟩ => ⟨S_, .f32⟩
  | .hbm, ⟨9, _⟩ => ⟨S24x2048, .f32⟩
  | .hbm, ⟨10, _⟩ => ⟨S24x2048, .f32⟩
  | .hbm, ⟨11, _⟩ => ⟨S24x2048, .f32⟩
  | .hbm, ⟨12, _⟩ => ⟨S2x6144x24, .f32⟩
  | .hbm, ⟨13, _⟩ => ⟨S2x24x6144, .f32⟩
  | .hbm, ⟨14, _⟩ => ⟨S2x1x6144, .f32⟩
  | .hbm, ⟨15, _⟩ => ⟨S2x24x6144, .f32⟩
  | .hbm, ⟨16, _⟩ => ⟨S2x24x6144, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel8.lean ====
abbrev S8192x128 : Shape := ⟨2, ![8192, 128]⟩
abbrev S4x8x2048 : Shape := ⟨3, ![4, 8, 2048]⟩
abbrev S2048x128 : Shape := ⟨2, ![2048, 128]⟩
abbrev S1x8x2048 : Shape := ⟨3, ![1, 8, 2048]⟩
abbrev S256x256 : Shape := ⟨2, ![256, 256]⟩
abbrev S1x128 : Shape := ⟨2, ![1, 128]⟩
abbrev S256x128 : Shape := ⟨2, ![256, 128]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S4x8x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x8x2048, .f32⟩
  | .local _ .vmem, ⟨5, _⟩ => ⟨S1x8x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x128 : Shape := ⟨2, ![8192, 128]⟩
abbrev S4x2048x128 : Shape := ⟨3, ![4, 2048, 128]⟩
abbrev S_ : Shape := ⟨0, ![]⟩
abbrev S4x128x2048 : Shape := ⟨3, ![4, 128, 2048]⟩
abbrev S4x8x2048 : Shape := ⟨3, ![4, 8, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4x2048x128, .f32⟩
  | .hbm, ⟨2, _⟩ => ⟨S_, .f32⟩
  | .hbm, ⟨3, _⟩ => ⟨S_, .f32⟩
  | .hbm, ⟨4, _⟩ => ⟨S4x2048x128, .f32⟩
  | .hbm, ⟨5, _⟩ => ⟨S_, .f32⟩
  | .hbm, ⟨6, _⟩ => ⟨S4x2048x128, .f32⟩
  | .hbm, ⟨7, _⟩ => ⟨S4x2048x128, .f32⟩
  | .hbm, ⟨8, _⟩ => ⟨S8192x128, .f32⟩
  | .hbm, ⟨9, _⟩ => ⟨S4x128x2048, .f32⟩
  | .hbm, ⟨10, _⟩ => ⟨S4x8x2048, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S1024x1024 : Shape := ⟨2, ![1024, 1024]⟩
abbrev S2x16x30x1024 : Shape := ⟨4, ![2, 16, 30, 1024]⟩
abbrev S2x31x1024 : Shape := ⟨3, ![2, 31, 1024]⟩
abbrev S2x1x1024 : Shape := ⟨3, ![2, 1, 1024]⟩
abbrev S64x1024 : Shape := ⟨2, ![64, 1024]⟩
abbrev S1x1x30x1024 : Shape := ⟨4, ![1, 1, 30, 1024]⟩
abbrev S1x31x1024 : Shape := ⟨3, ![1, 31, 1024]⟩
abbrev S1x1x1024 : Shape := ⟨3, ![1, 1, 1024]⟩
abbrev S8x96x128 : Shape := ⟨3, ![8, 96, 128]⟩
abbrev S64x128 : Shape := ⟨2, ![64, 128]⟩
abbrev S1x64x128 : Shape := ⟨3, ![1, 64, 128]⟩
abbrev S1x1x30x128 : Shape := ⟨4, ![1, 1, 30, 128]⟩
abbrev S30x128 : Shape := ⟨2, ![30, 128]⟩
abbrev S1x30x128 : Shape := ⟨3, ![1, 30, 128]⟩
abbrev S1x31x128 : Shape := ⟨3, ![1, 31, 128]⟩
abbrev S31x128 : Shape := ⟨2, ![31, 128]⟩
abbrev S1x1x128 : Shape := ⟨3, ![1, 1, 128]⟩
abbrev S1x128 : Shape := ⟨2, ![1, 128]⟩
abbrev S64 : Shape := ⟨1, ![64]⟩
abbrev S64x1 : Shape := ⟨2, ![64, 1]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S2x16x30x1024, .f32⟩
  | .hbm, ⟨2, _⟩ => ⟨S1024x1024, .bf16⟩
  | .hbm, ⟨3, _⟩ => ⟨S2x31x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1024x1024, .bf16⟩
  | .local _ .vmem, ⟨0, _⟩ => ⟨S64x1024, .f32⟩
  | .local _ .vmem, ⟨1, _⟩ => ⟨S64x1024, .f32⟩
  | .local _ .vmem, ⟨2, _⟩ => ⟨S1x1x30x1024, .f32⟩
  | .local _ .vmem, ⟨3, _⟩ => ⟨S1x1x30x1024, .f32⟩
  | .local _ .vmem, ⟨4, _⟩ => ⟨S64x1024, .bf16⟩
  | .local _ .vmem, ⟨5, _⟩ => ⟨S64x1024, .bf16⟩
  | .local _ .vmem, ⟨6, _⟩ => ⟨S1x31x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S64x1024, .bf16⟩
  | .local _ .vmem, ⟨11, _⟩ => ⟨S64x1024, .bf16⟩
  | .local _ .vmem, ⟨12, _⟩ => ⟨S8x96x128, .f32⟩
  | .local _ .vmem, ⟨13, _⟩ => ⟨S64x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c64_i32 : BitVec 32 := 64#32
  let v76 : BitVec 32 := Scalar.muli c0_i32 c64_i32
  v76
def k0_off1 (c2_i32 : BitVec 32) : Fin 3 → Nat :=
  let c0_86 : Index := 0#32
  let c0_i32 : BitVec 32 := 0#32
  let c64_i32 : BitVec 32 := 64#32
  let v76 : BitVec 32 := Scalar.muli c0_i32 c64_i32
  let v77 : BitVec 32 := v76
  let v80 : BitVec 32 := Scalar.addi v77 c2_i32
  let v81 : Index := Scalar.indexCast v80
  let c0_87 : Index := 0#32
  ![0, v81.toNat, 0]
def k0_off2 : Fin 2 → Nat :=
  let c0_i32 : BitVec 32 := 0#32
  let c64_i32 : BitVec 32 := 64#32
  let v76 : BitVec 32 := Scalar.muli c0_i32 c64_i32
  let v77 : BitVec 32 := v76
  let v329 : Index := Scalar.indexCast v77
  let c0_148 : Index := 0#32
  ![v329.toNat, 0]
def k0_mult2 : BitVec 32 :=
  let c0_i32_155 : BitVec 32 := 0#32
  let c64_i32_156 : BitVec 32 := 64#32
  let v337 : BitVec 32 := Scalar.muli c0_i32_155 c64_i32_156
  v337
def k0_off3 (c2_i32_158 : BitVec 32) : Fin 3 → Nat :=
  let c1_159 : Index := 1#32
  let c0_i32_155 : BitVec 32 := 0#32
  let c64_i32_156 : BitVec 32 := 64#32
  let v337 : BitVec 32 := Scalar.muli c0_i32_155 c64_i32_156
  let v338 : BitVec 32 := v337
  let v341 : BitVec 32 := Scalar.addi v338 c2_i32_158
  let v342 : Index := Scalar.indexCast v341
  let c0_160 : Index := 0#32
  ![1, v342.toNat, 0]
def k0_off4 : Fin 2 → Nat :=
  let c0_i32_155 : BitVec 32 := 0#32
  let c64_i32_156 : BitVec 32 := 64#32
  let v337 : BitVec 32 := Scalar.muli c0_i32_155 c64_i32_156
  let v338 : BitVec 32 := v337
  let v590 : Index := Scalar.indexCast v338
  let c128_251 : Index := 128#32
  ![v590.toNat, 128]
def k0_mult3 : BitVec 32 :=
  let c0_i32_259 : BitVec 32 := 0#32
  let c64_i32_260 : BitVec 32 := 64#32
  let v598 : BitVec 32 := Scalar.muli c0_i32_259 c64_i32_260
  v598
def k0_off5 (c2_i32_262 : BitVec 32) : Fin 3 → Nat :=
  let c2_263 : Index := 2#32
  let c0_i32_259 : BitVec 32 := 0#32
  let c64_i32_260 : BitVec 32 := 64#32
  let v598 : BitVec 32 := Scalar.muli c0_i32_259 c64_i32_260
  let v599 : BitVec 32 := v598
  let v602 : BitVec 32 := Scalar.addi v599 c2_i32_262
  let v603 : Index := Scalar.indexCast v602
  let c0_264 : Index := 0#32
  ![2, v603.toNat, 0]
def k0_off6 : Fin 2 → Nat :=
  let c0_i32_259 : BitVec 32 := 0#32
  let c64_i32_260 : BitVec 32 := 64#32
  let v598 : BitVec 32 := Scalar.muli c0_i32_259 c64_i32_260
  let v599 : BitVec 32 := v598
  let v851 : Index := Scalar.indexCast v599
  let c256_355 : Index := 256#32
  ![v851.toNat, 256]
def k0_mult4 : BitVec 32 :=
  let c0_i32_363 : BitVec 32 := 0#32
  let c64_i32_364 : BitVec 32 := 64#32
  let v859 : BitVec 32 := Scalar.muli c0_i32_363 c64_i32_364
  v859
def k0_off7 (c2_i32_366 : BitVec 32) : Fin 3 → Nat :=
  let c3_367 : Index := 3#32
  let c0_i32_363 : BitVec 32 := 0#32
  let c64_i32_364 : BitVec 32 := 64#32
  let v859 : BitVec 32 := Scalar.muli c0_i32_363 c64_i32_364
  let v860 : BitVec 32 := v859
  let v863 : BitVec 32 := Scalar.addi v860 c2_i32_366
  let v864 : Index := Scalar.indexCast v863
  let c0_368 : Index := 0#32
  ![3, v864.toNat, 0]
def k0_off8 : Fin 2 → Nat :=
  let c0_i32_363 : BitVec 32 := 0#32
  let c64_i32_364 : BitVec 32 := 64#32
  let v859 : BitVec 32 := Scalar.muli c0_i32_363 c64_i32_364
  let v860 : BitVec 32 := v859
  let v1112 : Index := Scalar.indexCast v860
  let c384_459 : Index := 384#32
  ![v1112.toNat, 384]
def k0_mult5 : BitVec 32 :=
  let c0_i32_467 : BitVec 32 := 0#32
  let c64_i32_468 : BitVec 32 := 64#32
  let v1120 : BitVec 32 := Scalar.muli c0_i32_467 c64_i32_468
  v1120
def k0_off9 (c2_i32_470 : BitVec 32) : Fin 3 → Nat :=
  let c4_471 : Index := 4#32
  let c0_i32_467 : BitVec 32 := 0#32
  let c64_i32_468 : BitVec 32 := 64#32
  let v1120 : BitVec 32 := Scalar.muli c0_i32_467 c64_i32_468
  let v1121 : BitVec 32 := v1120
  let v1124 : BitVec 32 := Scalar.addi v1121 c2_i32_470
  let v1125 : Index := Scalar.indexCast v1124
  let c0_472 : Index := 0#32
  ![4, v1125.toNat, 0]
def k0_off10 : Fin 2 → Nat :=
  let c0_i32_467 : BitVec 32 := 0#32
  let c64_i32_468 : BitVec 32 := 64#32
  let v1120 : BitVec 32 := Scalar.muli c0_i32_467 c64_i32_468
  let v1121 : BitVec 32 := v1120
  let v1373 : Index := Scalar.indexCast v1121
  let c512_563 : Index := 512#32
  ![v1373.toNat, 512]
def k0_mult6 : BitVec 32 :=
  let c0_i32_571 : BitVec 32 := 0#32
  let c64_i32_572 : BitVec 32 := 64#32
  let v1381 : BitVec 32 := Scalar.muli c0_i32_571 c64_i32_572
  v1381
def k0_off11 (c2_i32_574 : BitVec 32) : Fin 3 → Nat :=
  let c5_575 : Index := 5#32
  let c0_i32_571 : BitVec 32 := 0#32
  let c64_i32_572 : BitVec 32 := 64#32
  let v1381 : BitVec 32 := Scalar.muli c0_i32_571 c64_i32_572
  let v1382 : BitVec 32 := v1381
  let v1385 : BitVec 32 := Scalar.addi v1382 c2_i32_574
  let v1386 : Index := Scalar.indexCast v1385
  let c0_576 : Index := 0#32
  ![5, v1386.toNat, 0]
def k0_off12 : Fin 2 → Nat :=
  let c0_i32_571 : BitVec 32 := 0#32
  let c64_i32_572 : BitVec 32 := 64#32
  let v1381 : BitVec 32 := Scalar.muli c0_i32_571 c64_i32_572
  let v1382 : BitVec 32 := v1381
  let v1634 : Index := Scalar.indexCast v1382
  let c640_667 : Index := 640#32
  ![v1634.toNat, 640]
def k0_mult7 : BitVec 32 :=
  let c0_i32_675 : BitVec 32 := 0#32
  let c64_i32_676 : BitVec 32 := 64#32
  let v1642 : BitVec 32 := Scalar.muli c0_i32_675 c64_i32_676
  v1642
def k0_off13 (c2_i32_678 : BitVec 32) : Fin 3 → Nat :=
  let c6_679 : Index := 6#32
  let c0_i32_675 : BitVec 32 := 0#32
  let c64_i32_676 : BitVec 32 := 64#32
  let v1642 : BitVec 32 := Scalar.muli c0_i32_675 c64_i32_676
  let v1643 : BitVec 32 := v1642
  let v1646 : BitVec 32 := Scalar.addi v1643 c2_i32_678
  let v1647 : Index := Scalar.indexCast v1646
  let c0_680 : Index := 0#32
  ![6, v1647.toNat, 0]
def k0_off14 : Fin 2 → Nat :=
  let c0_i32_675 : BitVec 32 := 0#32
  let c64_i32_676 : BitVec 32 := 64#32
  let v1642 : BitVec 32 := Scalar.muli c0_i32_675 c64_i32_676
  let v1643 : BitVec 32 := v1642
  let v1895 : Index := Scalar.indexCast v1643
  let c768_771 : Index := 768#32
  ![v1895.toNat, 768]
def k0_mult8 : BitVec 32 :=
  let c0_i32_779 : BitVec 32 := 0#32
  let c64_i32_780 : BitVec 32 := 64#32
  let v1903 : BitVec 32 := Scalar.muli c0_i32_779 c64_i32_780
  v1903
def k0_off15 (c2_i32_782 : BitVec 32) : Fin 3 → Nat :=
  let c7_783 : Index := 7#32
  let c0_i32_779 : BitVec 32 := 0#32
  let c64_i32_780 : BitVec 32 := 64#32
  let v1903 : BitVec 32 := Scalar.muli c0_i32_779 c64_i32_780
  let v1904 : BitVec 32 := v1903
  let v1907 : BitVec 32 := Scalar.addi v1904 c2_i32_782
  let v1908 : Index := Scalar.indexCast v1907
  let c0_784 : Index := 0#32
  ![7, v1908.toNat, 0]
def k0_off16 : Fin 2 → Nat :=
  let c0_i32_779 : BitVec 32 := 0#32
  let c64_i32_780 : BitVec 32 := 64#32
  let v1903 : BitVec 32 := Scalar.muli c0_i32_779 c64_i32_780
  let v1904 : BitVec 32 := v1903
  let v2156 : Index := Scalar.indexCast v1904
  let c896_875 : Index := 896#32
  ![v2156.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1024x1024 : Shape := ⟨2, ![1024, 1024]⟩
abbrev S2x16x30x1024 : Shape := ⟨4, ![2, 16, 30, 1024]⟩
abbrev S2x31x1024 : Shape := ⟨3, ![2, 31, 1024]⟩
abbrev S2x1x1024 : Shape := ⟨3, ![2, 1, 1024]⟩
abbrev S1x16x30x1024 : Shape := ⟨4, ![1, 16, 30, 1024]⟩
abbrev S16x30x1024 : Shape := ⟨3, ![16, 30, 1024]⟩
abbrev S16x64x1024 : Shape := ⟨3, ![16, 64, 1024]⟩
abbrev S16x94x1024 : Shape := ⟨3, ![16, 94, 1024]⟩
abbrev S16x64x1x1024 : Shape := ⟨4, ![16, 64, 1, 1024]⟩
abbrev S16x64x16x1024 : Shape := ⟨4, ![16, 64, 16, 1024]⟩
abbrev S16x64x15x1024 : Shape := ⟨4, ![16, 64, 15, 1024]⟩
abbrev S16x64x31x1024 : Shape := ⟨4, ![16, 64, 31, 1024]⟩
abbrev S1x31x1024 : Shape := ⟨3, ![1, 31, 1024]⟩
abbrev S31x1024 : Shape := ⟨2, ![31, 1024]⟩
abbrev S1024x16x64 : Shape := ⟨3, ![1024, 16, 64]⟩
abbrev S1x1x1024 : Shape := ⟨3, ![1, 1, 1024]⟩
abbrev S1024 : Shape := ⟨1, ![1024]⟩
abbrev S_ : Shape := ⟨0, ![]⟩
abbrev S16x64 : Shape := ⟨2, ![16, 64]⟩
abbrev S16x64x1 : Shape := ⟨3, ![16, 64, 1]⟩

abbrev nBuf : Space → Nat
  | .hbm => 131
  | .vmem => 0
  | .smem => 0
  | _ => 0

abbrev hbmTy0_0 (i : Nat) : BufTy := match i % 128 with
  | 0 => ⟨S1024x1024, .f32⟩
  | 1 => ⟨S2x16x30x1024, .f32⟩
  | 2 => ⟨S1024x1024, .bf16⟩
  | 3 => ⟨S2x31x1024, .f32⟩
  | 4 => ⟨S2x1x1024, .f32⟩
  | 5 => ⟨S2x1x1024, .f32⟩
  | 6 => ⟨S2x1x1024, .f32⟩
  | 7 => ⟨S1x16x30x1024, .f32⟩
  | 8 => ⟨S16x30x1024, .f32⟩
  | 9 => ⟨S16x64x1024, .f32⟩
  | 10 => ⟨S16x94x1024, .f32⟩
  | 11 => ⟨S16x64x1024, .f32⟩
  | 12 => ⟨S16x64x1024, .f32⟩
  | 13 => ⟨S16x64x1024, .f32⟩
  | 14 => ⟨S16x64x1024, .f32⟩
  | 15 => ⟨S16x64x1024, .f32⟩
  | 16 => ⟨S16x64x1024, .f32⟩
  | 17 => ⟨S16x64x1024, .f32⟩
  | 18 => ⟨S16x64x1024, .f32⟩
  | 19 => ⟨S16x64x1024, .f32⟩
  | 20 => ⟨S16x64x1024, .f32⟩
  | 21 => ⟨S16x64x1024, .f32⟩
  | 22 => ⟨S16x64x1024, .f32⟩
  | 23 => ⟨S16x64x1024, .f32⟩
  | 24 => ⟨S16x64x1024, .f32⟩
  | 25 => ⟨S16x64x1024, .f32⟩
  | 26 => ⟨S16x64x1024, .f32⟩
  | 27 => ⟨S16x64x1024, .f32⟩
  | 28 => ⟨S16x64x1024, .f32⟩
  | 29 => ⟨S16x64x1024, .f32⟩
  | 30 => ⟨S16x64x1024, .f32⟩
  | 31 => ⟨S16x64x1024, .f32⟩
  | 32 => ⟨S16x64x1024, .f32⟩
  | 33 => ⟨S16x64x1024, .f32⟩
  | 34 => ⟨S16x64x1024, .f32⟩
  | 35 => ⟨S16x64x1024, .f32⟩
  | 36 => ⟨S16x64x1024, .f32⟩
  | 37 => ⟨S16x64x1024, .f32⟩
  | 38 => ⟨S16x64x1024, .f32⟩
  | 39 => ⟨S16x64x1024, .f32⟩
  | 40 => ⟨S16x64x1024, .f32⟩
  | 41 => ⟨S16x64x1024, .f32⟩
  | 42 => ⟨S16x64x1x1024, .f32⟩
  | 43 => ⟨S16x64x1x1024, .f32⟩
  | 44 => ⟨S16x64x1x1024, .f32⟩
  | 45 => ⟨S16x64x1x1024, .f32⟩
  | 46 => ⟨S16x64x1x1024, .f32⟩
  | 47 => ⟨S16x64x1x1024, .f32⟩
  | 48 => ⟨S16x64x1x1024, .f32⟩
  | 49 => ⟨S16x64x1x1024, .f32⟩
  | 50 => ⟨S16x64x1x1024, .f32⟩
  | 51 => ⟨S16x64x1x1024, .f32⟩
  | 52 => ⟨S16x64x1x1024, .f32⟩
  | 53 => ⟨S16x64x1x1024, .f32⟩
  | 54 => ⟨S16x64x1x1024, .f32⟩
  | 55 => ⟨S16x64x1x1024, .f32⟩
  | 56 => ⟨S16x64x1x1024, .f32⟩
  | 57 => ⟨S16x64x1x1024, .f32⟩
  | 58 => ⟨S16x64x1x1024, .f32⟩
  | 59 => ⟨S16x64x1x1024, .f32⟩
  | 60 => ⟨S16x64x1x1024, .f32⟩
  | 61 => ⟨S16x64x1x1024, .f32⟩
  | 62 => ⟨S16x64x1x1024, .f32⟩
  | 63 => ⟨S16x64x1x1024, .f32⟩
  | 64 => ⟨S16x64x1x1024, .f32⟩
  | 65 => ⟨S16x64x1x1024, .f32⟩
  | 66 => ⟨S16x64x1x1024, .f32⟩
  | 67 => ⟨S16x64x1x1024, .f32⟩
  | 68 => ⟨S16x64x1x1024, .f32⟩
  | 69 => ⟨S16x64x1x1024, .f32⟩
  | 70 => ⟨S16x64x1x1024, .f32⟩
  | 71 => ⟨S16x64x1x1024, .f32⟩
  | 72 => ⟨S16x64x1x1024, .f32⟩
  | 73 => ⟨S16x64x16x1024, .f32⟩
  | 74 => ⟨S16x64x15x1024, .f32⟩
  | 75 => ⟨S16x64x31x1024, .f32⟩
  | 76 => ⟨S1x31x1024, .f32⟩
  | 77 => ⟨S31x1024, .f32⟩
  | 78 => ⟨S1024x16x64, .f32⟩
  | 79 => ⟨S16x64x1024, .f32⟩
  | 80 => ⟨S1x1x1024, .f32⟩
  | 81 => ⟨S1024, .f32⟩
  | 82 => ⟨S1x1x1024, .f32⟩
  | 83 => ⟨S16x64x1024, .f32⟩
  | 84 => ⟨S16x64x1024, .f32⟩
  | 85 => ⟨S_, .f32⟩
  | 86 => ⟨S16x64, .f32⟩
  | 87 => ⟨S16x64x1, .f32⟩
  | 88 => ⟨S_, .f32⟩
  | 89 => ⟨S16x64x1, .f32⟩
  | 90 => ⟨S16x64x1, .f32⟩
  | 91 => ⟨S16x64x1024, .f32⟩
  | 92 => ⟨S16x64x1024, .f32⟩
  | 93 => ⟨S16x64x1024, .f32⟩
  | 94 => ⟨S_, .f32⟩
  | 95 => ⟨S16x64, .f32⟩
  | 96 => ⟨S16x64x1, .f32⟩
  | 97 => ⟨S_, .f32⟩
  | 98 => ⟨S16x64x1, .f32⟩
  | 99 => ⟨S16x64x1, .f32⟩
  | 100 => ⟨S16x64x1024, .f32⟩
  | 101 => ⟨S16x64x1024, .f32⟩
  | 102 => ⟨S_, .f32⟩
  | 103 => ⟨S16x64x1, .f32⟩
  | 104 => ⟨S16x64x1, .f32⟩
  | 105 => ⟨S16x64x1, .f32⟩
  | 106 => ⟨S16x64x1024, .f32⟩
  | 107 => ⟨S16x64x1024, .f32⟩
  | 108 => ⟨S1x1x1024, .f32⟩
  | 109 => ⟨S1024, .f32⟩
  | 110 => ⟨S1x1x1024, .f32⟩
  | 111 => ⟨S16x64x1024, .f32⟩
  | 112 => ⟨S16x64x1024, .f32⟩
  | 113 => ⟨S1x1x1024, .f32⟩
  | 114 => ⟨S1024, .f32⟩
  | 115 => ⟨S1x1x1024, .f32⟩
  | 116 => ⟨S16x64x1024, .f32⟩
  | 117 => ⟨S16x64x1024, .f32⟩
  | 118 => ⟨S16x64x1024, .f32⟩
  | 119 => ⟨S16x64x1024, .f32⟩
  | 120 => ⟨S_, .f32⟩
  | 121 => ⟨S16x64x1024, .f32⟩
  | 122 => ⟨S16x64x1024, .f32⟩
  | 123 => ⟨S_, .f32⟩
  | 124 => ⟨S16x64x1024, .f32⟩
  | 125 => ⟨S16x64x1024, .f32⟩
  | 126 => ⟨S16x64x1024, .f32⟩
  | 127 => ⟨S1024x1024, .f32⟩
  | _ => ⟨S1024x1024, .f32⟩

abbrev hbmTy0_1 (i : Nat) : BufTy := match i % 128 with
  | 0 => ⟨S1024x1024, .f32⟩
  | 1 => ⟨S1024x1024, .f32⟩
  | 2 => ⟨S1024x1024, .bf16⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst : Ref sig .tc := ⟨.hbm, 85, rfl⟩
abbrev main_v78 : Ref sig .tc := ⟨.hbm, 86, rfl⟩
abbrev main_v79 : Ref sig .tc := ⟨.hbm, 87, rfl⟩
abbrev main_cst_0 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_1 : Ref sig .tc := ⟨.hbm, 94, rfl⟩
abbrev main_v85 : Ref sig .tc := ⟨.hbm, 95, rfl⟩
abbrev main_v86 : Ref sig .tc := ⟨.hbm, 96, rfl⟩
abbrev main_cst_2 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_3 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_call0_v0 : Ref sig .tc := ⟨.hbm, 118, rfl⟩
abbrev main_call0_v1 : Ref sig .tc := ⟨.hbm, 119, rfl⟩
abbrev main_call0_cst : Ref sig .tc := ⟨.hbm, 120, rfl⟩
abbrev main_call0_v2 : Ref sig .tc := ⟨.hbm, 121, rfl⟩
abbrev main_call0_v3 : Ref sig .tc := ⟨.hbm, 122, rfl⟩
abbrev main_call0_cst_0 : Ref sig .tc := ⟨.hbm, 123, rfl⟩
abbrev main_call0_v4 : Ref sig .tc := ⟨.hbm, 124, rfl⟩
abbrev main_call0_v5 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩

abbrev nD : Nat := 1
abbrev τ : Topo := Topo.v7x

variable {F : FTy → Type} [FloatOps F]
-- ==== Proof.Softmax.lean ====
/-
  The mathematics of a softmax row computed in pieces, over the extended reals. A row has scores `sc k` and values `v k`
  over key positions `k`. `Carry sc v S m l a` says what the running state of the online computation holds once the keys
  of `S` have been met: the largest score so far, the sum of the weights relative to it, and the weighted sum of the
  values. `Carry.step` is one step of the online computation; `softRow` is the row's result, and `Carry.result` and
  `softRow_exp` say that the online computation and the textbook one (with `exp` after scaling by `ln 2`, over all keys,
  the masked ones at `⊥`) both reach it. Nothing here mentions a program.
-/
module

public import Idealize.ShloMosaic.PureOps.Ideal.Laws
public import Mathlib.Data.EReal.Inv
public import Mathlib.Analysis.SpecialFunctions.Pow.Real

@[expose] public section

noncomputable section

namespace Cert.Softmax

open Idealize.ShloMosaic
open scoped BigOperators

/-- A power of two is never negative. -/
theorem exp2_nonneg (x : EReal) : 0 ≤ Ideal.exp2 x := by
  induction x with
  | bot => simp
  | top => simp
  | coe r => rw [Ideal.exp2_coe]; exact_mod_cast (Real.rpow_pos_of_pos (by norm_num) r).le

/-- A power of two is infinite only at an infinite exponent. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- The exponential of `x · ln 2` is two to the `x`, at the infinities too. -/
theorem exp_mul_log_two (x : EReal) : Ideal.exp (x * ((Real.log 2 : ℝ) : EReal)) = Ideal.exp2 x := by
  have hpos : (0 : ℝ) < Real.log 2 := Real.log_pos (by norm_num)
  induction x with
  | bot => rw [EReal.bot_mul_coe_of_pos hpos]; rfl
  | top => rw [EReal.top_mul_coe_of_pos hpos]; rfl
  | coe r =>
    rw [← EReal.coe_mul, Ideal.exp_coe, Ideal.exp2_coe]
    congr 1
    rw [show Real.rpow 2 r = (2 : ℝ) ^ r from rfl, Real.rpow_def_of_pos (by norm_num), mul_comm]

/-- Moving a weight from one real reference point to another multiplies it by the power of two of their distance. -/
theorem exp2_shift (m m' : ℝ) {x : EReal} (h : x ≠ ⊤) :
    Ideal.exp2 ((m : EReal) - m') * Ideal.exp2 (x - m) = Ideal.exp2 (x - m') := by
  induction x with
  | bot => rw [EReal.bot_sub, EReal.bot_sub]; simp
  | top => exact absurd rfl h
  | coe r =>
    rw [← EReal.coe_sub, ← EReal.coe_sub, ← EReal.coe_sub, Ideal.exp2_coe, Ideal.exp2_coe, Ideal.exp2_coe, ← EReal.coe_mul]
    congr 1
    show (2 : ℝ) ^ (m - m') * (2 : ℝ) ^ (r - m) = (2 : ℝ) ^ (r - m')
    rw [← Real.rpow_add (by norm_num)]
    congr 1; ring

/-- A nonnegative finite factor goes inside a finite sum, whatever the terms. -/
theorem mul_sum_of_nonneg {ι : Type*} (s : Finset ι) (f : ι → EReal) {c : EReal} (h0 : 0 ≤ c) (ht : c ≠ ⊤) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-- Adding one finite number to every score adds it to the largest one. -/
theorem sup_add_coe {ι : Type*} (s : Finset ι) (t : ι → EReal) (c : ℝ) (hs : s.Nonempty) :
    s.sup t + (c : EReal) = s.sup fun k => t k + (c : EReal) := by
  classical
  induction hs using Finset.Nonempty.cons_induction with
  | singleton a => simp
  | cons a s ha hs ih =>
    rw [Finset.sup_cons, Finset.sup_cons, ← ih]
    have hm : Monotone fun x : EReal => x + (c : EReal) := fun x y hxy => add_le_add_left hxy _
    exact hm.map_sup _ _

/-- A finite sum of real numbers, read in the extended reals, is the sum of the readings. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- What the online computation's running state holds once the keys of `S` have been met. -/
structure Carry {ι : Type*} (sc v : ι → EReal) (S : Finset ι) (m l a : EReal) : Prop where
  /-- the largest score so far -/
  m_eq : m = S.sup sc
  /-- the sum of the weights -/
  l_eq : l = ∑ k ∈ S, Ideal.exp2 (sc k - m)
  /-- the weighted sum of the values -/
  a_eq : a = ∑ k ∈ S, Ideal.exp2 (sc k - m) * v k

/-- Before any key: nothing. -/
theorem Carry.empty {ι : Type*} (sc v : ι → EReal) : Carry sc v ∅ ⊥ 0 0 := ⟨by simp, by simp, by simp⟩

/-- A largest score is a real number as soon as no score is `⊤` and one is not `⊥`. -/
theorem sup_real {ι : Type*} {sc : ι → EReal} {S : Finset ι} (htop : ∀ k, sc k ≠ ⊤) {k0 : ι} (hk : k0 ∈ S) (hbot : sc k0 ≠ ⊥) :
    ∃ r : ℝ, S.sup sc = (r : EReal) := by
  have h1 : S.sup sc ≠ ⊤ := ((Finset.sup_lt_iff (by simp)).2 fun k _ => lt_top_iff_ne_top.2 (htop k)).ne
  have h2 : S.sup sc ≠ ⊥ := fun h => hbot (le_bot_iff.1 (h ▸ Finset.le_sup hk))
  exact ⟨_, (EReal.coe_toReal h1 h2).symm⟩

/-- The weights of keys already met, moved to the new largest score. -/
theorem rescale {ι : Type*} {sc w : ι → EReal} {S : Finset ι} {m : EReal} {m' : ℝ} (htop : ∀ k, sc k ≠ ⊤)
    (hm : S = ∅ ∨ ∃ r : ℝ, m = (r : EReal)) :
    Ideal.exp2 (m - m') * ∑ k ∈ S, Ideal.exp2 (sc k - m) * w k = ∑ k ∈ S, Ideal.exp2 (sc k - m') * w k := by
  rcases hm with rfl | ⟨r, rfl⟩
  · simp
  · have hne : ((r : EReal) - m') ≠ ⊤ := by rw [← EReal.coe_sub]; exact EReal.coe_ne_top _
    rw [mul_sum_of_nonneg _ _ (exp2_nonneg _) (exp2_ne_top hne)]
    exact Finset.sum_congr rfl fun k _ => by rw [← mul_assoc, exp2_shift r m' (htop k)]

/-- ONE STEP. The keys of a block `B` not met before, with scores `t k + f`, `f` finite: the running state rescaled to the new
    largest score, plus the block's own sums, is the state for all keys met. -/
theorem Carry.step {ι : Type*} [DecidableEq ι] {sc v t : ι → EReal} {S B : Finset ι} {m l a : EReal} {f : ℝ}
    (h : Carry sc v S m l a) (hd : Disjoint S B) (hB : B.Nonempty) (ht : ∀ k ∈ B, sc k = t k + (f : EReal)) (htop : ∀ k, sc k ≠ ⊤)
    (hS : S = ∅ ∨ ∃ k ∈ S, sc k ≠ ⊥) (hSB : ∃ k ∈ S ∪ B, sc k ≠ ⊥) :
    Carry sc v (S ∪ B) (max m (B.sup t + (f : EReal)))
      (Ideal.exp2 (m - max m (B.sup t + (f : EReal))) * l + ∑ k ∈ B, Ideal.exp2 (t k + ((f : EReal) - max m (B.sup t + (f : EReal)))))
      (Ideal.exp2 (m - max m (B.sup t + (f : EReal))) * a
        + ∑ k ∈ B, Ideal.exp2 (t k + ((f : EReal) - max m (B.sup t + (f : EReal)))) * v k) := by
  have hm' : max m (B.sup t + (f : EReal)) = (S ∪ B).sup sc := by
    rw [sup_add_coe B t f hB, Finset.sup_union, h.m_eq, Finset.sup_congr rfl ht]
  obtain ⟨k0, hk0, hb0⟩ := hSB
  obtain ⟨r, hr⟩ := sup_real htop hk0 hb0
  have hm : S = ∅ ∨ ∃ r : ℝ, m = (r : EReal) := by
    rcases hS with hS | ⟨k, hk, hb⟩
    · exact .inl hS
    · obtain ⟨q, hq⟩ := sup_real htop hk hb
      exact .inr ⟨q, h.m_eq.trans hq⟩
  have hw : ∀ k ∈ B, t k + ((f : EReal) - (r : EReal)) = sc k - r := fun k hk => by
    rw [ht k hk, sub_eq_add_neg, sub_eq_add_neg, add_assoc]
  rw [hm', hr]
  refine ⟨hr.symm, ?_, ?_⟩
  · have e := rescale (w := fun _ => 1) (m' := r) htop hm
    simp only [mul_one] at e
    rw [Finset.sum_union hd, h.l_eq, e]
    congr 1
    exact Finset.sum_congr rfl fun k hk => by rw [hw k hk]
  · rw [Finset.sum_union hd, h.a_eq, rescale htop hm]
    congr 1
    exact Finset.sum_congr rfl fun k hk => by rw [hw k hk]

/-- A softmax row's result: the values weighted by `2^(score − largest score)`, over the sum of the weights. -/
def softRow {ι : Type*} [Fintype ι] (sc v : ι → EReal) : EReal :=
  ∑ k, Ideal.div (Ideal.exp2 (sc k - Finset.univ.sup sc)) (∑ j, Ideal.exp2 (sc j - Finset.univ.sup sc)) * v k

/-- Dividing a weighted sum by a positive real divides each weight. -/
theorem sum_div {ι : Type*} (s : Finset ι) (p v : ι → EReal) {l : ℝ} (hl : 0 < l) :
    Ideal.div (∑ k ∈ s, p k * v k) (l : EReal) = ∑ k ∈ s, Ideal.div (p k) (l : EReal) * v k := by
  have hl0 : (l : EReal) ≠ 0 := by exact_mod_cast hl.ne'
  have e : ∀ x : EReal, Ideal.div x (l : EReal) = ((l⁻¹ : ℝ) : EReal) * x := fun x => by
    rw [Ideal.div, if_neg hl0, ← EReal.coe_inv, mul_comm]
  rw [e, mul_sum_of_nonneg _ _ (by exact_mod_cast (inv_pos.2 hl).le) (EReal.coe_ne_top _)]
  exact Finset.sum_congr rfl fun k _ => by rw [e, mul_assoc]

/-- The sum of the weights is a positive real number. -/
theorem weights_pos {ι : Type*} {sc : ι → EReal} {S : Finset ι} (htop : ∀ k, sc k ≠ ⊤) {k0 : ι} (hk : k0 ∈ S) (hbot : sc k0 ≠ ⊥) {r : ℝ}
    : ∃ l : ℝ, 0 < l ∧ ∑ k ∈ S, Ideal.exp2 (sc k - (r : EReal)) = (l : EReal) := by
  classical
  have hnn : ∀ k, 0 ≤ Ideal.exp2 (sc k - (r : EReal)) := fun k => exp2_nonneg _
  have hnt : ∀ k, Ideal.exp2 (sc k - (r : EReal)) ≠ ⊤ := fun k => exp2_ne_top (by
    have := htop k
    induction hq : sc k with
    | bot => simp
    | top => exact absurd hq this
    | coe q => rw [← EReal.coe_sub]; exact EReal.coe_ne_top _)
  have hre : ∀ k, Ideal.exp2 (sc k - (r : EReal)) = ((Ideal.exp2 (sc k - (r : EReal))).toReal : EReal) := fun k =>
    (EReal.coe_toReal (hnt k) (ne_of_gt (lt_of_lt_of_le EReal.bot_lt_zero (hnn k)))).symm
  refine ⟨∑ k ∈ S, (Ideal.exp2 (sc k - (r : EReal))).toReal, ?_, ?_⟩
  · refine Finset.sum_pos' (fun k _ => EReal.toReal_nonneg (hnn k)) ⟨k0, hk, ?_⟩
    have := htop k0
    induction hq : sc k0 with
    | bot => exact absurd hq hbot
    | top => exact absurd hq this
    | coe q =>
      rw [← EReal.coe_sub, Ideal.exp2_coe, EReal.toReal_coe]
      exact Real.rpow_pos_of_pos (by norm_num) _
  · rw [coe_sum]
    exact Finset.sum_congr rfl fun k _ => hre k

/-- THE ONLINE RESULT: once every key outside `S` is masked, the weighted sum over the weights' sum is the row's result. -/
theorem Carry.result {ι : Type*} [Fintype ι] {sc v : ι → EReal} {S : Finset ι} {m l a : EReal} (h : Carry sc v S m l a)
    (htop : ∀ k, sc k ≠ ⊤) {k0 : ι} (hk : k0 ∈ S) (hbot : sc k0 ≠ ⊥) (hout : ∀ k, k ∉ S → sc k = ⊥) :
    Ideal.div a l = softRow sc v := by
  classical
  have hsup : S.sup sc = Finset.univ.sup sc := by
    refine le_antisymm (Finset.sup_mono (Finset.subset_univ S)) (Finset.sup_le fun k _ => ?_)
    by_cases hkS : k ∈ S
    · exact Finset.le_sup hkS
    · rw [hout k hkS]; exact bot_le
  obtain ⟨r, hr⟩ := sup_real htop hk hbot
  obtain ⟨w, hw, hl⟩ := weights_pos htop hk hbot (r := r)
  have hz : ∀ k, k ∉ S → Ideal.exp2 (sc k - (r : EReal)) = 0 := fun k hkS => by rw [hout k hkS, EReal.bot_sub]; rfl
  have hall : ∑ k, Ideal.exp2 (sc k - (r : EReal)) = (w : EReal) := by
    rw [← hl]; exact (Finset.sum_subset (Finset.subset_univ S) fun k _ hkS => hz k hkS).symm
  have hw0 : (w : EReal) ≠ 0 := by exact_mod_cast hw.ne'
  rw [softRow, ← hsup, hr, hall, h.a_eq, h.l_eq, h.m_eq, hr, hl, sum_div _ _ _ hw]
  refine Finset.sum_subset (Finset.subset_univ S) fun k _ hkS => ?_
  rw [hz k hkS, Ideal.div, if_neg hw0, zero_mul, zero_mul]

/-- THE TEXTBOOK RESULT: scores scaled by `ln 2`, their largest subtracted, exponentials, normalized, then the weighted sum. -/
theorem softRow_exp {ι : Type*} [Fintype ι] {sc v : ι → EReal} (htop : ∀ k, sc k ≠ ⊤) {k0 : ι} (hbot : sc k0 ≠ ⊥) :
    ∑ k, Ideal.div (Ideal.exp (sc k * ((Real.log 2 : ℝ) : EReal) - Finset.univ.sup fun j => sc j * ((Real.log 2 : ℝ) : EReal)))
        (∑ i, Ideal.exp (sc i * ((Real.log 2 : ℝ) : EReal) - Finset.univ.sup fun j => sc j * ((Real.log 2 : ℝ) : EReal))) * v k
      = softRow sc v := by
  classical
  have hpos : (0 : ℝ) < Real.log 2 := Real.log_pos (by norm_num)
  obtain ⟨r, hr⟩ := sup_real htop (Finset.mem_univ k0) hbot
  have hmono : Monotone fun x : EReal => x * ((Real.log 2 : ℝ) : EReal) := fun x y hxy =>
    mul_le_mul_of_nonneg_right hxy (by exact_mod_cast hpos.le)
  have hsup : (Finset.univ.sup fun j => sc j * ((Real.log 2 : ℝ) : EReal)) = Finset.univ.sup sc * ((Real.log 2 : ℝ) : EReal) :=
    (Finset.comp_sup_eq_sup_comp (fun x : EReal => x * ((Real.log 2 : ℝ) : EReal)) (fun x y => hmono.map_sup x y)
      (EReal.bot_mul_coe_of_pos hpos)).symm
  have e : ∀ k, Ideal.exp (sc k * ((Real.log 2 : ℝ) : EReal) - Finset.univ.sup fun j => sc j * ((Real.log 2 : ℝ) : EReal))
      = Ideal.exp2 (sc k - Finset.univ.sup sc) := fun k => by
    rw [hsup, hr, ← exp_mul_log_two]
    congr 1
    have := htop k
    induction hq : sc k with
    | bot => rw [EReal.bot_mul_coe_of_pos hpos, EReal.bot_sub, EReal.bot_sub, EReal.bot_mul_coe_of_pos hpos]
    | top => exact absurd hq this
    | coe q => rw [← EReal.coe_mul, ← EReal.coe_mul, ← EReal.coe_sub, ← EReal.coe_sub, ← EReal.coe_mul]; congr 1; ring
  simp only [e]
  rfl

end Cert.Softmax

end

end
-- ==== Proof.AttnStep.lean ====
/-
  One step of the prompt attention's online softmax, as the vector operations the kernel performs on a block of 512 query
  rows and 512 keys, and what each computes at an index. `Row.step` puts it in the words of Softmax.lean: if the row's
  running state holds the keys met so far, the state after the step holds those and the block's.
-/
module

public import proofs.«01_k».proof.Proof.Gen.KernelIdeal
public import proofs.«01_k».proof.Proof.Softmax
public import Idealize.ShloMosaic.Lib.Pointwise
public import Idealize.ShloMosaic.Lib.WordCmp

@[expose] public section

set_option maxRecDepth 16384

noncomputable section

namespace Cert.Attn

open Idealize.ShloMosaic Cert.KernelIdeal Cert.KernelIdeal.Gen Cert.KernelIdeal.Facts Cert.Softmax
open scoped BigOperators

/-- The largest score after a block with scores `s` (up to the row's own term `f`), from the largest before it. -/
def newM (s : FVec Ideal S512x512 .f32) (f m : FVec Ideal S512x1 .f32) : FVec Ideal S512x1 .f32 :=
  maximumf m (addf (shapeCast S512x1 (multiReduction .maximumf [1] S512 s 0xFF800000#32 reduces_S512x512_S512 (.inl rfl) rfl)
    shapeCasts_S512_S512x1) f)

/-- The block's weights relative to the new largest score. -/
def weights (s : FVec Ideal S512x512 .f32) (f m' : FVec Ideal S512x1 .f32) : FVec Ideal S512x512 .f32 :=
  exp2 (addf s (broadcastTo S512x512 (subf f m') broadcasts_S512x1_S512x512))

/-- The sum of the weights after the block. -/
def newL (s : FVec Ideal S512x512 .f32) (f m l : FVec Ideal S512x1 .f32) : FVec Ideal S512x1 .f32 :=
  addf (mulf (exp2 (subf m (newM s f m))) l)
    (shapeCast S512x1 (multiReduction .add [1] S512 (weights s f (newM s f m)) 0x00000000#32 reduces_S512x512_S512 (.inl rfl) rfl)
      shapeCasts_S512_S512x1)

/-- The weighted sum of the values after the block. -/
def newA (s : FVec Ideal S512x512 .f32) (f m : FVec Ideal S512x1 .f32) (a : FVec Ideal S512x128 .f32) (v : FVec Ideal S512x128 .bf16) :
    FVec Ideal S512x128 .f32 :=
  addf (mulf (broadcastTo S512x128 (exp2 (subf m (newM s f m))) broadcasts_S512x1_S512x128) a)
    (matmul dot_S512x512_S512x128_S512x128_1_0_0_1_n_n none (truncf .bf16 (weights s f (newM s f m)) bitsLt_bf16_f32) v
      (constant S512x128 .f32 0x00000000#32))

/-- The block of results: the weighted sums over the weights' sums, times the gate. -/
def result (a : FVec Ideal S512x128 .f32) (l : FVec Ideal S512x1 .f32) (ga : FVec Ideal S512x128 .bf16) : FVec Ideal S512x128 .bf16 :=
  truncf .bf16 (mulf (divf a (broadcastTo S512x128 l broadcasts_S512x1_S512x128)) (extf .f32 ga bitsLt_bf16_f32)) bitsLt_bf16_f32

theorem newM_apply (s : FVec Ideal S512x512 .f32) (f m : FVec Ideal S512x1 .f32) (r : Fin 512) :
    newM s f m (ix2 r 0) = max (m (ix2 r 0)) ((Finset.univ.sup fun c : Fin 512 => s (ix2 r c)) + f (ix2 r 0)) := by
  unfold newM
  pointwise
  rfl

theorem weights_apply (s : FVec Ideal S512x512 .f32) (f m' : FVec Ideal S512x1 .f32) (r c : Fin 512) :
    weights s f m' (ix2 r c) = Ideal.exp2 (s (ix2 r c) + (f (ix2 r 0) - m' (ix2 r 0))) := by
  unfold weights
  pointwise
  rfl

theorem newL_apply (s : FVec Ideal S512x512 .f32) (f m l : FVec Ideal S512x1 .f32) (r : Fin 512) :
    newL s f m l (ix2 r 0) = Ideal.exp2 (m (ix2 r 0) - newM s f m (ix2 r 0)) * l (ix2 r 0)
      + ∑ c : Fin 512, Ideal.exp2 (s (ix2 r c) + (f (ix2 r 0) - newM s f m (ix2 r 0))) := by
  unfold newL
  generalize newM s f m = m'
  unfold weights
  pointwise
  rfl

theorem newA_apply (s : FVec Ideal S512x512 .f32) (f m : FVec Ideal S512x1 .f32) (a : FVec Ideal S512x128 .f32)
    (v : FVec Ideal S512x128 .bf16) (r : Fin 512) (d : Fin 128) :
    newA s f m a v (ix2 r d) = Ideal.exp2 (m (ix2 r 0) - newM s f m (ix2 r 0)) * a (ix2 r d)
      + ∑ c : Fin 512, Ideal.exp2 (s (ix2 r c) + (f (ix2 r 0) - newM s f m (ix2 r 0))) * v (ix2 c d) := by
  unfold newA
  generalize newM s f m = m'
  unfold weights
  pointwise
  rfl

theorem result_apply (a : FVec Ideal S512x128 .f32) (l : FVec Ideal S512x1 .f32) (ga : FVec Ideal S512x128 .bf16) (r : Fin 512) (d : Fin 128) :
    result a l ga (ix2 r d) = Ideal.div (a (ix2 r d)) (l (ix2 r 0)) * ga (ix2 r d) := by
  unfold result
  pointwise

/-- The scores of a block of queries against a block of keys, up to the row's own term: the products less the key's term. -/
def scores (q k : FVec Ideal S512x128 .bf16) (fr : FVec Ideal S1x512 .f32) : FVec Ideal S512x512 .f32 :=
  subf (matmul dot_S512x128_S512x128_S512x512_1_1_0_0_n_n none q k (constant S512x512 .f32 0x00000000#32))
    (broadcastTo S512x512 fr broadcasts_S1x512_S512x512)

/-- The same with the keys after the query masked. -/
def masked (s : FVec Ideal S512x512 .f32) : FVec Ideal S512x512 .f32 :=
  select (cmpi .sle (iota .tc S512x512 32 [1] iota_S512x512_d1_w32) (iota .tc S512x512 32 [0] iota_S512x512_d0_w32)) s
    (broadcast S512x512 (Named.named κ "mask" 0xF149F2CA#32))

/-- The named mask constant is the least extended real. -/
theorem mask_eq : (Named.named κ "mask" 0xF149F2CA#32 : Ideal .f32) = (⊥ : EReal) :=
  IdealRules.named_const.ideal_named_scalar _ _ _ _ rfl

theorem scores_apply (q k : FVec Ideal S512x128 .bf16) (fr : FVec Ideal S1x512 .f32) (r c : Fin 512) :
    scores q k fr (ix2 r c) = (∑ e : Fin 128, q (ix2 r e) * k (ix2 c e)) - fr (ix2 0 c) := by
  unfold scores
  pointwise

theorem masked_apply (s : FVec Ideal S512x512 .f32) (r c : Fin 512) :
    masked s (ix2 r c) = if c.val ≤ r.val then s (ix2 r c) else ⊥ := by
  unfold masked
  rw [mask_eq]
  pointwise
  have hr := r.isLt
  have hc := c.isLt
  unfold Scalar.select
  exact if_congr (WordCmp.cmpi_sle_ofNat_eq_one_iff (by omega) (by omega)) rfl rfl

/-- Where a block of 512 keys starting at `o` lies among the 2048. -/
def key (o : ℕ) (h : o + 512 ≤ 2048) : Fin 512 ↪ Fin 2048 :=
  ⟨fun c => ⟨o + c.val, by omega⟩, fun c c' e => Fin.ext (by have := congrArg Fin.val e; simp only at this; omega)⟩

/-- The keys before position `n`. -/
def upTo (n : ℕ) : Finset (Fin 2048) := Finset.univ.filter fun k => k.val < n

/-- The keys before the block and the block's make the keys before its end. -/
theorem upTo_block (o : ℕ) (h : o + 512 ≤ 2048) : upTo (o + 512) = upTo o ∪ Finset.univ.map (key o h) := by
  ext k
  simp only [upTo, Finset.mem_union, Finset.mem_filter, Finset.mem_univ, true_and, Finset.mem_map]
  constructor
  · intro hk
    by_cases hko : k.val < o
    · exact .inl hko
    · exact .inr ⟨⟨k.val - o, by omega⟩, Fin.ext (by show o + (k.val - o) = k.val; omega)⟩
  · rintro (hk | ⟨c, rfl⟩)
    · omega
    · show o + c.val < o + 512
      omega

/-- ONE STEP OF A ROW: if the running state of row `r` holds the keys before `o`, the state after the block at `o` holds
    those before `o + 512`. -/
theorem row_step {sc v : Fin 2048 → EReal} {s : FVec Ideal S512x512 .f32} {f m l : FVec Ideal S512x1 .f32} {a : FVec Ideal S512x128 .f32}
    {vb : FVec Ideal S512x128 .bf16} {r : Fin 512} {d : Fin 128} (o : ℕ) (ho : o + 512 ≤ 2048) {fq : ℝ}
    (hc : Carry sc v (upTo o) (m (ix2 r 0)) (l (ix2 r 0)) (a (ix2 r d))) (hf : f (ix2 r 0) = (fq : EReal))
    (hs : ∀ c : Fin 512, sc (key o ho c) = s (ix2 r c) + (fq : EReal)) (hv : ∀ c : Fin 512, vb (ix2 c d) = v (key o ho c))
    (htop : ∀ k, sc k ≠ ⊤) (h0 : sc 0 ≠ ⊥) :
    Carry sc v (upTo (o + 512)) (newM s f m (ix2 r 0)) (newL s f m l (ix2 r 0)) (newA s f m a vb (ix2 r d)) := by
  classical
  have hd : Disjoint (upTo o) (Finset.univ.map (key o ho)) := by
    rw [Finset.disjoint_left]
    intro k hk hk'
    obtain ⟨c, -, rfl⟩ := Finset.mem_map.1 hk'
    have : o + c.val < o := (Finset.mem_filter.1 hk).2
    omega
  have h0mem : (0 : Fin 2048) ∈ upTo o ∪ Finset.univ.map (key o ho) := by
    rw [← upTo_block]; exact Finset.mem_filter.2 ⟨Finset.mem_univ _, by show 0 < o + 512; omega⟩
  have hinv : ∀ c, Function.invFun (key o ho) (key o ho c) = c := Function.leftInverse_invFun (key o ho).injective
  have st := Carry.step (B := Finset.univ.map (key o ho)) (t := fun k => s (ix2 r (Function.invFun (key o ho) k))) (f := fq) hc hd
    (Finset.univ_nonempty.map)
    (fun k hk => by obtain ⟨c, -, rfl⟩ := Finset.mem_map.1 hk; rw [hinv]; exact hs c) htop
    (by
      by_cases hz : o = 0
      · subst hz
        exact .inl (Finset.filter_eq_empty_iff.2 fun k _ => by omega)
      · exact .inr ⟨0, Finset.mem_filter.2 ⟨Finset.mem_univ _, by show 0 < o; omega⟩, h0⟩)
    ⟨0, h0mem, h0⟩
  simp only [Finset.sup_map, Finset.sum_map, Function.comp_def, hinv] at st
  rw [upTo_block o ho, newL_apply, newA_apply, newM_apply, hf]
  simp only [hv]
  exact st

end Cert.Attn

end

end
-- ==== Proof.AttnBlock.lean ====
/-
  One point of the prompt attention: a batch element's head, 2048 queries and 2048 keys. Each of the four blocks of 512
  queries walks the key blocks up to its own, the last one masked along the diagonal; the results are the softmax rows of
  the masked scores (`rowScore`), times the gate. The four stored blocks the run found are read back as these.
-/
module

public import proofs.«01_k».proof.Proof.AttnStep
public import proofs.«01_k».proof.Proof.Gen.KernelIdeal.Frame
public import Idealize.ShloMosaic.Lib.Pipeline.Value
public import Idealize.ShloMosaic.Lib.Tactic

@[expose] public section

set_option maxRecDepth 16384

noncomputable section

namespace Cert.Attn

open Idealize.ShloMosaic Cert.KernelIdeal Cert.KernelIdeal.Gen Cert.KernelIdeal.Facts Cert.Softmax
open scoped BigOperators

/-- The running state of a block of rows: the largest scores, the sums of the weights, the weighted sums of the values. -/
structure State where
  /-- largest score per row -/
  m : FVec Ideal S512x1 .f32
  /-- sum of the weights per row -/
  l : FVec Ideal S512x1 .f32
  /-- weighted sum of the values per row and column -/
  a : FVec Ideal S512x128 .f32

/-- Before any key block. -/
def start : State :=
  ⟨broadcast S512x1 (Named.named κ "mask" 0xF149F2CA#32), broadcast S512x1 (Scalar.ofBits .f32 0x00000000#32),
    broadcast S512x128 (Scalar.ofBits .f32 0x00000000#32)⟩

/-- After one more key block. -/
def State.next (st : State) (s : FVec Ideal S512x512 .f32) (f : FVec Ideal S512x1 .f32) (v : FVec Ideal S512x128 .bf16) : State :=
  ⟨newM s f st.m, newL s f st.m st.l, newA s f st.m st.a v⟩

/-- The results of the rows. -/
def State.finish (st : State) (ga : FVec Ideal S512x128 .bf16) : FVec Ideal S512x128 .bf16 := result st.a st.l ga

/-- Rows `o … o + 511` of a head's array. -/
abbrev rows (x : Vec Ideal S2048x128 .bf16) (o : ℕ) (h : ∀ a, (![o, 0] : Fin 2 → ℕ) a + S512x128.size a ≤ S2048x128.size a) :
    FVec Ideal S512x128 .bf16 :=
  View.ld x (Rect.unit (s := S2048x128) ![o, 0] S512x128.size h)

/-- The rows' own terms `o … o + 511`. -/
abbrev own (f : FVec Ideal S2048x1 .f32) (o : ℕ) (h : S2048x1.Slices ![o, 0] S512x1) : FVec Ideal S512x1 .f32 :=
  extractStridedSlice S512x1 ![o, 0] f h

/-- The keys' terms `o … o + 511`. -/
abbrev keyTerm (f : FVec Ideal S1x2048 .f32) (o : ℕ) (h : S1x2048.Slices ![0, o] S1x512) : FVec Ideal S1x512 .f32 :=
  extractStridedSlice S1x512 ![0, o] f h

theorem key_val (o : ℕ) (h : o + 512 ≤ 2048) (c : Fin 512) : (key o h c).val = o + c.val := rfl

theorem rows_apply (x : Vec Ideal S2048x128 .bf16) (o : ℕ) (h) (ho : o + 512 ≤ 2048) (r : Fin 512) (d : Fin 128) :
    rows x o h (ix2 r d) = x (ix2 (key o ho r) d) :=
  congrArg x (funext fun a => Fin.ext (by
    match a with
    | ⟨0, _⟩ => show o + 1 * r.val = o + r.val; omega
    | ⟨1, _⟩ => show 0 + 1 * d.val = d.val; omega))

theorem own_apply (f : FVec Ideal S2048x1 .f32) (o : ℕ) (h) (ho : o + 512 ≤ 2048) (r : Fin 512) :
    own f o h (ix2 r 0) = f (ix2 (key o ho r) 0) :=
  extractStridedSlice_apply _ f h _ _ fun a => by
    match a with
    | ⟨0, _⟩ => rfl
    | ⟨1, _⟩ => rfl

theorem keyTerm_apply (f : FVec Ideal S1x2048 .f32) (o : ℕ) (h) (ho : o + 512 ≤ 2048) (c : Fin 512) :
    keyTerm f o h (ix2 0 c) = f (ix2 0 (key o ho c)) :=
  extractStridedSlice_apply _ f h _ _ fun a => by
    match a with
    | ⟨0, _⟩ => rfl
    | ⟨1, _⟩ => rfl

/-- The score of query `i` against key `k`: their product less the key's term, plus the query's; the keys after the query masked. -/
def rowScore (q k : Vec Ideal S2048x128 .bf16) (fq : FVec Ideal S2048x1 .f32) (fr : FVec Ideal S1x2048 .f32) (i j : Fin 2048) : EReal :=
  if j.val ≤ i.val then (∑ e : Fin 128, q (ix2 i e) * k (ix2 j e)) - fr (ix2 0 j) + fq (ix2 i 0) else ⊥

/-- Every element is a real number. -/
def Real {s : Shape} (x : s.Idx → EReal) : Prop := ∀ i, ∃ r : ℝ, x i = (r : EReal)

/-- The rows' results: the softmax row of the scores over the values, times the gate. -/
def headOut (q k v : Vec Ideal S2048x128 .bf16) (fq : FVec Ideal S2048x1 .f32) (fr : FVec Ideal S1x2048 .f32)
    (ga : Vec Ideal S2048x128 .bf16) (i : Fin 2048) (d : Fin 128) : EReal :=
  softRow (rowScore q k fq fr i) (fun j => v (ix2 j d)) * ga (ix2 i d)

section
variable {q k v : Vec Ideal S2048x128 .bf16} {fq : FVec Ideal S2048x1 .f32} {fr : FVec Ideal S1x2048 .f32}

/-- A product of a row of queries and a row of keys is a real number. -/
theorem product_real (hq : Real q) (hk : Real k) (i j : Fin 2048) : ∃ r : ℝ, (∑ e : Fin 128, q (ix2 i e) * k (ix2 j e) : EReal) = (r : EReal) := by
  choose rq hrq using hq
  choose rk hrk using hk
  refine ⟨∑ e : Fin 128, rq (ix2 i e) * rk (ix2 j e), ?_⟩
  rw [coe_sum]
  exact Finset.sum_congr rfl fun e _ => by rw [hrq, hrk, EReal.coe_mul]

/-- Where it is not masked, a score is a real number. -/
theorem rowScore_real (hq : Real q) (hk : Real k) (hfq : Real fq) (hfr : Real fr) (i j : Fin 2048) (h : j.val ≤ i.val) :
    ∃ r : ℝ, rowScore q k fq fr i j = (r : EReal) := by
  obtain ⟨a, ha⟩ := product_real hq hk i j
  obtain ⟨b, hb⟩ := hfr (ix2 0 j)
  obtain ⟨c, hc⟩ := hfq (ix2 i 0)
  exact ⟨a - b + c, by rw [rowScore, if_pos h, ha, hb, hc, EReal.coe_add, EReal.coe_sub]⟩

theorem rowScore_ne_top (hq : Real q) (hk : Real k) (hfq : Real fq) (hfr : Real fr) (i j : Fin 2048) : rowScore q k fq fr i j ≠ ⊤ := by
  by_cases h : j.val ≤ i.val
  · obtain ⟨r, hr⟩ := rowScore_real hq hk hfq hfr i j h
    rw [hr]; exact EReal.coe_ne_top r
  · rw [rowScore, if_neg h]; exact bot_ne_top

theorem rowScore_zero (hq : Real q) (hk : Real k) (hfq : Real fq) (hfr : Real fr) (i : Fin 2048) : rowScore q k fq fr i 0 ≠ ⊥ := by
  obtain ⟨r, hr⟩ := rowScore_real hq hk hfq hfr i 0 (Nat.zero_le _)
  rw [hr]; exact EReal.coe_ne_bot r

/-- Row `r` of the block of queries at `oq` has met the keys before `n`. -/
def Held (q k v : Vec Ideal S2048x128 .bf16) (fq : FVec Ideal S2048x1 .f32) (fr : FVec Ideal S1x2048 .f32) (i : Fin 2048) (r : Fin 512) (d : Fin 128)
    (n : ℕ) (st : State) : Prop :=
  Carry (rowScore q k fq fr i) (fun j => v (ix2 j d)) (upTo n) (st.m (ix2 r 0)) (st.l (ix2 r 0)) (st.a (ix2 r d))

theorem held_start (i : Fin 2048) (r : Fin 512) (d : Fin 128) : Held q k v fq fr i r d 0 start := by
  have h : upTo 0 = ∅ := Finset.filter_eq_empty_iff.2 fun k _ => by omega
  have e := Carry.empty (rowScore q k fq fr i) (fun j => v (ix2 j d))
  rw [← h] at e
  have hm : start.m (ix2 r 0) = (⊥ : EReal) := mask_eq
  have hl : start.l (ix2 r 0) = (0 : EReal) := by unfold start; pointwise
  have ha : start.a (ix2 r d) = (0 : EReal) := by unfold start; pointwise
  unfold Held
  rw [hm, hl, ha]
  exact e

/-- A key block before the query block: no key of it is masked. -/
theorem held_next (hq : Real q) (hk : Real k) (hfq : Real fq) (hfr : Real fr) {oq ok : ℕ} {h1 h2 h3 h4} (hoq : oq + 512 ≤ 2048)
    (hok : ok + 512 ≤ 2048) (hlt : ok + 512 ≤ oq) {r : Fin 512} {d : Fin 128} {st : State}
    (h : Held q k v fq fr (key oq hoq r) r d ok st) :
    Held q k v fq fr (key oq hoq r) r d (ok + 512)
      (st.next (scores (rows q oq h1) (rows k ok h2) (keyTerm fr ok h3)) (own fq oq h4) (rows v ok h2)) := by
  obtain ⟨f, hf⟩ := hfq (ix2 (key oq hoq r) 0)
  refine row_step ok hok (fq := f) h ((own_apply fq oq h4 hoq r).trans hf) (fun c => ?_) (fun c => rows_apply v ok h2 hok c d)
    (rowScore_ne_top hq hk hfq hfr _) (rowScore_zero hq hk hfq hfr _)
  rw [scores_apply, keyTerm_apply fr ok h3 hok, rowScore, if_pos (by rw [key_val, key_val]; omega), hf]
  simp only [rows_apply q oq h1 hoq, rows_apply k ok h2 hok]

/-- The key block at the query block's own place: the keys after the query are masked. -/
theorem held_diag (hq : Real q) (hk : Real k) (hfq : Real fq) (hfr : Real fr) {o : ℕ} {h1 h3 h4} (ho : o + 512 ≤ 2048)
    {r : Fin 512} {d : Fin 128} {st : State} (h : Held q k v fq fr (key o ho r) r d o st) :
    Held q k v fq fr (key o ho r) r d (o + 512)
      (st.next (masked (scores (rows q o h1) (rows k o h1) (keyTerm fr o h3))) (own fq o h4) (rows v o h1)) := by
  obtain ⟨f, hf⟩ := hfq (ix2 (key o ho r) 0)
  refine row_step o ho (fq := f) h ((own_apply fq o h4 ho r).trans hf) (fun c => ?_) (fun c => rows_apply v o h1 ho c d)
    (rowScore_ne_top hq hk hfq hfr _) (rowScore_zero hq hk hfq hfr _)
  rw [masked_apply, scores_apply, keyTerm_apply fr o h3 ho, rowScore]
  by_cases hc : c.val ≤ r.val
  · rw [if_pos hc, if_pos (by rw [key_val, key_val]; omega), hf]
    simp only [rows_apply q o h1 ho, rows_apply k o h1 ho]
  · rw [if_neg hc, if_neg (by rw [key_val, key_val]; omega), EReal.bot_add]

/-- Once the keys up to the block's end are met, the row's result is its softmax row times the gate. -/
theorem held_finish (hq : Real q) (hk : Real k) (hfq : Real fq) (hfr : Real fr) {o : ℕ} {h1} (ho : o + 512 ≤ 2048) {ga : Vec Ideal S2048x128 .bf16}
    {r : Fin 512} {d : Fin 128} {st : State} (h : Held q k v fq fr (key o ho r) r d (o + 512) st) :
    st.finish (rows ga o h1) (ix2 r d) = headOut q k v fq fr ga (key o ho r) d := by
  unfold State.finish headOut
  rw [result_apply, rows_apply ga o h1 ho, h.result (rowScore_ne_top hq hk hfq hfr _)
    (Finset.mem_filter.2 ⟨Finset.mem_univ 0, by show 0 < o + 512; omega⟩) (rowScore_zero hq hk hfq hfr _)]
  intro j hj
  have hj' : ¬j.val < o + 512 := fun e => hj (Finset.mem_filter.2 ⟨Finset.mem_univ _, e⟩)
  exact if_neg (by rw [key_val]; omega)

end

/-- Reading a stored block back: it is the block of results when its index by index equation is known. -/
theorem eq_of_ix2 {M N : ℕ} {α : Type} {x y : (⟨2, ![M, N]⟩ : Shape).Idx → α} (h : ∀ (r : Fin M) (d : Fin N), x (ix2 r d) = y (ix2 r d)) : x = y :=
  funext fun j => by
    have e : j = ix2 (j 0) (j 1) := funext fun a => by
      match a with
      | ⟨0, _⟩ => rfl
      | ⟨1, _⟩ => rfl
    rw [e]; exact h _ _

/-- The results of a head, as an array. -/
def headArr (q k v : Vec Ideal S2048x128 .bf16) (fq : FVec Ideal S2048x1 .f32) (fr : FVec Ideal S1x2048 .f32)
    (ga : Vec Ideal S2048x128 .bf16) : Vec Ideal S2048x128 .bf16 :=
  fun j => headOut q k v fq fr ga (j 0) (j 1)

/-- The rectangle of rows `o … o + 511` puts row `r` at row `o + r`. -/
theorem emb_rows (o : ℕ) (h : ∀ a, (![o, 0] : Fin 2 → ℕ) a + S512x128.size a ≤ S2048x128.size a) (ho : o + 512 ≤ 2048) (r : Fin 512) (d : Fin 128) :
    (Rect.unit (s := S2048x128) ![o, 0] S512x128.size h).emb (ix2 r d) = ix2 (key o ho r) d :=
  funext fun a => Fin.ext (by
    match a with
    | ⟨0, _⟩ => show o + 1 * r.val = o + r.val; omega
    | ⟨1, _⟩ => show 0 + 1 * d.val = d.val; omega)

/-- A stored block is the head's results on its rows. -/
theorem piece_eq {q k v ga : Vec Ideal S2048x128 .bf16} {fq : FVec Ideal S2048x1 .f32} {fr : FVec Ideal S1x2048 .f32}
    (hq : Real q) (hk : Real k) (hfq : Real fq) (hfr : Real fr) {o : ℕ} {h1} (ho : o + 512 ≤ 2048) {st : State}
    (h : ∀ (r : Fin 512) (d : Fin 128), Held q k v fq fr (key o ho r) r d (o + 512) st) (x : S512x128.Idx) :
    st.finish (rows ga o h1) x = headArr q k v fq fr ga ((Rect.unit (s := S2048x128) ![o, 0] S512x128.size h1).emb x) := by
  refine congrFun (eq_of_ix2 (y := fun x => headArr q k v fq fr ga ((Rect.unit (s := S2048x128) ![o, 0] S512x128.size h1).emb x))
    fun r d => ?_) x
  show _ = headArr q k v fq fr ga _
  rw [emb_rows o h1 ho, held_finish hq hk hfq hfr ho (h r d)]
  rfl

set_option maxHeartbeats 1000000 in
/-- THE POINT'S BLOCK: what the body leaves in the result's staging buffer is the head's results. -/
theorem out_eq (c : Dev nD) (i : grid0.Coords) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S2048x128 .f32) (harg5 : arg5.IsWhole) (arg6 : Memref sig .tc .vmem S1x8x2048 .f32) (harg6 : arg6.IsWhole)
    (arg7 : Memref sig .tc .vmem S2048x128 .bf16) (harg7 : arg7.IsWhole) (arg8 : Memref sig .tc .vmem S2048x128 .bf16) (harg8 : arg8.IsWhole)
    (x0 x1 x2 : Vec Ideal S2048x128 .bf16) (x3 : Vec Ideal S2048x128 .f32) (x4 : Vec Ideal S1x8x2048 .f32) (x5 : Vec Ideal S2048x128 .bf16)
    (hq : Real x0) (hk : Real x1)
    (hfq : Real (k0_pay2 i (View.ld x3 (Rect.unit (s := S2048x128) ![0, 0] S2048x128.size inb_S2048x128_S2048x128_0_0))))
    (hfr : Real (k0_pay3 (View.ld x4 (Rect.unit (s := S1x8x2048) (k0_off1 i) S1x1x2048.size (k0_off1_inb i))))) :
    out0_A_6 c i arg2 harg2 arg3 harg3 arg4 harg4 arg5 harg5 arg6 harg6 arg7 harg7 arg8 harg8 x0 x1 x2 x3 x4 x5
      = headArr x0 x1 x2 (k0_pay2 i (View.ld x3 (Rect.unit (s := S2048x128) ![0, 0] S2048x128.size inb_S2048x128_S2048x128_0_0)))
          (k0_pay3 (View.ld x4 (Rect.unit (s := S1x8x2048) (k0_off1 i) S1x1x2048.size (k0_off1_inb i)))) x5 := by
  have hcov := cover0_A_6 c i arg2 harg2 arg3 harg3 arg4 harg4 arg5 harg5 arg6 harg6 arg7 harg7 arg8 harg8 x0 x1 x2 x3 x4 x5
  unfold out0_A_6
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread, harg7.read_unread]
  generalize hfq' : k0_pay2 i (View.ld x3 (Rect.unit (s := S2048x128) ![0, 0] S2048x128.size inb_S2048x128_S2048x128_0_0)) = fq at hfq ⊢
  intro p hp x
  simp only [List.mem_cons, List.not_mem_nil, or_false] at hp
  rcases hp with rfl | rfl | rfl | rfl
  · refine Eq.trans ?_ (piece_eq hq hk hfq hfr (o := 1536) (h1 := inb_S2048x128_S512x128_1536_0) (ga := x5) (by norm_num) (fun r d =>
      held_diag (h1 := inb_S2048x128_S512x128_1536_0) (h3 := slices_S1x2048_o0_1536_S1x512) (h4 := slices_S2048x1_o1536_0_S512x1) hq hk hfq hfr _
        (held_next (h1 := inb_S2048x128_S512x128_1536_0) (h2 := inb_S2048x128_S512x128_1024_0) (h3 := slices_S1x2048_o0_1024_S1x512) (h4 := slices_S2048x1_o1536_0_S512x1) hq hk hfq hfr _ (by norm_num) (by norm_num)
          (held_next (h1 := inb_S2048x128_S512x128_1536_0) (h2 := inb_S2048x128_S512x128_512_0) (h3 := slices_S1x2048_o0_512_S1x512) (h4 := slices_S2048x1_o1536_0_S512x1) hq hk hfq hfr _ (by norm_num) (by norm_num)
            (held_next (h1 := inb_S2048x128_S512x128_1536_0) (h2 := inb_S2048x128_S512x128_0_0) (h3 := slices_S1x2048_o0_0_S1x512) (h4 := slices_S2048x1_o1536_0_S512x1) hq hk hfq hfr _ (by norm_num) (by norm_num)
              (held_start _ r d))))) x)
    rfl
  · refine Eq.trans ?_ (piece_eq hq hk hfq hfr (o := 1024) (h1 := inb_S2048x128_S512x128_1024_0) (ga := x5) (by norm_num) (fun r d =>
      held_diag (h1 := inb_S2048x128_S512x128_1024_0) (h3 := slices_S1x2048_o0_1024_S1x512) (h4 := slices_S2048x1_o1024_0_S512x1) hq hk hfq hfr _
        (held_next (h1 := inb_S2048x128_S512x128_1024_0) (h2 := inb_S2048x128_S512x128_512_0) (h3 := slices_S1x2048_o0_512_S1x512) (h4 := slices_S2048x1_o1024_0_S512x1) hq hk hfq hfr _ (by norm_num) (by norm_num)
          (held_next (h1 := inb_S2048x128_S512x128_1024_0) (h2 := inb_S2048x128_S512x128_0_0) (h3 := slices_S1x2048_o0_0_S1x512) (h4 := slices_S2048x1_o1024_0_S512x1) hq hk hfq hfr _ (by norm_num) (by norm_num)
            (held_start _ r d)))) x)
    rfl
  · refine Eq.trans ?_ (piece_eq hq hk hfq hfr (o := 512) (h1 := inb_S2048x128_S512x128_512_0) (ga := x5) (by norm_num) (fun r d =>
      held_diag (h1 := inb_S2048x128_S512x128_512_0) (h3 := slices_S1x2048_o0_512_S1x512) (h4 := slices_S2048x1_o512_0_S512x1) hq hk hfq hfr _
        (held_next (h1 := inb_S2048x128_S512x128_512_0) (h2 := inb_S2048x128_S512x128_0_0) (h3 := slices_S1x2048_o0_0_S1x512) (h4 := slices_S2048x1_o512_0_S512x1) hq hk hfq hfr _ (by norm_num) (by norm_num)
          (held_start _ r d))) x)
    rfl
  · subst hfq'
    refine Eq.trans ?_ (piece_eq hq hk hfq hfr (o := 0) (h1 := inb_S2048x128_S512x128_0_0) (ga := x5) (by norm_num) (fun r d =>
      held_diag (h1 := inb_S2048x128_S512x128_0_0) (h3 := slices_S1x2048_o0_0_S1x512) (h4 := slices_S2048x1_o0_0_S512x1) hq hk hfq hfr _
        (held_start _ r d)) x)
    rfl

end Cert.Attn

end

end
-- ==== Proof.AttnArray.lean ====
/-
  The whole result of the prompt attention: 4 batch elements × 8 heads, each the softmax rows of `headArr`, laid side by
  side in the (8192, 1024) array. The kernel's 32 points write one head's block each; together they fill the array.
-/
module

public import proofs.«01_k».proof.Proof.AttnBlock
public import proofs.«01_k».proof.Proof.Gen.KernelIdeal.Value
public import Idealize.ShloMosaic.Lib.WordCmp

@[expose] public section

set_option maxRecDepth 16384

noncomputable section

namespace Cert.Attn

open Idealize.ShloMosaic Cert.KernelIdeal Cert.KernelIdeal.Gen Cert.KernelIdeal.Facts Cert.Softmax
open Idealize.ShloMosaic.TcCoe Idealize.SL.Sem
open Idealize.ShloMosaic.Pipeline (Dat)
open scoped BigOperators

/-- Row `i` of batch element `b`, in the flat array. -/
def rowAt (b : Fin 4) (i : Fin 2048) : Fin 8192 := ⟨b.val * 2048 + i.val, by omega⟩

/-- Column `d` of head `h`, in the flat array. -/
def colAt (h : Fin 8) (d : Fin 128) : Fin 1024 := ⟨h.val * 128 + d.val, by omega⟩

/-- The batch element a row belongs to. -/
def batchOf (R : Fin 8192) : Fin 4 := ⟨R.val / 2048, by omega⟩

/-- The head a column belongs to. -/
def headOf (C : Fin 1024) : Fin 8 := ⟨C.val / 128, by omega⟩

/-- A row's place in its batch element. -/
def rowIn (R : Fin 8192) : Fin 2048 := ⟨R.val % 2048, by omega⟩

/-- A column's place in its head. -/
def colIn (C : Fin 1024) : Fin 128 := ⟨C.val % 128, by omega⟩

theorem batchOf_rowAt (b : Fin 4) (i : Fin 2048) : batchOf (rowAt b i) = b := Fin.ext (by simp only [batchOf, rowAt]; omega)
theorem rowIn_rowAt (b : Fin 4) (i : Fin 2048) : rowIn (rowAt b i) = i := Fin.ext (by simp only [rowIn, rowAt]; omega)
theorem headOf_colAt (h : Fin 8) (d : Fin 128) : headOf (colAt h d) = h := Fin.ext (by simp only [headOf, colAt]; omega)
theorem colIn_colAt (h : Fin 8) (d : Fin 128) : colIn (colAt h d) = d := Fin.ext (by simp only [colIn, colAt]; omega)
theorem rowAt_eta (R : Fin 8192) : rowAt (batchOf R) (rowIn R) = R := Fin.ext (by simp only [batchOf, rowIn, rowAt]; omega)
theorem colAt_eta (C : Fin 1024) : colAt (headOf C) (colIn C) = C := Fin.ext (by simp only [headOf, colIn, colAt]; omega)

/-- The lane of the rows' terms that holds head `h`. -/
def laneAt (h : Fin 8) : Fin 128 := ⟨h.val, by omega⟩

/-- One head's block of a flat array. -/
def headBlk (x : Vec Ideal S8192x1024 .bf16) (b : Fin 4) (h : Fin 8) : Vec Ideal S2048x128 .bf16 :=
  fun j => x (ix2 (rowAt b (j 0)) (colAt h (j 1)))

/-- One head's own terms. -/
def headOwn (x : Vec Ideal S8192x128 .f32) (b : Fin 4) (h : Fin 8) : FVec Ideal S2048x1 .f32 :=
  fun j => x (ix2 (rowAt b (j 0)) (laneAt h))

/-- One head's key terms. -/
def headKey (x : Vec Ideal S4x8x2048 .f32) (b : Fin 4) (h : Fin 8) : FVec Ideal S1x2048 .f32 :=
  fun j => x (ix3 b h (j 1))

/-- Batch element `b`, head `h`: the head's results. -/
def headRes (q k v : Vec Ideal S8192x1024 .bf16) (fc : Vec Ideal S8192x128 .f32) (fr : Vec Ideal S4x8x2048 .f32)
    (ga : Vec Ideal S8192x1024 .bf16) (b : Fin 4) (h : Fin 8) : Vec Ideal S2048x128 .bf16 :=
  headArr (headBlk q b h) (headBlk k b h) (headBlk v b h) (headOwn fc b h) (headKey fr b h) (headBlk ga b h)

/-- The whole result array. -/
def attnArr (q k v : Vec Ideal S8192x1024 .bf16) (fc : Vec Ideal S8192x128 .f32) (fr : Vec Ideal S4x8x2048 .f32)
    (ga : Vec Ideal S8192x1024 .bf16) : Vec Ideal S8192x1024 .bf16 :=
  fun R => headRes q k v fc fr ga (batchOf (R 0)) (headOf (R 1)) (ix2 (rowIn (R 0)) (colIn (R 1)))

/-- The whole array at a head's row and column. -/
theorem attnArr_at (q k v : Vec Ideal S8192x1024 .bf16) (fc : Vec Ideal S8192x128 .f32) (fr : Vec Ideal S4x8x2048 .f32)
    (ga : Vec Ideal S8192x1024 .bf16) (b : Fin 4) (h : Fin 8) (i : Fin 2048) (d : Fin 128) :
    attnArr q k v fc fr ga (ix2 (rowAt b i) (colAt h d)) = headRes q k v fc fr ga b h (ix2 i d) := by
  show headRes q k v fc fr ga (batchOf (rowAt b i)) (headOf (colAt h d)) (ix2 (rowIn (rowAt b i)) (colIn (colAt h d))) = _
  rw [batchOf_rowAt, rowIn_rowAt, headOf_colAt, colIn_colAt]

/-! ## The rows' own terms and the keys' terms, read from their blocks -/

/-- The test that picks the head's lane. -/
theorem lane_iff (h : ℕ) (hh : h < 8) (k : ℕ) (hk : k < 128) :
    IntOp.cmpi .eq (BitVec.ofNat 32 k) (BitVec.ofNat 32 h) = 1#1 ↔ k = h := by
  have : ∀ h < 8, ∀ k < 128, IntOp.cmpi .eq (BitVec.ofNat 32 k) (BitVec.ofNat 32 h) = 1#1 ↔ k = h := by decide +kernel
  exact this h hh k hk

/-- Summing the lanes with all but the head's set to zero leaves the head's lane. -/
theorem laneSum_apply (i : grid0.Coords) (h : Fin 8) (hh : (i 1).val = h.val) (x : Vec Ideal S2048x128 .f32) (r : Fin 2048) :
    k0_pay2 i x (ix2 r 0) = x (ix2 r (laneAt h)) := by
  unfold k0_pay2
  pointwise
  rw [hh]
  refine (Finset.sum_eq_single (laneAt h) (fun k _ hk => ?_) (fun hk => absurd (Finset.mem_univ _) hk)).trans ?_
  · exact if_neg fun hc => hk (Fin.ext ((lane_iff h.val h.isLt k.val k.isLt).mp hc))
  · exact if_pos ((lane_iff h.val h.isLt h.val (by omega)).mpr rfl)

theorem ix3_congr {n0 n1 n2 : ℕ} {a a' : Fin n0} {b b' : Fin n1} {c c' : Fin n2} (ha : a = a') (hb : b = b') (hc : c = c') :
    ix3 a b c = ix3 a' b' c' := by rw [ha, hb, hc]

/-- The keys' terms are the head's row of the block. -/
theorem keyTerm_apply' (i : grid0.Coords) (h : Fin 8) (hh : (i 1).val = h.val) (x : Vec Ideal S1x8x2048 .f32) (j : Fin 2048) :
    k0_pay3 (View.ld x (Rect.unit (s := S1x8x2048) (k0_off1 i) S1x1x2048.size (k0_off1_inb i))) (ix2 0 j) = x (ix3 0 h j) := by
  unfold k0_pay3
  pointwise
  congr 1
  refine ix3_congr (Fin.ext rfl) (Fin.ext ?_) (Fin.ext ?_)
  · show (BitVec.ofNat 32 (i 1).val).toNat = h.val
    rw [hh, BitVec.toNat_ofNat]; omega
  · exact Nat.zero_add _

/-! ## The blocks the points stage -/

/-- The grid's points: batch element by batch element, head by head. -/
theorem coords_eq : ∀ t : Fin grid0.N, (grid0.coords t 0).val = t.val / 8 ∧ (grid0.coords t 1).val = t.val % 8 := by
  decide +kernel

/-- Which block each window stages. -/
theorem index_eq : ∀ t : Fin grid0.N,
    win0_0.index t = ![t.val / 8, t.val % 8] ∧ win0_1.index t = ![t.val / 8, t.val % 8] ∧ win0_2.index t = ![t.val / 8, t.val % 8]
      ∧ win0_3.index t = ![t.val / 8, 0] ∧ win0_4.index t = ![t.val / 8, 0, 0] ∧ win0_5.index t = ![t.val / 8, t.val % 8]
      ∧ win0_6.index t = ![t.val / 8, t.val % 8] := by
  decide +kernel

variable (m : (ℓ : Loc nD τ sig) → Buf (Elt Ideal) ℓ)

/-- The point's batch element. -/
def bAt (t : Fin cfg0.N) : Fin 4 := ⟨t.val / 8, by have : t.val < 32 := lt_of_lt_of_eq t.isLt N_0; omega⟩
/-- The point's head. -/
def hAt (t : Fin cfg0.N) : Fin 8 := ⟨t.val % 8, by omega⟩

/-- An index of a head's block, in the flat array: a window at block (b, h) with blocks of 2048 by 128. -/
theorem block_idx {t : Fin cfg0.N} {ix : Fin 2 → ℕ} (e : ix = ![t.val / 8, t.val % 8]) (x : S8192x1024.Idx) (j : S2048x128.Idx)
    (h0 : (x 0).val = ix 0 * 2048 + 1 * (j 0).val) (h1 : (x 1).val = ix 1 * 128 + 1 * (j 1).val) :
    x = ix2 (rowAt (bAt t) (j 0)) (colAt (hAt t) (j 1)) := by
  subst e
  funext a
  refine Fin.ext ?_
  match a with
  | ⟨0, _⟩ => exact h0.trans (by simp [rowAt, bAt, ix2])
  | ⟨1, _⟩ => exact h1.trans (by simp [colAt, hAt, ix2])

theorem iblk0 (c : Dev nD) (t : Fin cfg0.N) :
    iblk m c 0 t = headBlk (m ((c : Thread nD τ).loc main_arg0)) (bAt t) (hAt t) := by
  funext j
  exact congrArg (m ((c : Thread nD τ).loc main_arg0)) (block_idx (index_eq t).1 _ j rfl rfl)

theorem iblk1 (c : Dev nD) (t : Fin cfg0.N) :
    iblk m c 1 t = headBlk (m ((c : Thread nD τ).loc main_arg1)) (bAt t) (hAt t) := by
  funext j
  exact congrArg (m ((c : Thread nD τ).loc main_arg1)) (block_idx (index_eq t).2.1 _ j rfl rfl)

theorem iblk2 (c : Dev nD) (t : Fin cfg0.N) :
    iblk m c 2 t = headBlk (m ((c : Thread nD τ).loc main_arg2)) (bAt t) (hAt t) := by
  funext j
  exact congrArg (m ((c : Thread nD τ).loc main_arg2)) (block_idx (index_eq t).2.2.1 _ j rfl rfl)

theorem iblk5 (c : Dev nD) (t : Fin cfg0.N) :
    iblk m c 5 t = headBlk (m ((c : Thread nD τ).loc main_arg5)) (bAt t) (hAt t) := by
  funext j
  exact congrArg (m ((c : Thread nD τ).loc main_arg5)) (block_idx (index_eq t).2.2.2.2.2.1 _ j rfl rfl)

/-- The rows' terms: all lanes of the batch element's rows. -/
theorem iblk3 (c : Dev nD) (t : Fin cfg0.N) (r : Fin 2048) (l : Fin 128) :
    iblk m c 3 t (ix2 r l) = m ((c : Thread nD τ).loc main_arg3) (ix2 (rowAt (bAt t) r) l) := by
  refine congrArg (m ((c : Thread nD τ).loc main_arg3)) ?_
  have e := (index_eq t).2.2.2.1
  funext a
  refine Fin.ext ?_
  match a with
  | ⟨0, _⟩ => show win0_3.index t 0 * 2048 + 1 * r.val = t.val / 8 * 2048 + r.val
              rw [e]; simp
  | ⟨1, _⟩ => show win0_3.index t 1 * 128 + 1 * l.val = l.val
              rw [e]; simp

/-- The keys' terms: all heads of the batch element. -/
theorem iblk4 (c : Dev nD) (t : Fin cfg0.N) (h : Fin 8) (j : Fin 2048) :
    iblk m c 4 t (ix3 0 h j) = m ((c : Thread nD τ).loc main_arg4) (ix3 (bAt t) h j) := by
  refine congrArg (m ((c : Thread nD τ).loc main_arg4)) ?_
  have e := (index_eq t).2.2.2.2.1
  funext a
  refine Fin.ext ?_
  match a with
  | ⟨0, _⟩ => show win0_4.index t 0 * 1 + 1 * 0 = t.val / 8
              rw [e]; simp
  | ⟨1, _⟩ => show win0_4.index t 1 * 8 + 1 * h.val = h.val
              rw [e]; simp
  | ⟨2, _⟩ => show win0_4.index t 2 * 2048 + 1 * j.val = j.val
              rw [e]; simp

theorem coord1 (t : Fin cfg0.N) : (grid0.coords t 1).val = (hAt t).val := (coords_eq t).2

/-- The point's own terms are the head's. -/
theorem own_blk (c : Dev nD) (t : Fin cfg0.N) :
    k0_pay2 (grid0.coords t) (View.ld (iblk m c 3 t) (Rect.unit (s := S2048x128) ![0, 0] S2048x128.size inb_S2048x128_S2048x128_0_0))
      = headOwn (m ((c : Thread nD τ).loc main_arg3)) (bAt t) (hAt t) := by
  refine eq_of_ix2 fun r z => ?_
  obtain rfl : z = 0 := Subsingleton.elim _ _
  rw [laneSum_apply _ (hAt t) (coord1 t)]
  refine Eq.trans ?_ (iblk3 m c t r (laneAt (hAt t)))
  show iblk m c 3 t _ = _
  congr 1
  funext a
  refine Fin.ext ?_
  match a with
  | ⟨0, _⟩ => show 0 + 1 * r.val = r.val; omega
  | ⟨1, _⟩ => show 0 + 1 * (laneAt (hAt t)).val = (laneAt (hAt t)).val; omega

/-- The point's key terms are the head's. -/
theorem key_blk (c : Dev nD) (t : Fin cfg0.N) :
    k0_pay3 (View.ld (iblk m c 4 t) (Rect.unit (s := S1x8x2048) (k0_off1 (grid0.coords t)) S1x1x2048.size (k0_off1_inb (grid0.coords t))))
      = headKey (m ((c : Thread nD τ).loc main_arg4)) (bAt t) (hAt t) := by
  refine eq_of_ix2 fun z j => ?_
  obtain rfl : z = 0 := Subsingleton.elim _ _
  rw [keyTerm_apply' _ (hAt t) (coord1 t), iblk4]
  rfl

/-! ## The whole array -/

/-- The whole array of the arguments of device `c`. -/
abbrev specArr (c : Dev nD) : Vec Ideal S8192x1024 .bf16 :=
  attnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the scores need: the queries, the keys and both decay terms are real numbers. -/
structure FiniteArgs (c : Dev nD) : Prop where
  q : Real (s := S8192x1024) (m ((c : Thread nD τ).loc main_arg0))
  k : Real (s := S8192x1024) (m ((c : Thread nD τ).loc main_arg1))
  fc : Real (s := S8192x128) (m ((c : Thread nD τ).loc main_arg3))
  fr : Real (s := S4x8x2048) (m ((c : Thread nD τ).loc main_arg4))

/-- What a point writes back is its block of the whole array. -/
theorem flushed_eq (c : Dev nD) (hf : FiniteArgs m c) (t : Fin cfg0.N) :
    (dats m 0 c).flushed 6 t = ((cfg0.win 6).blk t).view.read (Elt Ideal) (specArr m c) := by
  have hq0 : Real (iblk m c 0 t) := by rw [iblk0]; exact fun i => hf.q _
  have hk0 : Real (iblk m c 1 t) := by rw [iblk1]; exact fun i => hf.k _
  have hfq : Real (k0_pay2 (grid0.coords t) (View.ld (iblk m c 3 t) (Rect.unit (s := S2048x128) ![0, 0] S2048x128.size inb_S2048x128_S2048x128_0_0))) := by
    rw [own_blk]; exact fun i => hf.fc _
  have hfr : Real (k0_pay3 (View.ld (iblk m c 4 t) (Rect.unit (s := S1x8x2048) (k0_off1 (grid0.coords t)) S1x1x2048.size (k0_off1_inb (grid0.coords t))))) := by
    rw [key_blk]; exact fun i => hf.fr _
  rw [Cert.KernelIdeal.Value.flushed6_A, out_eq c _ _ _ _ _ _ _ _ _ _ _ _ _ _ _ _ _ _ _ _ _ hq0 hk0 hfq hfr, own_blk, key_blk,
    iblk0, iblk1, iblk2, iblk5]
  have key : ∀ j : S2048x128.Idx, headRes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (bAt t) (hAt t) j
        = specArr m c (ix2 (rowAt (bAt t) (j 0)) (colAt (hAt t) (j 1))) := fun j => by
    exact (congrArg (headRes _ _ _ _ _ _ (bAt t) (hAt t)) (eq_ix2 j)).trans (attnArr_at _ _ _ _ _ _ (bAt t) (hAt t) (j 0) (j 1)).symm
  funext j
  exact (key j).trans (congrArg (specArr m c) (block_idx (index_eq t).2.2.2.2.2.2 _ j rfl rfl)).symm

/-- An index of the result array is in a point's block when its row and its column are. -/
theorem mem_blk (t : Fin cfg0.N) (i : S8192x1024.Idx) (h0 : t.val / 8 * 2048 ≤ (i 0).val ∧ (i 0).val < t.val / 8 * 2048 + 2048)
    (h1 : t.val % 8 * 128 ≤ (i 1).val ∧ (i 1).val < t.val % 8 * 128 + 128) : i ∈ ((cfg0.win 6).blk t).view.set := by
  show i ∈ ((View.whole main_v0).slice (win0_6.rect t)).set
  rw [View.set_slice_whole, Rect.mem_set_unit]
  have e := (index_eq t).2.2.2.2.2.2
  intro a
  match a with
  | ⟨0, _⟩ =>
    show win0_6.index t 0 * 2048 ≤ (i 0).val ∧ (i 0).val < win0_6.index t 0 * 2048 + 2048
    rw [e]; exact h0
  | ⟨1, _⟩ =>
    show win0_6.index t 1 * 128 ≤ (i 1).val ∧ (i 1).val < win0_6.index t 1 * 128 + 128
    rw [e]; exact h1

/-- The blocks fill the array. -/
theorem cover (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hN : cfg0.N = 32 := N_0
  have ht : (i 0).val / 2048 * 8 + (i 1).val / 128 < cfg0.N := by omega
  refine ⟨⟨_, ht⟩, flush0_6 _, mem_blk _ i ?_ ?_⟩ <;> dsimp only <;> omega

/-- So the result array ends as the whole array. -/
theorem final_o (c : Dev nD) (hf : FiniteArgs m c) : (dats m 0 c).arrAt 6 cfg0.N = specArr m c :=
  (dats m 0 c).arrAt_eq_of_cover 6 (specArr m c) (fun t _ => flushed_eq m c hf t) cover

end Cert.Attn

end

end
-- ==== Proof.AttnRef.lean ====
/-
  The reference's result read at an index: the textbook softmax row over all 2048 keys, the masked ones at `⊥`, is the
  same softmax row the kernel's heads hold, so the reference's array is `attnArr` of its arguments.
-/
module

public import proofs.«01_k».proof.Proof.AttnArray
public import proofs.«01_k».proof.Proof.Gen.ReferenceIdeal.Read

@[expose] public section

set_option maxRecDepth 16384

noncomputable section

namespace Cert.Attn

open Idealize.ShloMosaic Cert.ReferenceIdeal Cert.ReferenceIdeal.Gen Cert.ReferenceIdeal.Read Cert.Softmax
open scoped BigOperators

/-- The scale the host computes is the real `log 2`. -/
theorem log_two : Ideal.log (FloatOps.ofBits (F := Ideal) .f32 0x40000000#32) = ((Real.log 2 : ℝ) : EReal) := by
  have h : FloatOps.ofBits (F := Ideal) .f32 0x40000000#32 = ((2 : ℝ) : EReal) := by
    show Ideal.ofBits .f32 0x40000000#32 = _
    simp [Ideal.ofBits, Ideal.ieee]
    rw [← EReal.coe_mul]
    norm_num
  rw [h]
  show Ideal.log ((2 : ℝ) : EReal) = _
  rw [Ideal.log_coe, if_neg (by norm_num)]

/-- The word of minus infinity. -/
theorem neg_inf : Ideal.ofBits .f32 0xFF800000#32 = ⊥ := by simp [Ideal.ofBits, Ideal.ieee]

/-- Row `j` of batch element `b`, column `e` of head `h`: the 4-axis index of the flat one. -/
theorem idx_heads (b : Fin 4) (j : Fin 2048) (h : Fin 8) (e : Fin 128) : idx_main_v1 (ix4 b j h e) = ix2 (rowAt b j) (colAt h e) := by
  funext a
  refine Fin.ext ?_
  match a with
  | ⟨0, _⟩ => show (((b.val * 2048 + j.val) * 8 + h.val) * 128 + e.val) / 1024 = b.val * 2048 + j.val; omega
  | ⟨1, _⟩ => show (((b.val * 2048 + j.val) * 8 + h.val) * 128 + e.val) % 1024 = h.val * 128 + e.val; omega

variable (x0 x1 x2 x5 : Vec Ideal S8192x1024 .bf16) (x3 : Vec Ideal S8192x128 .f32) (x4 : Vec Ideal S4x8x2048 .f32)

/-- The reference's masked, scaled score. -/
theorem ref_score (hq : Real x0) (hk : Real x1) (h3 : Real x3) (h4 : Real x4) (b : Fin 4) (h : Fin 8) (i j : Fin 2048) :
    val_main_v25 (F := Ideal) x0 x1 x3 x4 (ix4 b h i j)
      = rowScore (headBlk x0 b h) (headBlk x1 b h) (headOwn x3 b h) (headKey x4 b h) i j * ((Real.log 2 : ℝ) : EReal) := by
  simp only [val_main_v25_apply, val_main_call0_v1_apply, val_main_v20_apply, val_main_v18_apply, val_main_v16_apply, val_main_v15_apply,
    val_main_v19_apply, val_main_v17_apply, val_main_v24_apply, val_main_v21_apply, val_main_v9_apply, val_main_v14_apply, val_main_v12_apply,
    val_main_v13_apply, val_main_v10_apply, val_main_v11_apply, val_main_v8_apply, val_main_v7_apply, val_main_v6_apply, val_main_v23_apply,
    val_main_v22_apply, val_main_cst_apply, val_main_call0_v2_apply, val_main_call0_v0_apply, val_main_cst_0_apply]
  have hs : (∑ e : Fin 128, val_main_v1 (F := Ideal) x0 (lidx_main_v9 (ix4 b h i j) e) * val_main_v3 (F := Ideal) x1 (ridx_main_v9 (ix4 b h i j) e))
      = ∑ e : Fin 128, headBlk x0 b h (ix2 i e) * headBlk x1 b h (ix2 j e) := by
    refine Finset.sum_congr rfl fun e _ => congrArg₂ (· * ·) ?_ ?_
    · rw [val_main_v1_apply, val_main_v0_apply]
      exact congrArg x0 (idx_heads b i h e)
    · rw [val_main_v3_apply, val_main_v2_apply]
      exact congrArg x1 (idx_heads b j h e)
  have e3 : idx_main_v6 (idx_main_v7 (idx_main_v8 (idx_main_v10 (idx_main_v12 (ix4 b h i j))))) = ix2 (rowAt b i) (laneAt h) := by
    funext a
    refine Fin.ext ?_
    match a with
    | ⟨0, _⟩ => show ((b.val * 2048 + i.val) * 128 + h.val) / 128 = b.val * 2048 + i.val; omega
    | ⟨1, _⟩ => show ((b.val * 2048 + i.val) * 128 + h.val) % 128 = h.val; omega
  have e4 : idx_main_v11 (idx_main_v13 (ix4 b h i j)) = ix3 b h j := by
    funext a
    match a with
    | ⟨0, _⟩ => rfl
    | ⟨1, _⟩ => rfl
    | ⟨2, _⟩ => rfl
  rw [hs, e3, e4]
  show Scalar.select (IntOp.cmpi .sle (BitVec.ofNat 32 j.val) (BitVec.ofNat 32 i.val))
    (((∑ e : Fin 128, headBlk x0 b h (ix2 i e) * headBlk x1 b h (ix2 j e)) + (x3 (ix2 (rowAt b i) (laneAt h)) - x4 (ix3 b h j)))
      * Ideal.log (FloatOps.ofBits (F := Ideal) .f32 0x40000000#32)) (Ideal.ofBits .f32 0xFF800000#32)
    = rowScore (headBlk x0 b h) (headBlk x1 b h) (headOwn x3 b h) (headKey x4 b h) i j * ((Real.log 2 : ℝ) : EReal)
  rw [log_two, neg_inf, rowScore]
  by_cases hj : j.val ≤ i.val
  · have hc : IntOp.cmpi .sle (BitVec.ofNat 32 j.val) (BitVec.ofNat 32 i.val) = 1#1 :=
      (WordCmp.cmpi_sle_ofNat_eq_one_iff (by omega) (by omega)).mpr hj
    rw [if_pos hj, hc]
    show (_ + (_ - _)) * _ = (_ - x4 (ix3 b h j) + x3 (ix2 (rowAt b i) (laneAt h))) * _
    obtain ⟨s, es⟩ := product_real (q := headBlk x0 b h) (k := headBlk x1 b h) (fun _ => hq _) (fun _ => hk _) i j
    obtain ⟨u, eu⟩ := h3 (ix2 (rowAt b i) (laneAt h))
    obtain ⟨w, ew⟩ := h4 (ix3 b h j)
    rw [es, eu, ew, ← EReal.coe_sub, ← EReal.coe_sub, ← EReal.coe_add, ← EReal.coe_add]
    congr 2
    ring
  · have hc : ¬ IntOp.cmpi .sle (BitVec.ofNat 32 j.val) (BitVec.ofNat 32 i.val) = 1#1 := fun hc =>
      hj ((WordCmp.cmpi_sle_ofNat_eq_one_iff (by omega) (by omega)).mp hc)
    rw [if_neg hj]
    exact (if_neg hc).trans (EReal.bot_mul_coe_of_pos (Real.log_pos (by norm_num))).symm

/-- The largest score of a row. -/
theorem ref_max (b : Fin 4) (h : Fin 8) (i : Fin 2048) :
    val_main_v28 (F := Ideal) x0 x1 x3 x4 (ix3 b h i) = Finset.univ.sup fun j => val_main_v25 (F := Ideal) x0 x1 x3 x4 (ix4 b h i j) := by
  rw [val_main_v28_apply, val_main_v27_apply, val_main_cst_2_apply]
  unfold val_main_v26 val_main_cst_1
  generalize val_main_v25 (F := Ideal) x0 x1 x3 x4 = y
  pointwise
  rw [neg_inf, max_eq_right bot_le]
  rfl

/-- The reference's softmax row. -/
theorem ref_row (hq : Real x0) (hk : Real x1) (h3 : Real x3) (h4 : Real x4) (b : Fin 4) (h : Fin 8) (i : Fin 2048) (d : Fin 128) :
    val_main_v37 (F := Ideal) x0 x1 x2 x3 x4 (ix4 b h d i)
      = softRow (rowScore (headBlk x0 b h) (headBlk x1 b h) (headOwn x3 b h) (headKey x4 b h) i) (fun j => headBlk x2 b h (ix2 j d)) := by
  have hw : ∀ j, val_main_v32 (F := Ideal) x0 x1 x3 x4 (ix4 b h i j)
      = Ideal.exp (rowScore (headBlk x0 b h) (headBlk x1 b h) (headOwn x3 b h) (headKey x4 b h) i j * ((Real.log 2 : ℝ) : EReal)
        - Finset.univ.sup fun j => rowScore (headBlk x0 b h) (headBlk x1 b h) (headOwn x3 b h) (headKey x4 b h) i j * ((Real.log 2 : ℝ) : EReal)) := fun j => by
    rw [val_main_v32_apply, val_main_v31_apply, val_main_v30_apply, val_main_v29_apply, ref_score x0 x1 x3 x4 hq hk h3 h4]
    have e : idx_main_v29 (idx_main_v30 (ix4 b h i j)) = ix3 b h i := by
      funext a
      match a with
      | ⟨0, _⟩ => rfl
      | ⟨1, _⟩ => rfl
      | ⟨2, _⟩ => rfl
    rw [e, ref_max]
    simp only [ref_score x0 x1 x3 x4 hq hk h3 h4]
    rfl
  have hz : val_main_v33 (F := Ideal) x0 x1 x3 x4 (ix3 b h i) = ∑ j, val_main_v32 (F := Ideal) x0 x1 x3 x4 (ix4 b h i j) := by
    rw [val_main_v33_apply, val_main_cst_3_apply]
    refine (congrArg₂ (· + ·) (show FloatOps.ofBits (F := Ideal) .f32 0x00000000#32 = (0 : EReal) from Ideal.ofBits_zero_f32) rfl).trans ((zero_add _).trans ?_)
    refine Finset.sum_congr rfl fun j _ => congrArg _ ?_
    funext a
    match a with
    | ⟨0, _⟩ => rfl
    | ⟨1, _⟩ => rfl
    | ⟨2, _⟩ => rfl
    | ⟨3, _⟩ => rfl
  have hq' : Real (headBlk x0 b h) := fun _ => hq _
  have hk' : Real (headBlk x1 b h) := fun _ => hk _
  have h3' : Real (headOwn x3 b h) := fun _ => h3 _
  have h4' : Real (headKey x4 b h) := fun _ => h4 _
  rw [val_main_v37_apply, ← softRow_exp (fun j => rowScore_ne_top hq' hk' h3' h4' i j) (rowScore_zero hq' hk' h3' h4' i)]
  refine Finset.sum_congr rfl fun j _ => ?_
  have el : lidx_main_v37 (ix4 b h d i) j = ix4 b j h d := by
    funext a
    match a with
    | ⟨0, _⟩ => rfl
    | ⟨1, _⟩ => rfl
    | ⟨2, _⟩ => rfl
    | ⟨3, _⟩ => rfl
  have er : ridx_main_v37 (ix4 b h d i) j = ix4 b h i j := by
    funext a
    match a with
    | ⟨0, _⟩ => rfl
    | ⟨1, _⟩ => rfl
    | ⟨2, _⟩ => rfl
    | ⟨3, _⟩ => rfl
  have e5 : idx_main_v34 (idx_main_v35 (ix4 b h i j)) = ix3 b h i := by
    funext a
    match a with
    | ⟨0, _⟩ => rfl
    | ⟨1, _⟩ => rfl
    | ⟨2, _⟩ => rfl
  rw [el, er, mul_comm, val_main_v36_apply, val_main_v35_apply, val_main_v34_apply, e5, hz, val_main_v5_apply, val_main_v4_apply, hw]
  simp only [hw]
  exact congrArg₂ (· * ·) rfl (congrArg x2 (idx_heads b j h d))

/-- The reference's array. -/
theorem ref_eq (hq : Real x0) (hk : Real x1) (h3 : Real x3) (h4 : Real x4) :
    val_main_v42 (F := Ideal) x0 x1 x2 x3 x4 x5 = attnArr x0 x1 x2 x3 x4 x5 := by
  refine eq_of_ix2 fun R C => ?_
  obtain ⟨b, i, rfl⟩ : ∃ b i, R = rowAt b i := ⟨_, _, (rowAt_eta R).symm⟩
  obtain ⟨h, d, rfl⟩ : ∃ h d, C = colAt h d := ⟨_, _, (colAt_eta C).symm⟩
  have e : idx_main_v38 (idx_main_v39 (ix2 (rowAt b i) (colAt h d))) = ix4 b h d i := by
    funext a
    refine Fin.ext ?_
    match a with
    | ⟨0, _⟩ => show ((b.val * 2048 + i.val) * 1024 + (h.val * 128 + d.val)) / 2097152 = b.val; omega
    | ⟨1, _⟩ => show ((b.val * 2048 + i.val) * 1024 + (h.val * 128 + d.val)) / 128 % 8 = h.val; omega
    | ⟨2, _⟩ => show ((b.val * 2048 + i.val) * 1024 + (h.val * 128 + d.val)) % 128 = d.val; omega
    | ⟨3, _⟩ => show ((b.val * 2048 + i.val) * 1024 + (h.val * 128 + d.val)) / 1024 % 2048 = i.val; omega
  rw [attnArr_at, val_main_v42_apply, val_main_v41_apply, val_main_v40_apply, val_main_v39_apply, val_main_v38_apply, e,
    ref_row x0 x1 x2 x3 x4 hq hk h3 h4]
  rfl

end Cert.Attn

end

end
-- ==== Proof.AttnClaims.lean ====
/-
  The claims about the prompt attention: what the precondition says of the arguments, the two runs read at the whole
  array, and the claims themselves.
-/
module

public import proofs.«01_k».proof.Defs
public import proofs.«01_k».proof.Proof.AttnRef
public import proofs.«01_k».proof.Proof.Gen.Kernel.Frame
public import proofs.«01_k».proof.Proof.Gen.Pre_finite_scores
public import Idealize.ShloMosaic.Lib.Quiescent

@[expose] public section

set_option maxRecDepth 16384

noncomputable section

namespace Cert.Attn

open Idealize.ShloMosaic Idealize.ShloMosaic.TcCoe Idealize.SL.Sem

/-- A value whose absolute value is below infinity is a real number. -/
theorem real_of_abs_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- What the precondition says of the arguments. -/
theorem finite_args (m : (ℓ : Loc Cert.KernelIdeal.nD Cert.KernelIdeal.τ Cert.KernelIdeal.sig) → Buf (Elt Ideal) ℓ)
    (h : Cert.Pre_KernelIdeal_finite_scores (hPre_finite_scores := Cert.Pre_finite_scores.Gen.facts) m) (c : Dev Cert.KernelIdeal.nD) :
    FiniteArgs m c := by
  obtain ⟨h0, h1, h2, h3⟩ := h c
  exact ⟨fun i => real_of_abs_lt (congrFun h0 i), fun i => real_of_abs_lt (congrFun h1 i), fun i => real_of_abs_lt (congrFun h2 i), fun i => real_of_abs_lt (congrFun h3 i)⟩

/-- The kernel runs and leaves its arguments, at the machine's floats. -/
theorem frame_p : Cert.quiescent_Kernel := fun m ρ _ => Cert.Kernel.Gen.frame m ρ
/-- The kernel runs and leaves its arguments, at exact values. -/
theorem frame_pi : Cert.quiescent_KernelIdeal := fun m ρ _ => Cert.KernelIdeal.Gen.frame m ρ
/-- The same, where the precondition holds. -/
theorem frame_pi_pre : Cert.quiescent_KernelIdeal_pre_finite_scores (hPre_finite_scores := Cert.Pre_finite_scores.Gen.facts) :=
  fun m ρ _ => Cert.KernelIdeal.Gen.frame m ρ
/-- The reference runs and leaves its arguments. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
/-- The same, where the precondition holds. -/
theorem frame_ri_pre : Cert.quiescent_ReferenceIdeal_pre_finite_scores (hPre_finite_scores := Cert.Pre_finite_scores.Gen.facts) :=
  fun m ρ _ => frame_ri m ρ trivial

/-- The mask stands for minus infinity, and nothing else was replaced. -/
theorem preserves : Cert.preserves_Kernel_KernelIdeal := IdealRules.named_const.statement Cert.KernelIdeal.κ "mask" .f32 0xF149F2CA#32 ⊥ rfl

/-- Kernel and reference end with the same array: the softmax rows of all heads, times the gate. -/
theorem algebraic : Cert.algebraic_KernelIdeal_ReferenceIdeal_pre_finite_scores (hPre_finite_scores := Cert.Pre_finite_scores.Gen.facts) := by
  intro m ρ m' ρ' hpre hagree
  have hf := finite_args m hpre
  refine ⟨fun c => specArr m c, ?_, ?_⟩
  · exact (θ_run Cert.KernelIdeal.defs _ _).mono (fun _ h c => ⟨(h c).1.trans (final_o m c (hf c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq]
    obtain ⟨e0, e1, e2, e3, e4, e5⟩ := hagree c
    rw [e0, e1, e2, e3, e4, e5]
    exact ref_eq _ _ _ _ _ _ (hf c).q (hf c).k (hf c).fc (hf c).fr

end Cert.Attn

end

end
-- ==== Proof.InTriples.lean ====
/-
  The body of the second input projection, one triple for each of its four kinds of step: what it reads, what it leaves.
-/
module

public import proofs.«01_k».proof.Proof.Gen.Kernel2Ideal.Skeleton
public import proofs.«01_k».proof.Proof.Gen.Kernel2Ideal.Frame
public import Idealize.ShloMosaic.Lib.Pipeline.Value

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's first branch: the column step is the first. -/
abbrev firstStep (i : grid0.Coords) : Prop :=
  Scalar.cmpi .ne (Scalar.extui (Scalar.cmpi .eq (BitVec.ofNat 32 (i 1).val) 0#32) : BitVec 32) 0#32 = 1#1

/-- A store of a whole buffer leaves what was stored. -/
theorem read_stored {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans (View.canon_unit_zero h inb w)

/-- A load of a whole buffer reads its contents. -/
theorem load_whole {κ : Kind} {sp : Space} {S : Shape} {e : EltTy} {M : Memref sig κ sp S e} (hM : M.IsWhole) {off : Fin S.rank → Nat}
    (h : off = fun _ => 0) (inb : ∀ a, off a + S.size a ≤ S.size a) (x : S.Idx → Elt F e) :
    M.view.readAt (Elt F) (Rect.unit off S.size inb).toLoadRect (hM.unread x) = x :=
  (congrArg (fun y => View.ld y (Rect.unit off S.size inb)) (hM.read_unread x)).trans (View.ld_unit_zero h inb x)

theorem zero2 : (![0, 0] : Fin 2 → Nat) = fun _ => 0 := by funext a; match a with | ⟨0, _⟩ => rfl | ⟨1, _⟩ => rfl
theorem zero3 : (![0, 0, 0] : Fin 3 → Nat) = fun _ => 0 := by funext a; match a with | ⟨0, _⟩ => rfl | ⟨1, _⟩ => rfl | ⟨2, _⟩ => rfl

variable (c : Dev nD) (i : grid0.Coords)
  (arg2 : Memref sig .tc .vmem S1024x2048 .bf16) (harg2 : arg2.IsWhole) (arg3 : Memref sig .tc .vmem S1x1024x2048 .bf16) (harg3 : arg3.IsWhole)
  (arg4 : Memref sig .tc .vmem S1024x1024 .f32) (harg4 : arg4.IsWhole) (arg5 : Memref sig .tc .vmem S1024x1024 .bf16) (harg5 : arg5.IsWhole)
  (arg6 : Memref sig .tc .vmem S1024x1024 .bf16) (harg6 : arg6.IsWhole) (arg7 : Memref sig .tc .vmem S1024x1024 .f32) (harg7 : arg7.IsWhole)
  (x0 : Vec F S1024x2048 .bf16) (x1 : Vec F S1x1024x2048 .bf16)

/-- The first step of a row of blocks keeps the linear half in the scratch. -/
theorem step_lin (h1 : firstStep i) (h2 : ¬ k0_cond2 i = 1#1) (h3 : ¬ k0_cond3 i = 1#1) (h4 : ¬ k0_cond4 i = 1#1) (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k0_pay1 x0 x1)) -∗ K ⟨⟩))
      ⊢ wp frame (wpE (defs₀ (F := F)) Variants.none c none) E (cc0_in_proj_b i arg2 harg2 arg3 harg3 arg4 harg4 arg5 harg5 arg6 harg6 arg7 harg7) K := by
  simp only [cc0_in_proj_b_eq_skeleton]; unfold cc0_in_proj_b_skel
  dsimp only
  rw [dif_pos h1, dif_neg h2, dif_neg h3, dif_neg h4]
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  exact (read_stored (S := S1024x1024) _ _ zero2 _ _).trans
    (congrArg₂ k0_pay1 (load_whole (S := S1024x2048) harg2 zero2 _ _) (load_whole (S := S1x1024x2048) harg3 zero3 _ _))

/-- The second step gates the linear half kept in the scratch. -/
theorem step_glu (h1 : ¬ firstStep i) (h2 : k0_cond2 i = 1#1) (h3 : ¬ k0_cond3 i = 1#1) (h4 : ¬ k0_cond4 i = 1#1) (s : Vec F S1024x1024 .f32) (E : Set ℕ) (K : PUnit → sProp 𝕄) :
    iprop(owns (c : Thread nD τ) arg2 fullShare x0 ∗ owns (c : Thread nD τ) arg3 fullShare x1 ∗ owns (c : Thread nD τ) arg7 fullShare s ∗ (∃ d, owns (c : Thread nD τ) arg4 fullShare d)
        ∗ (iprop(owns (c : Thread nD τ) arg2 fullShare x0 ∗ owns (c : Thread nD τ) arg3 fullShare x1
            ∗ owns (c : Thread nD τ) arg7 fullShare s ∗ owns (c : Thread nD τ) arg4 fullShare (k0_pay2 s x0 x1)) -∗ K ⟨⟩))
      ⊢ wp frame (wpE (defs₀ (F := F)) Variants.none c none) E (cc0_in_proj_b i arg2 harg2 arg3 harg3 arg4 harg4 arg5 harg5 arg6 harg6 arg7 harg7) K := by
  simp only [cc0_in_proj_b_eq_skeleton]; unfold cc0_in_proj_b_skel
  dsimp only
  rw [dif_neg h1, dif_pos h2, dif_neg h3, dif_neg h4]
  unfold owns
  iintro ⟨⟨%f0, %hf0, H0⟩, ⟨%f1, %hf1, H1⟩, ⟨%f7, %hf7, H7⟩, ⟨%ds, %fs, -, HS⟩, Hk⟩
  obtain rfl := harg2.eq_unread hf0; obtain rfl := harg3.eq_unread hf1; obtain rfl := harg7.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H7]
  · iexists _; isplitr; · ipureintro; exact harg7.read_unread _
    iexact H7
  iexists _; isplitr
  swap; · iexact HS
  ipureintro
  exact (read_stored (S := S1024x1024) _ _ zero2 _ _).trans
    (congr (congrArg₂ k0_pay2 (load_whole (S := S1024x1024) harg7 zero2 _ _) (load_whole (S := S1024x2048) harg2 zero2 _ _)) (load_whole (S := S1x1024x2048) harg3 zero3 _ _))

/-- The third step stores the branch's gate. -/
theorem step_gate (h1 : ¬ firstStep i) (h2 : ¬ k0_cond2 i = 1#1) (h3 : k0_cond3 i = 1#1) (h4 : ¬ k0_cond4 i = 1#1) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay3 x0 x1)) -∗ K ⟨⟩))
      ⊢ wp frame (wpE (defs₀ (F := F)) Variants.none c none) E (cc0_in_proj_b i arg2 harg2 arg3 harg3 arg4 harg4 arg5 harg5 arg6 harg6 arg7 harg7) K := by
  simp only [cc0_in_proj_b_eq_skeleton]; unfold cc0_in_proj_b_skel
  dsimp only
  rw [dif_neg h1, dif_neg h2, dif_pos h3, dif_neg h4]
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  exact (read_stored (S := S1024x1024) _ _ zero2 _ _).trans
    (congrArg₂ k0_pay3 (load_whole (S := S1024x2048) harg2 zero2 _ _) (load_whole (S := S1x1024x2048) harg3 zero3 _ _))

/-- A later step stores a block of the merge gates. -/
theorem step_merge (h1 : ¬ firstStep i) (h2 : ¬ k0_cond2 i = 1#1) (h3 : ¬ k0_cond3 i = 1#1) (h4 : k0_cond4 i = 1#1) (E : Set ℕ) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay4 x0 x1)) -∗ K ⟨⟩))
      ⊢ wp frame (wpE (defs₀ (F := F)) Variants.none c none) E (cc0_in_proj_b i arg2 harg2 arg3 harg3 arg4 harg4 arg5 harg5 arg6 harg6 arg7 harg7) K := by
  simp only [cc0_in_proj_b_eq_skeleton]; unfold cc0_in_proj_b_skel
  dsimp only
  rw [dif_neg h1, dif_neg h2, dif_neg h3, dif_pos h4]
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  exact (read_stored (S := S1024x1024) _ _ zero2 _ _).trans
    (congrArg₂ k0_pay4 (load_whole (S := S1024x2048) harg2 zero2 _ _) (load_whole (S := S1x1024x2048) harg3 zero3 _ _))

end Cert.InProj

end

end
-- ==== Proof.InData.lean ====
/-
  The second input projection's grid, point by point, and what its buffers hold: 8 rows of blocks, 7 column steps a row.
  A row's linear half is kept in the scratch from its first step to its second; the unit's and the gate's buffers keep what
  the second and third steps stored until the row's last step writes them back.
-/
module

public import proofs.«01_k».proof.Proof.InTriples
public import Idealize.ShloMosaic.Lib.Pipeline.TableIdle

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The grid -/

/-- Which steps take which branch. -/
theorem first_iff : ∀ t : Fin cfg0.N, firstStep (grid0.coords t) ↔ t.val % 7 = 0 :=
  (by decide +kernel : ∀ t : Fin grid0.N, firstStep (grid0.coords t) ↔ t.val % 7 = 0)
@[inherit_doc first_iff] theorem cond2_iff : ∀ t : Fin cfg0.N, k0_cond2 (grid0.coords t) = 1#1 ↔ t.val % 7 = 1 :=
  (by decide +kernel : ∀ t : Fin grid0.N, k0_cond2 (grid0.coords t) = 1#1 ↔ t.val % 7 = 1)
@[inherit_doc first_iff] theorem cond3_iff : ∀ t : Fin cfg0.N, k0_cond3 (grid0.coords t) = 1#1 ↔ t.val % 7 = 2 :=
  (by decide +kernel : ∀ t : Fin grid0.N, k0_cond3 (grid0.coords t) = 1#1 ↔ t.val % 7 = 2)
@[inherit_doc first_iff] theorem cond4_iff : ∀ t : Fin cfg0.N, k0_cond4 (grid0.coords t) = 1#1 ↔ 2 < t.val % 7 :=
  (by decide +kernel : ∀ t : Fin grid0.N, k0_cond4 (grid0.coords t) = 1#1 ↔ 2 < t.val % 7)

/-- Where each output is not stored. -/
theorem idle2 (t : Fin cfg0.N) : cfg0.idle 2 (cfg0.grid.coords t) = !decide (t.val % 7 = 1) :=
  (by decide +kernel : ∀ t : Fin grid0.N, idle0 2 (grid0.coords t) = !decide (t.val % 7 = 1)) t
@[inherit_doc idle2] theorem idle3 (t : Fin cfg0.N) : cfg0.idle 3 (cfg0.grid.coords t) = !decide (t.val % 7 = 2) :=
  (by decide +kernel : ∀ t : Fin grid0.N, idle0 3 (grid0.coords t) = !decide (t.val % 7 = 2)) t
@[inherit_doc idle2] theorem idle4 (t : Fin cfg0.N) : cfg0.idle 4 (cfg0.grid.coords t) = !decide (2 < t.val % 7) :=
  (by decide +kernel : ∀ t : Fin grid0.N, idle0 4 (grid0.coords t) = !decide (2 < t.val % 7)) t

/-- Where each output is written back. -/
theorem flush2 (t : Fin cfg0.N) : (cfg0.win 2).flush t = decide (t.val % 7 = 6) := by
  have h := flush0_2 t
  by_cases e : t.val % 7 = 6
  · rw [h.2 e, decide_eq_true e]
  · rw [decide_eq_false e]; exact Bool.eq_false_iff.2 fun k => e (h.1 k)
@[inherit_doc flush2] theorem flush3 (t : Fin cfg0.N) : (cfg0.win 3).flush t = decide (t.val % 7 = 6) := by
  have h := flush0_3 t
  by_cases e : t.val % 7 = 6
  · rw [h.2 e, decide_eq_true e]
  · rw [decide_eq_false e]; exact Bool.eq_false_iff.2 fun k => e (h.1 k)
@[inherit_doc flush2] theorem flush4 (t : Fin cfg0.N) : (cfg0.win 4).flush t = decide (2 < t.val % 7) := by
  rw [Pipeline.Window.flush_eq_flushF]
  exact (by decide +kernel : ∀ t : Fin grid0.N, win0_4.flushF t = decide (2 < t.val % 7)) t

/-- Where an output's buffer holds nothing of its row yet. -/
theorem fresh2 (n : ℕ) (h : n ≤ cfg0.N) : cfg0.fresh 2 n = decide (n % 7 ≤ 1) :=
  cfg0.fresh_tab 2 (fun n => decide (n % 7 ≤ 1)) rfl (fun t => by
    rw [flush2, idle2, Bool.eq_iff_iff]
    simp only [decide_eq_true_eq, Bool.or_eq_true, Bool.and_eq_true, Bool.not_eq_true', decide_eq_false_iff_not]
    omega) n h
@[inherit_doc fresh2] theorem fresh3 (n : ℕ) (h : n ≤ cfg0.N) : cfg0.fresh 3 n = decide (n % 7 ≤ 2) :=
  cfg0.fresh_tab 3 (fun n => decide (n % 7 ≤ 2)) rfl (fun t => by
    rw [flush3, idle3, Bool.eq_iff_iff]
    simp only [decide_eq_true_eq, Bool.or_eq_true, Bool.and_eq_true, Bool.not_eq_true', decide_eq_false_iff_not]
    omega) n h

/-! ## What the buffers hold -/

variable (m : (ℓ : Loc nD τ sig) → Buf (Elt F) ℓ) (c : Dev nD)

/-- Step `n` of row `r` of blocks. -/
def pt (r : Fin 8) (n : Fin 7) : Fin cfg0.N := ⟨r.val * 7 + n.val, (by omega : r.val * 7 + n.val < 56)⟩
/-- The row of a step. -/
def rowOf (t : Fin cfg0.N) : Fin 8 := ⟨t.val / 7, by have h : t.val < 56 := t.isLt; omega⟩

/-- The linear half of a row, kept from its first step. -/
def keptLin (r : Fin 8) : Vec F S1024x1024 .f32 := k0_pay1 (iblk m c 0 (pt r 0)) (iblk m c 1 (pt r 0))
/-- The gated linear unit of a row, stored at its second step. -/
def unitBlk (r : Fin 8) : Vec F S1024x1024 .f32 := k0_pay2 (keptLin m c r) (iblk m c 0 (pt r 1)) (iblk m c 1 (pt r 1))
/-- The branch's gate of a row, stored at its third step. -/
def gateBlk (r : Fin 8) : Vec F S1024x1024 .bf16 := k0_pay3 (iblk m c 0 (pt r 2)) (iblk m c 1 (pt r 2))
/-- The block of merge gates of a later step. -/
def mergeBlk (t : Fin cfg0.N) : Vec F S1024x1024 .bf16 := k0_pay4 (iblk m c 0 t) (iblk m c 1 t)

/-- The scratch's memref, as the body is handed it. -/
abbrev scr : Memref sig .tc .vmem S1024x1024 .f32 := Memref.whole cc0_scratch0

/-- Between two steps: before a row's second step the scratch holds the row's linear half; at other times anything. -/
def inv (n : ℕ) : sProp 𝕄 :=
  iprop((∃ d, ⌜∀ r : Fin 8, n = r.val * 7 + 1 → d = keptLin m c r⌝ ∗ owns (c : Thread nD τ) scr fullShare d) ∗ ∃ r, prngReg c r)

/-- The proof data: inputs in place, outputs as stored by their row, the scratch tracked by `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => unitBlk m c (rowOf t)
    | ⟨3, _⟩ => gateBlk m c (rowOf t)
    | ⟨4, _⟩ => mergeBlk m c t
  Φ t := inv m c t.val
  q _ := fullShare
  owed _ := 0

theorem A_eq (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = unitBlk m c (rowOf t) := by dsimp only [dats]
theorem after_3 (t : Fin cfg0.N) : (dats m 0 c).after 3 t = gateBlk m c (rowOf t) := by dsimp only [dats]
theorem after_4 (t : Fin cfg0.N) : (dats m 0 c).after 4 t = mergeBlk m c t := by dsimp only [dats]

/-- Each input's buffer holds its block. -/
theorem before_0 (t : Fin cfg0.N) (d) : (dats m 0 c).before 0 t d = iblk m c 0 t :=
  before0_0_of m (dats m 0 c) (A_eq m c 0) (after_0 m c) t d
@[inherit_doc before_0] theorem before_1 (t : Fin cfg0.N) (d) : (dats m 0 c).before 1 t d = iblk m c 1 t :=
  before0_1_of m (dats m 0 c) (A_eq m c 1) (after_1 m c) t d

/-- Two steps of one row. -/
theorem rowOf_pred (t : Fin cfg0.N) (h : t.val % 7 ≠ 0) : rowOf (⟨t.val - 1, by omega⟩ : Fin cfg0.N) = rowOf t :=
  Fin.ext (by show (t.val - 1) / 7 = t.val / 7; omega)

/-- At a row's last step the unit's buffer holds the row's unit. -/
theorem before_2 (t : Fin cfg0.N) (h : t.val % 7 = 6) (d) : (dats m 0 c).before 2 t d = unitBlk m c (rowOf t) := by
  rw [(dats m 0 c).before_out_traj 2 rfl (fun _ _ => rfl) (fun t _ _ hf => by
    rw [fresh2 _ t.isLt.le] at hf
    rw [after_2, after_2, rowOf_pred t (by have := of_decide_eq_false hf; omega)]) t.val t rfl d,
    fresh2 _ t.isLt.le, if_neg (by rw [decide_eq_true_eq]; omega), after_2, rowOf_pred t (by omega)]
/-- At a row's last step the gate's buffer holds the row's gate. -/
theorem before_3 (t : Fin cfg0.N) (h : t.val % 7 = 6) (d) : (dats m 0 c).before 3 t d = gateBlk m c (rowOf t) := by
  rw [(dats m 0 c).before_out_traj 3 rfl (fun _ _ => rfl) (fun t _ _ hf => by
    rw [fresh3 _ t.isLt.le] at hf
    rw [after_3, after_3, rowOf_pred t (by have := of_decide_eq_false hf; omega)]) t.val t rfl d,
    fresh3 _ t.isLt.le, if_neg (by rw [decide_eq_true_eq]; omega), after_3, rowOf_pred t (by omega)]

/-! ## What a step leaves, window by window -/

/-- An output stored at a step is left at what was stored. -/
theorem leaves_live (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- An output not stored at a step may be left as it was found, where it holds its row's contents or is not written back. -/
theorem leaves_kept (w : Fin cfg0.W) (t : Fin cfg0.N) (hi : cfg0.idle w (cfg0.grid.coords t) = true) (d)
    (h : (cfg0.win w).flush t = true → (dats m 0 c).before w t d = (dats m 0 c).after w t) :
    owns (c : Thread nD τ) ((cfg0.win w).stage (cfg0.slots t w)) fullShare ((dats m 0 c).before w t d) ⊢ (dats m 0 c).leavesExact w t := by
  unfold Dat.leavesExact; rw [hi]
  cases hf : (cfg0.win w).flush t
  · dsimp only; iintro H; iexists d; iexact H
  · dsimp only; rw [h hf]

end Cert.InProj

end

end
-- ==== Proof.InBlock.lean ====
/-
  A step's payloads at exact values, entry by entry: a step's columns of the product of its rows with its weights, and the
  logistic function of them.
-/
module

public import proofs.«01_k».proof.Proof.InData
public import Idealize.ShloMosaic.Lib.Pointwise

@[expose] public section

set_option maxRecDepth 16384

noncomputable section

namespace Cert.InProj

open Idealize.ShloMosaic Cert.Kernel2Ideal Cert.Kernel2Ideal.Gen
open Idealize.ShloMosaic.TcCoe Idealize.ShloMosaic.Tactic
open scoped BigOperators

/-- The logistic function. -/
def logistic (z : EReal) : EReal := Ideal.div 1 (1 + Ideal.exp (-z))

/-- A step's columns of the product. -/
def dotBlk (h : Vec Ideal S1024x2048 .bf16) (w : Vec Ideal S1x1024x2048 .bf16) (r e : Fin 1024) : EReal :=
  ∑ k : Fin 2048, h (ix2 r k) * w (ix3 0 e k)

variable (h : Vec Ideal S1024x2048 .bf16) (w : Vec Ideal S1x1024x2048 .bf16) (r e : Fin 1024)

/-- The first step keeps the product itself. -/
theorem pay1_at : k0_pay1 h w (ix2 r e) = dotBlk h w r e := by
  unfold k0_pay1
  pointwise
  rfl

/-- The second step gates what was kept. -/
theorem pay2_at (s : Vec Ideal S1024x1024 .f32) : k0_pay2 s h w (ix2 r e) = s (ix2 r e) * logistic (dotBlk h w r e) := by
  unfold k0_pay2
  pointwise
  rw [zero_sub]
  rfl

/-- The third step's product times its own logistic. -/
theorem pay3_at : k0_pay3 h w (ix2 r e) = dotBlk h w r e * logistic (dotBlk h w r e) := by
  unfold k0_pay3
  pointwise
  rw [zero_sub]
  rfl

/-- The later steps' logistic. -/
theorem pay4_at : k0_pay4 h w (ix2 r e) = logistic (dotBlk h w r e) := by
  unfold k0_pay4
  pointwise
  rw [zero_sub]
  rfl

end Cert.InProj

end

end
-- ==== Proof.InRef.lean ====
/-
  The second input projection's three results as whole arrays, and the reference's results as the same arrays.
-/
module

public import proofs.«01_k».proof.Proof.InBlock
public import proofs.«01_k».proof.Proof.Gen.Reference2Ideal.Read

@[expose] public section

set_option maxRecDepth 16384

noncomputable section

namespace Cert.InProj

open Idealize.ShloMosaic Cert.Reference2Ideal Cert.Reference2Ideal.Read Cert.Reference2Ideal.Facts
open Idealize.ShloMosaic.TcCoe Idealize.ShloMosaic.Tactic
open scoped BigOperators

/-- The weights' row of column `e` of the second half of the projection. -/
def wRow (e : Fin 7168) : Fin 11264 := ⟨4096 + e.val, by omega⟩

/-- The product of the tokens with the first layer's weights, in the second half's columns. -/
def proj (h : Vec Ideal S8192x2048 .bf16) (w : Vec Ideal S2x11264x2048 .bf16) (R : Fin 8192) (e : Fin 7168) : EReal :=
  ∑ k : Fin 2048, h (ix2 R k) * w (ix3 0 (wRow e) k)

/-- Where the linear half, its gate, the branch's gate and the merge gates lie. -/
def colLin (d : Fin 1024) : Fin 7168 := ⟨d.val, by omega⟩
@[inherit_doc colLin] def colGlu (d : Fin 1024) : Fin 7168 := ⟨1024 + d.val, by omega⟩
@[inherit_doc colLin] def colGate (d : Fin 1024) : Fin 7168 := ⟨2048 + d.val, by omega⟩
@[inherit_doc colLin] def colMerge (d : Fin 4096) : Fin 7168 := ⟨3072 + d.val, by omega⟩

/-- The gated linear unit, -/
def unitArr (p : Fin 8192 → Fin 7168 → EReal) (R : Fin 8192) (d : Fin 1024) : EReal := p R (colLin d) * logistic (p R (colGlu d))
/-- the branch's gate, -/
def gateArr (p : Fin 8192 → Fin 7168 → EReal) (R : Fin 8192) (d : Fin 1024) : EReal := p R (colGate d) * logistic (p R (colGate d))
/-- and the merge gates, of the product. -/
def mergeArr (p : Fin 8192 → Fin 7168 → EReal) (R : Fin 8192) (d : Fin 4096) : EReal := logistic (p R (colMerge d))

/-- The constant one. -/
theorem one_bits : (FloatOps.ofBits .f32 0x3F800000#32 : Ideal .f32) = 1 := Ideal.ofBits_one_f32

variable (x0 : Vec Ideal S8192x2048 .bf16) (x1 : Vec Ideal S2x11264x2048 .bf16)

/-- The reference's product. -/
theorem ref_proj (R : Fin 8192) (e : Fin 7168) : val_main_v2 (F := Ideal) x0 x1 (ix2 R e) = proj x0 x1 R e := by
  unfold val_main_v2 val_main_v1 val_main_v0
  pointwise
  rfl

/-- The reference's gated linear unit. -/
theorem ref_unit : val_main_v14 (F := Ideal) x0 x1 = fun i => unitArr (proj x0 x1) (i 0) (i 1) := by
  funext i
  obtain ⟨R, d, rfl⟩ : ∃ (R : Fin 8192) (d : Fin 1024), i = ix2 R d := ⟨i 0, i 1, eq_ix2 i⟩
  have h := ref_proj x0 x1 R
  unfold val_main_v14 val_main_v13 val_main_v12 val_main_v11 val_main_v10 val_main_v9 val_main_v8 val_main_v4 val_main_v3
  generalize val_main_v2 (F := Ideal) x0 x1 = a at h ⊢
  pointwise
  rw [val_main_cst_apply, val_main_cst_0_apply, one_bits, h, h]
  rfl

/-- The reference's gate of the branch. -/
theorem ref_gate : val_main_v29 (F := Ideal) x0 x1 = fun i => gateArr (proj x0 x1) (i 0) (i 1) := by
  funext i
  obtain ⟨R, d, rfl⟩ : ∃ (R : Fin 8192) (d : Fin 1024), i = ix2 R d := ⟨i 0, i 1, eq_ix2 i⟩
  have h := ref_proj x0 x1 R
  unfold val_main_v29 val_main_v28 val_main_call0_v5 val_main_call0_v4 val_main_call0_v3 val_main_call0_v2 val_main_call0_v1 val_main_call0_v0 val_main_v5
  generalize val_main_v2 (F := Ideal) x0 x1 = a at h ⊢
  pointwise
  rw [val_main_call0_cst_apply, val_main_call0_cst_0_apply, one_bits, h]
  rfl

/-- The reference's merge gates: both branches' side by side. -/
theorem ref_merge : val_main_v30 (F := Ideal) x0 x1 = fun i => mergeArr (proj x0 x1) (i 0) (i 1) := by
  funext i
  obtain ⟨R, d, rfl⟩ : ∃ (R : Fin 8192) (d : Fin 4096), i = ix2 R d := ⟨i 0, i 1, eq_ix2 i⟩
  have h := ref_proj x0 x1 R
  unfold val_main_v30 val_main_v27 val_main_v26 val_main_v25 val_main_v24 val_main_v23 val_main_v22 val_main_v21 val_main_v20 val_main_v19
    val_main_v18 val_main_v17 val_main_v16 val_main_v15 val_main_v7 val_main_v6
  generalize val_main_v2 (F := Ideal) x0 x1 = a at h ⊢
  pointwise
  rw [val_main_cst_1_apply, val_main_cst_2_apply, val_main_cst_3_apply, val_main_cst_4_apply, one_bits]
  simp only [h]
  split
  · rfl
  · exact congrArg (fun e => logistic (proj x0 x1 R e)) (Fin.ext (by show 5120 + (d.val - 2048) = 3072 + d.val; omega))

end Cert.InProj

end

end
-- ==== Proof.InFrame.lean ====
/-
  The second input projection runs to its end at any values: each of a step's four branches by its triple, the buffers a
  branch leaves alone kept as they are, the scratch's linear half carried from a row's first step to its second.
-/
module

public import proofs.«01_k».proof.Proof.InData
public import Idealize.ShloMosaic.Lib.Claim

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (ρ : Dev nD → PrngReg)

/-- What a step is called with. -/
def bodyPre (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d)))

/-- What it leaves. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The unit's buffer where the second branch does not run. -/
theorem kept_2 (t : Fin cfg0.N) (h : t.val % 7 ≠ 1) (d) :
    owns (c : Thread nD τ) ((cfg0.win 2).stage (cfg0.slots t 2)) fullShare ((dats m 0 c).before 2 t d) ⊢ (dats m 0 c).leavesExact 2 t :=
  leaves_kept m c 2 t (by rw [idle2, decide_eq_false h]; rfl) d fun hf => by
    rw [flush2, decide_eq_true_eq] at hf; rw [before_2 m c t hf, after_2]
/-- The gate's buffer where the third branch does not run. -/
theorem kept_3 (t : Fin cfg0.N) (h : t.val % 7 ≠ 2) (d) :
    owns (c : Thread nD τ) ((cfg0.win 3).stage (cfg0.slots t 3)) fullShare ((dats m 0 c).before 3 t d) ⊢ (dats m 0 c).leavesExact 3 t :=
  leaves_kept m c 3 t (by rw [idle3, decide_eq_false h]; rfl) d fun hf => by
    rw [flush3, decide_eq_true_eq] at hf; rw [before_3 m c t hf, after_3]
/-- The merge gates' buffer where the fourth branch does not run. -/
theorem kept_4 (t : Fin cfg0.N) (h : ¬ 2 < t.val % 7) (d) :
    owns (c : Thread nD τ) ((cfg0.win 4).stage (cfg0.slots t 4)) fullShare ((dats m 0 c).before 4 t d) ⊢ (dats m 0 c).leavesExact 4 t :=
  leaves_kept m c 4 t (by rw [idle4, decide_eq_false h]; rfl) d fun hf => by
    rw [flush4, decide_eq_true_eq] at hf; exact absurd hf h

/-- The step at its place in its row. -/
theorem pt_rowOf (t : Fin cfg0.N) (n : Fin 7) (h : t.val % 7 = n.val) : pt (rowOf t) n = t :=
  Fin.ext (by show t.val / 7 * 7 + n.val = t.val; omega)

/-- The scratch's contents matter to a row's second step alone. -/
theorem inv_step (t : Fin cfg0.N) (h : 1 < t.val % 7) : (dats m 0 c).Φ t.succ = (dats m 0 c).Φ t.castSucc := by
  show inv m c (t.val + 1) = inv m c t.val
  unfold inv
  congr 2
  funext d
  congr 2
  exact propext ⟨fun _ r hr => by omega, fun _ r hr => by omega⟩

/-- A row's first step: the linear half is kept. -/
theorem sound_lin (t : Fin cfg0.N) (h : t.val % 7 = 0) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = inv m c (t.val + 1) from rfl, show (dats m 0 c).Φ t.castSucc = inv m c t.val from rfl,
    show (dats m 0 c).owesAt () t.succ = (dats m 0 c).owesAt () t.castSucc from rfl,
    leaves_live m c 0 t rfl, leaves_live m c 1 t rfl, after_0, after_1]
  unfold inv
  iintro ⟨⟨⟨%e, %He, Hs⟩, Hp⟩, Ho, ⟨%d0, H0⟩, ⟨%d1, H1⟩, ⟨%d2, H2⟩, ⟨%d3, H3⟩, ⟨%d4, H4⟩⟩
  iapply (step_lin c (grid0.coords t) _ _ _ _ _ _ _ _ _ _ _ _ (iblk m c 0 t) (iblk m c 1 t) ((first_iff t).2 h)
    (fun k => by have := (cond2_iff t).1 k; omega) (fun k => by have := (cond3_iff t).1 k; omega)
    (fun k => by have := (cond4_iff t).1 k; omega) Set.univ _)
  isplitl [H0]; · iexact H0
  isplitl [H1]; · iexact H1
  isplitl [Hs]; · iexists _; iexact Hs
  iintro ⟨H0, H1, Hs⟩
  isplitl [Hs Hp]
  · isplitl [Hs]
    · iexists _; isplitr
      swap; · iexact Hs
      ipureintro
      intro r hr
      have e : rowOf t = r := Fin.ext (by show t.val / 7 = r.val; omega)
      unfold keptLin; rw [← e, pt_rowOf t 0 h]
    · iexact Hp
  isplitl [Ho]; · iexact Ho
  isplitl [H0]; · iexact H0
  isplitl [H1]; · iexact H1
  isplitl [H2]; · iapply (kept_2 m c t (by omega) d2); iexact H2
  isplitl [H3]; · iapply (kept_3 m c t (by omega) d3); iexact H3
  iapply (kept_4 m c t (by omega) d4); iexact H4

/-- A row's second step: the gated linear unit is stored. -/
theorem sound_glu (t : Fin cfg0.N) (h : t.val % 7 = 1) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = inv m c (t.val + 1) from rfl, show (dats m 0 c).Φ t.castSucc = inv m c t.val from rfl,
    show (dats m 0 c).owesAt () t.succ = (dats m 0 c).owesAt () t.castSucc from rfl,
    leaves_live m c 0 t rfl, leaves_live m c 1 t rfl, leaves_live m c 2 t (by rw [idle2, decide_eq_true h]; rfl), after_0, after_1, after_2]
  unfold inv
  iintro ⟨⟨⟨%e, %He, Hs⟩, Hp⟩, Ho, ⟨%d0, H0⟩, ⟨%d1, H1⟩, ⟨%d2, H2⟩, ⟨%d3, H3⟩, ⟨%d4, H4⟩⟩
  have hk : e = keptLin m c (rowOf t) := He (rowOf t) (by show t.val = t.val / 7 * 7 + 1; omega)
  have hu : k0_pay2 e (iblk m c 0 t) (iblk m c 1 t) = unitBlk m c (rowOf t) := by
    unfold unitBlk; rw [pt_rowOf t 1 h, hk]
  iapply (step_glu c (grid0.coords t) _ _ _ _ _ _ _ _ _ _ _ _ (iblk m c 0 t) (iblk m c 1 t) (fun k => by have := (first_iff t).1 k; omega)
    ((cond2_iff t).2 h) (fun k => by have := (cond3_iff t).1 k; omega)
    (fun k => by have := (cond4_iff t).1 k; omega) e Set.univ _)
  rw [hu]
  isplitl [H0]; · iexact H0
  isplitl [H1]; · iexact H1
  isplitl [Hs]; · iexact Hs
  isplitl [H2]; · iexists _; iexact H2
  iintro ⟨H0, H1, Hs, H2⟩
  isplitl [Hs Hp]
  · isplitl [Hs]
    · iexists _; isplitr
      swap; · iexact Hs
      ipureintro
      intro r hr; omega
    · iexact Hp
  isplitl [Ho]; · iexact Ho
  isplitl [H0]; · iexact H0
  isplitl [H1]; · iexact H1
  isplitl [H2]; · iexact H2
  isplitl [H3]; · iapply (kept_3 m c t (by omega) d3); iexact H3
  iapply (kept_4 m c t (by omega) d4); iexact H4

/-- A row's third step: the branch's gate is stored. -/
theorem sound_gate (t : Fin cfg0.N) (h : t.val % 7 = 2) :
    bodyPre m c t ⊢ wp frame (wpE (defs₀ (F := F)) Variants.none c none) Set.univ (bodyAt0 t) (fun _ => bodyPost m c t) := by
  unfold bodyPre bodyPost bodyAt0
  simp only [before_0, before_1]
  rw [inv_step m c t (by omega),
    show (dats m 0 c).owesAt () t.succ = (dats m 0 c).owesAt () t.castSucc from rfl,
    leaves_live m c 0 t rfl, leaves_live m c 1 t rfl, leaves_live m c 3 t (by rw [idle3, decide_eq_true h]; rfl), after_0, after_1, after_3]
  iintro ⟨HΦ, Ho, ⟨%d0, H0⟩, ⟨%d1, H1⟩, ⟨%d2, H2⟩, ⟨%d3, H3⟩, ⟨%d4, H4⟩⟩
  have hg : k0_pay3 (iblk m c 0 t) (iblk m c 1 t) = gateBlk m c (rowOf t) := by
    unfold gateBlk; rw [pt_rowOf t 2 h]
  iapply (step_gate c (grid0.coords t) _ _ _ _ _ _ _ _ _ _ _ _ (iblk m c 0 t) (iblk m c 1 t) (fun k => by have := (first_iff t).1 k; omega)
    (fun k => by have := (cond2_iff t).1 k; omega) ((cond3_iff t).2 h)
    (fun k => by have := (cond4_iff t).1 k; omega) Set.univ _)
  rw [hg]
  isplitl [H0]; · iexact H0
  isplitl [H1]; · iexact H1
  isplitl [H3]; · iexists _; iexact H3
  iintro ⟨H0, H1, H3⟩
  isplitl [HΦ]; · iexact HΦ
  isplitl [Ho]; · iexact Ho
  isplitl [H0]; · iexact H0
  isplitl [H1]; · iexact H1
  isplitl [H2]; · iapply (kept_2 m c t (by omega) d2); iexact H2
  isplitl [H3]; · iexact H3
  iapply (kept_4 m c t (by omega) d4); iexact H4

/-- A row's later steps: a block of merge gates is stored. -/
theorem sound_merge (t : Fin cfg0.N) (h : 2 < t.val % 7) :
    bodyPre m c t ⊢ wp frame (wpE (defs₀ (F := F)) Variants.none c none) Set.univ (bodyAt0 t) (fun _ => bodyPost m c t) := by
  unfold bodyPre bodyPost bodyAt0
  simp only [before_0, before_1]
  rw [inv_step m c t (by omega),
    show (dats m 0 c).owesAt () t.succ = (dats m 0 c).owesAt () t.castSucc from rfl,
    leaves_live m c 0 t rfl, leaves_live m c 1 t rfl, leaves_live m c 4 t (by rw [idle4, decide_eq_true h]; rfl), after_0, after_1, after_4]
  iintro ⟨HΦ, Ho, ⟨%d0, H0⟩, ⟨%d1, H1⟩, ⟨%d2, H2⟩, ⟨%d3, H3⟩, ⟨%d4, H4⟩⟩
  iapply (step_merge c (grid0.coords t) _ _ _ _ _ _ _ _ _ _ _ _ (iblk m c 0 t) (iblk m c 1 t) (fun k => by have := (first_iff t).1 k; omega)
    (fun k => by have := (cond2_iff t).1 k; omega) (fun k => by have := (cond3_iff t).1 k; omega)
    ((cond4_iff t).2 h) Set.univ _)
  isplitl [H0]; · iexact H0
  isplitl [H1]; · iexact H1
  isplitl [H4]; · iexists _; iexact H4
  iintro ⟨H0, H1, H4⟩
  isplitl [HΦ]; · iexact HΦ
  isplitl [Ho]; · iexact Ho
  isplitl [H0]; · iexact H0
  isplitl [H1]; · iexact H1
  isplitl [H2]; · iapply (kept_2 m c t (by omega) d2); iexact H2
  isplitl [H3]; · iapply (kept_3 m c t (by omega) d3); iexact H3
  unfold mergeBlk; iexact H4

/-- The step at any point of the grid. -/
theorem sound_body (t : Fin cfg0.N) :
    bodyPre m c t ⊢ wp frame (wpE (defs₀ (F := F)) Variants.none c none) Set.univ (bodyAt0 t) (fun _ => bodyPost m c t) := by
  by_cases h0 : t.val % 7 = 0
  · exact sound_lin m c t h0
  by_cases h1 : t.val % 7 = 1
  · exact sound_glu m c t h1
  by_cases h2 : t.val % 7 = 2
  · exact sound_gate m c t h2
  · exact sound_merge m c t (by omega)

/-- The body table's row at a point is the step. -/
theorem table_row (t : Fin cfg0.N) :
    defs₀ (F := F) .tc cfg0.body (cfg0.bodyArgs t (cfg0.slots t)) = bodyAt0 t := by
  unfold defs₀; rw [Defs.onTc_tc]

/-- The step's triple in the library's words. -/
theorem body_obligation : BodyObligation (dats (F := F) m 0 c) (defs₀ (F := F)) Variants.none () Set.univ := fun t => by
  rw [bigSep_W0, bigSep_W0, table_row]
  exact triple_restated (sound_body m c t) rfl .rfl fun _ => .rfl

/-! ## The run -/

/-- What the run starts with gives the scratch at anything. -/
theorem inv_start : (Pipeline.ΦA spec0 c : sProp 𝕄) ⊢ inv m c 0 := by
  unfold Pipeline.ΦA inv
  rw [scopedRest0_eq]
  simp only [owns_whole_eq]
  iintro ⟨⟨%d, Hs⟩, Hp⟩
  isplitl [Hs]
  · iexists d; isplitr
    · ipureintro; intro r hr; omega
    · iexists d; isplitr
      · ipureintro; rfl
      · iexact Hs
  · iexact Hp

/-- At the end the scratch is given back at whatever it holds. -/
theorem inv_end (n : ℕ) : inv m c n ⊢ (Pipeline.ΦA spec0 c : sProp 𝕄) := by
  unfold Pipeline.ΦA inv
  rw [scopedRest0_eq]
  simp only [owns_whole_eq]
  iintro ⟨⟨%d, %_h, ⟨%f, %_e, Hs⟩⟩, Hp⟩
  isplitl [Hs]
  · iexists f; iexact Hs
  · iexact Hp

set_option backward.isDefEq.respectTransparency.types false in
/-- The run ends with every array at what the steps left in it and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_start m c) (hout := fun c => inv_end m c _)

/-- The run without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The frame, at any values: the run ends, the arguments are unchanged, every semaphore is at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_arrays m ρ)) ((θ_run defs _ _).mono (fun _ h => h.2) (run_quiescent m ρ))

end Cert.InProj

end

end
-- ==== Proof.InArray.lean ====
/-
  The three result arrays of the second input projection: each row of blocks writes its 1024 rows of the unit and of the gate
  once, and of the merge gates in four blocks of columns.
-/
module

public import proofs.«01_k».proof.Proof.InRef
public import proofs.«01_k».proof.Proof.InFrame
public import Idealize.ShloMosaic.Lib.Pipeline.Value

@[expose] public section

set_option maxRecDepth 16384

noncomputable section

namespace Cert.InProj

open Idealize.ShloMosaic Cert.Kernel2Ideal Cert.Kernel2Ideal.Gen Cert.Kernel2Ideal.Facts
open Idealize.ShloMosaic.TcCoe Idealize.SL.Sem
open Idealize.ShloMosaic.Pipeline (Dat)
open scoped BigOperators

/-! ## The blocks a step stages -/

/-- Row `r` of a row of blocks. -/
def row (b : Fin 8) (r : Fin 1024) : Fin 8192 := ⟨b.val * 1024 + r.val, by omega⟩
/-- Column `e` of step `n`. -/
def col (n : Fin 7) (e : Fin 1024) : Fin 7168 := ⟨n.val * 1024 + e.val, by omega⟩
/-- A later step's columns of the merge gates. -/
def mcol (n : Fin 7) (h : 2 < n.val) (e : Fin 1024) : Fin 4096 := ⟨(n.val - 3) * 1024 + e.val, by omega⟩

/-- Which block each window stages. -/
theorem index_eq : ∀ t : Fin grid0.N,
    win0_0.index t = ![t.val / 7, 0] ∧ win0_1.index t = ![0, t.val % 7 + 4, 0] ∧ win0_2.index t = ![t.val / 7, 0]
      ∧ win0_3.index t = ![t.val / 7, 0] ∧ win0_4.index t = ![t.val / 7, t.val % 7 - 3] := by
  decide +kernel

variable (m : (ℓ : Loc nD τ sig) → Buf (Elt Ideal) ℓ) (c : Dev nD)

/-- The tokens and the weights of device `c`. -/
abbrev tok : Vec Ideal S8192x2048 .bf16 := m ((c : Thread nD τ).loc main_arg0)
@[inherit_doc tok] abbrev wts : Vec Ideal S2x11264x2048 .bf16 := m ((c : Thread nD τ).loc main_arg1)

/-- The rows of tokens a step stages. -/
theorem iblk0_at (b : Fin 8) (n : Fin 7) (r : Fin 1024) (k : Fin 2048) : iblk m c 0 (pt b n) (ix2 r k) = tok m c (ix2 (row b r) k) := by
  refine congrArg (tok m c) (funext fun a => Fin.ext ?_)
  have e := (index_eq (pt b n)).1
  match a with
  | ⟨0, _⟩ =>
    show win0_0.index (pt b n) 0 * 1024 + 1 * r.val = b.val * 1024 + r.val
    rw [e]
    show (b.val * 7 + n.val) / 7 * 1024 + 1 * r.val = b.val * 1024 + r.val
    omega
  | ⟨1, _⟩ =>
    show win0_0.index (pt b n) 1 * 2048 + 1 * k.val = k.val
    rw [e]
    show 0 * 2048 + 1 * k.val = k.val
    omega

/-- The rows of weights a step stages. -/
theorem iblk1_at (b : Fin 8) (n : Fin 7) (e : Fin 1024) (k : Fin 2048) :
    iblk m c 1 (pt b n) (ix3 0 e k) = wts m c (ix3 0 (wRow (col n e)) k) := by
  refine congrArg (wts m c) (funext fun a => Fin.ext ?_)
  have i := (index_eq (pt b n)).2.1
  match a with
  | ⟨0, _⟩ =>
    show win0_1.index (pt b n) 0 * 1 + 1 * 0 = 0
    rw [i]
    rfl
  | ⟨1, _⟩ =>
    show win0_1.index (pt b n) 1 * 1024 + 1 * e.val = 4096 + (n.val * 1024 + e.val)
    rw [i]
    show ((b.val * 7 + n.val) % 7 + 4) * 1024 + 1 * e.val = 4096 + (n.val * 1024 + e.val)
    omega
  | ⟨2, _⟩ =>
    show win0_1.index (pt b n) 2 * 2048 + 1 * k.val = k.val
    rw [i]
    show 0 * 2048 + 1 * k.val = k.val
    omega

/-- The product of device `c`'s arguments. -/
abbrev projOf : Fin 8192 → Fin 7168 → EReal := proj (tok m c) (wts m c)

/-- A step's product is its block of the whole product. -/
theorem dot_at (b : Fin 8) (n : Fin 7) (r e : Fin 1024) :
    dotBlk (iblk m c 0 (pt b n)) (iblk m c 1 (pt b n)) r e = projOf m c (row b r) (col n e) :=
  Finset.sum_congr rfl fun k _ => congrArg₂ (· * ·) (iblk0_at m c b n r k) (iblk1_at m c b n e k)

/-! ## What the steps store, in the whole arrays -/

/-- The gated linear unit as an array. -/
def specU : Vec Ideal S8192x1024 .f32 := fun i => unitArr (projOf m c) (i 0) (i 1)
/-- The branch's gate as an array. -/
def specG : Vec Ideal S8192x1024 .bf16 := fun i => gateArr (projOf m c) (i 0) (i 1)
/-- The merge gates as an array. -/
def specM : Vec Ideal S8192x4096 .bf16 := fun i => mergeArr (projOf m c) (i 0) (i 1)

/-- The stored unit. -/
theorem unit_at (b : Fin 8) (r d : Fin 1024) : unitBlk m c b (ix2 r d) = specU m c (ix2 (row b r) d) := by
  unfold unitBlk keptLin
  rw [pay2_at, pay1_at, dot_at, dot_at]
  exact congrArg₂ (fun x y => projOf m c (row b r) x * logistic (projOf m c (row b r) y))
    (Fin.ext (by show 0 * 1024 + d.val = d.val; omega)) (Fin.ext (by show 1 * 1024 + d.val = 1024 + d.val; omega))

/-- The stored gate. -/
theorem gate_at (b : Fin 8) (r d : Fin 1024) : gateBlk m c b (ix2 r d) = specG m c (ix2 (row b r) d) := by
  unfold gateBlk
  rw [pay3_at, dot_at]
  exact congrArg (fun x => projOf m c (row b r) x * logistic (projOf m c (row b r) x))
    (Fin.ext (by show 2 * 1024 + d.val = 2048 + d.val; omega))

/-- The stored merge gates. -/
theorem merge_at (b : Fin 8) (n : Fin 7) (h : 2 < n.val) (r d : Fin 1024) :
    mergeBlk m c (pt b n) (ix2 r d) = specM m c (ix2 (row b r) (mcol n h d)) := by
  unfold mergeBlk
  rw [pay4_at, dot_at]
  exact congrArg (fun x => logistic (projOf m c (row b r) x))
    (Fin.ext (by show n.val * 1024 + d.val = 3072 + ((n.val - 3) * 1024 + d.val); omega))

/-! ## The blocks in the arrays -/

/-- An index of a block of an output, in the array: a window at block `(p, q)`. -/
theorem out_idx {n : ℕ} {ix : Fin 2 → ℕ} {p q : ℕ} (e : ix = ![p, q]) (x : (⟨2, ![8192, n]⟩ : Shape).Idx) (j : (⟨2, ![1024, 1024]⟩ : Shape).Idx)
    (R : Fin 8192) (C : Fin n) (hR : R.val = p * 1024 + (j 0).val) (hC : C.val = q * 1024 + (j 1).val)
    (h0 : (x 0).val = ix 0 * 1024 + 1 * (j 0).val) (h1 : (x 1).val = ix 1 * 1024 + 1 * (j 1).val) : x = ix2 R C := by
  subst e
  funext a
  refine Fin.ext ?_
  match a with
  | ⟨0, _⟩ => exact h0.trans (by show p * 1024 + 1 * (j 0).val = R.val; omega)
  | ⟨1, _⟩ => exact h1.trans (by show q * 1024 + 1 * (j 1).val = C.val; omega)

/-- What is written back of the unit is its block of the array. -/
theorem flushed_u (t : Fin cfg0.N) : (dats m 0 c).flushed 2 t = ((cfg0.win 2).blk t).view.read (Elt Ideal) (specU m c) := by
  show (cfg0.win 2).cut (grid0.coords t) ((dats m 0 c).after 2 t) = _
  rw [after_2]
  funext j
  obtain ⟨r, d, rfl⟩ : ∃ (r d : Fin 1024), j = ix2 r d := ⟨j 0, j 1, eq_ix2 j⟩
  exact (unit_at m c (rowOf t) r d).trans (congrArg (specU m c)
    (out_idx (index_eq t).2.2.1 _ (ix2 r d) (row (rowOf t) r) d rfl (by show d.val = 0 * 1024 + d.val; omega) rfl rfl)).symm

/-- What is written back of the gate is its block of the array. -/
theorem flushed_g (t : Fin cfg0.N) : (dats m 0 c).flushed 3 t = ((cfg0.win 3).blk t).view.read (Elt Ideal) (specG m c) := by
  show (cfg0.win 3).cut (grid0.coords t) ((dats m 0 c).after 3 t) = _
  rw [after_3]
  funext j
  obtain ⟨r, d, rfl⟩ : ∃ (r d : Fin 1024), j = ix2 r d := ⟨j 0, j 1, eq_ix2 j⟩
  exact (gate_at m c (rowOf t) r d).trans (congrArg (specG m c)
    (out_idx (index_eq t).2.2.2.1 _ (ix2 r d) (row (rowOf t) r) d rfl (by show d.val = 0 * 1024 + d.val; omega) rfl rfl)).symm

/-- What is written back of the merge gates is its block of the array. -/
theorem flushed_m (t : Fin cfg0.N) (h : 2 < t.val % 7) :
    (dats m 0 c).flushed 4 t = ((cfg0.win 4).blk t).view.read (Elt Ideal) (specM m c) := by
  show (cfg0.win 4).cut (grid0.coords t) ((dats m 0 c).after 4 t) = _
  rw [after_4]
  funext j
  obtain ⟨r, d, rfl⟩ : ∃ (r d : Fin 1024), j = ix2 r d := ⟨j 0, j 1, eq_ix2 j⟩
  obtain ⟨n, hn⟩ : ∃ n : Fin 7, t.val % 7 = n.val := ⟨⟨t.val % 7, Nat.mod_lt _ (by decide)⟩, rfl⟩
  have e := merge_at m c (rowOf t) n (hn ▸ h) r d
  rw [pt_rowOf t n hn] at e
  refine e.trans (congrArg (specM m c) ?_).symm
  exact out_idx (index_eq t).2.2.2.2 _ (ix2 r d) (row (rowOf t) r) (mcol n (hn ▸ h) d) rfl
    (by show (n.val - 3) * 1024 + d.val = (t.val % 7 - 3) * 1024 + d.val; rw [hn]) rfl rfl

/-! ## The blocks fill the arrays -/

/-- The block that an index lies in. -/
theorem blk_mem {n : ℕ} (i : (⟨2, ![8192, n]⟩ : Shape).Idx) {ix : Fin 2 → ℕ} {p q : ℕ} (e : ix = ![p, q])
    (hp : p = (i 0).val / 1024) (hq : q = (i 1).val / 1024) (a : Fin 2) :
    ix a * (![1024, 1024] : Fin 2 → ℕ) a ≤ (i a).val ∧ (i a).val < ix a * (![1024, 1024] : Fin 2 → ℕ) a + (![1024, 1024] : Fin 2 → ℕ) a := by
  subst e
  match a with
  | ⟨0, _⟩ => show p * 1024 ≤ (i 0).val ∧ (i 0).val < p * 1024 + 1024; omega
  | ⟨1, _⟩ => show q * 1024 ≤ (i 1).val ∧ (i 1).val < q * 1024 + 1024; omega

theorem cover_u (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, ht⟩ : ∃ t : Fin cfg0.N, t.val = (i 0).val / 1024 * 7 + 6 := ⟨pt ⟨(i 0).val / 1024, by omega⟩ 6, rfl⟩
  refine ⟨t, (flush0_2 t).2 (by omega), ?_⟩
  show i ∈ ((View.whole main_v0_0).slice (win0_2.rect t)).set
  rw [View.set_slice_whole, Rect.mem_set_unit]
  exact blk_mem i (index_eq t).2.2.1 (by omega) (by omega)

theorem cover_g (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  obtain ⟨t, ht⟩ : ∃ t : Fin cfg0.N, t.val = (i 0).val / 1024 * 7 + 6 := ⟨pt ⟨(i 0).val / 1024, by omega⟩ 6, rfl⟩
  refine ⟨t, (flush0_3 t).2 (by omega), ?_⟩
  show i ∈ ((View.whole main_v0_1).slice (win0_3.rect t)).set
  rw [View.set_slice_whole, Rect.mem_set_unit]
  exact blk_mem i (index_eq t).2.2.2.1 (by omega) (by omega)

theorem cover_m (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, ht⟩ : ∃ t : Fin cfg0.N, t.val = (i 0).val / 1024 * 7 + (3 + (i 1).val / 1024) :=
    ⟨pt ⟨(i 0).val / 1024, by omega⟩ ⟨3 + (i 1).val / 1024, by omega⟩, rfl⟩
  refine ⟨t, (flush4 t).trans (decide_eq_true (by omega)), ?_⟩
  show i ∈ ((View.whole main_v0_2).slice (win0_4.rect t)).set
  rw [View.set_slice_whole, Rect.mem_set_unit]
  exact blk_mem i (index_eq t).2.2.2.2 (by omega) (by omega)

/-- The unit's array ends as the whole array, -/
theorem final_u : (dats m 0 c).arrAt 2 cfg0.N = specU m c :=
  (dats m 0 c).arrAt_eq_of_cover 2 (specU m c) (fun t _ => flushed_u m c t) cover_u
/-- so does the gate's, -/
theorem final_g : (dats m 0 c).arrAt 3 cfg0.N = specG m c :=
  (dats m 0 c).arrAt_eq_of_cover 3 (specG m c) (fun t _ => flushed_g m c t) cover_g
/-- and so do the merge gates'. -/
theorem final_m : (dats m 0 c).arrAt 4 cfg0.N = specM m c :=
  (dats m 0 c).arrAt_eq_of_cover 4 (specM m c) (fun t hf => flushed_m m c t (by rw [flush4, decide_eq_true_eq] at hf; exact hf)) cover_m

/-- The run, with its three results named and its arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v0_0) = specU m c
      ∧ r.2.mem ((c : Thread nD τ).loc main_v0_1) = specG m c
      ∧ r.2.mem ((c : Thread nD τ).loc main_v0_2) = specM m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final_u m c), ((h c).1 3).trans (final_g m c), ((h c).1 4).trans (final_m m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_arrays m ρ)

end Cert.InProj

end

end
-- ==== Proof.InClaims.lean ====
/-
  The claims about the second input projection.
-/
module

public import proofs.«01_k».proof.Defs
public import proofs.«01_k».proof.Proof.InArray
public import proofs.«01_k».proof.Proof.Gen.Kernel2
public import proofs.«01_k».proof.Proof.Gen.Reference2Ideal.Run
public import Idealize.ShloMosaic.Lib.Quiescent

@[expose] public section

set_option maxRecDepth 16384

noncomputable section

namespace Cert.InProj

open Idealize.ShloMosaic Idealize.ShloMosaic.TcCoe Idealize.SL.Sem

/-! ## The two printings are one program -/

set_option backward.isDefEq.respectTransparency.types false in
/-- No rule was applied to the kernel, so the printing for exact values is the kernel itself: the body tables agree, -/
theorem bodies_eq : Kernel2.defs₀ (F := Bits) = Kernel2Ideal.defs₀ (F := Bits) := by
  unfold Kernel2.defs₀ Kernel2Ideal.defs₀
  refine congrArg Defs.onTc (funext fun l => ?_)
  match l with
  | ⟨0, _⟩ => exact funext fun ⟨t, s⟩ => rfl

set_option backward.isDefEq.respectTransparency.types false in
/-- and so do the programs' tables. -/
theorem tables_eq : Kernel2.defs (F := Bits) = Kernel2Ideal.defs (F := Bits) :=
  congrArg (Pipeline.defs (Kernel2Ideal.pcfgs (F := Bits))) bodies_eq

/-! ## The claims -/

set_option backward.isDefEq.respectTransparency.types false in
/-- The second input projection's kernel runs and leaves its arguments, at the machine's floats. -/
theorem frame_p : Cert.quiescent_Kernel2 := fun m ρ _ => by
  rw [tables_eq]
  exact frame_any (F := Bits) m ρ
/-- The same, at exact values. -/
theorem frame_pi : Cert.quiescent_Kernel2Ideal := fun m ρ _ => frame_any m ρ

/-- The reference runs and leaves its arguments. -/
theorem frame_ri : Cert.quiescent_Reference2Ideal := fun m ρ _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m ρ)

/-- Nothing was replaced in the second input projection. -/
theorem preserves : Cert.preserves_Kernel2_Kernel2Ideal := trivial

/-- Kernel and reference end with the same unit, the same gate and the same merge gates. -/
theorem algebraic : Cert.algebraic_Kernel2Ideal_Reference2Ideal := by
  intro m ρ m' ρ' _ hagree
  refine ⟨fun c => specU m c, fun c => specG m c, fun c => specM m c, run_results m ρ, ?_⟩
  refine (θ_run Cert.Reference2Ideal.defs _ _).mono
    (fun _ h c => ⟨(h c).1.trans ?_, (h c).2.1.trans ?_, (h c).2.2.1.trans ?_, (h c).2.2.2⟩) (Cert.Reference2Ideal.Value.run (F := Ideal) m' ρ')
  all_goals obtain ⟨e0, e1⟩ := hagree c
  · rw [Cert.Reference2Ideal.Read.val_main_v14_eq, e0, e1]
    exact ref_unit _ _
  · rw [Cert.Reference2Ideal.Read.val_main_v29_eq, e0, e1]
    exact ref_gate _ _
  · rw [Cert.Reference2Ideal.Read.val_main_v30_eq, e0, e1]
    exact ref_merge _ _

end Cert.InProj

end

end
-- ==== Proof.OutStep.lean ====
/-
  One point of the output projection at an index: 512 rows' two branch projections gated and summed, the projection of the
  sum added to the layer's input, and the next layer's norm of the result.
-/
module

public import proofs.«01_k».proof.Proof.Gen.Kernel3Ideal.Skeleton
public import Idealize.ShloMosaic.Lib.Pointwise

@[expose] public section

set_option maxRecDepth 16384

noncomputable section

namespace Cert.OutProj

open Idealize.ShloMosaic Cert.Kernel3Ideal Cert.Kernel3Ideal.Gen Cert.Kernel3Ideal.Facts
open scoped BigOperators

/-- The two branches' projections, each times its gate, summed: 512 columns of the merged rows. -/
theorem merge_apply (ya yb : Vec Ideal S512x1024 .bf16) (wa wb : Vec Ideal S1x1024x512 .bf16) (sa sb : Vec Ideal S512x512 .bf16)
    (r : Fin 512) (c : Fin 512) :
    k0_pay2 ya yb wa wb sa sb (ix2 r c)
      = sa (ix2 r c) * (∑ k : Fin 1024, ya (ix2 r k) * wa (ix3 0 k c)) + sb (ix2 r c) * ∑ k : Fin 1024, yb (ix2 r k) * wb (ix3 0 k c) := by
  unfold k0_pay2
  pointwise

/-- The new residual: the layer's input plus the gate times the projection of the merged rows. -/
theorem residual_apply (mg : Vec Ideal S512x2048 .bf16) (w : Vec Ideal S1x2048x2048 .bf16) (g : Vec Ideal S1x1x2048 .f32)
    (x : Vec Ideal S512x2048 .f32) (r : Fin 512) (d : Fin 2048) :
    k0_pay10 mg w g x (ix2 r d) = x (ix2 r d) + g (ix3 0 0 d) * ∑ k : Fin 2048, mg (ix2 r k) * w (ix3 0 k d) := by
  unfold k0_pay10
  pointwise

/-- The next layer's norm of a row, scaled and shifted. -/
theorem norm_apply (x : FVec Ideal S512x2048 .f32) (sh sc g : Vec Ideal S1x1x2048 .f32) (r : Fin 512) (d : Fin 2048) :
    k0_pay1 x (k0_pay11 sh) (k0_pay12 sc) g (ix2 r d)
      = x (ix2 r d) * Ideal.rsqrt (Ideal.div (∑ k : Fin 2048, x (ix2 r k) * x (ix2 r k)) (Ideal.ofBits .f32 0x45000000#32) + Ideal.ofBits .f32 0x358637BD#32)
          * g (ix3 0 0 d) * (Ideal.ofBits .f32 0x3F800000#32 + sc (ix3 0 0 d)) + sh (ix3 0 0 d) := by
  unfold k0_pay1 k0_pay11 k0_pay12
  pointwise

end Cert.OutProj

end

end
-- ==== Proof.OutBlock.lean ====
/-
  What a point of the output projection leaves in its two staging buffers: the four stored column blocks of merged rows read
  back as one array, the residual from them, and the norm of the residual.
-/
module

public import proofs.«01_k».proof.Proof.OutStep
public import proofs.«01_k».proof.Proof.Gen.Kernel3Ideal.Frame
public import Idealize.ShloMosaic.Lib.Pipeline.Value
public import Idealize.ShloMosaic.Lib.Tactic

@[expose] public section

set_option maxRecDepth 16384

noncomputable section

namespace Cert.OutProj

open Idealize.ShloMosaic Cert.Kernel3Ideal Cert.Kernel3Ideal.Gen Cert.Kernel3Ideal.Facts
open scoped BigOperators

/-- Column `d` of the second half of the gates. -/
def gateB (d : Fin 2048) : Fin 4096 := ⟨2048 + d.val, by omega⟩

/-- Column `d` of the first half of the gates. -/
def gateA (d : Fin 2048) : Fin 4096 := ⟨d.val, by omega⟩

/-- The merged rows: both branches' projections, each times its gate. -/
def merged (ya yb : Vec Ideal S512x1024 .bf16) (s : Vec Ideal S512x4096 .bf16) (wa wb : Vec Ideal S1x1024x2048 .bf16) : Vec Ideal S512x2048 .bf16 :=
  fun j => s (ix2 (j 0) (gateA (j 1))) * (∑ k : Fin 1024, ya (ix2 (j 0) k) * wa (ix3 0 k (j 1)))
    + s (ix2 (j 0) (gateB (j 1))) * ∑ k : Fin 1024, yb (ix2 (j 0) k) * wb (ix3 0 k (j 1))

/-- The new residual. -/
def residual (mg : Vec Ideal S512x2048 .bf16) (x : Vec Ideal S512x2048 .f32) (g : Fin 2048 → EReal) (w : Vec Ideal S1x2048x2048 .bf16) :
    Vec Ideal S512x2048 .f32 :=
  fun j => x j + g (j 1) * ∑ k : Fin 2048, mg (ix2 (j 0) k) * w (ix3 0 k (j 1))

/-- Column `d` of the block of 512 columns at `o`. -/
def colFrom (o : ℕ) (h : o + 512 ≤ 2048) (d : Fin 512) : Fin 2048 := ⟨o + d.val, by omega⟩

/-- The rectangle of columns `o … o + 511` puts column `d` at column `o + d`. -/
theorem emb_cols (o : ℕ) (h) (ho : o + 512 ≤ 2048) (r : Fin 512) (d : Fin 512) :
    (Rect.unit (s := S512x2048) ![0, o] S512x512.size h).emb (ix2 r d) = ix2 r (colFrom o ho d) :=
  funext fun a => Fin.ext (by
    match a with
    | ⟨0, _⟩ => show 0 + 1 * r.val = r.val; omega
    | ⟨1, _⟩ => show o + 1 * d.val = o + d.val; omega)

/-- An index whose column is among `o … o + 511` is in that rectangle. -/
theorem mem_cols (o : ℕ) (h) (y : S512x2048.Idx) (h1 : o ≤ (y 1).val ∧ (y 1).val < o + 512) :
    y ∈ (Rect.unit (s := S512x2048) ![0, o] S512x512.size h).set := by
  rw [Rect.mem_set_unit]
  intro a
  match a with
  | ⟨0, _⟩ => exact ⟨Nat.zero_le _, by show (y 0).val < 0 + 512; have := (y 0).isLt; change (y 0).val < 512 at this; omega⟩
  | ⟨1, _⟩ => exact h1

/-- The four blocks of columns, read back whole, are the array they are the blocks of. -/
theorem readback {sp : Space} (v : View sig .tc sp S512x2048 .bf16) (p0 p1 p2 p3 : Vec Ideal S512x512 .bf16) (G : Vec Ideal S512x2048 .bf16)
    (h0 h1 h2 h3 hw)
    (e0 : ∀ x, p0 x = G ((Rect.unit (s := S512x2048) ![0, 0] S512x512.size h0).emb x))
    (e1 : ∀ x, p1 x = G ((Rect.unit (s := S512x2048) ![0, 512] S512x512.size h1).emb x))
    (e2 : ∀ x, p2 x = G ((Rect.unit (s := S512x2048) ![0, 1024] S512x512.size h2).emb x))
    (e3 : ∀ x, p3 x = G ((Rect.unit (s := S512x2048) ![0, 1536] S512x512.size h3).emb x)) :
    v.readCov (Val := Elt Ideal) [⟨Rect.unit (s := S512x2048) ![0, 1536] S512x512.size h3, p3⟩, ⟨Rect.unit (s := S512x2048) ![0, 1024] S512x512.size h2, p2⟩,
      ⟨Rect.unit (s := S512x2048) ![0, 512] S512x512.size h1, p1⟩, ⟨Rect.unit (s := S512x2048) ![0, 0] S512x512.size h0, p0⟩]
      (Rect.unit (s := S512x2048) ![0, 0] S512x2048.size hw).toLoadRect = G := by
  have hz : (![0, 0] : Fin S512x2048.rank → ℕ) = fun _ => 0 := by
    funext a; match a with | ⟨0, _⟩ => rfl | ⟨1, _⟩ => rfl
  have hcov : ∀ y : S512x2048.Idx, ∃ p ∈ ([⟨Rect.unit (s := S512x2048) ![0, 1536] S512x512.size h3, p3⟩, ⟨Rect.unit (s := S512x2048) ![0, 1024] S512x512.size h2, p2⟩,
      ⟨Rect.unit (s := S512x2048) ![0, 512] S512x512.size h1, p1⟩, ⟨Rect.unit (s := S512x2048) ![0, 0] S512x512.size h0, p0⟩] :
        List (View.Piece (Elt Ideal) S512x2048 .bf16)), y ∈ p.1.set := fun y => by
    have hy : (y 1).val < 2048 := (y 1).isLt
    by_cases c1 : (y 1).val < 512
    · exact ⟨_, .tail _ (.tail _ (.tail _ (.head _))), mem_cols 0 h0 y (by omega)⟩
    by_cases c2 : (y 1).val < 1024
    · exact ⟨_, .tail _ (.tail _ (.head _)), mem_cols 512 h1 y (by omega)⟩
    by_cases c3 : (y 1).val < 1536
    · exact ⟨_, .tail _ (.head _), mem_cols 1024 h2 y (by omega)⟩
    · exact ⟨_, .head _, mem_cols 1536 h3 y (by omega)⟩
  rw [View.readCov_eq_canon_ld _ _ _ hcov, View.ld_unit_zero hz]
  funext y
  refine View.canon_apply_of_pieces G _ ?_ y (hcov y)
  intro p hp x
  simp only [List.mem_cons, List.not_mem_nil, or_false] at hp
  rcases hp with rfl | rfl | rfl | rfl
  exacts [e3 x, e2 x, e1 x, e0 x]

/-- A stored block of columns is the merged rows on its columns. -/
theorem merge_piece (ya yb : Vec Ideal S512x1024 .bf16) (s : Vec Ideal S512x4096 .bf16) (wa wb : Vec Ideal S1x1024x2048 .bf16)
    (o : ℕ) (ho : o + 512 ≤ 2048) (h hy hw ha) (o' : ℕ) (hb) (ho' : o' = 2048 + o) (x : S512x512.Idx) :
    k0_pay2 (View.ld ya (Rect.unit (s := S512x1024) ![0, 0] S512x1024.size hy)) (View.ld yb (Rect.unit (s := S512x1024) ![0, 0] S512x1024.size hy))
        (View.ld wa (Rect.unit (s := S1x1024x2048) ![0, 0, o] S1x1024x512.size hw)) (View.ld wb (Rect.unit (s := S1x1024x2048) ![0, 0, o] S1x1024x512.size hw))
        (View.ld s (Rect.unit (s := S512x4096) ![0, o] S512x512.size ha)) (View.ld s (Rect.unit (s := S512x4096) ![0, o'] S512x512.size hb)) x
      = merged ya yb s wa wb ((Rect.unit (s := S512x2048) ![0, o] S512x512.size h).emb x) := by
  obtain ⟨r, d, rfl⟩ : ∃ r d, x = ix2 r d := ⟨x 0, x 1, eq_ix2 x⟩
  have hz : (![0, 0] : Fin S512x1024.rank → ℕ) = fun _ => 0 := by
    funext a; match a with | ⟨0, _⟩ => rfl | ⟨1, _⟩ => rfl
  have ea : View.ld s (Rect.unit (s := S512x4096) ![0, o] S512x512.size ha) (ix2 r d) = s (ix2 r (gateA (colFrom o ho d))) :=
    congrArg s (funext fun a => Fin.ext (by
      match a with
      | ⟨0, _⟩ => show 0 + 1 * r.val = r.val; omega
      | ⟨1, _⟩ => show o + 1 * d.val = o + d.val; omega))
  have eb : View.ld s (Rect.unit (s := S512x4096) ![0, o'] S512x512.size hb) (ix2 r d) = s (ix2 r (gateB (colFrom o ho d))) :=
    congrArg s (funext fun a => Fin.ext (by
      match a with
      | ⟨0, _⟩ => show 0 + 1 * r.val = r.val; omega
      | ⟨1, _⟩ => show o' + 1 * d.val = 2048 + (o + d.val); omega))
  have ew : ∀ (w : Vec Ideal S1x1024x2048 .bf16) (k : Fin 1024),
      View.ld w (Rect.unit (s := S1x1024x2048) ![0, 0, o] S1x1024x512.size hw) (ix3 0 k d) = w (ix3 0 k (colFrom o ho d)) := fun w k =>
    congrArg w (funext fun a => Fin.ext (by
      match a with
      | ⟨0, _⟩ => rfl
      | ⟨1, _⟩ => show 0 + 1 * k.val = k.val; omega
      | ⟨2, _⟩ => show o + 1 * d.val = o + d.val; omega))
  rw [merge_apply, View.ld_unit_zero hz, View.ld_unit_zero hz, ea, eb, emb_cols o h ho]
  exact congrArg₂ (· + ·) (congrArg (_ * ·) (Finset.sum_congr rfl fun k _ => congrArg (_ * ·) (ew wa k)))
    (congrArg (_ * ·) (Finset.sum_congr rfl fun k _ => congrArg (_ * ·) (ew wb k)))

/-- A row of scales, shifts or gates as the point loads it. -/
abbrev modRow (x : Vec Ideal S1x24x6144 .f32) (off : Fin 3 → ℕ) (h : ∀ a, off a + S1x1x2048.size a ≤ S1x24x6144.size a) (d : Fin 2048) : EReal :=
  View.ld x (Rect.unit (s := S1x24x6144) off S1x1x2048.size h) (ix3 0 0 d)

/-- The stored residual. -/
theorem residual_eq (mg : Vec Ideal S512x2048 .bf16) (w : Vec Ideal S1x2048x2048 .bf16) (md : Vec Ideal S1x24x6144 .f32) (x : Vec Ideal S512x2048 .f32)
    (off) (ho) (hw) (hx) :
    k0_pay10 mg (View.ld w (Rect.unit (s := S1x2048x2048) ![0, 0, 0] S1x2048x2048.size hw))
        (View.ld md (Rect.unit (s := S1x24x6144) off S1x1x2048.size ho)) (View.ld x (Rect.unit (s := S512x2048) ![0, 0] S512x2048.size hx))
      = residual mg x (modRow md off ho) w := by
  have hz : (![0, 0] : Fin S512x2048.rank → ℕ) = fun _ => 0 := by
    funext a; match a with | ⟨0, _⟩ => rfl | ⟨1, _⟩ => rfl
  have hz3 : (![0, 0, 0] : Fin S1x2048x2048.rank → ℕ) = fun _ => 0 := by
    funext a; match a with | ⟨0, _⟩ => rfl | ⟨1, _⟩ => rfl | ⟨2, _⟩ => rfl
  rw [View.ld_unit_zero (S := S512x2048) hz, View.ld_unit_zero (S := S1x2048x2048) hz3]
  funext j
  obtain ⟨r, d, rfl⟩ : ∃ r d, j = ix2 r d := ⟨j 0, j 1, eq_ix2 j⟩
  rw [residual_apply]
  rfl

/-- The next layer's norm of the residual, scaled and shifted. -/
def normed (x : Vec Ideal S512x2048 .f32) (sh sc g : Fin 2048 → EReal) : Vec Ideal S512x2048 .bf16 :=
  fun j => x j * Ideal.rsqrt (Ideal.div (∑ k : Fin 2048, x (ix2 (j 0) k) * x (ix2 (j 0) k)) (Ideal.ofBits .f32 0x45000000#32) + Ideal.ofBits .f32 0x358637BD#32)
    * g (j 1) * (Ideal.ofBits .f32 0x3F800000#32 + sc (j 1)) + sh (j 1)

/-- The stored norm. -/
theorem normed_eq (x : FVec Ideal S512x2048 .f32) (md : Vec Ideal S1x24x6144 .f32) (g : Vec Ideal S1x1x2048 .f32)
    (off off') (ho) (ho') (hg) :
    k0_pay1 x (k0_pay11 (View.ld md (Rect.unit (s := S1x24x6144) off S1x1x2048.size ho)))
        (k0_pay12 (View.ld md (Rect.unit (s := S1x24x6144) off' S1x1x2048.size ho')))
        (View.ld g (Rect.unit (s := S1x1x2048) ![0, 0, 0] S1x1x2048.size hg))
      = normed x (modRow md off ho) (modRow md off' ho') (fun d => g (ix3 0 0 d)) := by
  have hz3 : (![0, 0, 0] : Fin S1x1x2048.rank → ℕ) = fun _ => 0 := by
    funext a; match a with | ⟨0, _⟩ => rfl | ⟨1, _⟩ => rfl | ⟨2, _⟩ => rfl
  rw [View.ld_unit_zero hz3]
  funext j
  obtain ⟨r, d, rfl⟩ : ∃ r d, j = ix2 r d := ⟨j 0, j 1, eq_ix2 j⟩
  rw [norm_apply]
  rfl

/-- A load of the whole block puts an index at itself. -/
theorem emb_whole (h) (x : S512x2048.Idx) : (Rect.unit (s := S512x2048) ![0, 0] S512x2048.size h).emb x = x :=
  funext fun a => Fin.ext (by
    match a with
    | ⟨0, _⟩ => show 0 + 1 * (x 0).val = (x 0).val; omega
    | ⟨1, _⟩ => show 0 + 1 * (x 1).val = (x 1).val; omega)

variable (c : Dev nD) (i : grid0.Coords) (arg1 : Memref sig .tc .vmem S512x1024 .bf16) (harg1 : arg1.IsWhole)
  (arg2 : Memref sig .tc .vmem S512x1024 .bf16) (harg2 : arg2.IsWhole) (arg3 : Memref sig .tc .vmem S512x4096 .bf16) (harg3 : arg3.IsWhole)
  (arg4 : Memref sig .tc .vmem S512x2048 .f32) (harg4 : arg4.IsWhole) (arg5 : Memref sig .tc .vmem S1x24x6144 .f32) (harg5 : arg5.IsWhole)
  (arg6 : Memref sig .tc .vmem S1x1024x2048 .bf16) (harg6 : arg6.IsWhole) (arg7 : Memref sig .tc .vmem S1x1024x2048 .bf16) (harg7 : arg7.IsWhole)
  (arg8 : Memref sig .tc .vmem S1x2048x2048 .bf16) (harg8 : arg8.IsWhole) (arg9 : Memref sig .tc .vmem S1x24x6144 .f32) (harg9 : arg9.IsWhole)
  (arg10 : Memref sig .tc .vmem S1x1x2048 .f32) (harg10 : arg10.IsWhole) (arg11 : Memref sig .tc .vmem S512x2048 .f32) (harg11 : arg11.IsWhole)
  (arg12 : Memref sig .tc .vmem S512x2048 .bf16) (harg12 : arg12.IsWhole) (arg13 : Memref sig .tc .vmem S512x2048 .bf16) (harg13 : arg13.IsWhole)
  (x0 x1 : Vec Ideal S512x1024 .bf16) (x2 : Vec Ideal S512x4096 .bf16) (x3 : Vec Ideal S512x2048 .f32) (x4 : Vec Ideal S1x24x6144 .f32)
  (x5 x6 : Vec Ideal S1x1024x2048 .bf16) (x7 : Vec Ideal S1x2048x2048 .bf16) (x8 : Vec Ideal S1x24x6144 .f32) (x9 : Vec Ideal S1x1x2048 .f32)

set_option maxHeartbeats 1000000 in
/-- What the point leaves in the residual's staging buffer. -/
theorem out_x :
    out0_A_10 c i arg1 harg1 arg2 harg2 arg3 harg3 arg4 harg4 arg5 harg5 arg6 harg6 arg7 harg7 arg8 harg8 arg9 harg9 arg10 harg10 arg11 harg11
      arg12 harg12 arg13 harg13 x0 x1 x2 x3 x4 x5 x6 x7 x8 x9
      = residual (merged x0 x1 x2 x5 x6) x3 (modRow x4 (k0_off1 i) (k0_off1_inb i)) x7 := by
  have hcov := cover0_A_10 c i arg1 harg1 arg2 harg2 arg3 harg3 arg4 harg4 arg5 harg5 arg6 harg6 arg7 harg7 arg8 harg8 arg9 harg9 arg10 harg10 arg11 harg11
      arg12 harg12 arg13 harg13 x0 x1 x2 x3 x4 x5 x6 x7 x8 x9
  unfold out0_A_10
  rw [View.read_writes_eq_canon _ _ _ hcov]
  funext y
  refine View.canon_apply_of_pieces _ _ ?_ y (hcov y)
  clear hcov
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread]
  intro p hp x
  simp only [List.mem_cons, List.not_mem_nil, or_false] at hp
  rcases hp with rfl
  dsimp only
  rw [emb_whole]
  refine Eq.trans (congrArg (fun mg => k0_pay10 mg _ _ _ x) (readback arg13.view _ _ _ _ (merged x0 x1 x2 x5 x6) _ _ _ _ _
    (merge_piece x0 x1 x2 x5 x6 0 (by norm_num) _ _ _ _ 2048 _ rfl) (merge_piece x0 x1 x2 x5 x6 512 (by norm_num) _ _ _ _ 2560 _ rfl)
    (merge_piece x0 x1 x2 x5 x6 1024 (by norm_num) _ _ _ _ 3072 _ rfl) (merge_piece x0 x1 x2 x5 x6 1536 (by norm_num) _ _ _ _ 3584 _ rfl))) ?_
  exact congrFun (residual_eq _ x7 x4 x3 (k0_off1 i) (k0_off1_inb i) _ _) x

set_option maxHeartbeats 1000000 in
/-- What the point leaves in the norm's staging buffer. -/
theorem out_h :
    out0_A_11 c i arg1 harg1 arg2 harg2 arg3 harg3 arg4 harg4 arg5 harg5 arg6 harg6 arg7 harg7 arg8 harg8 arg9 harg9 arg10 harg10 arg11 harg11
      arg12 harg12 arg13 harg13 x0 x1 x2 x3 x4 x5 x6 x7 x8 x9
      = normed (residual (merged x0 x1 x2 x5 x6) x3 (modRow x4 (k0_off1 i) (k0_off1_inb i)) x7)
          (modRow x8 (k0_off2 i) (k0_off2_inb i)) (modRow x8 (k0_off3 i) (k0_off3_inb i)) (fun d => x9 (ix3 0 0 d)) := by
  have hcov := cover0_A_11 c i arg1 harg1 arg2 harg2 arg3 harg3 arg4 harg4 arg5 harg5 arg6 harg6 arg7 harg7 arg8 harg8 arg9 harg9 arg10 harg10 arg11 harg11
      arg12 harg12 arg13 harg13 x0 x1 x2 x3 x4 x5 x6 x7 x8 x9
  unfold out0_A_11
  rw [View.read_writes_eq_canon _ _ _ hcov]
  funext y
  refine View.canon_apply_of_pieces _ _ ?_ y (hcov y)
  clear hcov
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread]
  intro p hp x
  simp only [List.mem_cons, List.not_mem_nil, or_false] at hp
  rcases hp with rfl
  dsimp only
  rw [emb_whole]
  refine Eq.trans (congrArg (fun mg => k0_pay1 (k0_pay10 mg _ _ _) _ _ _ x) (readback arg13.view _ _ _ _ (merged x0 x1 x2 x5 x6) _ _ _ _ _
    (merge_piece x0 x1 x2 x5 x6 0 (by norm_num) _ _ _ _ 2048 _ rfl) (merge_piece x0 x1 x2 x5 x6 512 (by norm_num) _ _ _ _ 2560 _ rfl)
    (merge_piece x0 x1 x2 x5 x6 1024 (by norm_num) _ _ _ _ 3072 _ rfl) (merge_piece x0 x1 x2 x5 x6 1536 (by norm_num) _ _ _ _ 3584 _ rfl))) ?_
  refine Eq.trans (congrArg (fun v => k0_pay1 v _ _ _ x) (residual_eq _ x7 x4 x3 (k0_off1 i) (k0_off1_inb i) _ _)) ?_
  exact congrFun (normed_eq _ x8 x9 (k0_off2 i) (k0_off3 i) (k0_off2_inb i) (k0_off3_inb i) _) x

end Cert.OutProj

end

end
-- ==== Proof.OutArray.lean ====
/-
  The two result arrays of the output projection: 16 points write 512 rows each. Every entry is the residual's, or the
  norm's, of its row, with the gate, scale and shift of the row's batch element.
-/
module

public import proofs.«01_k».proof.Proof.OutBlock
public import proofs.«01_k».proof.Proof.Gen.Kernel3Ideal.Value

@[expose] public section

set_option maxRecDepth 16384

noncomputable section

namespace Cert.OutProj

open Idealize.ShloMosaic Cert.Kernel3Ideal Cert.Kernel3Ideal.Gen Cert.Kernel3Ideal.Facts
open Idealize.ShloMosaic.TcCoe Idealize.SL.Sem
open Idealize.ShloMosaic.Pipeline (Dat)
open scoped BigOperators

/-! ## The whole arrays -/

/-- The row of the modulation that belongs to a row's batch element. -/
def batchRow (R : Fin 8192) : Fin 24 := ⟨R.val / 2048, by omega⟩

/-- Column `d` of the shift, of the scale and of the gate. -/
def shiftCol (d : Fin 2048) : Fin 6144 := ⟨d.val, by omega⟩
@[inherit_doc shiftCol] def scaleCol (d : Fin 2048) : Fin 6144 := ⟨2048 + d.val, by omega⟩
@[inherit_doc shiftCol] def gateCol (d : Fin 2048) : Fin 6144 := ⟨4096 + d.val, by omega⟩

/-- The merged rows of the whole array. -/
def mergedArr (ya yb : Vec Ideal S8192x1024 .bf16) (s : Vec Ideal S8192x4096 .bf16) (wa wb : Vec Ideal S2x1024x2048 .bf16)
    (R : Fin 8192) (d : Fin 2048) : EReal :=
  s (ix2 R (gateA d)) * (∑ k : Fin 1024, ya (ix2 R k) * wa (ix3 0 k d)) + s (ix2 R (gateB d)) * ∑ k : Fin 1024, yb (ix2 R k) * wb (ix3 0 k d)

/-- The residual, given the merged rows. -/
def xArr (mg : Fin 8192 → Fin 2048 → EReal) (x : Vec Ideal S8192x2048 .f32) (md : Vec Ideal S2x24x6144 .f32) (w : Vec Ideal S2x2048x2048 .bf16)
    (R : Fin 8192) (d : Fin 2048) : EReal :=
  x (ix2 R d) + md (ix3 0 (batchRow R) (gateCol d)) * ∑ k : Fin 2048, mg R k * w (ix3 0 k d)

/-- The norm, given the residual. -/
def hArr (x : Fin 8192 → Fin 2048 → EReal) (md : Vec Ideal S2x24x6144 .f32) (g : Vec Ideal S2x1x2048 .f32) (R : Fin 8192) (d : Fin 2048) : EReal :=
  x R d * Ideal.rsqrt (Ideal.div (∑ k : Fin 2048, x R k * x R k) (Ideal.ofBits .f32 0x45000000#32) + Ideal.ofBits .f32 0x358637BD#32)
    * g (ix3 1 0 d) * (Ideal.ofBits .f32 0x3F800000#32 + md (ix3 1 (batchRow R) (scaleCol d))) + md (ix3 1 (batchRow R) (shiftCol d))

/-! ## The points' blocks -/

/-- Row `r` of point `t`'s 512 rows. -/
def rowAt (t : Fin cfg0.N) (r : Fin 512) : Fin 8192 :=
  ⟨t.val * 512 + r.val, by have : t.val < 16 := lt_of_lt_of_eq t.isLt N_0; omega⟩

/-- The rows a point stages. -/
def rowBlk {n : ℕ} (x : (⟨2, ![8192, n]⟩ : Shape).Idx → EReal) (t : Fin cfg0.N) : (⟨2, ![512, n]⟩ : Shape).Idx → EReal :=
  fun j => x (ix2 (rowAt t (j 0)) (j 1))

/-- Which block each window stages. -/
theorem index_eq : ∀ t : Fin grid0.N,
    (win0_0.index t = ![t.val, 0] ∧ win0_1.index t = ![t.val, 0] ∧ win0_2.index t = ![t.val, 0] ∧ win0_3.index t = ![t.val, 0]
      ∧ win0_10.index t = ![t.val, 0] ∧ win0_11.index t = ![t.val, 0])
      ∧ (win0_4.index t = ![0, 0, 0] ∧ win0_5.index t = ![0, 0, 0] ∧ win0_6.index t = ![0, 0, 0] ∧ win0_7.index t = ![0, 0, 0]
      ∧ win0_8.index t = ![1, 0, 0] ∧ win0_9.index t = ![1, 0, 0]) := by
  decide +kernel

/-- Where the point reads the modulation: the row of its batch element. -/
theorem off_eq : ∀ t : Fin grid0.N,
    k0_off1 (grid0.coords t) = ![0, t.val / 4, 4096] ∧ k0_off2 (grid0.coords t) = ![0, t.val / 4, 0]
      ∧ k0_off3 (grid0.coords t) = ![0, t.val / 4, 2048] := by
  decide +kernel

/-- An index of a point's rows, in the array: a window at block (t, 0). -/
theorem row_idx {n : ℕ} {t : Fin cfg0.N} {ix : Fin 2 → ℕ} (e : ix = ![t.val, 0]) (x : (⟨2, ![8192, n]⟩ : Shape).Idx) (j : (⟨2, ![512, n]⟩ : Shape).Idx)
    (h0 : (x 0).val = ix 0 * 512 + 1 * (j 0).val) (h1 : (x 1).val = ix 1 * n + 1 * (j 1).val) :
    x = ix2 (rowAt t (j 0)) (j 1) := by
  subst e
  funext a
  refine Fin.ext ?_
  match a with
  | ⟨0, _⟩ => exact h0.trans (by simp [rowAt, ix2])
  | ⟨1, _⟩ => exact h1.trans (by simp [ix2])

/-- An index of one layer's weights, in both layers': a window at block (l, 0, 0). -/
theorem layer_idx {n k : ℕ} {l : Fin 2} {ix : Fin 3 → ℕ} (e : ix = ![l.val, 0, 0]) (x : (⟨3, ![2, n, k]⟩ : Shape).Idx) (j : (⟨3, ![1, n, k]⟩ : Shape).Idx)
    (h0 : (x 0).val = ix 0 * 1 + 1 * (j 0).val) (h1 : (x 1).val = ix 1 * n + 1 * (j 1).val) (h2 : (x 2).val = ix 2 * k + 1 * (j 2).val) :
    x = ix3 l (j 1) (j 2) := by
  subst e
  have hj : (j 0).val = 0 := by have : (j 0).val < 1 := (j 0).isLt; omega
  funext a
  refine Fin.ext ?_
  match a with
  | ⟨0, _⟩ => exact h0.trans (by simp [ix3, hj])
  | ⟨1, _⟩ => exact h1.trans (by simp [ix3])
  | ⟨2, _⟩ => exact h2.trans (by simp [ix3])

/-- One layer's block of a two-layer array. -/
def layerBlk {n k : ℕ} (x : (⟨3, ![2, n, k]⟩ : Shape).Idx → EReal) (l : Fin 2) : (⟨3, ![1, n, k]⟩ : Shape).Idx → EReal :=
  fun j => x (ix3 l (j 1) (j 2))

variable (m : (ℓ : Loc nD τ sig) → Buf (Elt Ideal) ℓ) (c : Dev nD) (t : Fin cfg0.N)

theorem iblk0 : iblk m c 0 t = rowBlk (m ((c : Thread nD τ).loc main_arg0)) t :=
  funext fun j => congrArg (m ((c : Thread nD τ).loc main_arg0)) (row_idx (index_eq t).1.1 _ j rfl rfl)
theorem iblk1 : iblk m c 1 t = rowBlk (m ((c : Thread nD τ).loc main_arg1)) t :=
  funext fun j => congrArg (m ((c : Thread nD τ).loc main_arg1)) (row_idx (index_eq t).1.2.1 _ j rfl rfl)
theorem iblk2 : iblk m c 2 t = rowBlk (m ((c : Thread nD τ).loc main_arg2)) t :=
  funext fun j => congrArg (m ((c : Thread nD τ).loc main_arg2)) (row_idx (index_eq t).1.2.2.1 _ j rfl rfl)
theorem iblk3 : iblk m c 3 t = rowBlk (m ((c : Thread nD τ).loc main_arg3)) t :=
  funext fun j => congrArg (m ((c : Thread nD τ).loc main_arg3)) (row_idx (index_eq t).1.2.2.2.1 _ j rfl rfl)
theorem iblk4 : iblk m c 4 t = layerBlk (m ((c : Thread nD τ).loc main_arg4)) 0 :=
  funext fun j => congrArg (m ((c : Thread nD τ).loc main_arg4)) (layer_idx (l := 0) (index_eq t).2.1 _ j rfl rfl rfl)
theorem iblk5 : iblk m c 5 t = layerBlk (m ((c : Thread nD τ).loc main_arg6)) 0 :=
  funext fun j => congrArg (m ((c : Thread nD τ).loc main_arg6)) (layer_idx (l := 0) (index_eq t).2.2.1 _ j rfl rfl rfl)
theorem iblk6 : iblk m c 6 t = layerBlk (m ((c : Thread nD τ).loc main_arg7)) 0 :=
  funext fun j => congrArg (m ((c : Thread nD τ).loc main_arg7)) (layer_idx (l := 0) (index_eq t).2.2.2.1 _ j rfl rfl rfl)
theorem iblk7 : iblk m c 7 t = layerBlk (m ((c : Thread nD τ).loc main_arg8)) 0 :=
  funext fun j => congrArg (m ((c : Thread nD τ).loc main_arg8)) (layer_idx (l := 0) (index_eq t).2.2.2.2.1 _ j rfl rfl rfl)
theorem iblk8 : iblk m c 8 t = layerBlk (m ((c : Thread nD τ).loc main_arg4)) 1 :=
  funext fun j => congrArg (m ((c : Thread nD τ).loc main_arg4)) (layer_idx (l := 1) (index_eq t).2.2.2.2.2.1 _ j rfl rfl rfl)
theorem iblk9 : iblk m c 9 t = layerBlk (m ((c : Thread nD τ).loc main_arg5)) 1 :=
  funext fun j => congrArg (m ((c : Thread nD τ).loc main_arg5)) (layer_idx (l := 1) (index_eq t).2.2.2.2.2.2 _ j rfl rfl rfl)

/-- The row of the modulation that a point loads, at an offset in the columns. -/
theorem modRow_eq (x : Vec Ideal S2x24x6144 .f32) (l : Fin 2) (off : Fin 3 → ℕ) (o : ℕ) (ho : off = ![0, t.val / 4, o]) (h) (r : Fin 512) (d : Fin 2048)
    (C : Fin 6144) (hC : C.val = o + d.val) :
    modRow (layerBlk x l) off h d = x (ix3 l (batchRow (rowAt t r)) C) := by
  subst ho
  refine congrArg x (funext fun a => Fin.ext ?_)
  match a with
  | ⟨0, _⟩ => rfl
  | ⟨1, _⟩ => show t.val / 4 + 1 * 0 = (t.val * 512 + r.val) / 2048; omega
  | ⟨2, _⟩ => show o + 1 * d.val = C.val; omega

/-! ## The arrays of the arguments -/

/-- The merged rows of the arguments of device `c`. -/
abbrev mergedOf (R : Fin 8192) (d : Fin 2048) : EReal :=
  mergedArr (m ((c : Thread nD τ).loc main_arg0)) (m ((c : Thread nD τ).loc main_arg1)) (m ((c : Thread nD τ).loc main_arg2))
    (m ((c : Thread nD τ).loc main_arg6)) (m ((c : Thread nD τ).loc main_arg7)) R d

/-- The residual of the arguments of device `c`. -/
abbrev xOf (R : Fin 8192) (d : Fin 2048) : EReal :=
  xArr (mergedOf m c) (m ((c : Thread nD τ).loc main_arg3)) (m ((c : Thread nD τ).loc main_arg4)) (m ((c : Thread nD τ).loc main_arg8)) R d

/-- The norm of the arguments of device `c`. -/
abbrev hOf (R : Fin 8192) (d : Fin 2048) : EReal :=
  hArr (xOf m c) (m ((c : Thread nD τ).loc main_arg4)) (m ((c : Thread nD τ).loc main_arg5)) R d

/-- The residual as an array. -/
def specX : Vec Ideal S8192x2048 .f32 := fun i => xOf m c (i 0) (i 1)
/-- The norm as an array. -/
def specH : Vec Ideal S8192x2048 .bf16 := fun i => hOf m c (i 0) (i 1)

/-- The residual of a point's blocks, at an index. -/
theorem residual_blk (r : Fin 512) (d : Fin 2048) :
    residual (merged (iblk m c 0 t) (iblk m c 1 t) (iblk m c 2 t) (iblk m c 5 t) (iblk m c 6 t)) (iblk m c 3 t)
        (modRow (iblk m c 4 t) (k0_off1 (grid0.coords t)) (k0_off1_inb (grid0.coords t))) (iblk m c 7 t) (ix2 r d)
      = xOf m c (rowAt t r) d := by
  rw [iblk0, iblk1, iblk2, iblk3, iblk4, iblk5, iblk6, iblk7]
  refine congrArg₂ (· + ·) rfl (congrArg₂ (· * ·) ?_ rfl)
  exact modRow_eq t _ 0 _ 4096 (off_eq t).1 _ r d (gateCol d) rfl

/-- The norm of a point's blocks, at an index. -/
theorem normed_blk (r : Fin 512) (d : Fin 2048) :
    normed (residual (merged (iblk m c 0 t) (iblk m c 1 t) (iblk m c 2 t) (iblk m c 5 t) (iblk m c 6 t)) (iblk m c 3 t)
        (modRow (iblk m c 4 t) (k0_off1 (grid0.coords t)) (k0_off1_inb (grid0.coords t))) (iblk m c 7 t))
        (modRow (iblk m c 8 t) (k0_off2 (grid0.coords t)) (k0_off2_inb (grid0.coords t)))
        (modRow (iblk m c 8 t) (k0_off3 (grid0.coords t)) (k0_off3_inb (grid0.coords t))) (fun d => iblk m c 9 t (ix3 0 0 d)) (ix2 r d)
      = hOf m c (rowAt t r) d := by
  have hx := residual_blk m c t r
  generalize residual (merged (iblk m c 0 t) (iblk m c 1 t) (iblk m c 2 t) (iblk m c 5 t) (iblk m c 6 t)) (iblk m c 3 t)
        (modRow (iblk m c 4 t) (k0_off1 (grid0.coords t)) (k0_off1_inb (grid0.coords t))) (iblk m c 7 t) = x at hx ⊢
  have es := modRow_eq t (m ((c : Thread nD τ).loc main_arg4)) 1 _ 0 (off_eq t).2.1 (k0_off2_inb (grid0.coords t)) r d (shiftCol d) (Nat.zero_add _).symm
  have ec := modRow_eq t (m ((c : Thread nD τ).loc main_arg4)) 1 _ 2048 (off_eq t).2.2 (k0_off3_inb (grid0.coords t)) r d (scaleCol d) rfl
  rw [iblk8, iblk9]
  unfold normed
  show x (ix2 r d) * Ideal.rsqrt (Ideal.div (∑ k : Fin 2048, x (ix2 r k) * x (ix2 r k)) (Ideal.ofBits .f32 0x45000000#32) + Ideal.ofBits .f32 0x358637BD#32)
    * _ * (Ideal.ofBits .f32 0x3F800000#32 + modRow (layerBlk (m ((c : Thread nD τ).loc main_arg4)) 1) _ _ d) + modRow (layerBlk (m ((c : Thread nD τ).loc main_arg4)) 1) _ _ d = _
  rw [es, ec]
  simp only [hx]
  rfl

/-- What a point writes back of the residual is its block of the array. -/
theorem flushed_x : (dats m 0 c).flushed 10 t = ((cfg0.win 10).blk t).view.read (Elt Ideal) (specX m c) := by
  rw [Cert.Kernel3Ideal.Value.flushed10_A, out_x]
  funext j
  obtain ⟨r, d, rfl⟩ : ∃ (r : Fin 512) (d : Fin 2048), j = ix2 r d := ⟨j 0, j 1, eq_ix2 j⟩
  exact (residual_blk m c t r d).trans (congrArg (specX m c) (row_idx (index_eq t).1.2.2.2.2.1 _ (ix2 r d) rfl rfl)).symm

/-- What a point writes back of the norm is its block of the array. -/
theorem flushed_h : (dats m 0 c).flushed 11 t = ((cfg0.win 11).blk t).view.read (Elt Ideal) (specH m c) := by
  rw [Cert.Kernel3Ideal.Value.flushed11_A, out_h]
  funext j
  obtain ⟨r, d, rfl⟩ : ∃ (r : Fin 512) (d : Fin 2048), j = ix2 r d := ⟨j 0, j 1, eq_ix2 j⟩
  exact (normed_blk m c t r d).trans (congrArg (specH m c) (row_idx (index_eq t).1.2.2.2.2.2 _ (ix2 r d) rfl rfl)).symm

/-! ## The blocks fill the arrays -/

omit t in
/-- The rows of the point that an index's row lies in. -/
theorem rows_mem (i : S8192x2048.Idx) (t : Fin cfg0.N) (ht : t.val = (i 0).val / 512) (ix : Fin 2 → ℕ) (e : ix = ![t.val, 0]) (a : Fin 2) :
    ix a * (![512, 2048] : Fin 2 → ℕ) a ≤ (i a).val ∧ (i a).val < ix a * (![512, 2048] : Fin 2 → ℕ) a + (![512, 2048] : Fin 2 → ℕ) a := by
  subst e
  match a with
  | ⟨0, _⟩ =>
    show t.val * 512 ≤ (i 0).val ∧ (i 0).val < t.val * 512 + 512
    omega
  | ⟨1, _⟩ =>
    have h1 : (i 1).val < 2048 := (i 1).isLt
    show 0 * 2048 ≤ (i 1).val ∧ (i 1).val < 0 * 2048 + 2048
    omega

omit t in
theorem cover_x (i : S8192x2048.Idx) : ∃ t : Fin cfg0.N, (cfg0.win 10).flush t = true ∧ i ∈ ((cfg0.win 10).blk t).view.set := by
  have h0 : (i 0).val < 8192 := (i 0).isLt
  have hN : cfg0.N = 16 := N_0
  obtain ⟨t, ht⟩ : ∃ t : Fin cfg0.N, t.val = (i 0).val / 512 := ⟨⟨(i 0).val / 512, by omega⟩, rfl⟩
  refine ⟨t, flush0_10 t, ?_⟩
  show i ∈ ((View.whole main_v0_0).slice (win0_10.rect t)).set
  rw [View.set_slice_whole, Rect.mem_set_unit]
  exact rows_mem i t ht _ (index_eq t).1.2.2.2.2.1

omit t in
theorem cover_h (i : S8192x2048.Idx) : ∃ t : Fin cfg0.N, (cfg0.win 11).flush t = true ∧ i ∈ ((cfg0.win 11).blk t).view.set := by
  have h0 : (i 0).val < 8192 := (i 0).isLt
  have hN : cfg0.N = 16 := N_0
  obtain ⟨t, ht⟩ : ∃ t : Fin cfg0.N, t.val = (i 0).val / 512 := ⟨⟨(i 0).val / 512, by omega⟩, rfl⟩
  refine ⟨t, flush0_11 t, ?_⟩
  show i ∈ ((View.whole main_v0_1).slice (win0_11.rect t)).set
  rw [View.set_slice_whole, Rect.mem_set_unit]
  exact rows_mem i t ht _ (index_eq t).1.2.2.2.2.2

omit t in
/-- The residual's array ends as the whole array. -/
theorem final_x : (dats m 0 c).arrAt 10 cfg0.N = specX m c :=
  (dats m 0 c).arrAt_eq_of_cover 10 (specX m c) (fun t _ => flushed_x m c t) cover_x

omit t in
/-- The norm's array ends as the whole array. -/
theorem final_h : (dats m 0 c).arrAt 11 cfg0.N = specH m c :=
  (dats m 0 c).arrAt_eq_of_cover 11 (specH m c) (fun t _ => flushed_h m c t) cover_h

end Cert.OutProj

end

end
-- ==== Proof.OutRef.lean ====
/-
  The reference of the output projection, read at an index: the same residual and the same norm, batch element by batch
  element.
-/
module

public import proofs.«01_k».proof.Proof.OutArray
public import proofs.«01_k».proof.Proof.Gen.Reference3Ideal.Read

@[expose] public section

set_option maxRecDepth 16384

noncomputable section

namespace Cert.OutProj

open Idealize.ShloMosaic Cert.Reference3Ideal Cert.Reference3Ideal.Gen Cert.Reference3Ideal.Read
open scoped BigOperators

variable (x0 x1 : Vec Ideal S8192x1024 .bf16) (x2 : Vec Ideal S8192x4096 .bf16) (x3 : Vec Ideal S8192x2048 .f32) (x4 : Vec Ideal S2x24x6144 .f32)
  (x5 : Vec Ideal S2x1x2048 .f32) (x6 x7 : Vec Ideal S2x1024x2048 .bf16) (x8 : Vec Ideal S2x2048x2048 .bf16)

/-- The reference's merged rows. -/
theorem ref_merged (R : Fin 8192) (d : Fin 2048) :
    val_main_v11 (F := Ideal) x0 x1 x2 x6 x7 (ix2 R d) = mergedArr x0 x1 x2 x6 x7 R d := by
  unfold val_main_v11 val_main_v10 val_main_v9 val_main_v8 val_main_v7 val_main_v6 val_main_v5 val_main_v4 val_main_v3 val_main_v2 val_main_v1 val_main_v0
  pointwise
  rfl

/-- The reference's projected rows. -/
theorem ref_out (R : Fin 8192) (d : Fin 2048) :
    val_main_v15 (F := Ideal) x0 x1 x2 x6 x7 x8 (ix2 R d)
      = ∑ k : Fin 2048, mergedArr x0 x1 x2 x6 x7 R k * x8 (ix3 0 k d) := by
  have h := ref_merged x0 x1 x2 x6 x7 R
  unfold val_main_v15 val_main_v14 val_main_v13 val_main_v12
  generalize val_main_v11 (F := Ideal) x0 x1 x2 x6 x7 = a at h ⊢
  pointwise
  exact Finset.sum_congr rfl fun k _ => congrArg (· * _) (h k)

/-- The row of the flat arrays at which token `t` of batch element `b` lies. -/
def flatRow (b : Fin 4) (t : Fin 2048) : Fin 8192 := ⟨b.val * 2048 + t.val, by omega⟩

/-- The batch element of a token's row. -/
theorem batchRow_flatRow (b : Fin 4) (t : Fin 2048) : batchRow (flatRow b t) = ⟨b.val, by omega⟩ :=
  Fin.ext (by show (b.val * 2048 + t.val) / 2048 = b.val; omega)

/-- The reference's residual at a token of a batch element. -/
theorem ref_x (b : Fin 4) (t d : Fin 2048) :
    val_main_v27 (F := Ideal) x0 x1 x2 x3 x4 x6 x7 x8 (ix3 b t d)
      = xArr (mergedArr x0 x1 x2 x6 x7) x3 x4 x8 (flatRow b t) d := by
  have h := ref_out x0 x1 x2 x6 x7 x8 (flatRow b t) d
  unfold val_main_v27 val_main_v26 val_main_v25 val_main_v24 val_main_v23 val_main_v22 val_main_v17 val_main_v16
  generalize val_main_v15 (F := Ideal) x0 x1 x2 x6 x7 x8 = a at h ⊢
  pointwise
  rw [show a (ix2 ⟨b.val * 2048 + t.val, by omega⟩ d) = _ from h]
  unfold xArr
  rw [batchRow_flatRow]
  rfl

/-- The reference's modulated norm at a token of a batch element. -/
theorem ref_h (b : Fin 4) (t d : Fin 2048) :
    val_main_v50 (F := Ideal) x0 x1 x2 x3 x4 x5 x6 x7 x8 (ix3 b t d)
      = hArr (xArr (mergedArr x0 x1 x2 x6 x7) x3 x4 x8) x4 x5 (flatRow b t) d := by
  have h := ref_x x0 x1 x2 x3 x4 x6 x7 x8 b t
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v19 val_main_v18 val_main_v21 val_main_v20
  generalize val_main_v27 (F := Ideal) x0 x1 x2 x3 x4 x6 x7 x8 = a at h ⊢
  pointwise
  rw [val_main_cst_apply, val_main_cst_0_apply, val_main_cst_1_apply, val_main_cst_2_apply,
    show (FloatOps.ofBits .f32 0x00000000#32 : Ideal .f32) = 0 from Ideal.ofBits_zero_f32, zero_add]
  simp only [h]
  unfold hArr
  rw [batchRow_flatRow]
  rfl

/-- Every row of the flat arrays is the row of a token of a batch element. -/
theorem flatRow_split (R : Fin 8192) (hb : R.val / 2048 < 4) (ht : R.val % 2048 < 2048) :
    flatRow ⟨R.val / 2048, hb⟩ ⟨R.val % 2048, ht⟩ = R :=
  Fin.ext (by show R.val / 2048 * 2048 + R.val % 2048 = R.val; omega)

/-- The reference's first result is the residual. -/
theorem ref_main_x :
    val_main_v51 (F := Ideal) x0 x1 x2 x3 x4 x6 x7 x8
      = fun i => xArr (mergedArr x0 x1 x2 x6 x7) x3 x4 x8 (i 0) (i 1) := by
  funext i
  obtain ⟨R, d, rfl⟩ : ∃ (R : Fin 8192) (d : Fin 2048), i = ix2 R d :=
    ⟨i 0, i 1, by funext a; match a with | ⟨0, _⟩ => rfl | ⟨1, _⟩ => rfl⟩
  have e : idx_main_v51 (ix2 R d) = ix3 ⟨R.val / 2048, by omega⟩ ⟨R.val % 2048, by omega⟩ d := by
    funext a
    match a with
    | ⟨0, _⟩ => exact Fin.ext (by show (R.val * 2048 + d.val) / 4194304 = R.val / 2048; omega)
    | ⟨1, _⟩ => exact Fin.ext (by show (R.val * 2048 + d.val) / 2048 % 2048 = R.val % 2048; omega)
    | ⟨2, _⟩ => exact Fin.ext (by show (R.val * 2048 + d.val) % 2048 = d.val; omega)
  rw [val_main_v51_apply, e, ref_x, flatRow_split]
  rfl

/-- The reference's second result is the modulated norm. -/
theorem ref_main_h :
    val_main_v53 (F := Ideal) x0 x1 x2 x3 x4 x5 x6 x7 x8
      = fun i => hArr (xArr (mergedArr x0 x1 x2 x6 x7) x3 x4 x8) x4 x5 (i 0) (i 1) := by
  funext i
  obtain ⟨R, d, rfl⟩ : ∃ (R : Fin 8192) (d : Fin 2048), i = ix2 R d :=
    ⟨i 0, i 1, by funext a; match a with | ⟨0, _⟩ => rfl | ⟨1, _⟩ => rfl⟩
  have e : idx_main_v52 (ix2 R d) = ix3 ⟨R.val / 2048, by omega⟩ ⟨R.val % 2048, by omega⟩ d := by
    funext a
    match a with
    | ⟨0, _⟩ => exact Fin.ext (by show (R.val * 2048 + d.val) / 4194304 = R.val / 2048; omega)
    | ⟨1, _⟩ => exact Fin.ext (by show (R.val * 2048 + d.val) / 2048 % 2048 = R.val % 2048; omega)
    | ⟨2, _⟩ => exact Fin.ext (by show (R.val * 2048 + d.val) % 2048 = d.val; omega)
  rw [val_main_v53_apply, val_main_v52_apply, e, ref_h, flatRow_split]
  rfl

end Cert.OutProj

end

end
-- ==== Proof.OutClaims.lean ====
/-
  The claims about the output projection: the runs read at whole arrays, and the claims themselves.
-/
module

public import proofs.«01_k».proof.Defs
public import proofs.«01_k».proof.Proof.OutRef
public import proofs.«01_k».proof.Proof.Gen.Kernel3.Frame
public import Idealize.ShloMosaic.Lib.Quiescent

@[expose] public section

set_option maxRecDepth 16384

noncomputable section

namespace Cert.OutProj

open Idealize.ShloMosaic Idealize.ShloMosaic.TcCoe Idealize.SL.Sem

/-- The output projection's kernel runs and leaves its arguments, at the machine's floats. -/
theorem frame_p : Cert.quiescent_Kernel3 := fun m ρ _ => Cert.Kernel3.Gen.frame m ρ
/-- The same, at exact values. -/
theorem frame_pi : Cert.quiescent_Kernel3Ideal := fun m ρ _ => Cert.Kernel3Ideal.Gen.frame m ρ
/-- The reference runs and leaves its arguments. -/
theorem frame_ri : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- Nothing was replaced in the output projection. -/
theorem preserves : Cert.preserves_Kernel3_Kernel3Ideal := trivial

/-- Kernel and reference end with the same residual and the same modulated norm. -/
theorem algebraic : Cert.algebraic_Kernel3Ideal_Reference3Ideal := by
  intro m ρ m' ρ' _ hagree
  refine ⟨fun c => specX m c, fun c => specH m c, ?_, ?_⟩
  · exact (θ_run Cert.Kernel3Ideal.defs _ _).mono
      (fun _ h c => ⟨(h c).1.trans (final_x m c), (h c).2.1.trans (final_h m c), (h c).2.2⟩)
      (Cert.Kernel3Ideal.Value.run_blocks (F := Ideal) m ρ)
  · refine (θ_run Cert.Reference3Ideal.defs _ _).mono (fun _ h c => ⟨(h c).1.trans ?_, (h c).2.1.trans ?_, (h c).2.2⟩)
      (Cert.Reference3Ideal.Value.run (F := Ideal) m' ρ')
    · obtain ⟨e0, e1, e2, e3, e4, e5, e6, e7, e8⟩ := hagree c
      rw [Cert.Reference3Ideal.Read.val_main_v51_eq, e0, e1, e2, e3, e4, e6, e7, e8]
      exact ref_main_x _ _ _ _ _ _ _ _
    · obtain ⟨e0, e1, e2, e3, e4, e5, e6, e7, e8⟩ := hagree c
      rw [Cert.Reference3Ideal.Read.val_main_v53_eq, e0, e1, e2, e3, e4, e5, e6, e7, e8]
      exact ref_main_h _ _ _ _ _ _ _ _ _

end Cert.OutProj

end

end
-- ==== Proof.QkvTriples.lean ====
/-
  The body of the first input projection, one triple for each of its four kinds of step: what it reads, what it leaves.
-/
module

public import proofs.«01_k».proof.Proof.Gen.Kernel4Ideal.Skeleton
public import proofs.«01_k».proof.Proof.Gen.Kernel4Ideal.Frame
public import Idealize.ShloMosaic.Lib.Pipeline.Value

@[expose] public section

set_option maxRecDepth 16384

noncomputable section

namespace Cert.Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the stores leave -/

/-- A store of a whole buffer leaves what was stored. -/
theorem read_stored {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans (View.canon_unit_zero h inb w)

/-- A load of a whole buffer reads its contents. -/
theorem load_whole {κ : Kind} {sp : Space} {S : Shape} {e : EltTy} {M : Memref sig κ sp S e} (hM : M.IsWhole) {off : Fin S.rank → Nat}
    (h : off = fun _ => 0) (inb : ∀ a, off a + S.size a ≤ S.size a) (x : S.Idx → Elt F e) :
    M.view.readAt (Elt F) (Rect.unit off S.size inb).toLoadRect (hM.unread x) = x :=
  (congrArg (fun y => View.ld y (Rect.unit off S.size inb)) (hM.read_unread x)).trans (View.ld_unit_zero h inb x)

theorem zero2 : (![0, 0] : Fin 2 → Nat) = fun _ => 0 := by funext a; match a with | ⟨0, _⟩ => rfl | ⟨1, _⟩ => rfl
theorem zero3 : (![0, 0, 0] : Fin 3 → Nat) = fun _ => 0 := by funext a; match a with | ⟨0, _⟩ => rfl | ⟨1, _⟩ => rfl | ⟨2, _⟩ => rfl

/-- The columns of head `n`: `128 n … 128 n + 127`. -/
abbrev colRect (n : Fin 8) : Rect S1024x1024 :=
  Rect.unit (s := S1024x1024) ![0, 128 * n.val] S1024x128.size (fun a => by
    match a with
    | ⟨0, _⟩ => exact (by omega : 0 + 1024 ≤ 1024)
    | ⟨1, _⟩ => exact (by omega : 128 * n.val + 128 ≤ 1024))

/-- The cache rows of head `n`: every eighth one from row `n`. -/
abbrev rowRect (n : Fin 8) : Rect S1x8192x128 :=
  ⟨⟨![0, n.val, 0], S1x1024x128.size, ![1, 8, 1], fun a => by
    match a with
    | ⟨0, _⟩ => exact .inr (by decide : 0 + 1 * (1 - 1) < 1)
    | ⟨1, _⟩ => exact .inr (by show n.val + 8 * (1024 - 1) < 8192; omega)
    | ⟨2, _⟩ => exact .inr (by decide : 0 + 1 * (128 - 1) < 128)⟩, spos_1_8_1⟩

/-- The eight heads' stores into a block of columns, the last first. -/
abbrev colPieces (p : Fin 8 → FVec F S1024x128 .bf16) : List (View.Piece (Elt F) S1024x1024 .bf16) :=
  [⟨colRect 7, p 7⟩, ⟨colRect 6, p 6⟩, ⟨colRect 5, p 5⟩, ⟨colRect 4, p 4⟩, ⟨colRect 3, p 3⟩, ⟨colRect 2, p 2⟩, ⟨colRect 1, p 1⟩, ⟨colRect 0, p 0⟩]

/-- The eight heads' stores into a block of cache rows, the last first. -/
abbrev rowPieces (p : Fin 8 → FVec F S1x1024x128 .f32) : List (View.Piece (Elt F) S1x8192x128 .f32) :=
  [⟨rowRect 7, p 7⟩, ⟨rowRect 6, p 6⟩, ⟨rowRect 5, p 5⟩, ⟨rowRect 4, p 4⟩, ⟨rowRect 3, p 3⟩, ⟨rowRect 2, p 2⟩, ⟨rowRect 1, p 1⟩, ⟨rowRect 0, p 0⟩]

/-- Each head's store is in the list. -/
theorem mem_colPieces (p : Fin 8 → FVec F S1024x128 .bf16) (n : Fin 8) : (⟨colRect n, p n⟩ : View.Piece (Elt F) S1024x1024 .bf16) ∈ colPieces p := by
  fin_cases n <;> simp [colPieces]
@[inherit_doc mem_colPieces] theorem mem_rowPieces (p : Fin 8 → FVec F S1x1024x128 .f32) (n : Fin 8) :
    (⟨rowRect n, p n⟩ : View.Piece (Elt F) S1x8192x128 .f32) ∈ rowPieces p := by
  fin_cases n <;> simp [rowPieces]

/-- Every column is some head's. -/
theorem cols_cover (p : Fin 8 → FVec F S1024x128 .bf16) (y : S1024x1024.Idx) : ∃ q ∈ colPieces p, y ∈ q.1.set := by
  have h0 : (y 0).val < 1024 := (y 0).isLt
  have h1 : (y 1).val < 1024 := (y 1).isLt
  refine ⟨_, mem_colPieces p ⟨(y 1).val / 128, by omega⟩, ?_⟩
  rw [Rect.mem_set_unit]
  intro a
  match a with
  | ⟨0, _⟩ => exact ⟨Nat.zero_le _, by show (y 0).val < 0 + 1024; omega⟩
  | ⟨1, _⟩ => exact ⟨by show 128 * ((y 1).val / 128) ≤ (y 1).val; omega, by show (y 1).val < 128 * ((y 1).val / 128) + 128; omega⟩

/-- Every cache row is some head's. -/
theorem rows_cover (p : Fin 8 → FVec F S1x1024x128 .f32) (y : S1x8192x128.Idx) : ∃ q ∈ rowPieces p, y ∈ q.1.set := by
  have h0 : (y 0).val < 1 := (y 0).isLt
  have h1 : (y 1).val < 8192 := (y 1).isLt
  have h2 : (y 2).val < 128 := (y 2).isLt
  refine ⟨_, mem_rowPieces p ⟨(y 1).val % 8, by omega⟩, ?_⟩
  rw [LoadRect.mem_set]
  intro a
  match a with
  | ⟨0, _⟩ => exact ⟨0, by show 0 < 1; omega, by show (y 0).val = 0 + 1 * 0; omega⟩
  | ⟨1, _⟩ => exact ⟨(y 1).val / 8, by show (y 1).val / 8 < 1024; omega, by show (y 1).val = (y 1).val % 8 + 8 * ((y 1).val / 8); omega⟩
  | ⟨2, _⟩ => exact ⟨(y 2).val, h2, by show (y 2).val = 0 + 1 * (y 2).val; omega⟩

/-- What the eight heads' stores leave in a block of columns. -/
def colOut (p : Fin 8 → FVec F S1024x128 .bf16) : Vec F S1024x1024 .bf16 := View.canon (colPieces p)
/-- What the eight heads' stores leave in a block of cache rows. -/
def rowOut (p : Fin 8 → FVec F S1x1024x128 .f32) : Vec F S1x8192x128 .f32 := View.canon (rowPieces p)

/-- The eight heads' columns, read back. -/
theorem read_cols {sp : Space} (v : View sig .tc sp S1024x1024 .bf16) (f : v.ty.Contents (Elt F)) (p : Fin 8 → FVec F S1024x128 .bf16) :
    v.read (Elt F) (v.writes (Elt F) f (colPieces p)) = colOut p := View.read_writes_eq_canon v f _ (cols_cover p)
/-- The eight heads' cache rows, read back. -/
theorem read_rows {sp : Space} (v : View sig .tc sp S1x8192x128 .f32) (f : v.ty.Contents (Elt F)) (p : Fin 8 → FVec F S1x1024x128 .f32) :
    v.read (Elt F) (v.writes (Elt F) f (rowPieces p)) = rowOut p := View.read_writes_eq_canon v f _ (rows_cover p)

/-! ## What a step computes -/

/-- The product of a step: the rows of activations with the step's rows of weights. -/
abbrev prod (x0 : Vec F S1024x2048 .bf16) (x1 : Vec F S1x1024x2048 .bf16) : FVec F S1024x1024 .f32 := k0_pay70 x0 x1

/-- Head `n`'s columns of a product. -/
def headOf (z : FVec F S1024x1024 .f32) (n : Fin 8) : FVec F S1024x128 .f32 :=
  extractStridedSlice S1024x128 ![0, 128 * n.val] z ⟨rfl, fun a => by
    match a with
    | ⟨0, _⟩ => exact (by omega : 0 + 1024 ≤ 1024)
    | ⟨1, _⟩ => exact (by omega : 128 * n.val + 128 ≤ 1024)⟩

/-- A head's root-mean-square norm under its gains. -/
def normHead (a : FVec F S1024x128 .f32) (g : Vec F S1x1x128 .f32) : FVec F S1024x128 .f32 :=
  mulf (mulf a (broadcastTo S1024x128 (rsqrt (addf
    (divf (shapeCast S1024x1 (multiReduction .add [1] S1024 (mulf a a) 0x00000000#32 reduces_S1024x128_S1024 (.inl rfl) rfl) shapeCasts_S1024_S1024x1)
      (broadcast S1024x1 (Scalar.ofBits .f32 0x43000000#32)))
    (broadcast S1024x1 (Scalar.ofBits .f32 0x358637BD#32)))) broadcasts_S1024x1_S1024x128))
    (broadcastTo S1024x128 (shapeCast S1x128 g shapeCasts_S1x1x128_S1x128) broadcasts_S1x128_S1024x128)

/-- A head's queries: the norm, scaled. -/
def qHead (z : FVec F S1024x1024 .f32) (g : Vec F S1x1x128 .f32) (n : Fin 8) : FVec F S1024x128 .bf16 :=
  truncf .bf16 (mulf (normHead (headOf z n) g) (broadcast S1024x128 (Scalar.ofBits .f32 0x3E0293EE#32))) bitsLt_bf16_f32
/-- A head's keys, as the cache keeps them. -/
def kHead (z : FVec F S1024x1024 .f32) (g : Vec F S1x1x128 .f32) (n : Fin 8) : FVec F S1x1024x128 .f32 :=
  shapeCast S1x1024x128 (normHead (headOf z n) g) shapeCasts_S1024x128_S1x1024x128
/-- A head's keys, rounded. -/
def kbHead (z : FVec F S1024x1024 .f32) (g : Vec F S1x1x128 .f32) (n : Fin 8) : FVec F S1024x128 .bf16 :=
  truncf .bf16 (normHead (headOf z n) g) bitsLt_bf16_f32
/-- A head's values, as the cache keeps them. -/
def vHead (z : FVec F S1024x1024 .f32) (n : Fin 8) : FVec F S1x1024x128 .f32 :=
  shapeCast S1x1024x128 (headOf z n) shapeCasts_S1024x128_S1x1024x128
/-- A head's values, rounded. -/
def vbHead (z : FVec F S1024x1024 .f32) (n : Fin 8) : FVec F S1024x128 .bf16 :=
  truncf .bf16 (headOf z n) bitsLt_bf16_f32

variable (c : Dev nD) (i : grid0.Coords)
  (arg2 : Memref sig .tc .vmem S1024x2048 .bf16) (harg2 : arg2.IsWhole) (arg3 : Memref sig .tc .vmem S1x1024x2048 .bf16) (harg3 : arg3.IsWhole)
  (arg4 : Memref sig .tc .vmem S1x128x2048 .bf16) (harg4 : arg4.IsWhole) (arg5 : Memref sig .tc .vmem S1x1x128 .f32) (harg5 : arg5.IsWhole)
  (arg6 : Memref sig .tc .vmem S1x1x128 .f32) (harg6 : arg6.IsWhole) (arg7 : Memref sig .tc .vmem S1x1x128 .f32) (harg7 : arg7.IsWhole)
  (arg8 : Memref sig .tc .hbm S2x8192x8 .f32) (harg8 : arg8.IsWhole) (arg9 : Memref sig .tc .hbm S2x65536x128 .f32) (harg9 : arg9.IsWhole)
  (arg10 : Memref sig .tc .hbm S2x65536x128 .f32) (harg10 : arg10.IsWhole)
  (arg11 : Memref sig .tc .vmem S1024x128 .f32) (harg11 : arg11.IsWhole) (arg12 : Memref sig .tc .vmem S1x1024x8 .f32) (harg12 : arg12.IsWhole)
  (arg13 : Memref sig .tc .vmem S1024x1024 .bf16) (harg13 : arg13.IsWhole) (arg14 : Memref sig .tc .vmem S1x8192x128 .f32) (harg14 : arg14.IsWhole)
  (arg15 : Memref sig .tc .vmem S1x8192x128 .f32) (harg15 : arg15.IsWhole) (arg16 : Memref sig .tc .vmem S1024x1024 .bf16) (harg16 : arg16.IsWhole)
  (arg17 : Memref sig .tc .vmem S1024x1024 .bf16) (harg17 : arg17.IsWhole) (arg18 : Memref sig .tc .vmem S1024x1024 .bf16) (harg18 : arg18.IsWhole)
  (x0 : Vec F S1024x2048 .bf16) (x1 : Vec F S1x1024x2048 .bf16) (x2 : Vec F S1x128x2048 .bf16) (x3 x4 x5 : Vec F S1x1x128 .f32)

set_option maxHeartbeats 2000000 in
/-- The first step: the forget gates, and the queries. -/
theorem step_q (h1 : k0_cond1 i = 1#1) (h2 : ¬ k0_cond2 i = 1#1) (h3 : ¬ k0_cond3 i = 1#1) (h4 : ¬ k0_cond4 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg11 fullShare (k0_pay19 x0 x2 x3) ∗ owns (c : Thread nD τ) arg12 fullShare (k0_pay20 x0 x2 x3) ∗ owns (c : Thread nD τ) arg13 fullShare (colOut (qHead (prod x0 x1) x4))) -∗ K ⟨⟩))
      ⊢ wp frame (wpE (defs₀ (F := F)) Variants.none c none) E (cc0_in_proj_a i arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18) K := by
  simp only [cc0_in_proj_a_eq_skeleton]; unfold cc0_in_proj_a_skel
  dsimp only
  rw [dif_pos h1, dif_neg h2, dif_neg h3, dif_neg h4]
  sl_open_parts
  unfold owns
  iintro ⟨⟨%f2, %e2, H2⟩, ⟨%f3, %e3, H3⟩, ⟨%f4, %e4, H4⟩, ⟨%f5, %e5, H5⟩, ⟨%f6, %e6, H6⟩, ⟨%d11, %f11, -, H11⟩, ⟨%d12, %f12, -, H12⟩, ⟨%d13, %f13, -, H13⟩, Hk⟩
  obtain rfl := harg2.eq_unread e2; obtain rfl := harg3.eq_unread e3; obtain rfl := harg4.eq_unread e4; obtain rfl := harg5.eq_unread e5; obtain rfl := harg6.eq_unread e6
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H11]
  · iexists _; isplitr; swap; · iexact H11
    ipureintro
    simp only [load_whole (S := S1024x2048) harg2 zero2, load_whole (S := S1x1024x2048) harg3 zero3, load_whole (S := S1x128x2048) harg4 zero3, load_whole (S := S1x1x128) harg5 zero3, load_whole (S := S1x1x128) harg6 zero3]
    exact read_stored (S := S1024x128) _ _ zero2 _ _
  isplitl [H12]
  · iexists _; isplitr; swap; · iexact H12
    ipureintro
    simp only [load_whole (S := S1024x2048) harg2 zero2, load_whole (S := S1x1024x2048) harg3 zero3, load_whole (S := S1x128x2048) harg4 zero3, load_whole (S := S1x1x128) harg5 zero3, load_whole (S := S1x1x128) harg6 zero3]
    exact read_stored (S := S1x1024x8) _ _ zero3 _ _
  iexists _; isplitr; swap; · iexact H13
  ipureintro
  simp only [load_whole (S := S1024x2048) harg2 zero2, load_whole (S := S1x1024x2048) harg3 zero3, load_whole (S := S1x128x2048) harg4 zero3, load_whole (S := S1x1x128) harg5 zero3, load_whole (S := S1x1x128) harg6 zero3]
  exact read_cols _ _ (qHead (prod x0 x1) x4)

set_option maxHeartbeats 2000000 in
/-- The second step: the keys, into the cache and rounded. -/
theorem step_k (h1 : ¬ k0_cond1 i = 1#1) (h2 : k0_cond2 i = 1#1) (h3 : ¬ k0_cond3 i = 1#1) (h4 : ¬ k0_cond4 i = 1#1) (E : Set ℕ) (K : PUnit → sProp 𝕄) :
    iprop(owns (c : Thread nD τ) arg2 fullShare x0 ∗ owns (c : Thread nD τ) arg3 fullShare x1 ∗ owns (c : Thread nD τ) arg7 fullShare x5
        ∗ (∃ d, owns (c : Thread nD τ) arg14 fullShare d) ∗ (∃ d, owns (c : Thread nD τ) arg16 fullShare d)
        ∗ (iprop(owns (c : Thread nD τ) arg2 fullShare x0 ∗ owns (c : Thread nD τ) arg3 fullShare x1 ∗ owns (c : Thread nD τ) arg7 fullShare x5
            ∗ owns (c : Thread nD τ) arg14 fullShare (rowOut (kHead (prod x0 x1) x5)) ∗ owns (c : Thread nD τ) arg16 fullShare (colOut (kbHead (prod x0 x1) x5))) -∗ K ⟨⟩))
      ⊢ wp frame (wpE (defs₀ (F := F)) Variants.none c none) E (cc0_in_proj_a i arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18) K := by
  simp only [cc0_in_proj_a_eq_skeleton]; unfold cc0_in_proj_a_skel
  dsimp only
  rw [dif_neg h1, dif_pos h2, dif_neg h3, dif_neg h4]
  sl_open_parts
  unfold owns
  iintro ⟨⟨%f2, %e2, H2⟩, ⟨%f3, %e3, H3⟩, ⟨%f7, %e7, H7⟩, ⟨%d14, %f14, -, H14⟩, ⟨%d16, %f16, -, H16⟩, Hk⟩
  obtain rfl := harg2.eq_unread e2; obtain rfl := harg3.eq_unread e3; obtain rfl := harg7.eq_unread e7
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H7]
  · iexists _; isplitr; · ipureintro; exact harg7.read_unread _
    iexact H7
  isplitl [H14]
  · iexists _; isplitr; swap; · iexact H14
    ipureintro
    simp only [load_whole (S := S1024x2048) harg2 zero2, load_whole (S := S1x1024x2048) harg3 zero3, load_whole (S := S1x1x128) harg7 zero3]
    exact read_rows _ _ (kHead (prod x0 x1) x5)
  iexists _; isplitr; swap; · iexact H16
  ipureintro
  simp only [load_whole (S := S1024x2048) harg2 zero2, load_whole (S := S1x1024x2048) harg3 zero3, load_whole (S := S1x1x128) harg7 zero3]
  exact read_cols _ _ (kbHead (prod x0 x1) x5)

set_option maxHeartbeats 2000000 in
/-- The third step: the values, into the cache and rounded. -/
theorem step_v (h1 : ¬ k0_cond1 i = 1#1) (h2 : ¬ k0_cond2 i = 1#1) (h3 : k0_cond3 i = 1#1) (h4 : ¬ k0_cond4 i = 1#1) (E : Set ℕ) (K : PUnit → sProp 𝕄) :
    iprop(owns (c : Thread nD τ) arg2 fullShare x0 ∗ owns (c : Thread nD τ) arg3 fullShare x1
        ∗ (∃ d, owns (c : Thread nD τ) arg15 fullShare d) ∗ (∃ d, owns (c : Thread nD τ) arg17 fullShare d)
        ∗ (iprop(owns (c : Thread nD τ) arg2 fullShare x0 ∗ owns (c : Thread nD τ) arg3 fullShare x1
            ∗ owns (c : Thread nD τ) arg15 fullShare (rowOut (vHead (prod x0 x1))) ∗ owns (c : Thread nD τ) arg17 fullShare (colOut (vbHead (prod x0 x1)))) -∗ K ⟨⟩))
      ⊢ wp frame (wpE (defs₀ (F := F)) Variants.none c none) E (cc0_in_proj_a i arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18) K := by
  simp only [cc0_in_proj_a_eq_skeleton]; unfold cc0_in_proj_a_skel
  dsimp only
  rw [dif_neg h1, dif_neg h2, dif_pos h3, dif_neg h4]
  sl_open_parts
  unfold owns
  iintro ⟨⟨%f2, %e2, H2⟩, ⟨%f3, %e3, H3⟩, ⟨%d15, %f15, -, H15⟩, ⟨%d17, %f17, -, H17⟩, Hk⟩
  obtain rfl := harg2.eq_unread e2; obtain rfl := harg3.eq_unread e3
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H15]
  · iexists _; isplitr; swap; · iexact H15
    ipureintro
    simp only [load_whole (S := S1024x2048) harg2 zero2, load_whole (S := S1x1024x2048) harg3 zero3]
    exact read_rows _ _ (vHead (prod x0 x1))
  iexists _; isplitr; swap; · iexact H17
  ipureintro
  simp only [load_whole (S := S1024x2048) harg2 zero2, load_whole (S := S1x1024x2048) harg3 zero3]
  exact read_cols _ _ (vbHead (prod x0 x1))

set_option maxHeartbeats 2000000 in
/-- The fourth step: the branch's gate. -/
theorem step_g (h1 : ¬ k0_cond1 i = 1#1) (h2 : ¬ k0_cond2 i = 1#1) (h3 : ¬ k0_cond3 i = 1#1) (h4 : k0_cond4 i = 1#1) (E : Set ℕ) (K : PUnit → sProp 𝕄) :
    iprop(owns (c : Thread nD τ) arg2 fullShare x0 ∗ owns (c : Thread nD τ) arg3 fullShare x1
        ∗ (∃ d, owns (c : Thread nD τ) arg18 fullShare d)
        ∗ (iprop(owns (c : Thread nD τ) arg2 fullShare x0 ∗ owns (c : Thread nD τ) arg3 fullShare x1
            ∗ owns (c : Thread nD τ) arg18 fullShare (k0_pay18 x0 x1)) -∗ K ⟨⟩))
      ⊢ wp frame (wpE (defs₀ (F := F)) Variants.none c none) E (cc0_in_proj_a i arg2 harg2 arg3 harg3 arg4 harg4 arg5 harg5 arg6 harg6 arg7 harg7
          arg8 harg8 arg9 harg9 arg10 harg10 arg11 harg11 arg12 harg12 arg13 harg13 arg14 harg14 arg15 harg15 arg16 harg16 arg17 harg17 arg18 harg18) K := by
  simp only [cc0_in_proj_a_eq_skeleton]; unfold cc0_in_proj_a_skel
  dsimp only
  rw [dif_neg h1, dif_neg h2, dif_neg h3, dif_pos h4]
  unfold owns
  iintro ⟨⟨%f2, %e2, H2⟩, ⟨%f3, %e3, H3⟩, ⟨%d18, %f18, -, H18⟩, Hk⟩
  obtain rfl := harg2.eq_unread e2; obtain rfl := harg3.eq_unread e3
  sl_exec
  sl_step
  iapply Hk
  isplitl [H2]
  · iexists _; isplitr; · ipureintro; exact harg2.read_unread _
    iexact H2
  isplitl [H3]
  · iexists _; isplitr; · ipureintro; exact harg3.read_unread _
    iexact H3
  iexists _; isplitr; swap; · iexact H18
  ipureintro
  simp only [load_whole (S := S1024x2048) harg2 zero2, load_whole (S := S1x1024x2048) harg3 zero3]
  exact read_stored (S := S1024x1024) _ _ zero2 _ _

end Cert.Qkv

end

end
-- ==== Proof.QkvData.lean ====
/-
  The first input projection's grid, point by point, and what its buffers hold: 8 rows of blocks, 4 column steps a row.
  A buffer keeps what its row's step stored until the row's last step writes it back.
-/
module

public import proofs.«01_k».proof.Proof.QkvTriples
public import Idealize.ShloMosaic.Lib.Pipeline.TableIdle

@[expose] public section

set_option maxRecDepth 16384

noncomputable section

namespace Cert.Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The grid -/

/-- Which steps take which branch. -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
@[inherit_doc cond1_iff] theorem cond2_iff : ∀ t : Fin cfg0.N, k0_cond2 (grid0.coords t) = 1#1 ↔ t.val % 4 = 1 :=
  (by decide +kernel : ∀ t : Fin grid0.N, k0_cond2 (grid0.coords t) = 1#1 ↔ t.val % 4 = 1)
@[inherit_doc cond1_iff] theorem cond3_iff : ∀ t : Fin cfg0.N, k0_cond3 (grid0.coords t) = 1#1 ↔ t.val % 4 = 2 :=
  (by decide +kernel : ∀ t : Fin grid0.N, k0_cond3 (grid0.coords t) = 1#1 ↔ t.val % 4 = 2)
@[inherit_doc cond1_iff] theorem cond4_iff : ∀ t : Fin cfg0.N, k0_cond4 (grid0.coords t) = 1#1 ↔ t.val % 4 = 3 :=
  (by decide +kernel : ∀ t : Fin grid0.N, k0_cond4 (grid0.coords t) = 1#1 ↔ t.val % 4 = 3)

/-- At which step of a row each output is stored. -/
def stepOf (w : Fin cfg0.W) : ℕ := ![0, 0, 0, 0, 0, 0, 0, 0, 0, 1, 2, 1, 2, 3] w

/-- Elsewhere an output is left alone. -/
theorem idle_out : ∀ (w : Fin cfg0.W) (_ : 6 ≤ w.val) (t : Fin cfg0.N), cfg0.idle w (cfg0.grid.coords t) = !decide (t.val % 4 = stepOf w) :=
  (by decide +kernel : ∀ (w : Fin 14) (_ : 6 ≤ w.val) (t : Fin grid0.N), idle0 w (grid0.coords t) = !decide (t.val % 4 = ![0, 0, 0, 0, 0, 0, 0, 0, 0, 1, 2, 1, 2, 3] w))

/-- An output is written back at its row's last step. -/
theorem flush_out (w : Fin cfg0.W) (hw : 6 ≤ w.val) (t : Fin cfg0.N) : (cfg0.win w).flush t = decide (t.val % 4 = 3) := by
  rw [Bool.eq_iff_iff, decide_eq_true_eq]
  match w, hw with
  | ⟨6, _⟩, _ => exact flush0_6 t
  | ⟨7, _⟩, _ => exact flush0_7 t
  | ⟨8, _⟩, _ => exact flush0_8 t
  | ⟨9, _⟩, _ => exact flush0_9 t
  | ⟨10, _⟩, _ => exact flush0_10 t
  | ⟨11, _⟩, _ => exact flush0_11 t
  | ⟨12, _⟩, _ => exact flush0_12 t
  | ⟨13, _⟩, _ => exact flush0_13 t

/-- The outputs are outputs, -/
theorem out_isOut (w : Fin cfg0.W) (hw : 6 ≤ w.val) : (cfg0.win w).isOut = true := by
  match w, hw with
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl

/-- stored in whole blocks. -/
theorem out_clip (w : Fin cfg0.W) (hw : 6 ≤ w.val) (i : cfg0.grid.Coords) (a) : (cfg0.win w).clip i a = none := by
  match w, hw with
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl

/-- Where an output's buffer holds nothing of its row yet. -/
theorem fresh_out (w : Fin cfg0.W) (hw : 6 ≤ w.val) (n : ℕ) (h : n ≤ cfg0.N) : cfg0.fresh w n = decide (n % 4 ≤ stepOf w) :=
  cfg0.fresh_tab w (fun n => decide (n % 4 ≤ stepOf w)) rfl (fun t => by
    have hs : stepOf w ≤ 3 := (by decide : ∀ w : Fin 14, ![0, 0, 0, 0, 0, 0, 0, 0, 0, 1, 2, 1, 2, 3] w ≤ 3) w
    rw [flush_out w hw, idle_out w hw, Bool.eq_iff_iff]
    simp only [decide_eq_true_eq, Bool.or_eq_true, Bool.and_eq_true, Bool.not_eq_true', decide_eq_false_iff_not]
    omega) n h

/-! ## What the buffers hold -/

variable (m : (ℓ : Loc nD τ sig) → Buf (Elt F) ℓ) (c : Dev nD)

/-- Step `n` of row `r` of blocks. -/
def pt (r : Fin 8) (n : Fin 4) : Fin cfg0.N := ⟨r.val * 4 + n.val, (by omega : r.val * 4 + n.val < 32)⟩
/-- The row of a step. -/
def rowOf (t : Fin cfg0.N) : Fin 8 := ⟨t.val / 4, by have h : t.val < 32 := t.isLt; omega⟩

/-- The product of step `n` of a row. -/
abbrev zAt (r : Fin 8) (n : Fin 4) : FVec F S1024x1024 .f32 := prod (iblk m c 0 (pt r n)) (iblk m c 1 (pt r n))
/-- The forget gates of a row. -/
def lfBlk (r : Fin 8) : Vec F S1024x128 .f32 := k0_pay19 (iblk m c 0 (pt r 0)) (iblk m c 2 (pt r 0)) (iblk m c 3 (pt r 0))
/-- The first eight of them, as the cache keeps them. -/
def lf8Blk (r : Fin 8) : Vec F S1x1024x8 .f32 := k0_pay20 (iblk m c 0 (pt r 0)) (iblk m c 2 (pt r 0)) (iblk m c 3 (pt r 0))
/-- The queries of a row. -/
def qBlk (r : Fin 8) : Vec F S1024x1024 .bf16 := colOut (qHead (zAt m c r 0) (iblk m c 4 (pt r 0)))
/-- The keys of a row, as the cache keeps them. -/
def kBlk (r : Fin 8) : Vec F S1x8192x128 .f32 := rowOut (kHead (zAt m c r 1) (iblk m c 5 (pt r 1)))
/-- The values of a row, as the cache keeps them. -/
def vBlk (r : Fin 8) : Vec F S1x8192x128 .f32 := rowOut (vHead (zAt m c r 2))
/-- The keys of a row, rounded. -/
def kbBlk (r : Fin 8) : Vec F S1024x1024 .bf16 := colOut (kbHead (zAt m c r 1) (iblk m c 5 (pt r 1)))
/-- The values of a row, rounded. -/
def vbBlk (r : Fin 8) : Vec F S1024x1024 .bf16 := colOut (vbHead (zAt m c r 2))
/-- The gate of a row. -/
def gBlk (r : Fin 8) : Vec F S1024x1024 .bf16 := k0_pay18 (iblk m c 0 (pt r 3)) (iblk m c 1 (pt r 3))

/-- The proof data: inputs in place, outputs as stored by their row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => lfBlk m c (rowOf t)
    | ⟨7, _⟩ => lf8Blk m c (rowOf t)
    | ⟨8, _⟩ => qBlk m c (rowOf t)
    | ⟨9, _⟩ => kBlk m c (rowOf t)
    | ⟨10, _⟩ => vBlk m c (rowOf t)
    | ⟨11, _⟩ => kbBlk m c (rowOf t)
    | ⟨12, _⟩ => vbBlk m c (rowOf t)
    | ⟨13, _⟩ => gBlk m c (rowOf t)
  Φ _ := Pipeline.ΦA spec0 c
  q _ := fullShare
  owed _ := 0

theorem A_eq (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = lfBlk m c (rowOf t) := by dsimp only [dats]
theorem after_7 (t : Fin cfg0.N) : (dats m 0 c).after 7 t = lf8Blk m c (rowOf t) := by dsimp only [dats]
theorem after_8 (t : Fin cfg0.N) : (dats m 0 c).after 8 t = qBlk m c (rowOf t) := by dsimp only [dats]
theorem after_9 (t : Fin cfg0.N) : (dats m 0 c).after 9 t = kBlk m c (rowOf t) := by dsimp only [dats]
theorem after_10 (t : Fin cfg0.N) : (dats m 0 c).after 10 t = vBlk m c (rowOf t) := by dsimp only [dats]
theorem after_11 (t : Fin cfg0.N) : (dats m 0 c).after 11 t = kbBlk m c (rowOf t) := by dsimp only [dats]
theorem after_12 (t : Fin cfg0.N) : (dats m 0 c).after 12 t = vbBlk m c (rowOf t) := by dsimp only [dats]
theorem after_13 (t : Fin cfg0.N) : (dats m 0 c).after 13 t = gBlk m c (rowOf t) := by dsimp only [dats]

/-- Each input's buffer holds its block. -/
theorem before_0 (t : Fin cfg0.N) (d) : (dats m 0 c).before 0 t d = iblk m c 0 t :=
  before0_0_of m (dats m 0 c) (A_eq m c 0) (after_0 m c) t d
@[inherit_doc before_0] theorem before_1 (t : Fin cfg0.N) (d) : (dats m 0 c).before 1 t d = iblk m c 1 t :=
  before0_1_of m (dats m 0 c) (A_eq m c 1) (after_1 m c) t d
@[inherit_doc before_0] theorem before_2 (t : Fin cfg0.N) (d) : (dats m 0 c).before 2 t d = iblk m c 2 t :=
  before0_2_of m (dats m 0 c) (A_eq m c 2) (after_2 m c) t d
@[inherit_doc before_0] theorem before_3 (t : Fin cfg0.N) (d) : (dats m 0 c).before 3 t d = iblk m c 3 t :=
  before0_3_of m (dats m 0 c) (A_eq m c 3) (after_3 m c) t d
@[inherit_doc before_0] theorem before_4 (t : Fin cfg0.N) (d) : (dats m 0 c).before 4 t d = iblk m c 4 t :=
  before0_4_of m (dats m 0 c) (A_eq m c 4) (after_4 m c) t d
@[inherit_doc before_0] theorem before_5 (t : Fin cfg0.N) (d) : (dats m 0 c).before 5 t d = iblk m c 5 t :=
  before0_5_of m (dats m 0 c) (A_eq m c 5) (after_5 m c) t d

/-- Two steps of one row. -/
theorem rowOf_pred (t : Fin cfg0.N) (h : t.val % 4 ≠ 0) : rowOf (⟨t.val - 1, by omega⟩ : Fin cfg0.N) = rowOf t :=
  Fin.ext (by show (t.val - 1) / 4 = t.val / 4; omega)

/-- An output's contents are its row's. -/
theorem after_row (w : Fin cfg0.W) (hw : 6 ≤ w.val) (t t' : Fin cfg0.N) (h : rowOf t = rowOf t') : (dats m 0 c).after w t = (dats m 0 c).after w t' := by
  match w, hw with
  | ⟨6, _⟩, _ => dsimp only [dats]; rw [h]
  | ⟨7, _⟩, _ => dsimp only [dats]; rw [h]
  | ⟨8, _⟩, _ => dsimp only [dats]; rw [h]
  | ⟨9, _⟩, _ => dsimp only [dats]; rw [h]
  | ⟨10, _⟩, _ => dsimp only [dats]; rw [h]
  | ⟨11, _⟩, _ => dsimp only [dats]; rw [h]
  | ⟨12, _⟩, _ => dsimp only [dats]; rw [h]
  | ⟨13, _⟩, _ => dsimp only [dats]; rw [h]

/-- At its row's last step the buffer of an output stored earlier holds the row's contents. -/
theorem before_out (w : Fin cfg0.W) (hw : 6 ≤ w.val) (hs : stepOf w < 3) (t : Fin cfg0.N) (h : t.val % 4 = 3) (d) :
    (dats m 0 c).before w t d = (dats m 0 c).after w t := by
  rw [(dats m 0 c).before_out_traj w (out_isOut w hw) (out_clip w hw) (fun t _ _ hf => by
    rw [fresh_out w hw _ t.isLt.le] at hf
    exact after_row m c w hw _ _ (rowOf_pred t (by have := of_decide_eq_false hf; omega)).symm) t.val t rfl d,
    fresh_out w hw _ t.isLt.le, if_neg (by rw [decide_eq_true_eq]; omega)]
  exact after_row m c w hw _ _ (rowOf_pred t (by omega))

/-! ## What a step leaves, window by window -/

/-- A window not idle at a step is left at what the step leaves there. -/
theorem leaves_live (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- An output stored at a step is left at what was stored. -/
theorem leaves_out (w : Fin cfg0.W) (hw : 6 ≤ w.val) (t : Fin cfg0.N) (h : t.val % 4 = stepOf w) :
    (dats m 0 c).leavesExact w t = owns (c : Thread nD τ) ((cfg0.win w).stage (cfg0.slots t w)) fullShare ((dats m 0 c).after w t) :=
  leaves_live m c w t (by rw [idle_out w hw, decide_eq_true h]; rfl)

/-- An output not stored at a step is left as it was found: at its row's last step it holds its row's contents. -/
theorem leaves_kept (w : Fin cfg0.W) (hw : 6 ≤ w.val) (t : Fin cfg0.N) (h : t.val % 4 ≠ stepOf w) (d) :
    owns (c : Thread nD τ) ((cfg0.win w).stage (cfg0.slots t w)) fullShare ((dats m 0 c).before w t d) ⊢ (dats m 0 c).leavesExact w t := by
  have hs : stepOf w ≤ 3 := (by decide : ∀ w : Fin 14, ![0, 0, 0, 0, 0, 0, 0, 0, 0, 1, 2, 1, 2, 3] w ≤ 3) w
  unfold Dat.leavesExact; rw [idle_out w hw, decide_eq_false h, Bool.not_false]
  cases hf : (cfg0.win w).flush t
  · dsimp only; iintro H; iexists d; iexact H
  · have h3 : t.val % 4 = 3 := by rw [flush_out w hw, decide_eq_true_eq] at hf; exact hf
    dsimp only; rw [before_out m c w hw (by omega) t h3]

end Cert.Qkv

end

end
-- ==== Proof.QkvBlock.lean ====
/-
  A step's payloads at exact values, entry by entry: a step's columns of the product, a head's root-mean-square norm, the
  forget gates, and what the eight heads' stores leave.
-/
module

public import proofs.«01_k».proof.Proof.QkvData
public import Idealize.ShloMosaic.Lib.Pointwise

@[expose] public section

set_option maxRecDepth 16384

noncomputable section

namespace Cert.Qkv

open Idealize.ShloMosaic Cert.Kernel4Ideal Cert.Kernel4Ideal.Gen
open Idealize.ShloMosaic.TcCoe Idealize.ShloMosaic.Tactic
open scoped BigOperators

/-- A step's columns of the product. -/
def dotBlk (h : Vec Ideal S1024x2048 .bf16) (w : Vec Ideal S1x1024x2048 .bf16) (r e : Fin 1024) : EReal :=
  ∑ k : Fin 2048, h (ix2 r k) * w (ix3 0 e k)

/-- A vector of 128 divided by its root mean square, under gains. -/
def rms (a g : Fin 128 → EReal) (d : Fin 128) : EReal :=
  a d * Ideal.rsqrt (Ideal.div (∑ e : Fin 128, a e * a e) (Ideal.ofBits .f32 0x43000000#32) + Ideal.ofBits .f32 0x358637BD#32) * g d

/-- The queries' scale. -/
def qScale : EReal := Ideal.ofBits .f32 0x3E0293EE#32

/-- The logarithm of the logistic function. -/
def logSig (x : EReal) : EReal := min x 0 - Ideal.log1p (Ideal.exp (-(max x (-x))))

/-- A value times its logistic. -/
def silu (z : EReal) : EReal := z * Ideal.div 1 (1 + Ideal.exp (-z))

/-- Column `d` of head `n`. -/
def headCol (n : Fin 8) (d : Fin 128) : Fin 1024 := ⟨128 * n.val + d.val, by omega⟩
/-- The head of a column, and the column in its head. -/
def headIx (e : Fin 1024) : Fin 8 := ⟨e.val / 128, by omega⟩
@[inherit_doc headIx] def headOff (e : Fin 1024) : Fin 128 := ⟨e.val % 128, by omega⟩
theorem headCol_of (e : Fin 1024) : headCol (headIx e) (headOff e) = e := Fin.ext (by show 128 * (e.val / 128) + e.val % 128 = e.val; omega)
/-- The head of a cache row, and its token in the block. -/
def rowHead (s : Fin 8192) : Fin 8 := ⟨s.val % 8, by omega⟩
@[inherit_doc rowHead] def rowTok (s : Fin 8192) : Fin 1024 := ⟨s.val / 8, by omega⟩

variable (h : Vec Ideal S1024x2048 .bf16) (w : Vec Ideal S1x1024x2048 .bf16) (r e : Fin 1024)

/-- The product's entries. -/
theorem prod_at : prod h w (ix2 r e) = dotBlk h w r e := by
  unfold prod k0_pay70
  pointwise
  rfl

/-- A head's entries of a product. -/
theorem headOf_at (z : FVec Ideal S1024x1024 .f32) (n : Fin 8) (d : Fin 128) : headOf z n (ix2 r d) = z (ix2 r (headCol n d)) := by
  unfold headOf extractStridedSlice
  refine congrArg z (funext fun a => Fin.ext ?_)
  match a with
  | ⟨0, _⟩ => show 0 + r.val = r.val; omega
  | ⟨1, _⟩ => rfl

/-- The norm's entries. -/
theorem normHead_at (a : FVec Ideal S1024x128 .f32) (g : Vec Ideal S1x1x128 .f32) (d : Fin 128) :
    normHead a g (ix2 r d) = rms (fun e => a (ix2 r e)) (fun e => g (ix3 0 0 e)) d := by
  unfold normHead
  pointwise
  rfl

/-- The queries' entries. -/
theorem qHead_at (z : FVec Ideal S1024x1024 .f32) (g : Vec Ideal S1x1x128 .f32) (n : Fin 8) (d : Fin 128) :
    qHead z g n (ix2 r d) = rms (fun e => z (ix2 r (headCol n e))) (fun e => g (ix3 0 0 e)) d * qScale := by
  have hn := normHead_at r (headOf z n) g d
  simp only [headOf_at] at hn
  unfold qHead
  generalize normHead (headOf z n) g = b at hn ⊢
  pointwise
  rw [hn]
  rfl

/-- The keys' entries. -/
theorem kHead_at (z : FVec Ideal S1024x1024 .f32) (g : Vec Ideal S1x1x128 .f32) (n : Fin 8) (d : Fin 128) :
    kHead z g n (ix3 0 r d) = rms (fun e => z (ix2 r (headCol n e))) (fun e => g (ix3 0 0 e)) d := by
  have hn := normHead_at r (headOf z n) g d
  simp only [headOf_at] at hn
  unfold kHead
  generalize normHead (headOf z n) g = b at hn ⊢
  pointwise
  exact hn
@[inherit_doc kHead_at] theorem kbHead_at (z : FVec Ideal S1024x1024 .f32) (g : Vec Ideal S1x1x128 .f32) (n : Fin 8) (d : Fin 128) :
    kbHead z g n (ix2 r d) = rms (fun e => z (ix2 r (headCol n e))) (fun e => g (ix3 0 0 e)) d := by
  have hn := normHead_at r (headOf z n) g d
  simp only [headOf_at] at hn
  unfold kbHead
  generalize normHead (headOf z n) g = b at hn ⊢
  pointwise
  exact hn

/-- The values' entries. -/
theorem vHead_at (z : FVec Ideal S1024x1024 .f32) (n : Fin 8) (d : Fin 128) : vHead z n (ix3 0 r d) = z (ix2 r (headCol n d)) := by
  have hn := headOf_at r z n d
  unfold vHead
  generalize headOf z n = b at hn ⊢
  pointwise
  exact hn
@[inherit_doc vHead_at] theorem vbHead_at (z : FVec Ideal S1024x1024 .f32) (n : Fin 8) (d : Fin 128) : vbHead z n (ix2 r d) = z (ix2 r (headCol n d)) := by
  have hn := headOf_at r z n d
  unfold vbHead
  generalize headOf z n = b at hn ⊢
  pointwise
  exact hn

/-- The gate's entries. -/
theorem gate_at : k0_pay18 h w (ix2 r e) = silu (dotBlk h w r e) := by
  unfold k0_pay18
  pointwise
  rw [zero_sub]
  rfl

/-- The forget gates' logits. -/
def logit (wf : Vec Ideal S1x128x2048 .bf16) (b : Vec Ideal S1x1x128 .f32) (d : Fin 128) : EReal :=
  (∑ k : Fin 2048, h (ix2 r k) * wf (ix3 0 d k)) + b (ix3 0 0 d)

/-- The forget gates' entries. -/
theorem lf_at (wf : Vec Ideal S1x128x2048 .bf16) (b : Vec Ideal S1x1x128 .f32) (d : Fin 128) :
    k0_pay19 h wf b (ix2 r d) = logSig (logit h r wf b d) := by
  unfold k0_pay19
  pointwise
  rw [zero_sub]
  rfl

/-- The first eight of them. -/
theorem lf8_at (wf : Vec Ideal S1x128x2048 .bf16) (b : Vec Ideal S1x1x128 .f32) (d : Fin 8) :
    k0_pay20 h wf b (ix3 0 r d) = logSig (logit h r wf b ⟨d.val, by omega⟩) := by
  have hn := lf_at h r wf b ⟨d.val, by omega⟩
  unfold k0_pay20
  generalize k0_pay19 h wf b = a at hn ⊢
  pointwise
  exact hn

/-- A block of columns, by heads. -/
theorem colOut_at (p : Fin 8 → FVec Ideal S1024x128 .bf16) : colOut p (ix2 r e) = p (headIx e) (ix2 r (headOff e)) := by
  refine View.canon_apply_of_pieces (fun y => p (headIx (y 1)) (ix2 (y 0) (headOff (y 1)))) (colPieces p) ?_ (ix2 r e) (cols_cover p _)
  have hp : ∀ (n : Fin 8) (x : S1024x128.Idx), p n x = (fun y : S1024x1024.Idx => p (headIx (y 1)) (ix2 (y 0) (headOff (y 1)))) ((colRect n).emb x) := fun n x => by
    obtain ⟨a, d, rfl⟩ : ∃ a d, x = ix2 a d := ⟨x 0, x 1, eq_ix2 x⟩
    have e1 : ((colRect n).emb (ix2 a d) : S1024x1024.Idx) = ix2 a (headCol n d) := funext fun b => Fin.ext (by
      match b with
      | ⟨0, _⟩ => show 0 + 1 * a.val = a.val; omega
      | ⟨1, _⟩ => show 128 * n.val + 1 * d.val = 128 * n.val + d.val; omega)
    rw [e1]
    have e2 : headIx (headCol n d) = n := Fin.ext (by show (128 * n.val + d.val) / 128 = n.val; omega)
    have e3 : headOff (headCol n d) = d := Fin.ext (by show (128 * n.val + d.val) % 128 = d.val; omega)
    show p n (ix2 a d) = p (headIx (headCol n d)) (ix2 a (headOff (headCol n d)))
    rw [e2, e3]
  intro q hq x
  simp only [colPieces, List.mem_cons, List.not_mem_nil, or_false] at hq
  rcases hq with rfl | rfl | rfl | rfl | rfl | rfl | rfl | rfl
  exacts [hp 7 x, hp 6 x, hp 5 x, hp 4 x, hp 3 x, hp 2 x, hp 1 x, hp 0 x]

/-- A block of cache rows, by heads. -/
theorem rowOut_at (p : Fin 8 → FVec Ideal S1x1024x128 .f32) (s : Fin 8192) (d : Fin 128) : rowOut p (ix3 0 s d) = p (rowHead s) (ix3 0 (rowTok s) d) := by
  refine View.canon_apply_of_pieces (fun y => p (rowHead (y 1)) (ix3 0 (rowTok (y 1)) (y 2))) (rowPieces p) ?_ (ix3 0 s d) (rows_cover p _)
  have hp : ∀ (n : Fin 8) (x : S1x1024x128.Idx), p n x = (fun y : S1x8192x128.Idx => p (rowHead (y 1)) (ix3 0 (rowTok (y 1)) (y 2))) ((rowRect n).emb x) := fun n x => by
    obtain ⟨z, a, d, rfl⟩ : ∃ z a d, x = ix3 z a d := ⟨x 0, x 1, x 2, eq_ix3 x⟩
    obtain rfl : z = 0 := Subsingleton.elim _ _
    have e1 : ((rowRect n).emb (ix3 0 a d) : S1x8192x128.Idx) = ix3 0 ⟨n.val + 8 * a.val, by omega⟩ d := funext fun b => Fin.ext (by
      match b with
      | ⟨0, _⟩ => rfl
      | ⟨1, _⟩ => rfl
      | ⟨2, _⟩ => show 0 + 1 * d.val = d.val; omega)
    rw [e1]
    have e2 : rowHead ⟨n.val + 8 * a.val, by omega⟩ = n := Fin.ext (by show (n.val + 8 * a.val) % 8 = n.val; omega)
    have e3 : rowTok ⟨n.val + 8 * a.val, by omega⟩ = a := Fin.ext (by show (n.val + 8 * a.val) / 8 = a.val; omega)
    show p n (ix3 0 a d) = p (rowHead ⟨n.val + 8 * a.val, _⟩) (ix3 0 (rowTok ⟨n.val + 8 * a.val, _⟩) d)
    rw [e2, e3]
  intro q hq x
  simp only [rowPieces, List.mem_cons, List.not_mem_nil, or_false] at hq
  rcases hq with rfl | rfl | rfl | rfl | rfl | rfl | rfl | rfl
  exacts [hp 7 x, hp 6 x, hp 5 x, hp 4 x, hp 3 x, hp 2 x, hp 1 x, hp 0 x]

end Cert.Qkv

end

end
-- ==== Proof.QkvRef.lean ====
/-
  The first input projection's eight results as whole arrays, and the reference's results as the same arrays.
-/
module

public import proofs.«01_k».proof.Proof.QkvBlock
public import proofs.«01_k».proof.Proof.Gen.Reference4Ideal.Read

@[expose] public section

set_option maxRecDepth 16384

noncomputable section

namespace Cert.Qkv

open Idealize.ShloMosaic Cert.Reference4Ideal Cert.Reference4Ideal.Read Cert.Reference4Ideal.Facts
open Idealize.ShloMosaic.TcCoe Idealize.ShloMosaic.Tactic
open scoped BigOperators

/-- Column `e` of part `j` of the first half of the projection: queries, keys, values, gate. -/
def partCol (j : Fin 4) (e : Fin 1024) : Fin 4096 := ⟨j.val * 1024 + e.val, by omega⟩
/-- The weights' row of a column of the first half of the projection. -/
def wRow (e : Fin 4096) : Fin 11264 := ⟨e.val, by omega⟩

/-- The product of the tokens with the second layer's weights, in the first half's columns. -/
def proj (h : Vec Ideal S8192x2048 .bf16) (w : Vec Ideal S2x11264x2048 .bf16) (R : Fin 8192) (e : Fin 4096) : EReal :=
  ∑ k : Fin 2048, h (ix2 R k) * w (ix3 1 (wRow e) k)

/-- The forget gates' logits. -/
def logitArr (h : Vec Ideal S8192x2048 .bf16) (wf : Vec Ideal S2x128x2048 .bf16) (b : Vec Ideal S2x1x128 .f32) (R : Fin 8192) (d : Fin 128) : EReal :=
  (∑ k : Fin 2048, h (ix2 R k) * wf (ix3 1 d k)) + b (ix3 1 0 d)

/-- The keys (part 1) and the queries before their scale (part 0): each head's root-mean-square norm. -/
def normArr (p : Fin 8192 → Fin 4096 → EReal) (j : Fin 4) (g : Vec Ideal S2x1x128 .f32) (R : Fin 8192) (n : Fin 8) (d : Fin 128) : EReal :=
  rms (fun e => p R (partCol j (headCol n e))) (fun e => g (ix3 1 0 e)) d

/-- The token and the head of a row of a cache. -/
def cacheTok (s : Fin 65536) : Fin 8192 := ⟨s.val / 8, by omega⟩
@[inherit_doc cacheTok] def cacheHead (s : Fin 65536) : Fin 8 := ⟨s.val % 8, by omega⟩

theorem one_bits : (FloatOps.ofBits .f32 0x3F800000#32 : Ideal .f32) = 1 := Ideal.ofBits_one_f32
theorem zero_bits : (FloatOps.ofBits .f32 0x00000000#32 : Ideal .f32) = 0 := Ideal.ofBits_zero_f32

variable (x0 : Vec Ideal S8192x2048 .bf16) (x1 : Vec Ideal S2x11264x2048 .bf16) (x2 : Vec Ideal S2x128x2048 .bf16) (x3 x4 x5 : Vec Ideal S2x1x128 .f32)
  (x6 : Vec Ideal S2x8192x8 .f32) (x7 x8 : Vec Ideal S2x65536x128 .f32)

/-- The reference's product. -/
theorem ref_proj (R : Fin 8192) (e : Fin 4096) : val_main_v10 (F := Ideal) x0 x1 (ix2 R e) = proj x0 x1 R e := by
  unfold val_main_v10 val_main_v9 val_main_v8
  pointwise
  rfl

/-- The reference's logits. -/
theorem ref_logit (R : Fin 8192) (d : Fin 128) : val_main_v6 (F := Ideal) x0 x2 x3 (ix2 R d) = logitArr x0 x2 x3 R d := by
  unfold val_main_v6 val_main_v5 val_main_v4 val_main_v3 val_main_v2 val_main_v1 val_main_v0
  pointwise
  rfl

/-- What is added to one in the forget gates is not negative, so the logarithm is not below zero. -/
theorem log1p_exp_ne_bot (x : EReal) : Ideal.log1p (Ideal.exp x) ≠ ⊥ := by
  unfold Ideal.log1p
  induction x with
  | bot =>
    rw [Ideal.exp_bot, add_zero, ← EReal.coe_one, Ideal.log_coe, if_neg (by norm_num)]
    exact EReal.coe_ne_bot _
  | top =>
    rw [Ideal.exp_top, ← EReal.coe_one, EReal.coe_add_top, Ideal.log_top]
    exact bot_ne_top.symm
  | coe r =>
    rw [Ideal.exp_coe, ← EReal.coe_one, ← EReal.coe_add]
    show (if 1 + Real.exp r ≤ 0 then (⊥ : EReal) else (Real.log (1 + Real.exp r) : EReal)) ≠ ⊥
    rw [if_neg (by have := Real.exp_pos r; linarith)]
    exact EReal.coe_ne_bot _

/-- The negated greater of two is the lesser of the negated. -/
theorem neg_max_zero (x : EReal) : -(max (-x) 0) = min x 0 := by
  rcases le_total x 0 with h | h
  · rw [min_eq_left h, max_eq_left (by simpa using EReal.neg_le_neg_iff.2 h), neg_neg]
  · rw [min_eq_right h, max_eq_right (by simpa using EReal.neg_le_neg_iff.2 h), neg_zero]

/-- The logarithm of the logistic function as the reference computes it. -/
theorem logSig_eq (x : EReal) : -(max (-x) 0 + Ideal.log1p (Ideal.exp (-(max (-x) (- -x))))) = logSig x := by
  have h0 : max (-x) 0 ≠ ⊥ := fun h => absurd (h ▸ le_max_right (-x) 0 : (0 : EReal) ≤ ⊥) (by simp)
  rw [EReal.neg_add (.inl h0) (.inr (log1p_exp_ne_bot _)), neg_max_zero, neg_neg, max_comm (-x) x]
  rfl

/-- The reference's forget gates. -/
theorem ref_lf (R : Fin 8192) (d : Fin 128) : val_main_v7 (F := Ideal) x0 x2 x3 (ix2 R d) = logSig (logitArr x0 x2 x3 R d) := by
  have h := ref_logit x0 x2 x3 R d
  unfold val_main_v7 val_main_call0_v1 val_main_call0_call0_v11 val_main_call0_call0_v10 val_main_call0_call0_v9 val_main_call0_call0_v8
    val_main_call0_call0_v7 val_main_call0_call0_v6 val_main_call0_call0_v5 val_main_call0_call0_v4 val_main_call0_call0_v3 val_main_call0_call0_v2
    val_main_call0_call0_v1 val_main_call0_call0_v0 val_main_call0_v0
  generalize val_main_v6 (F := Ideal) x0 x2 x3 = a at h ⊢
  pointwise
  rw [val_main_call0_call0_cst_apply, zero_bits, h, if_neg (fun h => h rfl), sub_zero]
  exact logSig_eq _

/-- The reference's queries. -/
theorem ref_q (R : Fin 8192) (e : Fin 1024) :
    val_main_v56 (F := Ideal) x0 x1 x4 (ix2 R e) = normArr (proj x0 x1) 0 x4 R (headIx e) (headOff e) * qScale := by
  have h := ref_proj x0 x1
  unfold val_main_v56 val_main_v55 val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v15 val_main_v11
  generalize val_main_v10 (F := Ideal) x0 x1 = a at h ⊢
  pointwise
  rw [val_main_cst_apply, zero_bits]
  have e0 : (⟨e.val, by omega⟩ : Fin 4096) = partCol 0 (headCol (headIx e) (headOff e)) :=
    Fin.ext (by show e.val = 0 * 1024 + (128 * (e.val / 128) + e.val % 128); omega)
  have e1 : ∀ x : Fin 128, (⟨e.val / 128 * 128 + x.val, by omega⟩ : Fin 4096) = partCol 0 (headCol (headIx e) x) := fun x =>
    Fin.ext (by show e.val / 128 * 128 + x.val = 0 * 1024 + (128 * (e.val / 128) + x.val); omega)
  have hx := fun x => (h R _).trans (congrArg (proj x0 x1 R) (e1 x))
  unfold normArr rms qScale
  exact congrArg₂ (· * ·) (congrArg₂ (· * ·) (congrArg₂ (· * ·) ((h R _).trans (congrArg (proj x0 x1 R) e0))
    (congrArg (fun s => Ideal.rsqrt (Ideal.div s (Ideal.ofBits .f32 0x43000000#32) + Ideal.ofBits .f32 0x358637BD#32))
      ((zero_add _).trans (Finset.sum_congr rfl fun x _ => congrArg₂ (· * ·) (hx x) (hx x))))) rfl) rfl

/-- The reference's keys. -/
theorem ref_k (R : Fin 8192) (n : Fin 8) (d : Fin 128) :
    val_main_v48 (F := Ideal) x0 x1 x5 (ix3 R n d) = normArr (proj x0 x1) 1 x5 R n d := by
  have h := ref_proj x0 x1
  unfold val_main_v48 val_main_v47 val_main_v46 val_main_v45 val_main_v44 val_main_v43 val_main_v42 val_main_v41 val_main_v40 val_main_v39 val_main_v38 val_main_v37
    val_main_v36 val_main_v35 val_main_v34 val_main_v33 val_main_v12
  generalize val_main_v10 (F := Ideal) x0 x1 = a at h ⊢
  pointwise
  rw [val_main_cst_3_apply, zero_bits]
  have e1 : ∀ x : Fin 128, (⟨1024 + (n.val * 128 + x.val), by omega⟩ : Fin 4096) = partCol 1 (headCol n x) := fun x =>
    Fin.ext (by show 1024 + (n.val * 128 + x.val) = 1 * 1024 + (128 * n.val + x.val); omega)
  have hx := fun x => (h R _).trans (congrArg (proj x0 x1 R) (e1 x))
  unfold normArr rms
  exact congrArg₂ (· * ·) (congrArg₂ (· * ·) (hx d)
    (congrArg (fun s => Ideal.rsqrt (Ideal.div s (Ideal.ofBits .f32 0x43000000#32) + Ideal.ofBits .f32 0x358637BD#32))
      ((zero_add _).trans (Finset.sum_congr rfl fun x _ => congrArg₂ (· * ·) (hx x) (hx x))))) rfl

/-- The reference's gate. -/
theorem ref_gate (R : Fin 8192) (e : Fin 1024) : val_main_v73 (F := Ideal) x0 x1 (ix2 R e) = silu (proj x0 x1 R (partCol 3 e)) := by
  have h := ref_proj x0 x1
  unfold val_main_v73 val_main_v72 val_main_call1_v5 val_main_call1_v4 val_main_call1_v3 val_main_call1_v2 val_main_call1_v1 val_main_call1_v0 val_main_v14
  generalize val_main_v10 (F := Ideal) x0 x1 = a at h ⊢
  pointwise
  rw [val_main_call1_cst_apply, val_main_call1_cst_0_apply, one_bits, h]
  rfl

/-- The reference's rounded keys. -/
theorem ref_kb (R : Fin 8192) (e : Fin 1024) :
    val_main_v70 (F := Ideal) x0 x1 x5 (ix2 R e) = normArr (proj x0 x1) 1 x5 R (headIx e) (headOff e) := by
  have h := ref_k x0 x1 x5
  unfold val_main_v70 val_main_v69
  generalize val_main_v48 (F := Ideal) x0 x1 x5 = a at h ⊢
  pointwise
  exact h R (headIx e) (headOff e)

/-- The reference's rounded values. -/
theorem ref_vb (R : Fin 8192) (e : Fin 1024) : val_main_v71 (F := Ideal) x0 x1 (ix2 R e) = proj x0 x1 R (partCol 2 e) := by
  have h := ref_proj x0 x1
  unfold val_main_v71 val_main_v13
  generalize val_main_v10 (F := Ideal) x0 x1 = a at h ⊢
  pointwise
  exact h R (partCol 2 e)

/-- In the first layer's part of a stack the layer is the first. -/
theorem first_layer (l : Fin 2) (x : Fin 2 → EReal) (y : EReal) : (if l.val < 1 then x 0 else y) = if l.val < 1 then x l else y := by
  match l with
  | ⟨0, _⟩ => rfl
  | ⟨1, _⟩ => rfl

/-- The reference's stack of forget gates. -/
theorem ref_lf8 (l : Fin 2) (R : Fin 8192) (n : Fin 8) : val_main_v54 (F := Ideal) x0 x2 x3 x6 (ix3 l R n)
    = if l.val < 1 then x6 (ix3 0 R n) else logSig (logitArr x0 x2 x3 R ⟨n.val, by omega⟩) := by
  have h := ref_lf x0 x2 x3
  unfold val_main_v54 val_main_v53 val_main_v52 val_main_v51 val_main_v50 val_main_v49
  generalize val_main_v7 (F := Ideal) x0 x2 x3 = a at h ⊢
  pointwise
  split
  · rfl
  · exact h _ _

/-- The reference's stack of keys. -/
theorem ref_ks (l : Fin 2) (s : Fin 65536) (d : Fin 128) : val_main_v62 (F := Ideal) x0 x1 x5 x7 (ix3 l s d)
    = if l.val < 1 then x7 (ix3 0 s d) else normArr (proj x0 x1) 1 x5 (cacheTok s) (cacheHead s) d := by
  have h := ref_k x0 x1 x5
  unfold val_main_v62 val_main_v61 val_main_v60 val_main_v59 val_main_v58 val_main_v57
  generalize val_main_v48 (F := Ideal) x0 x1 x5 = a at h ⊢
  pointwise
  split
  · rfl
  · exact h _ _ _

/-- The reference's stack of values. -/
theorem ref_vs (l : Fin 2) (s : Fin 65536) (d : Fin 128) : val_main_v68 (F := Ideal) x0 x1 x8 (ix3 l s d)
    = if l.val < 1 then x8 (ix3 0 s d) else proj x0 x1 (cacheTok s) (partCol 2 (headCol (cacheHead s) d)) := by
  have h := ref_proj x0 x1
  unfold val_main_v68 val_main_v67 val_main_v66 val_main_v65 val_main_v64 val_main_v63 val_main_v13
  generalize val_main_v10 (F := Ideal) x0 x1 = a at h ⊢
  pointwise
  split
  · rfl
  · exact (h _ _).trans (congrArg (proj x0 x1 (cacheTok s)) (Fin.ext (by
      show 2048 + (s.val % 8 * 128 + d.val) = 2 * 1024 + (128 * (s.val % 8) + d.val); omega)))

/-! ## As whole arrays -/

theorem arr_lf : val_main_v7 (F := Ideal) x0 x2 x3 = fun i => logSig (logitArr x0 x2 x3 (i 0) (i 1)) := funext fun i => by
  obtain ⟨R, d, rfl⟩ : ∃ (R : Fin 8192) (d : Fin 128), i = ix2 R d := ⟨i 0, i 1, eq_ix2 i⟩
  exact ref_lf x0 x2 x3 R d
theorem arr_lf8 : val_main_v54 (F := Ideal) x0 x2 x3 x6
    = fun i => if (i 0).val < 1 then x6 i else logSig (logitArr x0 x2 x3 (i 1) ⟨(i 2).val, Nat.lt_trans (i 2).isLt (by decide)⟩) := funext fun i => by
  obtain ⟨l, R, n, rfl⟩ : ∃ (l : Fin 2) (R : Fin 8192) (n : Fin 8), i = ix3 l R n := ⟨i 0, i 1, i 2, eq_ix3 i⟩
  exact (ref_lf8 x0 x2 x3 x6 l R n).trans (first_layer l (fun l => x6 (ix3 l R n)) _)
theorem arr_q : val_main_v56 (F := Ideal) x0 x1 x4 = fun i => normArr (proj x0 x1) 0 x4 (i 0) (headIx (i 1)) (headOff (i 1)) * qScale := funext fun i => by
  obtain ⟨R, e, rfl⟩ : ∃ (R : Fin 8192) (e : Fin 1024), i = ix2 R e := ⟨i 0, i 1, eq_ix2 i⟩
  exact ref_q x0 x1 x4 R e
theorem arr_ks : val_main_v62 (F := Ideal) x0 x1 x5 x7
    = fun i => if (i 0).val < 1 then x7 i else normArr (proj x0 x1) 1 x5 (cacheTok (i 1)) (cacheHead (i 1)) (i 2) := funext fun i => by
  obtain ⟨l, s, d, rfl⟩ : ∃ (l : Fin 2) (s : Fin 65536) (d : Fin 128), i = ix3 l s d := ⟨i 0, i 1, i 2, eq_ix3 i⟩
  exact (ref_ks x0 x1 x5 x7 l s d).trans (first_layer l (fun l => x7 (ix3 l s d)) _)
theorem arr_vs : val_main_v68 (F := Ideal) x0 x1 x8
    = fun i => if (i 0).val < 1 then x8 i else proj x0 x1 (cacheTok (i 1)) (partCol 2 (headCol (cacheHead (i 1)) (i 2))) := funext fun i => by
  obtain ⟨l, s, d, rfl⟩ : ∃ (l : Fin 2) (s : Fin 65536) (d : Fin 128), i = ix3 l s d := ⟨i 0, i 1, i 2, eq_ix3 i⟩
  exact (ref_vs x0 x1 x8 l s d).trans (first_layer l (fun l => x8 (ix3 l s d)) _)
theorem arr_kb : val_main_v70 (F := Ideal) x0 x1 x5 = fun i => normArr (proj x0 x1) 1 x5 (i 0) (headIx (i 1)) (headOff (i 1)) := funext fun i => by
  obtain ⟨R, e, rfl⟩ : ∃ (R : Fin 8192) (e : Fin 1024), i = ix2 R e := ⟨i 0, i 1, eq_ix2 i⟩
  exact ref_kb x0 x1 x5 R e
theorem arr_vb : val_main_v71 (F := Ideal) x0 x1 = fun i => proj x0 x1 (i 0) (partCol 2 (i 1)) := funext fun i => by
  obtain ⟨R, e, rfl⟩ : ∃ (R : Fin 8192) (e : Fin 1024), i = ix2 R e := ⟨i 0, i 1, eq_ix2 i⟩
  exact ref_vb x0 x1 R e
theorem arr_gate : val_main_v73 (F := Ideal) x0 x1 = fun i => silu (proj x0 x1 (i 0) (partCol 3 (i 1))) := funext fun i => by
  obtain ⟨R, e, rfl⟩ : ∃ (R : Fin 8192) (e : Fin 1024), i = ix2 R e := ⟨i 0, i 1, eq_ix2 i⟩
  exact ref_gate x0 x1 R e

end Cert.Qkv

end

end
-- ==== Proof.QkvFrame.lean ====
/-
  The first input projection runs to its end at any values: each of a step's four branches by its triple, the buffers a
  branch leaves alone kept as they are.
-/
module

public import proofs.«01_k».proof.Proof.QkvData
public import Idealize.ShloMosaic.Lib.Claim

@[expose] public section

set_option maxRecDepth 16384

noncomputable section

namespace Cert.Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (ρ : Dev nD → PrngReg)

/-- A window's buffer at a step, as the step before left it. -/
abbrev found (w : Fin cfg0.W) (t : Fin cfg0.N) : sProp 𝕄 :=
  iprop(∃ d, owns (c : Thread nD τ) ((cfg0.win w).stage (cfg0.slots t w)) fullShare ((dats m 0 c).before w t d))

/-- What a step is called with. -/
def bodyPre (t : Fin cfg0.N) : sProp 𝕄 :=
  iprop((dats m 0 c).Φ t.castSucc ∗ (dats m 0 c).owesAt () t.castSucc
    ∗ found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t)

/-- What it leaves. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

/-- The step at its place in its row. -/
theorem pt_rowOf (t : Fin cfg0.N) (n : Fin 4) (h : t.val % 4 = n.val) : pt (rowOf t) n = t :=
  Fin.ext (by show t.val / 4 * 4 + n.val = t.val; omega)

set_option maxHeartbeats 1000000 in
/-- A row's first step: the forget gates and the queries are stored. -/
theorem sound_q (t : Fin cfg0.N) (h : t.val % 4 = 0) :
    bodyPre m c t ⊢ wp frame (wpE (defs₀ (F := F)) Variants.none c none) Set.univ (bodyAt0 t) (fun _ => bodyPost m c t) := by
  have hp : pt (rowOf t) 0 = t := pt_rowOf t 0 h
  unfold bodyPre bodyPost bodyAt0 found
  simp only [before_0, before_1, before_2, before_3, before_4, before_5]
  rw [show (dats m 0 c).Φ t.succ = (dats m 0 c).Φ t.castSucc from rfl, show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl,
    leaves_out m c 6 (by decide) t h, leaves_out m c 7 (by decide) t h, leaves_out m c 8 (by decide) t h,
    after_0, after_1, after_2, after_3, after_4, after_5, after_6, after_7, after_8]
  unfold lfBlk lf8Blk qBlk zAt
  rw [hp]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_q c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t)
    ((cond1_iff t).2 h) (fun k => by have := (cond2_iff t).1 k; omega) (fun k => by have := (cond3_iff t).1 k; omega) (fun k => by have := (cond4_iff t).1 k; omega) Set.univ _)
  isplitl [H0]; · iexact H0
  isplitl [H1]; · iexact H1
  isplitl [H2]; · iexact H2
  isplitl [H3]; · iexact H3
  isplitl [H4]; · iexact H4
  isplitl [H6]; · iexists _; iexact H6
  isplitl [H7]; · iexists _; iexact H7
  isplitl [H8]; · iexists _; iexact H8
  iintro ⟨H0, H1, H2, H3, H4, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves_kept m c 9 (by decide) t (fun k => by have e : t.val % 4 = 1 := k; omega) d9); iexact H9
  isplitl [H10]; · iapply (leaves_kept m c 10 (by decide) t (fun k => by have e : t.val % 4 = 2 := k; omega) d10); iexact H10
  isplitl [H11]; · iapply (leaves_kept m c 11 (by decide) t (fun k => by have e : t.val % 4 = 1 := k; omega) d11); iexact H11
  isplitl [H12]; · iapply (leaves_kept m c 12 (by decide) t (fun k => by have e : t.val % 4 = 2 := k; omega) d12); iexact H12
  iapply (leaves_kept m c 13 (by decide) t (fun k => by have e : t.val % 4 = 3 := k; omega) d13); iexact H13

set_option maxHeartbeats 1000000 in
/-- A row's second step: the keys are stored. -/
theorem sound_k (t : Fin cfg0.N) (h : t.val % 4 = 1) :
    bodyPre m c t ⊢ wp frame (wpE (defs₀ (F := F)) Variants.none c none) Set.univ (bodyAt0 t) (fun _ => bodyPost m c t) := by
  have hp : pt (rowOf t) 1 = t := pt_rowOf t 1 h
  unfold bodyPre bodyPost bodyAt0 found
  simp only [before_0, before_1, before_2, before_3, before_4, before_5]
  rw [show (dats m 0 c).Φ t.succ = (dats m 0 c).Φ t.castSucc from rfl, show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl,
    leaves_out m c 9 (by decide) t h, leaves_out m c 11 (by decide) t h,
    after_0, after_1, after_2, after_3, after_4, after_5, after_9, after_11]
  unfold kBlk kbBlk zAt
  rw [hp]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_k c (grid0.coords t) _ _ _ _ _ _ _ _ _ _ _ _ _ _ _ _ _ _ _ _ _ _ _ _ _ _ _ _ _ _ _ _ _ _ (iblk m c 0 t) (iblk m c 1 t) (iblk m c 5 t)
    (fun k => by have := (cond1_iff t).1 k; omega) ((cond2_iff t).2 h) (fun k => by have := (cond3_iff t).1 k; omega) (fun k => by have := (cond4_iff t).1 k; omega) Set.univ _)
  isplitl [H0]; · iexact H0
  isplitl [H1]; · iexact H1
  isplitl [H5]; · iexact H5
  isplitl [H9]; · iexists _; iexact H9
  isplitl [H11]; · iexists _; iexact H11
  iintro ⟨H0, H1, H5, H9, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_kept m c 6 (by decide) t (fun k => by have e : t.val % 4 = 0 := k; omega) d6); iexact H6
  isplitl [H7]; · iapply (leaves_kept m c 7 (by decide) t (fun k => by have e : t.val % 4 = 0 := k; omega) d7); iexact H7
  isplitl [H8]; · iapply (leaves_kept m c 8 (by decide) t (fun k => by have e : t.val % 4 = 0 := k; omega) d8); iexact H8
  isplitl [H9]; · iexact H9
  isplitl [H10]; · iapply (leaves_kept m c 10 (by decide) t (fun k => by have e : t.val % 4 = 2 := k; omega) d10); iexact H10
  isplitl [H11]; · iexact H11
  isplitl [H12]; · iapply (leaves_kept m c 12 (by decide) t (fun k => by have e : t.val % 4 = 2 := k; omega) d12); iexact H12
  iapply (leaves_kept m c 13 (by decide) t (fun k => by have e : t.val % 4 = 3 := k; omega) d13); iexact H13

set_option maxHeartbeats 1000000 in
/-- A row's third step: the values are stored. -/
theorem sound_v (t : Fin cfg0.N) (h : t.val % 4 = 2) :
    bodyPre m c t ⊢ wp frame (wpE (defs₀ (F := F)) Variants.none c none) Set.univ (bodyAt0 t) (fun _ => bodyPost m c t) := by
  have hp : pt (rowOf t) 2 = t := pt_rowOf t 2 h
  unfold bodyPre bodyPost bodyAt0 found
  simp only [before_0, before_1, before_2, before_3, before_4, before_5]
  rw [show (dats m 0 c).Φ t.succ = (dats m 0 c).Φ t.castSucc from rfl, show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl,
    leaves_out m c 10 (by decide) t h, leaves_out m c 12 (by decide) t h,
    after_0, after_1, after_2, after_3, after_4, after_5, after_10, after_12]
  unfold vBlk vbBlk zAt
  rw [hp]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_v c (grid0.coords t) _ _ _ _ _ _ _ _ _ _ _ _ _ _ _ _ _ _ _ _ _ _ _ _ _ _ _ _ _ _ _ _ _ _ (iblk m c 0 t) (iblk m c 1 t)
    (fun k => by have := (cond1_iff t).1 k; omega) (fun k => by have := (cond2_iff t).1 k; omega) ((cond3_iff t).2 h) (fun k => by have := (cond4_iff t).1 k; omega) Set.univ _)
  isplitl [H0]; · iexact H0
  isplitl [H1]; · iexact H1
  isplitl [H10]; · iexists _; iexact H10
  isplitl [H12]; · iexists _; iexact H12
  iintro ⟨H0, H1, H10, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_kept m c 6 (by decide) t (fun k => by have e : t.val % 4 = 0 := k; omega) d6); iexact H6
  isplitl [H7]; · iapply (leaves_kept m c 7 (by decide) t (fun k => by have e : t.val % 4 = 0 := k; omega) d7); iexact H7
  isplitl [H8]; · iapply (leaves_kept m c 8 (by decide) t (fun k => by have e : t.val % 4 = 0 := k; omega) d8); iexact H8
  isplitl [H9]; · iapply (leaves_kept m c 9 (by decide) t (fun k => by have e : t.val % 4 = 1 := k; omega) d9); iexact H9
  isplitl [H10]; · iexact H10
  isplitl [H11]; · iapply (leaves_kept m c 11 (by decide) t (fun k => by have e : t.val % 4 = 1 := k; omega) d11); iexact H11
  isplitl [H12]; · iexact H12
  iapply (leaves_kept m c 13 (by decide) t (fun k => by have e : t.val % 4 = 3 := k; omega) d13); iexact H13

set_option maxHeartbeats 1000000 in
/-- A row's last step: the gate is stored. -/
theorem sound_g (t : Fin cfg0.N) (h : t.val % 4 = 3) :
    bodyPre m c t ⊢ wp frame (wpE (defs₀ (F := F)) Variants.none c none) Set.univ (bodyAt0 t) (fun _ => bodyPost m c t) := by
  have hp : pt (rowOf t) 3 = t := pt_rowOf t 3 h
  unfold bodyPre bodyPost bodyAt0 found
  simp only [before_0, before_1, before_2, before_3, before_4, before_5]
  rw [show (dats m 0 c).Φ t.succ = (dats m 0 c).Φ t.castSucc from rfl, show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 5 t rfl,
    leaves_out m c 13 (by decide) t h,
    after_0, after_1, after_2, after_3, after_4, after_5, after_13]
  unfold gBlk
  rw [hp]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (step_g c (grid0.coords t) _ _ _ _ _ _ _ _ _ _ _ _ _ _ _ _ _ _ _ _ _ _ _ _ _ _ _ _ _ _ _ _ _ _ (iblk m c 0 t) (iblk m c 1 t)
    (fun k => by have := (cond1_iff t).1 k; omega) (fun k => by have := (cond2_iff t).1 k; omega) (fun k => by have := (cond3_iff t).1 k; omega) ((cond4_iff t).2 h) Set.univ _)
  isplitl [H0]; · iexact H0
  isplitl [H1]; · iexact H1
  isplitl [H13]; · iexists _; iexact H13
  iintro ⟨H0, H1, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_kept m c 6 (by decide) t (fun k => by have e : t.val % 4 = 0 := k; omega) d6); iexact H6
  isplitl [H7]; · iapply (leaves_kept m c 7 (by decide) t (fun k => by have e : t.val % 4 = 0 := k; omega) d7); iexact H7
  isplitl [H8]; · iapply (leaves_kept m c 8 (by decide) t (fun k => by have e : t.val % 4 = 0 := k; omega) d8); iexact H8
  isplitl [H9]; · iapply (leaves_kept m c 9 (by decide) t (fun k => by have e : t.val % 4 = 1 := k; omega) d9); iexact H9
  isplitl [H10]; · iapply (leaves_kept m c 10 (by decide) t (fun k => by have e : t.val % 4 = 2 := k; omega) d10); iexact H10
  isplitl [H11]; · iapply (leaves_kept m c 11 (by decide) t (fun k => by have e : t.val % 4 = 1 := k; omega) d11); iexact H11
  isplitl [H12]; · iapply (leaves_kept m c 12 (by decide) t (fun k => by have e : t.val % 4 = 2 := k; omega) d12); iexact H12
  iexact H13

/-- The step at any point of the grid. -/
theorem sound_body (t : Fin cfg0.N) :
    bodyPre m c t ⊢ wp frame (wpE (defs₀ (F := F)) Variants.none c none) Set.univ (bodyAt0 t) (fun _ => bodyPost m c t) := by
  by_cases h0 : t.val % 4 = 0
  · exact sound_q m c t h0
  by_cases h1 : t.val % 4 = 1
  · exact sound_k m c t h1
  by_cases h2 : t.val % 4 = 2
  · exact sound_v m c t h2
  · exact sound_g m c t (by omega)

/-- The body table's row at a point is the step. -/
theorem table_row (t : Fin cfg0.N) :
    defs₀ (F := F) .tc cfg0.body (cfg0.bodyArgs t (cfg0.slots t)) = bodyAt0 t := by
  unfold defs₀; rw [Defs.onTc_tc]

/-- The step's triple in the library's words. -/
theorem body_obligation : BodyObligation (dats (F := F) m 0 c) (defs₀ (F := F)) Variants.none () Set.univ := fun t => by
  rw [bigSep_W0, bigSep_W0, table_row]
  exact triple_restated (sound_body m c t) rfl .rfl fun _ => .rfl

/-! ## The run -/

set_option backward.isDefEq.respectTransparency.types false in
/-- The run ends with every array at what the steps left in it and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The frame, at any values: the run ends, the arguments are unchanged, every semaphore is at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_arrays m ρ)) ((θ_run defs _ _).mono (fun _ h => h.2) (run_quiescent m ρ))

end Cert.Qkv

end

end
-- ==== Proof.QkvArray.lean ====
/-
  The eight result arrays of the first input projection: each row of blocks writes its 1024 tokens' part of each array once, in
  the caches the second layer's part; the first layer's part of the caches is the contents they were given.
-/
module

public import proofs.«01_k».proof.Proof.QkvRef
public import proofs.«01_k».proof.Proof.QkvFrame
public import Idealize.ShloMosaic.Lib.Pipeline.Value

@[expose] public section

set_option maxRecDepth 16384

noncomputable section

namespace Cert.Qkv

open Idealize.ShloMosaic Cert.Kernel4Ideal Cert.Kernel4Ideal.Gen Cert.Kernel4Ideal.Facts
open Idealize.ShloMosaic.TcCoe Idealize.SL.Sem
open Idealize.ShloMosaic.Pipeline (Dat)
open scoped BigOperators

/-! ## The blocks a step stages -/

/-- Row `r` of a row of blocks. -/
def row (b : Fin 8) (r : Fin 1024) : Fin 8192 := ⟨b.val * 1024 + r.val, by omega⟩
/-- Cache row `s` of a row of blocks. -/
def cacheRow (b : Fin 8) (s : Fin 8192) : Fin 65536 := ⟨b.val * 8192 + s.val, by omega⟩

/-- Which block each input stages. -/
theorem index_in : ∀ t : Fin grid0.N,
    win0_0.index t = ![t.val / 4, 0] ∧ win0_1.index t = ![1, t.val % 4, 0] ∧ win0_2.index t = ![1, 0, 0]
      ∧ win0_3.index t = ![1, 0, 0] ∧ win0_4.index t = ![1, 0, 0] ∧ win0_5.index t = ![1, 0, 0] := by
  decide +kernel

/-- Which block each output stages. -/
theorem index_out : ∀ t : Fin grid0.N,
    win0_6.index t = ![t.val / 4, 0] ∧ win0_7.index t = ![1, t.val / 4, 0] ∧ win0_8.index t = ![t.val / 4, 0]
      ∧ win0_9.index t = ![1, t.val / 4, 0] ∧ win0_10.index t = ![1, t.val / 4, 0] ∧ win0_11.index t = ![t.val / 4, 0]
      ∧ win0_12.index t = ![t.val / 4, 0] ∧ win0_13.index t = ![t.val / 4, 0] := by
  decide +kernel

/-- An index of a block, in a rank-two array: a window at block `(p, q)`. -/
theorem idx2 {N M n k : ℕ} {ix : Fin 2 → ℕ} {p q : ℕ} (e : ix = ![p, q]) (x : (⟨2, ![N, M]⟩ : Shape).Idx) (j : (⟨2, ![n, k]⟩ : Shape).Idx)
    (R : Fin N) (C : Fin M) (hR : R.val = p * n + (j 0).val) (hC : C.val = q * k + (j 1).val)
    (h0 : (x 0).val = ix 0 * n + 1 * (j 0).val) (h1 : (x 1).val = ix 1 * k + 1 * (j 1).val) : x = ix2 R C := by
  subst e
  funext a
  refine Fin.ext ?_
  match a with
  | ⟨0, _⟩ => exact h0.trans (by show p * n + 1 * (j 0).val = R.val; omega)
  | ⟨1, _⟩ => exact h1.trans (by show q * k + 1 * (j 1).val = C.val; omega)

/-- An index of a block, in a stack of two layers: a window at block `(1, p, q)`. -/
theorem idx3 {N M n k : ℕ} {ix : Fin 3 → ℕ} {p q : ℕ} (e : ix = ![1, p, q]) (x : (⟨3, ![2, N, M]⟩ : Shape).Idx) (j : (⟨3, ![1, n, k]⟩ : Shape).Idx)
    (R : Fin N) (C : Fin M) (hR : R.val = p * n + (j 1).val) (hC : C.val = q * k + (j 2).val)
    (h0 : (x 0).val = ix 0 * 1 + 1 * (j 0).val) (h1 : (x 1).val = ix 1 * n + 1 * (j 1).val) (h2 : (x 2).val = ix 2 * k + 1 * (j 2).val) :
    x = ix3 1 R C := by
  subst e
  have hj : (j 0).val < 1 := (j 0).isLt
  funext a
  refine Fin.ext ?_
  match a with
  | ⟨0, _⟩ => exact h0.trans (by show 1 * 1 + 1 * (j 0).val = 1; omega)
  | ⟨1, _⟩ => exact h1.trans (by show p * n + 1 * (j 1).val = R.val; omega)
  | ⟨2, _⟩ => exact h2.trans (by show q * k + 1 * (j 2).val = C.val; omega)

variable (m : (ℓ : Loc nD τ sig) → Buf (Elt Ideal) ℓ) (c : Dev nD)

/-- The arguments of device `c`: tokens, weights, forget weights and biases, gains, and the three caches. -/
abbrev tok : Vec Ideal S8192x2048 .bf16 := m ((c : Thread nD τ).loc main_arg0)
@[inherit_doc tok] abbrev wts : Vec Ideal S2x11264x2048 .bf16 := m ((c : Thread nD τ).loc main_arg1)
@[inherit_doc tok] abbrev fw : Vec Ideal S2x128x2048 .bf16 := m ((c : Thread nD τ).loc main_arg2)
@[inherit_doc tok] abbrev fb : Vec Ideal S2x1x128 .f32 := m ((c : Thread nD τ).loc main_arg3)
@[inherit_doc tok] abbrev qGain : Vec Ideal S2x1x128 .f32 := m ((c : Thread nD τ).loc main_arg4)
@[inherit_doc tok] abbrev kGain : Vec Ideal S2x1x128 .f32 := m ((c : Thread nD τ).loc main_arg5)
@[inherit_doc tok] abbrev lfPrev : Vec Ideal S2x8192x8 .f32 := m ((c : Thread nD τ).loc main_arg6)
@[inherit_doc tok] abbrev kPrev : Vec Ideal S2x65536x128 .f32 := m ((c : Thread nD τ).loc main_arg7)
@[inherit_doc tok] abbrev vPrev : Vec Ideal S2x65536x128 .f32 := m ((c : Thread nD τ).loc main_arg8)

/-- The rows of tokens a step stages. -/
theorem iblk0_at (b : Fin 8) (n : Fin 4) (r : Fin 1024) (k : Fin 2048) : iblk m c 0 (pt b n) (ix2 r k) = tok m c (ix2 (row b r) k) :=
  (congrFun (V_main_arg0 m c) _).trans (congrArg (tok m c) (idx2 (index_in (pt b n)).1 _ (ix2 r k) (row b r) k
    (by show b.val * 1024 + r.val = (b.val * 4 + n.val) / 4 * 1024 + r.val; omega) (by show k.val = 0 * 2048 + k.val; omega) rfl rfl))

/-- The rows of weights a step stages. -/
theorem iblk1_at (b : Fin 8) (n : Fin 4) (e : Fin 1024) (k : Fin 2048) :
    iblk m c 1 (pt b n) (ix3 0 e k) = wts m c (ix3 1 (wRow (partCol n e)) k) :=
  (congrFun (V_main_arg1 m c) _).trans (congrArg (wts m c) (idx3 (index_in (pt b n)).2.1 _ (ix3 0 e k) (wRow (partCol n e)) k
    (by show n.val * 1024 + e.val = (b.val * 4 + n.val) % 4 * 1024 + e.val; omega) (by show k.val = 0 * 2048 + k.val; omega) rfl rfl rfl))

/-- The forget weights. -/
theorem iblk2_at (t : Fin cfg0.N) (d : Fin 128) (k : Fin 2048) : iblk m c 2 t (ix3 0 d k) = fw m c (ix3 1 d k) :=
  (congrFun (V_main_arg2 m c) _).trans (congrArg (fw m c) (idx3 (index_in t).2.2.1 _ (ix3 0 d k) d k
    (by show d.val = 0 * 128 + d.val; omega) (by show k.val = 0 * 2048 + k.val; omega) rfl rfl rfl))

/-- The forget biases, -/
theorem iblk3_at (t : Fin cfg0.N) (d : Fin 128) : iblk m c 3 t (ix3 0 0 d) = fb m c (ix3 1 0 d) :=
  (congrFun (V_main_arg3 m c) _).trans (congrArg (fb m c) (idx3 (index_in t).2.2.2.1 _ (ix3 0 0 d) 0 d
    rfl (by show d.val = 0 * 128 + d.val; omega) rfl rfl rfl))
/-- the queries' gains -/
theorem iblk4_at (t : Fin cfg0.N) (d : Fin 128) : iblk m c 4 t (ix3 0 0 d) = qGain m c (ix3 1 0 d) :=
  (congrFun (V_main_arg4 m c) _).trans (congrArg (qGain m c) (idx3 (index_in t).2.2.2.2.1 _ (ix3 0 0 d) 0 d
    rfl (by show d.val = 0 * 128 + d.val; omega) rfl rfl rfl))
/-- and the keys'. -/
theorem iblk5_at (t : Fin cfg0.N) (d : Fin 128) : iblk m c 5 t (ix3 0 0 d) = kGain m c (ix3 1 0 d) :=
  (congrFun (V_main_arg5 m c) _).trans (congrArg (kGain m c) (idx3 (index_in t).2.2.2.2.2 _ (ix3 0 0 d) 0 d
    rfl (by show d.val = 0 * 128 + d.val; omega) rfl rfl rfl))

/-- The product of device `c`'s arguments. -/
abbrev projOf : Fin 8192 → Fin 4096 → EReal := proj (tok m c) (wts m c)
/-- The logits of device `c`'s arguments. -/
abbrev logitOf : Fin 8192 → Fin 128 → EReal := logitArr (tok m c) (fw m c) (fb m c)

/-- A step's product is its block of the whole product, -/
theorem dot_at (b : Fin 8) (n : Fin 4) (r e : Fin 1024) :
    dotBlk (iblk m c 0 (pt b n)) (iblk m c 1 (pt b n)) r e = projOf m c (row b r) (partCol n e) :=
  Finset.sum_congr rfl fun k _ => congrArg₂ (· * ·) (iblk0_at m c b n r k) (iblk1_at m c b n e k)
@[inherit_doc dot_at] theorem z_at (b : Fin 8) (n : Fin 4) (r e : Fin 1024) : zAt m c b n (ix2 r e) = projOf m c (row b r) (partCol n e) :=
  (prod_at _ _ r e).trans (dot_at m c b n r e)
/-- and its logits are its block of the logits. -/
theorem logit_at (b : Fin 8) (r : Fin 1024) (d : Fin 128) :
    logit (iblk m c 0 (pt b 0)) r (iblk m c 2 (pt b 0)) (iblk m c 3 (pt b 0)) d = logitOf m c (row b r) d :=
  congrArg₂ (· + ·) (Finset.sum_congr rfl fun k _ => congrArg₂ (· * ·) (iblk0_at m c b 0 r k) (iblk2_at m c _ d k)) (iblk3_at m c _ d)

/-! ## What the steps store, in the whole arrays -/

/-- The forget gates as an array. -/
def specL : Vec Ideal S8192x128 .f32 := fun i => logSig (logitOf m c (i 0) (i 1))
/-- The stack of forget gates: the first layer's as given, the second layer's the first eight columns. -/
def specL8 : Vec Ideal S2x8192x8 .f32 := fun i =>
  if (i 0).val < 1 then lfPrev m c i else logSig (logitOf m c (i 1) ⟨(i 2).val, Nat.lt_trans (i 2).isLt (by decide)⟩)
/-- The queries as an array. -/
def specQ : Vec Ideal S8192x1024 .bf16 := fun i => normArr (projOf m c) 0 (qGain m c) (i 0) (headIx (i 1)) (headOff (i 1)) * qScale
/-- The stack of keys. -/
def specK : Vec Ideal S2x65536x128 .f32 := fun i =>
  if (i 0).val < 1 then kPrev m c i else normArr (projOf m c) 1 (kGain m c) (cacheTok (i 1)) (cacheHead (i 1)) (i 2)
/-- The stack of values. -/
def specV : Vec Ideal S2x65536x128 .f32 := fun i =>
  if (i 0).val < 1 then vPrev m c i else projOf m c (cacheTok (i 1)) (partCol 2 (headCol (cacheHead (i 1)) (i 2)))
/-- The rounded keys as an array. -/
def specKb : Vec Ideal S8192x1024 .bf16 := fun i => normArr (projOf m c) 1 (kGain m c) (i 0) (headIx (i 1)) (headOff (i 1))
/-- The rounded values as an array. -/
def specVb : Vec Ideal S8192x1024 .bf16 := fun i => projOf m c (i 0) (partCol 2 (i 1))
/-- The gate as an array. -/
def specG : Vec Ideal S8192x1024 .bf16 := fun i => silu (projOf m c (i 0) (partCol 3 (i 1)))

/-- The norm of a step's product by heads. -/
theorem norm_at (b : Fin 8) (n : Fin 4) (r : Fin 1024) (g : Vec Ideal S1x1x128 .f32) (G : Vec Ideal S2x1x128 .f32)
    (hg : ∀ d, g (ix3 0 0 d) = G (ix3 1 0 d)) (u : Fin 8) (d : Fin 128) :
    rms (fun e => zAt m c b n (ix2 r (headCol u e))) (fun e => g (ix3 0 0 e)) d = normArr (projOf m c) n G (row b r) u d := by
  unfold normArr
  exact congrArg₂ (fun x y => rms x y d) (funext fun e => z_at m c b n r _) (funext hg)

/-- The token and the head of a cache row of a block. -/
theorem tok_row (b : Fin 8) (s : Fin 8192) : row b (rowTok s) = cacheTok (cacheRow b s) :=
  Fin.ext (by show b.val * 1024 + s.val / 8 = (b.val * 8192 + s.val) / 8; omega)
@[inherit_doc tok_row] theorem head_row (b : Fin 8) (s : Fin 8192) : rowHead s = cacheHead (cacheRow b s) :=
  Fin.ext (by show s.val % 8 = (b.val * 8192 + s.val) % 8; omega)

theorem l_at (b : Fin 8) (r : Fin 1024) (d : Fin 128) : lfBlk m c b (ix2 r d) = specL m c (ix2 (row b r) d) := by
  unfold lfBlk
  rw [lf_at, logit_at]
  rfl
theorem l8_at (b : Fin 8) (r : Fin 1024) (d : Fin 8) : lf8Blk m c b (ix3 0 r d) = specL8 m c (ix3 1 (row b r) d) := by
  unfold lf8Blk
  rw [lf8_at, logit_at]
  rfl
theorem q_at (b : Fin 8) (r e : Fin 1024) : qBlk m c b (ix2 r e) = specQ m c (ix2 (row b r) e) := by
  unfold qBlk
  rw [colOut_at, qHead_at, norm_at m c b 0 r _ (qGain m c) (iblk4_at m c _)]
  rfl
theorem k_at (b : Fin 8) (s : Fin 8192) (d : Fin 128) : kBlk m c b (ix3 0 s d) = specK m c (ix3 1 (cacheRow b s) d) := by
  unfold kBlk
  rw [rowOut_at, kHead_at, norm_at m c b 1 _ _ (kGain m c) (iblk5_at m c _), tok_row, head_row b]
  rfl
theorem v_at (b : Fin 8) (s : Fin 8192) (d : Fin 128) : vBlk m c b (ix3 0 s d) = specV m c (ix3 1 (cacheRow b s) d) := by
  unfold vBlk
  rw [rowOut_at, vHead_at, z_at, tok_row, head_row b]
  rfl
theorem kb_at (b : Fin 8) (r e : Fin 1024) : kbBlk m c b (ix2 r e) = specKb m c (ix2 (row b r) e) := by
  unfold kbBlk
  rw [colOut_at, kbHead_at, norm_at m c b 1 r _ (kGain m c) (iblk5_at m c _)]
  rfl
theorem vb_at (b : Fin 8) (r e : Fin 1024) : vbBlk m c b (ix2 r e) = specVb m c (ix2 (row b r) e) := by
  unfold vbBlk
  rw [colOut_at, vbHead_at, z_at, headCol_of]
  rfl
theorem g_at (b : Fin 8) (r e : Fin 1024) : gBlk m c b (ix2 r e) = specG m c (ix2 (row b r) e) := by
  unfold gBlk
  rw [gate_at, dot_at]
  rfl

/-! ## The blocks in the arrays -/

/-- What is written back of an output is its block of the array: the forget gates, -/
theorem flushed_l (t : Fin cfg0.N) : (dats m 0 c).flushed 6 t = ((cfg0.win 6).blk t).view.read (Elt Ideal) (specL m c) := by
  show (cfg0.win 6).cut (grid0.coords t) ((dats m 0 c).after 6 t) = _
  rw [after_6]
  funext j
  obtain ⟨r, d, rfl⟩ : ∃ (r : Fin 1024) (d : Fin 128), j = ix2 r d := ⟨j 0, j 1, eq_ix2 j⟩
  exact (l_at m c (rowOf t) r d).trans (congrArg (specL m c)
    (idx2 (index_out t).1 _ (ix2 r d) (row (rowOf t) r) d rfl (by show d.val = 0 * 128 + d.val; omega) rfl rfl)).symm
/-- their stack, -/
theorem flushed_l8 (t : Fin cfg0.N) : (dats m 0 c).flushed 7 t = ((cfg0.win 7).blk t).view.read (Elt Ideal) (specL8 m c) := by
  show (cfg0.win 7).cut (grid0.coords t) ((dats m 0 c).after 7 t) = _
  rw [after_7]
  funext j
  obtain ⟨z, r, d, rfl⟩ : ∃ (z : Fin 1) (r : Fin 1024) (d : Fin 8), j = ix3 z r d := ⟨j 0, j 1, j 2, eq_ix3 j⟩
  obtain rfl : z = 0 := Subsingleton.elim _ _
  rw [View.read_apply]
  refine (l8_at m c (rowOf t) r d).trans (congrArg (specL8 m c) (a₂ := ((cfg0.win 7).blk t).view.emb (ix3 0 r d)) ?_)
  exact (idx3 (index_out t).2.1 _ (ix3 0 r d) (row (rowOf t) r) d rfl (by show d.val = 0 * 8 + d.val; omega) rfl rfl rfl).symm
/-- the queries, -/
theorem flushed_q (t : Fin cfg0.N) : (dats m 0 c).flushed 8 t = ((cfg0.win 8).blk t).view.read (Elt Ideal) (specQ m c) := by
  show (cfg0.win 8).cut (grid0.coords t) ((dats m 0 c).after 8 t) = _
  rw [after_8]
  funext j
  obtain ⟨r, d, rfl⟩ : ∃ (r d : Fin 1024), j = ix2 r d := ⟨j 0, j 1, eq_ix2 j⟩
  exact (q_at m c (rowOf t) r d).trans (congrArg (specQ m c)
    (idx2 (index_out t).2.2.1 _ (ix2 r d) (row (rowOf t) r) d rfl (by show d.val = 0 * 1024 + d.val; omega) rfl rfl)).symm
/-- the stack of keys, -/
theorem flushed_k (t : Fin cfg0.N) : (dats m 0 c).flushed 9 t = ((cfg0.win 9).blk t).view.read (Elt Ideal) (specK m c) := by
  show (cfg0.win 9).cut (grid0.coords t) ((dats m 0 c).after 9 t) = _
  rw [after_9]
  funext j
  obtain ⟨z, r, d, rfl⟩ : ∃ (z : Fin 1) (r : Fin 8192) (d : Fin 128), j = ix3 z r d := ⟨j 0, j 1, j 2, eq_ix3 j⟩
  obtain rfl : z = 0 := Subsingleton.elim _ _
  rw [View.read_apply]
  refine (k_at m c (rowOf t) r d).trans (congrArg (specK m c) (a₂ := ((cfg0.win 9).blk t).view.emb (ix3 0 r d)) ?_)
  exact (idx3 (index_out t).2.2.2.1 _ (ix3 0 r d) (cacheRow (rowOf t) r) d rfl (by show d.val = 0 * 128 + d.val; omega) rfl rfl rfl).symm
/-- the stack of values, -/
theorem flushed_v (t : Fin cfg0.N) : (dats m 0 c).flushed 10 t = ((cfg0.win 10).blk t).view.read (Elt Ideal) (specV m c) := by
  show (cfg0.win 10).cut (grid0.coords t) ((dats m 0 c).after 10 t) = _
  rw [after_10]
  funext j
  obtain ⟨z, r, d, rfl⟩ : ∃ (z : Fin 1) (r : Fin 8192) (d : Fin 128), j = ix3 z r d := ⟨j 0, j 1, j 2, eq_ix3 j⟩
  obtain rfl : z = 0 := Subsingleton.elim _ _
  rw [View.read_apply]
  refine (v_at m c (rowOf t) r d).trans (congrArg (specV m c) (a₂ := ((cfg0.win 10).blk t).view.emb (ix3 0 r d)) ?_)
  exact (idx3 (index_out t).2.2.2.2.1 _ (ix3 0 r d) (cacheRow (rowOf t) r) d rfl (by show d.val = 0 * 128 + d.val; omega) rfl rfl rfl).symm
/-- the rounded keys, -/
theorem flushed_kb (t : Fin cfg0.N) : (dats m 0 c).flushed 11 t = ((cfg0.win 11).blk t).view.read (Elt Ideal) (specKb m c) := by
  show (cfg0.win 11).cut (grid0.coords t) ((dats m 0 c).after 11 t) = _
  rw [after_11]
  funext j
  obtain ⟨r, d, rfl⟩ : ∃ (r d : Fin 1024), j = ix2 r d := ⟨j 0, j 1, eq_ix2 j⟩
  exact (kb_at m c (rowOf t) r d).trans (congrArg (specKb m c)
    (idx2 (index_out t).2.2.2.2.2.1 _ (ix2 r d) (row (rowOf t) r) d rfl (by show d.val = 0 * 1024 + d.val; omega) rfl rfl)).symm
/-- the rounded values -/
theorem flushed_vb (t : Fin cfg0.N) : (dats m 0 c).flushed 12 t = ((cfg0.win 12).blk t).view.read (Elt Ideal) (specVb m c) := by
  show (cfg0.win 12).cut (grid0.coords t) ((dats m 0 c).after 12 t) = _
  rw [after_12]
  funext j
  obtain ⟨r, d, rfl⟩ : ∃ (r d : Fin 1024), j = ix2 r d := ⟨j 0, j 1, eq_ix2 j⟩
  exact (vb_at m c (rowOf t) r d).trans (congrArg (specVb m c)
    (idx2 (index_out t).2.2.2.2.2.2.1 _ (ix2 r d) (row (rowOf t) r) d rfl (by show d.val = 0 * 1024 + d.val; omega) rfl rfl)).symm
/-- and the gate. -/
theorem flushed_g (t : Fin cfg0.N) : (dats m 0 c).flushed 13 t = ((cfg0.win 13).blk t).view.read (Elt Ideal) (specG m c) := by
  show (cfg0.win 13).cut (grid0.coords t) ((dats m 0 c).after 13 t) = _
  rw [after_13]
  funext j
  obtain ⟨r, d, rfl⟩ : ∃ (r d : Fin 1024), j = ix2 r d := ⟨j 0, j 1, eq_ix2 j⟩
  exact (g_at m c (rowOf t) r d).trans (congrArg (specG m c)
    (idx2 (index_out t).2.2.2.2.2.2.2 _ (ix2 r d) (row (rowOf t) r) d rfl (by show d.val = 0 * 1024 + d.val; omega) rfl rfl)).symm

/-! ## The blocks fill the arrays -/

/-- The last step of the row of a token. -/
theorem last_step (R : ℕ) (h : R < 8192) : ∃ t : Fin cfg0.N, t.val = R / 1024 * 4 + 3 := ⟨pt ⟨R / 1024, by omega⟩ 3, rfl⟩

/-- The block that an index of a rank-two array lies in. -/
theorem mem2 {n : ℕ} (i : (⟨2, ![8192, n]⟩ : Shape).Idx) {ix : Fin 2 → ℕ} {p : ℕ} (e : ix = ![p, 0]) (hp : p = (i 0).val / 1024) (a : Fin 2) :
    ix a * (![1024, n] : Fin 2 → ℕ) a ≤ (i a).val ∧ (i a).val < ix a * (![1024, n] : Fin 2 → ℕ) a + (![1024, n] : Fin 2 → ℕ) a := by
  subst e
  have h1 : (i 1).val < n := (i 1).isLt
  match a with
  | ⟨0, _⟩ => show p * 1024 ≤ (i 0).val ∧ (i 0).val < p * 1024 + 1024; omega
  | ⟨1, _⟩ => show 0 * n ≤ (i 1).val ∧ (i 1).val < 0 * n + n; omega

/-- The block that an index of the second layer's part of a stack lies in. -/
theorem mem3 {N n k : ℕ} (hk : 0 < k) (i : (⟨3, ![2, N, n]⟩ : Shape).Idx) {ix : Fin 3 → ℕ} {p : ℕ} (e : ix = ![1, p, 0]) (h : (i 0).val = 1)
    (hp : p = (i 1).val / k) (a : Fin 3) :
    ix a * (![1, k, n] : Fin 3 → ℕ) a ≤ (i a).val ∧ (i a).val < ix a * (![1, k, n] : Fin 3 → ℕ) a + (![1, k, n] : Fin 3 → ℕ) a := by
  subst e
  have h2 : (i 2).val < n := (i 2).isLt
  match a with
  | ⟨0, _⟩ => show 1 * 1 ≤ (i 0).val ∧ (i 0).val < 1 * 1 + 1; omega
  | ⟨1, _⟩ =>
    show p * k ≤ (i 1).val ∧ (i 1).val < p * k + k
    subst hp
    exact ⟨Nat.div_mul_le_self _ _, Nat.lt_div_mul_add hk⟩
  | ⟨2, _⟩ => show 0 * n ≤ (i 2).val ∧ (i 2).val < 0 * n + n; omega

theorem cover_l (i : S8192x128.Idx) : ∃ t : Fin cfg0.N, (cfg0.win 6).flush t = true ∧ i ∈ ((cfg0.win 6).blk t).view.set := by
  obtain ⟨t, ht⟩ := last_step (i 0).val (i 0).isLt
  refine ⟨t, (flush0_6 t).2 (by omega), ?_⟩
  show i ∈ ((View.whole main_v0_0).slice (win0_6.rect t)).set
  rw [View.set_slice_whole, Rect.mem_set_unit]
  exact mem2 i (index_out t).1 (by omega)
theorem cover_q (i : S8192x1024.Idx) : ∃ t : Fin cfg0.N, (cfg0.win 8).flush t = true ∧ i ∈ ((cfg0.win 8).blk t).view.set := by
  obtain ⟨t, ht⟩ := last_step (i 0).val (i 0).isLt
  refine ⟨t, (flush0_8 t).2 (by omega), ?_⟩
  show i ∈ ((View.whole main_v0_2).slice (win0_8.rect t)).set
  rw [View.set_slice_whole, Rect.mem_set_unit]
  exact mem2 i (index_out t).2.2.1 (by omega)
theorem cover_kb (i : S8192x1024.Idx) : ∃ t : Fin cfg0.N, (cfg0.win 11).flush t = true ∧ i ∈ ((cfg0.win 11).blk t).view.set := by
  obtain ⟨t, ht⟩ := last_step (i 0).val (i 0).isLt
  refine ⟨t, (flush0_11 t).2 (by omega), ?_⟩
  show i ∈ ((View.whole main_v0_5).slice (win0_11.rect t)).set
  rw [View.set_slice_whole, Rect.mem_set_unit]
  exact mem2 i (index_out t).2.2.2.2.2.1 (by omega)
theorem cover_vb (i : S8192x1024.Idx) : ∃ t : Fin cfg0.N, (cfg0.win 12).flush t = true ∧ i ∈ ((cfg0.win 12).blk t).view.set := by
  obtain ⟨t, ht⟩ := last_step (i 0).val (i 0).isLt
  refine ⟨t, (flush0_12 t).2 (by omega), ?_⟩
  show i ∈ ((View.whole main_v0_6).slice (win0_12.rect t)).set
  rw [View.set_slice_whole, Rect.mem_set_unit]
  exact mem2 i (index_out t).2.2.2.2.2.2.1 (by omega)
theorem cover_g (i : S8192x1024.Idx) : ∃ t : Fin cfg0.N, (cfg0.win 13).flush t = true ∧ i ∈ ((cfg0.win 13).blk t).view.set := by
  obtain ⟨t, ht⟩ := last_step (i 0).val (i 0).isLt
  refine ⟨t, (flush0_13 t).2 (by omega), ?_⟩
  show i ∈ ((View.whole main_v0_7).slice (win0_13.rect t)).set
  rw [View.set_slice_whole, Rect.mem_set_unit]
  exact mem2 i (index_out t).2.2.2.2.2.2.2 (by omega)
theorem cover_l8 (i : S2x8192x8.Idx) (h : (i 0).val = 1) : ∃ t : Fin cfg0.N, (cfg0.win 7).flush t = true ∧ i ∈ ((cfg0.win 7).blk t).view.set := by
  obtain ⟨t, ht⟩ := last_step (i 1).val (i 1).isLt
  refine ⟨t, (flush0_7 t).2 (by omega), ?_⟩
  show i ∈ ((View.whole main_v0_1).slice (win0_7.rect t)).set
  rw [View.set_slice_whole, Rect.mem_set_unit]
  exact mem3 (by decide) i (index_out t).2.1 h (by omega)
theorem cover_k (i : S2x65536x128.Idx) (h : (i 0).val = 1) : ∃ t : Fin cfg0.N, (cfg0.win 9).flush t = true ∧ i ∈ ((cfg0.win 9).blk t).view.set := by
  have h1 : (i 1).val < 65536 := (i 1).isLt
  obtain ⟨t, ht⟩ := last_step ((i 1).val / 8) (by omega)
  refine ⟨t, (flush0_9 t).2 (by omega), ?_⟩
  show i ∈ ((View.whole main_v0_3).slice (win0_9.rect t)).set
  rw [View.set_slice_whole, Rect.mem_set_unit]
  exact mem3 (by decide) i (index_out t).2.2.2.1 h (by omega)
theorem cover_v (i : S2x65536x128.Idx) (h : (i 0).val = 1) : ∃ t : Fin cfg0.N, (cfg0.win 10).flush t = true ∧ i ∈ ((cfg0.win 10).blk t).view.set := by
  have h1 : (i 1).val < 65536 := (i 1).isLt
  obtain ⟨t, ht⟩ := last_step ((i 1).val / 8) (by omega)
  refine ⟨t, (flush0_10 t).2 (by omega), ?_⟩
  show i ∈ ((View.whole main_v0_4).slice (win0_10.rect t)).set
  rw [View.set_slice_whole, Rect.mem_set_unit]
  exact mem3 (by decide) i (index_out t).2.2.2.2.1 h (by omega)

/-- The arrays written whole end as the whole arrays: the forget gates, -/
theorem final_l : (dats m 0 c).arrAt 6 cfg0.N = specL m c := (dats m 0 c).arrAt_eq_of_cover 6 (specL m c) (fun t _ => flushed_l m c t) cover_l
/-- the queries, -/
theorem final_q : (dats m 0 c).arrAt 8 cfg0.N = specQ m c := (dats m 0 c).arrAt_eq_of_cover 8 (specQ m c) (fun t _ => flushed_q m c t) cover_q
/-- the rounded keys, -/
theorem final_kb : (dats m 0 c).arrAt 11 cfg0.N = specKb m c := (dats m 0 c).arrAt_eq_of_cover 11 (specKb m c) (fun t _ => flushed_kb m c t) cover_kb
/-- the rounded values -/
theorem final_vb : (dats m 0 c).arrAt 12 cfg0.N = specVb m c := (dats m 0 c).arrAt_eq_of_cover 12 (specVb m c) (fun t _ => flushed_vb m c t) cover_vb
/-- and the gate. -/
theorem final_g : (dats m 0 c).arrAt 13 cfg0.N = specG m c := (dats m 0 c).arrAt_eq_of_cover 13 (specG m c) (fun t _ => flushed_g m c t) cover_g

/-- The stacks enter holding the caches given. -/
theorem entry_l8 : V m c main_v0_1 = lfPrev m c := by entry_read; rfl
@[inherit_doc entry_l8] theorem entry_k : V m c main_v0_3 = kPrev m c := by entry_read; rfl
@[inherit_doc entry_l8] theorem entry_v : V m c main_v0_4 = vPrev m c := by entry_read; rfl

/-- They end with the second layer's part written and the first layer's as given: the forget gates, -/
theorem final_l8 : (dats m 0 c).arrAt 7 cfg0.N = specL8 m c := funext fun i => by
  have h0 : (i 0).val < 2 := (i 0).isLt
  refine ((dats m 0 c).arrAt_eq_piecewise 7 (specL8 m c) (fun t _ => flushed_l8 m c t) i).trans ?_
  split
  · rfl
  · rename_i h
    have h1 : (i 0).val < 1 := by_contra fun h' => h (cover_l8 i (by omega))
    exact ((congrFun (A_eq m c 7) i).trans (congrFun (entry_l8 m c) i)).trans (if_pos h1).symm
/-- the keys -/
theorem final_k : (dats m 0 c).arrAt 9 cfg0.N = specK m c := funext fun i => by
  have h0 : (i 0).val < 2 := (i 0).isLt
  refine ((dats m 0 c).arrAt_eq_piecewise 9 (specK m c) (fun t _ => flushed_k m c t) i).trans ?_
  split
  · rfl
  · rename_i h
    have h1 : (i 0).val < 1 := by_contra fun h' => h (cover_k i (by omega))
    exact ((congrFun (A_eq m c 9) i).trans (congrFun (entry_k m c) i)).trans (if_pos h1).symm
/-- and the values. -/
theorem final_v : (dats m 0 c).arrAt 10 cfg0.N = specV m c := funext fun i => by
  have h0 : (i 0).val < 2 := (i 0).isLt
  refine ((dats m 0 c).arrAt_eq_piecewise 10 (specV m c) (fun t _ => flushed_v m c t) i).trans ?_
  split
  · rfl
  · rename_i h
    have h1 : (i 0).val < 1 := by_contra fun h' => h (cover_v i (by omega))
    exact ((congrFun (A_eq m c 10) i).trans (congrFun (entry_v m c) i)).trans (if_pos h1).symm

/-- The run, with its eight results named and its arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v0_0) = specL m c
      ∧ r.2.mem ((c : Thread nD τ).loc main_v0_1) = specL8 m c
      ∧ r.2.mem ((c : Thread nD τ).loc main_v0_2) = specQ m c
      ∧ r.2.mem ((c : Thread nD τ).loc main_v0_3) = specK m c
      ∧ r.2.mem ((c : Thread nD τ).loc main_v0_4) = specV m c
      ∧ r.2.mem ((c : Thread nD τ).loc main_v0_5) = specKb m c
      ∧ r.2.mem ((c : Thread nD τ).loc main_v0_6) = specVb m c
      ∧ r.2.mem ((c : Thread nD τ).loc main_v0_7) = specG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h.1 c).1 6).trans (final_l m c), ((h.1 c).1 7).trans (final_l8 m c), ((h.1 c).1 8).trans (final_q m c),
      ((h.1 c).1 9).trans (final_k m c), ((h.1 c).1 10).trans (final_v m c), ((h.1 c).1 11).trans (final_kb m c),
      ((h.1 c).1 12).trans (final_vb m c), ((h.1 c).1 13).trans (final_g m c), h.2.1 c⟩)
    (θ_run_and (run_arrays m ρ) (frame_any m ρ))

end Cert.Qkv

end

end
-- ==== Proof.QkvClaims.lean ====
/-
  The claims about the first input projection.
-/
module

public import proofs.«01_k».proof.Defs
public import proofs.«01_k».proof.Proof.QkvArray
public import proofs.«01_k».proof.Proof.Gen.Kernel4
public import proofs.«01_k».proof.Proof.Gen.Reference4Ideal.Run
public import Idealize.ShloMosaic.Lib.Quiescent

@[expose] public section

set_option maxRecDepth 16384

noncomputable section

namespace Cert.Qkv

open Idealize.ShloMosaic Idealize.ShloMosaic.TcCoe Idealize.SL.Sem

/-! ## The two printings are one program -/

set_option backward.isDefEq.respectTransparency.types false in
/-- No rule was applied to the kernel, so the printing for exact values is the kernel itself: the body tables agree, -/
theorem bodies_eq : Kernel4.defs₀ (F := Bits) = Kernel4Ideal.defs₀ (F := Bits) := by
  unfold Kernel4.defs₀ Kernel4Ideal.defs₀
  refine congrArg Defs.onTc (funext fun l => ?_)
  match l with
  | ⟨0, _⟩ => exact funext fun ⟨t, s⟩ => rfl

set_option backward.isDefEq.respectTransparency.types false in
/-- and so do the programs' tables. -/
theorem tables_eq : Kernel4.defs (F := Bits) = Kernel4Ideal.defs (F := Bits) :=
  congrArg (Pipeline.defs (Kernel4Ideal.pcfgs (F := Bits))) bodies_eq

/-! ## The claims -/

set_option backward.isDefEq.respectTransparency.types false in
/-- The first input projection's kernel runs and leaves its arguments, at the machine's floats. -/
theorem frame_p : Cert.quiescent_Kernel4 := fun m ρ _ => by
  rw [tables_eq]
  exact frame_any (F := Bits) m ρ
/-- The same, at exact values. -/
theorem frame_pi : Cert.quiescent_Kernel4Ideal := fun m ρ _ => frame_any m ρ

/-- The reference runs and leaves its arguments. -/
theorem frame_ri : Cert.quiescent_Reference4Ideal := fun m ρ _ =>
  (θ_run Cert.Reference4Ideal.defs _ _).mono (fun r h => ⟨fun c => (h c).2.2.2.2.2.2.2.2, Idealize.ShloMosaic.sem_eq_zero_of_no_sems (by decide) r.2⟩)
    (Cert.Reference4Ideal.Value.run (F := Ideal) m ρ)

/-- Nothing was replaced in the first input projection. -/
theorem preserves : Cert.preserves_Kernel4_Kernel4Ideal := trivial

/-- Kernel and reference end with the same forget gates, queries, keys, values and gate, and the same three stacks. -/
theorem algebraic : Cert.algebraic_Kernel4Ideal_Reference4Ideal := by
  intro m ρ m' ρ' _ hagree
  refine ⟨fun c => specL m c, fun c => specL8 m c, fun c => specQ m c, fun c => specK m c, fun c => specV m c, fun c => specKb m c,
    fun c => specVb m c, fun c => specG m c, run_results m ρ, ?_⟩
  refine (θ_run Cert.Reference4Ideal.defs _ _).mono
    (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2.1.trans ?_, (h c).2.2.2.2.2.2.2.2⟩)
    (Cert.Reference4Ideal.Value.run (F := Ideal) m' ρ')
  all_goals obtain ⟨e0, e1, e2, e3, e4, e5, e6, e7, e8⟩ := hagree c
  · rw [Cert.Reference4Ideal.Read.val_main_v7_eq, e0, e2, e3]
    exact arr_lf _ _ _
  · rw [Cert.Reference4Ideal.Read.val_main_v54_eq, e0, e2, e3, e6]
    exact arr_lf8 _ _ _ _
  · rw [Cert.Reference4Ideal.Read.val_main_v56_eq, e0, e1, e4]
    exact arr_q _ _ _
  · rw [Cert.Reference4Ideal.Read.val_main_v62_eq, e0, e1, e5, e7]
    exact arr_ks _ _ _ _
  · rw [Cert.Reference4Ideal.Read.val_main_v68_eq, e0, e1, e8]
    exact arr_vs _ _ _
  · rw [Cert.Reference4Ideal.Read.val_main_v70_eq, e0, e1, e5]
    exact arr_kb _ _ _
  · rw [Cert.Reference4Ideal.Read.val_main_v71_eq, e0, e1]
    exact arr_vb _ _
  · rw [Cert.Reference4Ideal.Read.val_main_v73_eq, e0, e1]
    exact arr_gate _ _

end Cert.Qkv

end

end
-- ==== Proof.SampStep.lean ====
/-
  One step of the sample attention's online softmax: 64 query rows against a block of `K` keys (2048 of the cache, or the
  128 columns that hold the 64 new keys). The vector operations of a step, what each computes at an index, and the step in
  the words of Softmax.lean. The keys of a row are numbered 0 … 4223: the cache's 4096, the 64 new ones, 64 empty columns.
-/
module

public import proofs.«01_k».proof.Proof.Gen.Kernel5Ideal
public import proofs.«01_k».proof.Proof.Softmax
public import Idealize.ShloMosaic.Lib.Pointwise
public import Idealize.ShloMosaic.Lib.WordCmp

@[expose] public section

set_option maxRecDepth 16384

noncomputable section

namespace Cert.Samp

open Idealize.ShloMosaic Cert.Kernel5Ideal Cert.Kernel5Ideal.Gen Cert.Kernel5Ideal.Facts Cert.Softmax
open scoped BigOperators

/-! ## The operations of a step, for any number of keys -/

/-- 64 rows by `K` columns. -/
abbrev Blk (K : ℕ) : Shape := ⟨2, ![64, K]⟩

section
variable {K : ℕ} (hr : (Blk K).Reduces [1] S64) (hb : S64x1.Broadcasts (Blk K))

/-- The rows' largest scores after the block, from those before it. -/
def newM (s : FVec Ideal (Blk K) .f32) (f m : FVec Ideal S64x1 .f32) : FVec Ideal S64x1 .f32 :=
  maximumf m (addf (shapeCast S64x1 (multiReduction .maximumf [1] S64 s 0xFF800000#32 hr (.inl rfl) rfl) shapeCasts_S64_S64x1) f)

/-- The block's weights relative to the largest scores `m'`. -/
def weights (s : FVec Ideal (Blk K) .f32) (f m' : FVec Ideal S64x1 .f32) : FVec Ideal (Blk K) .f32 :=
  exp2 (addf s (broadcastTo (Blk K) (subf f m') hb))

/-- The sums of the weights after the block. -/
def newL (s : FVec Ideal (Blk K) .f32) (f m l : FVec Ideal S64x1 .f32) : FVec Ideal S64x1 .f32 :=
  addf (mulf (exp2 (subf m (newM hr s f m))) l)
    (shapeCast S64x1 (multiReduction .add [1] S64 (weights hb s f (newM hr s f m)) 0x00000000#32 hr (.inl rfl) rfl) shapeCasts_S64_S64x1)

/-- The weighted sums of the values after the block, `p` the block's own. -/
def newA (s : FVec Ideal (Blk K) .f32) (f m : FVec Ideal S64x1 .f32) (a p : FVec Ideal S64x128 .f32) : FVec Ideal S64x128 .f32 :=
  addf (mulf (broadcastTo S64x128 (exp2 (subf m (newM hr s f m))) broadcasts_S64x1_S64x128) a) p

theorem newM_apply (s : FVec Ideal (Blk K) .f32) (f m : FVec Ideal S64x1 .f32) (r : Fin 64) :
    newM hr s f m (ix2 r 0) = max (m (ix2 r 0)) ((Finset.univ.sup fun c : Fin K => s (ix2 r c)) + f (ix2 r 0)) := by
  unfold newM
  pointwise
  rfl

theorem weights_apply (s : FVec Ideal (Blk K) .f32) (f m' : FVec Ideal S64x1 .f32) (r : Fin 64) (c : Fin K) :
    weights hb s f m' (ix2 r c) = Ideal.exp2 (s (ix2 r c) + (f (ix2 r 0) - m' (ix2 r 0))) := by
  unfold weights
  pointwise
  rfl

theorem newL_apply (s : FVec Ideal (Blk K) .f32) (f m l : FVec Ideal S64x1 .f32) (r : Fin 64) :
    newL hr hb s f m l (ix2 r 0) = Ideal.exp2 (m (ix2 r 0) - newM hr s f m (ix2 r 0)) * l (ix2 r 0)
      + ∑ c : Fin K, Ideal.exp2 (s (ix2 r c) + (f (ix2 r 0) - newM hr s f m (ix2 r 0))) := by
  unfold newL
  generalize newM hr s f m = m'
  unfold weights
  pointwise
  rfl

theorem newA_apply (s : FVec Ideal (Blk K) .f32) (f m : FVec Ideal S64x1 .f32) (a p : FVec Ideal S64x128 .f32) (r : Fin 64) (d : Fin 128) :
    newA hr s f m a p (ix2 r d) = Ideal.exp2 (m (ix2 r 0) - newM hr s f m (ix2 r 0)) * a (ix2 r d) + p (ix2 r d) := by
  unfold newA
  generalize newM hr s f m = m'
  pointwise
  rfl

/-! ## Where a block lies among the keys -/

/-- Where a block of `K` keys starting at `o` lies among the row's. -/
def key (o : ℕ) (h : o + K ≤ 4224) : Fin K ↪ Fin 4224 :=
  ⟨fun c => ⟨o + c.val, by omega⟩, fun c c' e => Fin.ext (by have := congrArg Fin.val e; simp only at this; omega)⟩

theorem key_val (o : ℕ) (h : o + K ≤ 4224) (c : Fin K) : (key o h c).val = o + c.val := rfl

/-- The keys before position `n`. -/
def upTo (n : ℕ) : Finset (Fin 4224) := Finset.univ.filter fun k => k.val < n

theorem mem_upTo {n : ℕ} {k : Fin 4224} : k ∈ upTo n ↔ k.val < n := by simp [upTo]

/-- The keys before the block and the block's make the keys before its end. -/
theorem upTo_block (o : ℕ) (h : o + K ≤ 4224) : upTo (o + K) = upTo o ∪ Finset.univ.map (key o h) := by
  ext k
  rw [Finset.mem_union, mem_upTo, mem_upTo, Finset.mem_map]
  constructor
  · intro hk
    by_cases hko : k.val < o
    · exact .inl hko
    · exact .inr ⟨⟨k.val - o, by omega⟩, Finset.mem_univ _, Fin.ext (by show o + (k.val - o) = k.val; omega)⟩
  · rintro (hk | ⟨c, -, rfl⟩)
    · omega
    · show o + c.val < o + K
      omega

/-- ONE STEP OF A ROW: if the running state of row `r` holds the keys before `o`, the state after the block at `o` holds
    those before `o + K`. -/
theorem row_step {sc v : Fin 4224 → EReal} {s : FVec Ideal (Blk K) .f32} {f m l : FVec Ideal S64x1 .f32} {a p : FVec Ideal S64x128 .f32}
    {r : Fin 64} {d : Fin 128} (o : ℕ) (ho : o + K ≤ 4224) (hK : 0 < K) {fq : ℝ}
    (hc : Carry sc v (upTo o) (m (ix2 r 0)) (l (ix2 r 0)) (a (ix2 r d))) (hf : f (ix2 r 0) = (fq : EReal))
    (hs : ∀ c : Fin K, sc (key o ho c) = s (ix2 r c) + (fq : EReal))
    (hp : p (ix2 r d) = ∑ c : Fin K, weights hb s f (newM hr s f m) (ix2 r c) * v (key o ho c))
    (htop : ∀ k, sc k ≠ ⊤) (h0 : sc 0 ≠ ⊥) :
    Carry sc v (upTo (o + K)) (newM hr s f m (ix2 r 0)) (newL hr hb s f m l (ix2 r 0)) (newA hr s f m a p (ix2 r d)) := by
  classical
  have hd : Disjoint (upTo o) (Finset.univ.map (key o ho)) := by
    rw [Finset.disjoint_left]
    intro k hk hk'
    obtain ⟨c, -, rfl⟩ := Finset.mem_map.1 hk'
    have := mem_upTo.1 hk
    rw [key_val] at this
    omega
  haveI : Nonempty (Fin K) := ⟨⟨0, hK⟩⟩
  have h0mem : (0 : Fin 4224) ∈ upTo o ∪ Finset.univ.map (key o ho) := by
    rw [← upTo_block, mem_upTo]; show 0 < o + K; omega
  have hinv : ∀ c, Function.invFun (key o ho) (key o ho c) = c := Function.leftInverse_invFun (key o ho).injective
  have st := Carry.step (B := Finset.univ.map (key o ho)) (t := fun k => s (ix2 r (Function.invFun (key o ho) k))) (f := fq) hc hd
    (Finset.univ_nonempty.map)
    (fun k hk => by obtain ⟨c, -, rfl⟩ := Finset.mem_map.1 hk; rw [hinv]; exact hs c) htop
    (by
      by_cases hz : o = 0
      · subst hz
        exact .inl (Finset.filter_eq_empty_iff.2 fun k _ => by omega)
      · exact .inr ⟨0, mem_upTo.2 (by show 0 < o; omega), h0⟩)
    ⟨0, h0mem, h0⟩
  simp only [Finset.sup_map, Finset.sum_map, Function.comp_def, hinv] at st
  simp only [weights_apply] at hp
  rw [upTo_block o ho, newL_apply, newA_apply, hp, newM_apply, hf]
  exact st

end

/-! ## Masked keys count for nothing -/

/-- A row's result over the keys of `κ` is its result over any wider numbering in which the others are masked. -/
theorem softRow_wider {ι κ : Type*} [Fintype ι] [Fintype κ] (e : κ ↪ ι) {sc v : ι → EReal} (htop : ∀ k, sc k ≠ ⊤) {k0 : κ}
    (hbot : sc (e k0) ≠ ⊥) (hout : ∀ k, k ∉ Set.range e → sc k = ⊥) : softRow sc v = softRow (fun k => sc (e k)) (fun k => v (e k)) := by
  classical
  have h : Carry sc v (Finset.univ.map e) _ _ _ := ⟨rfl, rfl, rfl⟩
  have h' : Carry (fun k => sc (e k)) (fun k => v (e k)) Finset.univ ((Finset.univ.map e).sup sc)
      (∑ k ∈ Finset.univ.map e, Ideal.exp2 (sc k - (Finset.univ.map e).sup sc))
      (∑ k ∈ Finset.univ.map e, Ideal.exp2 (sc k - (Finset.univ.map e).sup sc) * v k) :=
    ⟨Finset.sup_map _ _ _, Finset.sum_map _ _ _, Finset.sum_map _ _ _⟩
  rw [← h.result htop (Finset.mem_map_of_mem e (Finset.mem_univ k0)) hbot fun k hk => hout k fun ⟨j, hj⟩ =>
      hk (hj ▸ Finset.mem_map_of_mem e (Finset.mem_univ j)),
    ← h'.result (fun k => htop _) (Finset.mem_univ k0) hbot fun k hk => absurd (Finset.mem_univ k) hk]

/-! ## The scores and the products of a head -/

/-- A head's 2048 rows of a block of the cache, whose rows go key by key and head by head within a key. -/
def oldRows (x : Vec Ideal S1x1x16384x128 .f32) (n : ℕ) (h : S8x2048x128.Slices ![n, 0, 0] S1x2048x128) : FVec Ideal S2048x128 .bf16 :=
  shapeCast S2048x128 (extractStridedSlice S1x2048x128 ![n, 0, 0]
    (truncf .bf16 (transpose S8x2048x128 [1, 0, 2] (shapeCast S2048x8x128 (shapeCast S16384x128 x shapeCasts_S1x1x16384x128_S16384x128)
      shapeCasts_S16384x128_S2048x8x128) transposes_S2048x8x128_p1_0_2_S8x2048x128) bitsLt_bf16_f32) h) shapeCasts_S1x2048x128_S2048x128

/-- The scores against 2048 keys of the cache, up to the row's own term: the products plus the key's term. -/
def oldScores (q : FVec Ideal S64x128 .bf16) (k : FVec Ideal S2048x128 .bf16) (g : FVec Ideal S1x1x2048 .f32) : FVec Ideal S64x2048 .f32 :=
  addf (matmul dot_S64x128_S2048x128_S64x2048_1_1_0_0_n_n none q k (constant S64x2048 .f32 0x00000000#32))
    (broadcastTo S64x2048 (shapeCast S1x2048 g shapeCasts_S1x1x2048_S1x2048) broadcasts_S1x2048_S64x2048)

/-- The weighted sums of 2048 values. -/
def oldProd (w : FVec Ideal S64x2048 .f32) (v : FVec Ideal S2048x128 .bf16) : FVec Ideal S64x128 .f32 :=
  matmul dot_S64x2048_S2048x128_S64x128_1_0_0_1_n_n none (truncf .bf16 w bitsLt_bf16_f32) v (constant S64x128 .f32 0x00000000#32)

/-- The 64 new rows, filled up with zeros to 128. -/
def padRows (x : FVec Ideal S64x128 .bf16) : FVec Ideal S128x128 .bf16 :=
  concatenate S128x128 0 [⟨S64x128, x⟩, ⟨S64x128, broadcast S64x128 (Scalar.ofBits .bf16 0x0000#16)⟩] concatenates_S64x128_S64x128_S128x128_d0

/-- The scores against the new keys, up to the row's own term: the products less the key's term, the later keys masked. -/
def newScores (q k : FVec Ideal S64x128 .bf16) (fr : FVec Ideal S1x1x128 .f32) : FVec Ideal S64x128 .f32 :=
  select (cmpi .sle (iota .tc S64x128 32 [1] iota_S64x128_d1_w32) (iota .tc S64x128 32 [0] iota_S64x128_d0_w32))
    (subf (matmul dot_S64x128_S128x128_S64x128_1_1_0_0_n_n none q (padRows k) (constant S64x128 .f32 0x00000000#32))
      (broadcastTo S64x128 (shapeCast S1x128 fr shapeCasts_S1x1x128_S1x128) broadcasts_S1x128_S64x128))
    (broadcast S64x128 (Named.named κ "mask" 0xF149F2CA#32))

/-- The weighted sums of the new values. -/
def newProd (w : FVec Ideal S64x128 .f32) (v : FVec Ideal S64x128 .bf16) : FVec Ideal S64x128 .f32 :=
  matmul dot_S64x128_S128x128_S64x128_1_0_0_1_n_n none (truncf .bf16 w bitsLt_bf16_f32) (padRows v) (constant S64x128 .f32 0x00000000#32)

/-- The results: the weighted sums over the weights' sums, times the gate. -/
def result (a : FVec Ideal S64x128 .f32) (l : FVec Ideal S64x1 .f32) (ga : FVec Ideal S64x128 .bf16) : FVec Ideal S64x128 .bf16 :=
  truncf .bf16 (mulf (divf a (broadcastTo S64x128 l broadcasts_S64x1_S64x128)) (extf .f32 ga bitsLt_bf16_f32)) bitsLt_bf16_f32

/-- The named mask constant is the least extended real. -/
theorem mask_eq : (Named.named κ "mask" 0xF149F2CA#32 : Ideal .f32) = (⊥ : EReal) :=
  IdealRules.named_const.ideal_named_scalar _ _ _ _ rfl

/-- The row of the cache's block that holds key `c` of head `n`. -/
def cacheRow (c : Fin 2048) (n : Fin 8) : Fin 16384 := ⟨c.val * 8 + n.val, by omega⟩

theorem oldRows_apply (x : Vec Ideal S1x1x16384x128 .f32) (n : Fin 8) (h) (c : Fin 2048) (d : Fin 128) :
    oldRows x n.val h (ix2 c d) = x (ix4 0 0 (cacheRow c n) d) := by
  unfold oldRows
  pointwise
  rfl

theorem oldScores_apply (q : FVec Ideal S64x128 .bf16) (k : FVec Ideal S2048x128 .bf16) (g : FVec Ideal S1x1x2048 .f32) (r : Fin 64) (c : Fin 2048) :
    oldScores q k g (ix2 r c) = (∑ e : Fin 128, q (ix2 r e) * k (ix2 c e)) + g (ix3 0 0 c) := by
  unfold oldScores
  pointwise

theorem oldProd_apply (w : FVec Ideal S64x2048 .f32) (v : FVec Ideal S2048x128 .bf16) (r : Fin 64) (d : Fin 128) :
    oldProd w v (ix2 r d) = ∑ c : Fin 2048, w (ix2 r c) * v (ix2 c d) := by
  unfold oldProd
  pointwise

theorem padRows_apply (x : FVec Ideal S64x128 .bf16) (c d : Fin 128) :
    padRows x (ix2 c d) = if h : c.val < 64 then x (ix2 ⟨c.val, h⟩ d) else 0 := by
  unfold padRows
  pointwise

theorem newScores_apply (q k : FVec Ideal S64x128 .bf16) (fr : FVec Ideal S1x1x128 .f32) (r : Fin 64) (c : Fin 128) :
    newScores q k fr (ix2 r c) = if h : c.val ≤ r.val then (∑ e : Fin 128, q (ix2 r e) * k (ix2 ⟨c.val, by omega⟩ e)) - fr (ix3 0 0 c) else ⊥ := by
  have hk : ∀ e (h : c.val < 64), padRows k (ix2 c e) = k (ix2 ⟨c.val, h⟩ e) := fun e h => by rw [padRows_apply, dif_pos h]
  unfold newScores
  rw [mask_eq]
  generalize padRows k = p at hk ⊢
  pointwise
  have hr := r.isLt
  have hc := c.isLt
  unfold Scalar.select
  by_cases h : c.val ≤ r.val
  · rw [dif_pos h]
    refine (if_pos ((WordCmp.cmpi_sle_ofNat_eq_one_iff (by omega) (by omega)).2 h)).trans ?_
    exact congrArg (· - fr (ix3 0 0 c)) (Finset.sum_congr rfl fun e _ => congrArg (q (ix2 r e) * ·) (hk e (by omega)))
  · rw [dif_neg h]
    exact if_neg fun h' => h ((WordCmp.cmpi_sle_ofNat_eq_one_iff (by omega) (by omega)).1 h')

theorem newProd_apply (w : FVec Ideal S64x128 .f32) (v : FVec Ideal S64x128 .bf16) (r : Fin 64) (d : Fin 128) :
    newProd w v (ix2 r d) = ∑ c : Fin 128, w (ix2 r c) * if h : c.val < 64 then v (ix2 ⟨c.val, h⟩ d) else 0 := by
  simp only [← padRows_apply]
  unfold newProd
  generalize padRows v = p
  pointwise

theorem result_apply (a : FVec Ideal S64x128 .f32) (l : FVec Ideal S64x1 .f32) (ga : FVec Ideal S64x128 .bf16) (r : Fin 64) (d : Fin 128) :
    result a l ga (ix2 r d) = Ideal.div (a (ix2 r d)) (l (ix2 r 0)) * ga (ix2 r d) := by
  unfold result
  pointwise

end Cert.Samp

end

end
-- ==== Proof.SampHead.lean ====
/-
  A head of a batch element in the sample attention: the scores of its 64 rows against their keys (`rowScore`), and the
  running state of a row as it meets the two halves of the cache and then the new keys. `Head` names the head's data.
-/
module

public import proofs.«01_k».proof.Proof.SampStep

@[expose] public section

set_option maxRecDepth 16384

noncomputable section

namespace Cert.Samp

open Idealize.ShloMosaic Cert.Kernel5Ideal Cert.Kernel5Ideal.Gen Cert.Kernel5Ideal.Facts Cert.Softmax
open scoped BigOperators

/-- The running state of a head's rows: the largest scores, the sums of the weights, the weighted sums of the values. -/
structure State where
  /-- largest score per row -/
  m : FVec Ideal S64x1 .f32
  /-- sum of the weights per row -/
  l : FVec Ideal S64x1 .f32
  /-- weighted sum of the values per row and column -/
  a : FVec Ideal S64x128 .f32

/-- After 2048 more keys of the cache: queries `q`, keys `k`, values `v`, the keys' terms `g`, the rows' own terms `f`. -/
def State.old (st : State) (q : FVec Ideal S64x128 .bf16) (k v : FVec Ideal S2048x128 .bf16) (g : FVec Ideal S1x1x2048 .f32)
    (f : FVec Ideal S64x1 .f32) : State :=
  ⟨newM reduces_S64x2048_S64 (oldScores q k g) f st.m,
    newL reduces_S64x2048_S64 broadcasts_S64x1_S64x2048 (oldScores q k g) f st.m st.l,
    newA reduces_S64x2048_S64 (oldScores q k g) f st.m st.a (oldProd (weights broadcasts_S64x1_S64x2048 (oldScores q k g) f
      (newM reduces_S64x2048_S64 (oldScores q k g) f st.m)) v)⟩

/-- After the new keys. -/
def State.new (st : State) (q k v : FVec Ideal S64x128 .bf16) (fr : FVec Ideal S1x1x128 .f32) (f : FVec Ideal S64x1 .f32) : State :=
  ⟨newM reduces_S64x128_S64 (newScores q k fr) f st.m,
    newL reduces_S64x128_S64 broadcasts_S64x1_S64x128 (newScores q k fr) f st.m st.l,
    newA reduces_S64x128_S64 (newScores q k fr) f st.m st.a (newProd (weights broadcasts_S64x1_S64x128 (newScores q k fr) f
      (newM reduces_S64x128_S64 (newScores q k fr) f st.m)) v)⟩

/-- A head's data: its queries, keys and values, the keys' terms and the rows' own. -/
structure Head where
  /-- query of a row -/
  q : Fin 64 → Fin 128 → EReal
  /-- key -/
  k : Fin 4224 → Fin 128 → EReal
  /-- value -/
  v : Fin 4224 → Fin 128 → EReal
  /-- the key's term of the score -/
  t : Fin 4224 → EReal
  /-- the row's own term of the score -/
  f : Fin 64 → EReal

/-- The score of row `i` against a key: their product plus the key's term and the row's; the keys after the row masked. -/
def Head.rowScore (H : Head) (i : Fin 64) (j : Fin 4224) : EReal :=
  if j.val ≤ 4096 + i.val then (∑ e : Fin 128, H.q i e * H.k j e) + H.t j + H.f i else ⊥

/-- Queries, keys and terms are real numbers. -/
structure Head.Real (H : Head) : Prop where
  q : ∀ i e, ∃ r : ℝ, H.q i e = (r : EReal)
  k : ∀ j e, ∃ r : ℝ, H.k j e = (r : EReal)
  t : ∀ j, ∃ r : ℝ, H.t j = (r : EReal)
  f : ∀ i, ∃ r : ℝ, H.f i = (r : EReal)

section
variable {H : Head}

/-- The product of a query and a key is a real number. -/
theorem Head.Real.product (hH : H.Real) (i : Fin 64) (j : Fin 4224) : ∃ r : ℝ, (∑ e : Fin 128, H.q i e * H.k j e : EReal) = (r : EReal) := by
  choose rq hrq using hH.q i
  choose rk hrk using hH.k j
  refine ⟨∑ e : Fin 128, rq e * rk e, ?_⟩
  rw [coe_sum]
  exact Finset.sum_congr rfl fun e _ => by rw [hrq, hrk, EReal.coe_mul]

/-- Where it is not masked, a score is a real number. -/
theorem Head.Real.rowScore (hH : H.Real) (i : Fin 64) (j : Fin 4224) (h : j.val ≤ 4096 + i.val) : ∃ r : ℝ, H.rowScore i j = (r : EReal) := by
  obtain ⟨a, ha⟩ := hH.product i j
  obtain ⟨b, hb⟩ := hH.t j
  obtain ⟨c, hc⟩ := hH.f i
  exact ⟨a + b + c, by rw [Head.rowScore, if_pos h, ha, hb, hc, EReal.coe_add, EReal.coe_add]⟩

theorem Head.Real.ne_top (hH : H.Real) (i : Fin 64) (j : Fin 4224) : H.rowScore i j ≠ ⊤ := by
  by_cases h : j.val ≤ 4096 + i.val
  · obtain ⟨r, hr⟩ := hH.rowScore i j h
    rw [hr]; exact EReal.coe_ne_top r
  · rw [Head.rowScore, if_neg h]; exact bot_ne_top

theorem Head.Real.zero_ne_bot (hH : H.Real) (i : Fin 64) : H.rowScore i 0 ≠ ⊥ := by
  obtain ⟨r, hr⟩ := hH.rowScore i 0 (Nat.zero_le _)
  rw [hr]; exact EReal.coe_ne_bot r

/-- Row `r` has met the keys before `n`. -/
def Held (H : Head) (r : Fin 64) (d : Fin 128) (n : ℕ) (m l a : EReal) : Prop :=
  Carry (H.rowScore r) (fun j => H.v j d) (upTo n) m l a

/-- Before any key. -/
theorem held_start (H : Head) (r : Fin 64) (d : Fin 128) : Held H r d 0 ⊥ 0 0 := by
  have h : upTo 0 = ∅ := Finset.filter_eq_empty_iff.2 fun k _ => by omega
  have e := Carry.empty (H.rowScore r) (fun j => H.v j d)
  rw [← h] at e
  exact e

/-- 2048 more keys of the cache: none of them is masked. -/
theorem held_old (hH : H.Real) {o : ℕ} (ho : o + 2048 ≤ 4096) {st : State} {q : FVec Ideal S64x128 .bf16} {k v : FVec Ideal S2048x128 .bf16}
    {g : FVec Ideal S1x1x2048 .f32} {f : FVec Ideal S64x1 .f32} {r : Fin 64} {d : Fin 128}
    (hq : ∀ e, q (ix2 r e) = H.q r e) (hk : ∀ c e, k (ix2 c e) = H.k (key o (by omega) c) e)
    (hv : ∀ c, v (ix2 c d) = H.v (key o (by omega) c) d) (hg : ∀ c, g (ix3 0 0 c) = H.t (key o (by omega) c)) (hf : f (ix2 r 0) = H.f r)
    (h : Held H r d o (st.m (ix2 r 0)) (st.l (ix2 r 0)) (st.a (ix2 r d))) :
    Held H r d (o + 2048) ((st.old q k v g f).m (ix2 r 0)) ((st.old q k v g f).l (ix2 r 0)) ((st.old q k v g f).a (ix2 r d)) := by
  obtain ⟨x, hx⟩ := hH.f r
  refine row_step _ _ o (by omega) (by norm_num) (fq := x) h (hf.trans hx) (fun c => ?_) ?_ (hH.ne_top r) (hH.zero_ne_bot r)
  · rw [oldScores_apply, Head.rowScore, if_pos (by rw [key_val]; omega), hx, hg]
    simp only [hq, hk]
  · rw [oldProd_apply]
    exact Finset.sum_congr rfl fun c _ => congrArg _ (hv c)

/-- The new keys, and the empty columns after them: those after the row are masked. -/
theorem held_new (hH : H.Real) {st : State} {q k v : FVec Ideal S64x128 .bf16}
    {fr : FVec Ideal S1x1x128 .f32} {f : FVec Ideal S64x1 .f32} {r : Fin 64} {d : Fin 128}
    (hq : ∀ e, q (ix2 r e) = H.q r e) (hk : ∀ (c : Fin 64) e, k (ix2 c e) = H.k (key 4096 (by norm_num) c) e)
    (hv : ∀ c : Fin 64, v (ix2 c d) = H.v (key 4096 (by norm_num) c) d) (hv0 : ∀ j : Fin 4224, 4160 ≤ j.val → H.v j d = 0)
    (hg : ∀ c : Fin 128, -fr (ix3 0 0 c) = H.t (key 4096 (by norm_num) c)) (hf : f (ix2 r 0) = H.f r)
    (h : Held H r d 4096 (st.m (ix2 r 0)) (st.l (ix2 r 0)) (st.a (ix2 r d))) :
    Held H r d 4224 ((st.new q k v fr f).m (ix2 r 0)) ((st.new q k v fr f).l (ix2 r 0)) ((st.new q k v fr f).a (ix2 r d)) := by
  obtain ⟨x, hx⟩ := hH.f r
  refine row_step (K := 128) _ _ 4096 (by norm_num) (by norm_num) (fq := x) h (hf.trans hx) (fun c => ?_) ?_ (hH.ne_top r) (hH.zero_ne_bot r)
  · rw [newScores_apply, Head.rowScore]
    by_cases hc : c.val ≤ r.val
    · rw [dif_pos hc, if_pos (by rw [key_val]; omega), hx, sub_eq_add_neg, hg]
      simp only [hq, hk]
      rfl
    · rw [dif_neg hc, if_neg (by rw [key_val]; omega), EReal.bot_add]
  · rw [newProd_apply]
    refine Finset.sum_congr rfl fun c _ => congrArg _ ?_
    by_cases hc : c.val < 64
    · rw [dif_pos hc, hv]
      rfl
    · rw [dif_neg hc, hv0 _ (by rw [key_val]; omega)]

/-- The head's result: the softmax row of the scores over the values. -/
theorem held_finish (hH : H.Real) {st : State} {ga : FVec Ideal S64x128 .bf16} {r : Fin 64} {d : Fin 128}
    (h : Held H r d 4224 (st.m (ix2 r 0)) (st.l (ix2 r 0)) (st.a (ix2 r d))) :
    result st.a st.l ga (ix2 r d) = softRow (H.rowScore r) (fun j => H.v j d) * ga (ix2 r d) := by
  rw [result_apply, Carry.result h (hH.ne_top r) (mem_upTo.2 (by show 0 < 4224; norm_num)) (hH.zero_ne_bot r)
    fun j hj => absurd (mem_upTo.2 j.isLt) hj]

end

end Cert.Samp

end

end
-- ==== Proof.SampBlock.lean ====
/-
  The two points of a batch element in the sample attention, read off the runs. The first point leaves in the scratch buffers
  the heads' states after the first 2048 keys, the second stores the heads' results: its 2048 keys, then the new ones.
-/
module

public import proofs.«01_k».proof.Proof.SampHead
public import proofs.«01_k».proof.Proof.Gen.Kernel5Ideal.Frame
public import proofs.«01_k».proof.Proof.AttnArray
public import Idealize.ShloMosaic.Lib.Pipeline.Value
public import Idealize.ShloMosaic.Lib.Pipeline.ValueKit
public import Idealize.ShloMosaic.Lib.Tactic

@[expose] public section

set_option maxRecDepth 16384

noncomputable section

namespace Cert.Samp

open Idealize.ShloMosaic Cert.Kernel5Ideal Cert.Kernel5Ideal.Gen Cert.Kernel5Ideal.Facts Cert.Softmax
open Cert.Attn (colAt headOf colIn)
open scoped BigOperators

/-! ## A head's part of a block -/

theorem inb_cols (n : ℕ) (hn : n < 8) : ∀ a, (![0, 128 * n] : Fin 2 → ℕ) a + S64x128.size a ≤ S64x1024.size a
  | ⟨0, _⟩ => by show 0 + 64 ≤ 64; omega
  | ⟨1, _⟩ => by show 128 * n + 128 ≤ 1024; omega

theorem inb_plane (n : ℕ) (hn : n < 8) : ∀ a, (![n, 0, 0] : Fin 3 → ℕ) a + S1x64x128.size a ≤ S8x64x128.size a
  | ⟨0, _⟩ => by show n + 1 ≤ 8; omega
  | ⟨1, _⟩ => by show 0 + 64 ≤ 64; omega
  | ⟨2, _⟩ => by show 0 + 128 ≤ 128; omega

theorem inb_old (n : ℕ) (hn : n < 8) : ∀ a, (![0, n, 0] : Fin 3 → ℕ) a + S1x1x2048.size a ≤ S1x8x2048.size a
  | ⟨0, _⟩ => by show 0 + 1 ≤ 1; omega
  | ⟨1, _⟩ => by show n + 1 ≤ 8; omega
  | ⟨2, _⟩ => by show 0 + 2048 ≤ 2048; omega

theorem inb_new (n : ℕ) (hn : n < 8) : ∀ a, (![0, n, 0] : Fin 3 → ℕ) a + S1x1x128.size a ≤ S1x8x128.size a
  | ⟨0, _⟩ => by show 0 + 1 ≤ 1; omega
  | ⟨1, _⟩ => by show n + 1 ≤ 8; omega
  | ⟨2, _⟩ => by show 0 + 128 ≤ 128; omega

theorem inb_own (n : ℕ) (hn : n < 8) : ∀ a, (![0, n] : Fin 2 → ℕ) a + S64x1.size a ≤ S64x128.size a
  | ⟨0, _⟩ => by show 0 + 64 ≤ 64; omega
  | ⟨1, _⟩ => by show n + 1 ≤ 128; omega

theorem slices_head (n : ℕ) (hn : n < 8) : S8x2048x128.Slices ![n, 0, 0] S1x2048x128 :=
  ⟨rfl, fun a => by
    match a with
    | ⟨0, _⟩ => show n + 1 ≤ 8; omega
    | ⟨1, _⟩ => show 0 + 2048 ≤ 2048; omega
    | ⟨2, _⟩ => show 0 + 128 ≤ 128; omega⟩

/-- A head's columns of a block. -/
abbrev cols {e : EltTy} (x : Vec Ideal S64x1024 e) (n : ℕ) (hn : n < 8) : Vec Ideal S64x128 e :=
  View.ld x (Rect.unit (s := S64x1024) ![0, 128 * n] S64x128.size (inb_cols n hn))

/-- A head's number per row, the first lane of the row in its plane of the buffer. -/
abbrev lane (x : Vec Ideal S8x64x128 .f32) (n : ℕ) (hn : n < 8) : FVec Ideal S64x1 .f32 :=
  extractStridedSlice S64x1 ![0, 0] (shapeCast S64x128 (View.ld x (Rect.unit (s := S8x64x128) ![n, 0, 0] S1x64x128.size (inb_plane n hn)))
    shapeCasts_S1x64x128_S64x128) slices_S64x128_o0_0_S64x1

/-- A number per row, laid out along the row's lanes. -/
abbrev spread (x : FVec Ideal S64x1 .f32) : FVec Ideal S1x64x128 .f32 :=
  shapeCast S1x64x128 (broadcastTo S64x128 (shapeCast S64x1 x shapeCasts_S64x1_S64x1) broadcasts_S64x1_S64x128) shapeCasts_S64x128_S1x64x128

/-- The rows' own terms of a head: its lane. -/
abbrev own (x : Vec Ideal S64x128 .f32) (n : ℕ) (hn : n < 8) : FVec Ideal S64x1 .f32 :=
  View.ld x (Rect.unit (s := S64x128) ![0, n] S64x1.size (inb_own n hn))

/-- The terms of the cache's keys, of a head. -/
abbrev oldTerms (x : Vec Ideal S1x8x2048 .f32) (n : ℕ) (hn : n < 8) : FVec Ideal S1x1x2048 .f32 :=
  View.ld x (Rect.unit (s := S1x8x2048) ![0, n, 0] S1x1x2048.size (inb_old n hn))

/-- The terms of the new keys, of a head. -/
abbrev newTerms (x : Vec Ideal S1x8x128 .f32) (n : ℕ) (hn : n < 8) : FVec Ideal S1x1x128 .f32 :=
  View.ld x (Rect.unit (s := S1x8x128) ![0, n, 0] S1x1x128.size (inb_new n hn))

/-- A head's rows of a block of the cache. -/
abbrev cache (x : Vec Ideal S1x1x16384x128 .f32) (n : ℕ) (hn : n < 8) : FVec Ideal S2048x128 .bf16 :=
  oldRows (View.ld x (Rect.unit (s := S1x1x16384x128) ![0, 0, 0, 0] S1x1x16384x128.size inb_S1x1x16384x128_S1x1x16384x128_0_0_0_0)) n (slices_head n hn)

theorem cols_apply {e : EltTy} (x : Vec Ideal S64x1024 e) (n : Fin 8) (r : Fin 64) (d : Fin 128) :
    cols x n.val n.isLt (ix2 r d) = x (ix2 r (colAt n d)) :=
  View.ld_unit_apply_of _ _ _ _ _ _ fun a => by
    match a with
    | ⟨0, _⟩ => show r.val = 0 + r.val; omega
    | ⟨1, _⟩ => show n.val * 128 + d.val = 128 * n.val + d.val; omega

theorem lane_apply (x : Vec Ideal S8x64x128 .f32) (n : Fin 8) (r : Fin 64) : lane x n.val n.isLt (ix2 r 0) = x (ix3 n r 0) := by
  have e : ∀ y : FVec Ideal S1x64x128 .f32, extractStridedSlice S64x1 ![0, 0] (shapeCast S64x128 y shapeCasts_S1x64x128_S64x128)
      slices_S64x128_o0_0_S64x1 (ix2 r 0) = y (ix3 0 r 0) := fun y => by pointwise
  refine (e _).trans (View.ld_unit_apply_of _ _ _ _ _ _ fun a => ?_)
  match a with
  | ⟨0, _⟩ => rfl
  | ⟨1, _⟩ => show r.val = 0 + r.val; omega
  | ⟨2, _⟩ => rfl

theorem spread_apply (x : FVec Ideal S64x1 .f32) (r : Fin 64) (d : Fin 128) : spread x (ix3 0 r d) = x (ix2 r 0) := by
  unfold spread
  pointwise

theorem own_apply (x : Vec Ideal S64x128 .f32) (n : Fin 8) (r : Fin 64) : own x n.val n.isLt (ix2 r 0) = x (ix2 r (Attn.laneAt n)) :=
  View.ld_unit_apply_of _ _ _ _ _ _ fun a => by
    match a with
    | ⟨0, _⟩ => show r.val = 0 + r.val; omega
    | ⟨1, _⟩ => rfl

theorem oldTerms_apply (x : Vec Ideal S1x8x2048 .f32) (n : Fin 8) (c : Fin 2048) : oldTerms x n.val n.isLt (ix3 0 0 c) = x (ix3 0 n c) :=
  View.ld_unit_apply_of _ _ _ _ _ _ fun a => by
    match a with
    | ⟨0, _⟩ => rfl
    | ⟨1, _⟩ => rfl
    | ⟨2, _⟩ => show c.val = 0 + c.val; omega

theorem newTerms_apply (x : Vec Ideal S1x8x128 .f32) (n : Fin 8) (c : Fin 128) : newTerms x n.val n.isLt (ix3 0 0 c) = x (ix3 0 n c) :=
  View.ld_unit_apply_of _ _ _ _ _ _ fun a => by
    match a with
    | ⟨0, _⟩ => rfl
    | ⟨1, _⟩ => rfl
    | ⟨2, _⟩ => show c.val = 0 + c.val; omega

theorem cache_apply (x : Vec Ideal S1x1x16384x128 .f32) (n : Fin 8) (c : Fin 2048) (d : Fin 128) :
    cache x n.val n.isLt (ix2 c d) = x (ix4 0 0 (cacheRow c n) d) := by
  refine (oldRows_apply _ n _ c d).trans ?_
  rw [View.ld_unit_lit _ _ fun a => by fin_cases a <;> rfl]

/-! ## The heads' states -/

/-- A head's state in the scratch buffers. -/
def held (xs0 xs1 : Vec Ideal S8x64x128 .f32) (xs2 : Vec Ideal S64x1024 .f32) (n : ℕ) (hn : n < 8) : State :=
  ⟨lane xs0 n hn, lane xs1 n hn, cols xs2 n hn⟩

/-- A head's state after the point's 2048 keys of the cache. -/
def stOld (x0 : Vec Ideal S64x1024 .bf16) (x1 x2 : Vec Ideal S1x1x16384x128 .f32) (x3 : Vec Ideal S1x8x2048 .f32) (x4 : Vec Ideal S64x128 .f32)
    (xs0 xs1 : Vec Ideal S8x64x128 .f32) (xs2 : Vec Ideal S64x1024 .f32) (n : ℕ) (hn : n < 8) : State :=
  (held xs0 xs1 xs2 n hn).old (cols x0 n hn) (cache x1 n hn) (cache x2 n hn) (oldTerms x3 n hn) (own x4 n hn)

/-- A head's state after the new keys. -/
def stNew (x0 x6 x7 : Vec Ideal S64x1024 .bf16) (x4 : Vec Ideal S64x128 .f32) (x5 : Vec Ideal S1x8x128 .f32) (st : State) (n : ℕ) (hn : n < 8) : State :=
  st.new (cols x0 n hn) (cols x6 n hn) (cols x7 n hn) (newTerms x5 n hn) (own x4 n hn)

/-! ## Stores head by head -/

/-- A store of a head's columns. -/
theorem piece_cols {α : Type} (F : (n : ℕ) → n < 8 → S64x128.Idx → α) (n : ℕ) (hn : n < 8) (x : S64x128.Idx) :
    F n hn x = (fun y : S64x1024.Idx => F (headOf (y 1)).val (headOf (y 1)).isLt (ix2 (y 0) (colIn (y 1))))
      ((Rect.unit (s := S64x1024) ![0, 128 * n] S64x128.size (inb_cols n hn)).emb x) := by
  have h0 : (Rect.unit (s := S64x1024) ![0, 128 * n] S64x128.size (inb_cols n hn)).emb x 0 = x 0 :=
    Fin.ext (by show 0 + 1 * (x 0).val = (x 0).val; omega)
  have h1 : (Rect.unit (s := S64x1024) ![0, 128 * n] S64x128.size (inb_cols n hn)).emb x 1 = colAt ⟨n, hn⟩ (x 1) :=
    Fin.ext (by show 128 * n + 1 * (x 1).val = n * 128 + (x 1).val; omega)
  dsimp only
  rw [h0, h1]
  refine Eq.trans (congrArg (F n hn) (funext fun a => ?_)) (congrArg₂ (fun (h : Fin 8) (e : Fin 128) => F h.val h.isLt (ix2 (x 0) e))
    (Attn.headOf_colAt ⟨n, hn⟩ (x 1)).symm (Attn.colIn_colAt ⟨n, hn⟩ (x 1)).symm)
  match a with
  | ⟨0, _⟩ => rfl
  | ⟨1, _⟩ => rfl

/-- A store of a number per row in a head's plane. -/
theorem piece_plane (F : (n : ℕ) → n < 8 → FVec Ideal S64x1 .f32) (n : ℕ) (hn : n < 8) (x : S1x64x128.Idx) :
    spread (F n hn) x = (fun y : S8x64x128.Idx => F (y 0).val (y 0).isLt (ix2 (y 1) 0))
      ((Rect.unit (s := S8x64x128) ![n, 0, 0] S1x64x128.size (inb_plane n hn)).emb x) := by
  have hx : x = ix3 0 (x 1) (x 2) := funext fun a => by
    match a with
    | ⟨0, _⟩ => exact Fin.ext (by have := (x 0).isLt; show (x 0).val = 0; change (x 0).val < 1 at this; omega)
    | ⟨1, _⟩ => rfl
    | ⟨2, _⟩ => rfl
  have h0 : (Rect.unit (s := S8x64x128) ![n, 0, 0] S1x64x128.size (inb_plane n hn)).emb x 0 = (⟨n, hn⟩ : Fin 8) :=
    Fin.ext (by have := (x 0).isLt; show n + 1 * (x 0).val = n; change (x 0).val < 1 at this; omega)
  have h1 : (Rect.unit (s := S8x64x128) ![n, 0, 0] S1x64x128.size (inb_plane n hn)).emb x 1 = x 1 :=
    Fin.ext (by show 0 + 1 * (x 1).val = (x 1).val; omega)
  dsimp only
  rw [h0, h1]
  exact (congrArg (spread (F n hn)) hx).trans (spread_apply _ _ _)

/-- Stores that cover a buffer hide those before them. -/
theorem read_of_later {s : Shape} {e : EltTy} {κ' : Kind} {sp : Space} (v : View sig κ' sp s e) (f : v.ty.Contents (Elt Ideal))
    (G : s.Idx → Elt Ideal e) (L L' : List (View.Piece (Elt Ideal) s e)) (h : ∀ p ∈ L, ∀ x : p.1.shape.Idx, p.2 x = G (p.1.emb x))
    (hc : ∀ y, ∃ p ∈ L, y ∈ p.1.set) : v.read (Elt Ideal) (v.writes (Elt Ideal) f (L ++ L')) = G := by
  rw [View.writes_append]
  exact funext fun y => View.read_writes_apply_of_pieces v _ G L h y (hc y)

end Cert.Samp

end

end
-- ==== Proof.SampRun.lean ====
/-
  What the two points of a batch element leave, as the runs found it: the first the heads' states in the scratch buffers
  (`stOld` over the starting contents), the second the heads' results (`stNew` over `stOld` over the scratch's contents).
-/
module

public import proofs.«01_k».proof.Proof.SampBlock

@[expose] public section

set_option maxRecDepth 16384

noncomputable section

namespace Cert.Samp

open Idealize.ShloMosaic Cert.Kernel5Ideal Cert.Kernel5Ideal.Gen Cert.Kernel5Ideal.Facts Cert.Softmax
open Cert.Attn (colAt headOf colIn)
open scoped BigOperators

/-- A load after a store of the whole buffer reads the stored contents. -/
theorem load_planes {κ' : Kind} {sp : Space} (v : View sig κ' sp S8x64x128 .f32) (inb) (w : Vec Ideal S8x64x128 .f32) (r : Rect S8x64x128) :
    v.readCov [(⟨Rect.unit (s := S8x64x128) ![0, 0, 0] ![8, 64, 128] inb, w⟩ : View.Piece (Elt Ideal) S8x64x128 .f32)] r.toLoadRect = View.ld w r := by
  rw [View.readCov_eq_canon']
  exact congrArg (fun z => View.ld z r) (View.canon_cons_unit_lit inb w [] fun a => by fin_cases a <;> rfl)

@[inherit_doc load_planes] theorem load_cols {κ' : Kind} {sp : Space} (v : View sig κ' sp S64x1024 .f32) (inb) (w : Vec Ideal S64x1024 .f32)
    (r : Rect S64x1024) :
    v.readCov [(⟨Rect.unit (s := S64x1024) ![0, 0] ![64, 1024] inb, w⟩ : View.Piece (Elt Ideal) S64x1024 .f32)] r.toLoadRect = View.ld w r := by
  rw [View.readCov_eq_canon']
  exact congrArg (fun z => View.ld z r) (View.canon_cons_unit_lit inb w [] fun a => by fin_cases a <;> rfl)

/-- A head's results at the second point, over what the scratch buffers held. -/
def headResult (x0 : Vec Ideal S64x1024 .bf16) (x1 x2 : Vec Ideal S1x1x16384x128 .f32) (x3 : Vec Ideal S1x8x2048 .f32) (x4 : Vec Ideal S64x128 .f32)
    (x5 : Vec Ideal S1x8x128 .f32) (x6 x7 x8 : Vec Ideal S64x1024 .bf16) (xs0 xs1 : Vec Ideal S8x64x128 .f32) (xs2 : Vec Ideal S64x1024 .f32)
    (n : ℕ) (hn : n < 8) : FVec Ideal S64x128 .bf16 :=
  result (stNew x0 x6 x7 x4 x5 (stOld x0 x1 x2 x3 x4 xs0 xs1 xs2 n hn) n hn).a (stNew x0 x6 x7 x4 x5 (stOld x0 x1 x2 x3 x4 xs0 xs1 xs2 n hn) n hn).l
    (cols x8 n hn)

section
variable (c : Dev nD) (i : grid0.Coords)
  (arg2 : Memref sig .tc .vmem S64x1024 .bf16) (harg2 : arg2.IsWhole) (arg3 : Memref sig .tc .vmem S1x1x16384x128 .f32) (harg3 : arg3.IsWhole)
  (arg4 : Memref sig .tc .vmem S1x1x16384x128 .f32) (harg4 : arg4.IsWhole) (arg5 : Memref sig .tc .vmem S1x8x2048 .f32) (harg5 : arg5.IsWhole)
  (arg6 : Memref sig .tc .vmem S64x128 .f32) (harg6 : arg6.IsWhole) (arg7 : Memref sig .tc .vmem S1x8x128 .f32) (harg7 : arg7.IsWhole)
  (arg8 : Memref sig .tc .vmem S64x1024 .bf16) (harg8 : arg8.IsWhole) (arg9 : Memref sig .tc .vmem S64x1024 .bf16) (harg9 : arg9.IsWhole)
  (arg10 : Memref sig .tc .vmem S64x1024 .bf16) (harg10 : arg10.IsWhole) (arg11 : Memref sig .tc .vmem S64x1024 .bf16) (harg11 : arg11.IsWhole)
  (arg12 : Memref sig .tc .vmem S8x64x128 .f32) (harg12 : arg12.IsWhole) (arg13 : Memref sig .tc .vmem S8x64x128 .f32) (harg13 : arg13.IsWhole)
  (arg14 : Memref sig .tc .vmem S64x1024 .f32) (harg14 : arg14.IsWhole)
  (x0 : Vec Ideal S64x1024 .bf16) (x1 x2 : Vec Ideal S1x1x16384x128 .f32) (x3 : Vec Ideal S1x8x2048 .f32) (x4 : Vec Ideal S64x128 .f32)
  (x5 : Vec Ideal S1x8x128 .f32) (x6 x7 x8 : Vec Ideal S64x1024 .bf16)

/-- THE FIRST POINT, the largest scores. -/
theorem first_m (hc0 : cond0_0 i) (hc1 : ¬cond0_1 i) :
    sout0_A_0 c i arg2 harg2 arg3 harg3 arg4 harg4 arg5 harg5 arg6 harg6 arg7 harg7 arg8 harg8 arg9 harg9 arg10 harg10 arg11 harg11
        arg12 harg12 arg13 harg13 arg14 harg14 hc0 hc1 x0 x1 x2 x3 x4 x5 x6 x7 x8
      = fun y => (stOld x0 x1 x2 x3 x4 (k0_pay74 (F := Ideal)) (k0_pay75 (F := Ideal)) (k0_pay76 (F := Ideal)) (y 0).val (y 0).isLt).m (ix2 (y 1) 0) := by
  unfold sout0_A_0 kernelRun0_A
  dsimp only
  sl_unfold_words
  simp only [View.readAt_eq_ld, load_planes, load_cols, harg2.read_unread, harg3.read_unread, harg4.read_unread, harg5.read_unread, harg6.read_unread]
  refine read_of_later VS0_0 _ _ [_, _, _, _, _, _, _, _] [_] ?_ (View.cover_of_tiledL _ S1x64x128.size (by sl_kernel_rfl))
  have key := piece_plane fun n hn => (stOld x0 x1 x2 x3 x4 (k0_pay74 (F := Ideal)) (k0_pay75 (F := Ideal)) (k0_pay76 (F := Ideal)) n hn).m
  intro p hp x
  simp only [List.mem_cons, List.not_mem_nil, or_false] at hp
  rcases hp with rfl | rfl | rfl | rfl | rfl | rfl | rfl | rfl
  · exact key 7 (by norm_num) x
  · exact key 6 (by norm_num) x
  · exact key 5 (by norm_num) x
  · unfold k0_pay172 k0_pay129 k0_pay128
    exact key 4 (by norm_num) x
  · exact key 3 (by norm_num) x
  · exact key 2 (by norm_num) x
  · exact key 1 (by norm_num) x
  · exact key 0 (by norm_num) x

/-- THE FIRST POINT, the sums of the weights. -/
theorem first_l (hc0 : cond0_0 i) (hc1 : ¬cond0_1 i) :
    sout0_A_1 c i arg2 harg2 arg3 harg3 arg4 harg4 arg5 harg5 arg6 harg6 arg7 harg7 arg8 harg8 arg9 harg9 arg10 harg10 arg11 harg11
        arg12 harg12 arg13 harg13 arg14 harg14 hc0 hc1 x0 x1 x2 x3 x4 x5 x6 x7 x8
      = fun y => (stOld x0 x1 x2 x3 x4 (k0_pay74 (F := Ideal)) (k0_pay75 (F := Ideal)) (k0_pay76 (F := Ideal)) (y 0).val (y 0).isLt).l (ix2 (y 1) 0) := by
  unfold sout0_A_1 kernelRun0_A
  dsimp only
  sl_unfold_words
  simp only [View.readAt_eq_ld, load_planes, load_cols, harg2.read_unread, harg3.read_unread, harg4.read_unread, harg5.read_unread, harg6.read_unread]
  refine read_of_later VS0_1 _ _ [_, _, _, _, _, _, _, _] [_] ?_ (View.cover_of_tiledL _ S1x64x128.size (by sl_kernel_rfl))
  have key := piece_plane fun n hn => (stOld x0 x1 x2 x3 x4 (k0_pay74 (F := Ideal)) (k0_pay75 (F := Ideal)) (k0_pay76 (F := Ideal)) n hn).l
  intro p hp x
  simp only [List.mem_cons, List.not_mem_nil, or_false] at hp
  rcases hp with rfl | rfl | rfl | rfl | rfl | rfl | rfl | rfl
  · exact key 7 (by norm_num) x
  · exact key 6 (by norm_num) x
  · exact key 5 (by norm_num) x
  · simp only [k0_pay128, k0_pay129, k0_pay130, k0_pay131, k0_pay132, k0_pay133, k0_pay134, k0_pay173]
    exact key 4 (by norm_num) x
  · exact key 3 (by norm_num) x
  · exact key 2 (by norm_num) x
  · exact key 1 (by norm_num) x
  · exact key 0 (by norm_num) x

/-- THE FIRST POINT, the weighted sums of the values. -/
theorem first_a (hc0 : cond0_0 i) (hc1 : ¬cond0_1 i) :
    sout0_A_2 c i arg2 harg2 arg3 harg3 arg4 harg4 arg5 harg5 arg6 harg6 arg7 harg7 arg8 harg8 arg9 harg9 arg10 harg10 arg11 harg11
        arg12 harg12 arg13 harg13 arg14 harg14 hc0 hc1 x0 x1 x2 x3 x4 x5 x6 x7 x8
      = fun y => (stOld x0 x1 x2 x3 x4 (k0_pay74 (F := Ideal)) (k0_pay75 (F := Ideal)) (k0_pay76 (F := Ideal)) (headOf (y 1)).val (headOf (y 1)).isLt).a (ix2 (y 0) (colIn (y 1))) := by
  unfold sout0_A_2 kernelRun0_A
  dsimp only
  sl_unfold_words
  simp only [View.readAt_eq_ld, load_planes, load_cols, harg2.read_unread, harg3.read_unread, harg4.read_unread, harg5.read_unread, harg6.read_unread]
  refine read_of_later VS0_2 _ _ [_, _, _, _, _, _, _, _] [_] ?_ (View.cover_of_tiledL _ S64x128.size (by sl_kernel_rfl))
  have key := piece_cols fun n hn => (stOld x0 x1 x2 x3 x4 (k0_pay74 (F := Ideal)) (k0_pay75 (F := Ideal)) (k0_pay76 (F := Ideal)) n hn).a
  intro p hp x
  simp only [List.mem_cons, List.not_mem_nil, or_false] at hp
  rcases hp with rfl | rfl | rfl | rfl | rfl | rfl | rfl | rfl
  · exact (congrFun (shapeCast_self _ _) x).trans (key 7 (by norm_num) x)
  · exact (congrFun (shapeCast_self _ _) x).trans (key 6 (by norm_num) x)
  · exact (congrFun (shapeCast_self _ _) x).trans (key 5 (by norm_num) x)
  · simp only [k0_pay128, k0_pay129, k0_pay130, k0_pay131, k0_pay132, k0_pay133, k0_pay134, k0_pay173]
    exact (congrFun (shapeCast_self _ _) x).trans (key 4 (by norm_num) x)
  · exact (congrFun (shapeCast_self _ _) x).trans (key 3 (by norm_num) x)
  · exact (congrFun (shapeCast_self _ _) x).trans (key 2 (by norm_num) x)
  · exact (congrFun (shapeCast_self _ _) x).trans (key 1 (by norm_num) x)
  · exact (congrFun (shapeCast_self _ _) x).trans (key 0 (by norm_num) x)

/-- THE SECOND POINT: the heads' results. -/
theorem second_out (hc0 : ¬cond0_0 i) (hc1 : cond0_1 i) (xs0 xs1 : Vec Ideal S8x64x128 .f32) (xs2 : Vec Ideal S64x1024 .f32) :
    out0_B_9 c i arg2 harg2 arg3 harg3 arg4 harg4 arg5 harg5 arg6 harg6 arg7 harg7 arg8 harg8 arg9 harg9 arg10 harg10 arg11 harg11
        arg12 harg12 arg13 harg13 arg14 harg14 hc0 hc1 x0 x1 x2 x3 x4 x5 x6 x7 x8 xs0 xs1 xs2
      = fun y => headResult x0 x1 x2 x3 x4 x5 x6 x7 x8 xs0 xs1 xs2 (headOf (y 1)).val (headOf (y 1)).isLt (ix2 (y 0) (colIn (y 1))) := by
  unfold out0_B_9 kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread, harg12.read_unread, harg13.read_unread, harg14.read_unread]
  refine read_of_later VO0_9 _ _ [_, _, _, _, _, _, _, _] [] ?_ (View.cover_of_tiledL _ S64x128.size (by sl_kernel_rfl))
  have key := piece_cols (headResult x0 x1 x2 x3 x4 x5 x6 x7 x8 xs0 xs1 xs2)
  intro p hp x
  simp only [List.mem_cons, List.not_mem_nil, or_false] at hp
  rcases hp with rfl | rfl | rfl | rfl | rfl | rfl | rfl | rfl
  · exact key 7 (by norm_num) x
  · exact key 6 (by norm_num) x
  · exact key 5 (by norm_num) x
  · simp only [k0_pay128, k0_pay129, k0_pay130, k0_pay131, k0_pay132, k0_pay133, k0_pay134, k0_pay173]
    exact key 4 (by norm_num) x
  · exact key 3 (by norm_num) x
  · exact key 2 (by norm_num) x
  · exact key 1 (by norm_num) x
  · exact key 0 (by norm_num) x

end

end Cert.Samp

end

end
-- ==== Proof.SampArray.lean ====
/-
  From the points' blocks to the sample attention's whole result: which part of each argument a point stages, what the two
  points of a batch element make of it, and the array the blocks fill.
-/
module

public import proofs.«01_k».proof.Proof.SampRun
public import proofs.«01_k».proof.Proof.Gen.Kernel5Ideal.Value

@[expose] public section

set_option maxRecDepth 16384

noncomputable section

namespace Cert.Samp

open Idealize.ShloMosaic Idealize.ShloMosaic.TcCoe Idealize.SL.Sem Cert.Kernel5Ideal Cert.Kernel5Ideal.Gen Cert.Kernel5Ideal.Facts Cert.Softmax
open Cert.Attn (colAt headOf colIn laneAt eq_of_ix2)
open scoped BigOperators

/-! ## Rows by batch element -/

/-- Row `i` of batch element `b`. -/
def rowAt (b : Fin 16) (i : Fin 64) : Fin 1024 := ⟨b.val * 64 + i.val, by omega⟩
/-- The batch element of a row. -/
def batchOf (R : Fin 1024) : Fin 16 := ⟨R.val / 64, by omega⟩
/-- The row within its batch element. -/
def rowIn (R : Fin 1024) : Fin 64 := ⟨R.val % 64, by omega⟩

theorem batchOf_rowAt (b : Fin 16) (i : Fin 64) : batchOf (rowAt b i) = b := Fin.ext (by simp only [batchOf, rowAt]; omega)
theorem rowIn_rowAt (b : Fin 16) (i : Fin 64) : rowIn (rowAt b i) = i := Fin.ext (by simp only [rowIn, rowAt]; omega)
theorem rowAt_eta (R : Fin 1024) : rowAt (batchOf R) (rowIn R) = R := Fin.ext (by simp only [batchOf, rowIn, rowAt]; omega)

/-- The row of the cache that holds key `j` of head `h`. -/
def cacheAt (j : ℕ) (hj : j < 4096) (h : Fin 8) : Fin 32768 := ⟨j * 8 + h.val, by omega⟩

/-! ## The specification -/

/-- The call's arguments. -/
structure Args where
  /-- queries -/
  q : Vec Ideal S1024x1024 .bf16
  /-- cached keys of both layers -/
  ck : Vec Ideal S2x16x32768x128 .f32
  /-- cached values of both layers -/
  cv : Vec Ideal S2x16x32768x128 .f32
  /-- terms of the cached keys -/
  g : Vec Ideal S16x8x4096 .f32
  /-- the rows' own terms -/
  fc : Vec Ideal S1024x128 .f32
  /-- terms of the new keys -/
  fr : Vec Ideal S16x8x128 .f32
  /-- new keys -/
  kn : Vec Ideal S1024x1024 .bf16
  /-- new values -/
  vn : Vec Ideal S1024x1024 .bf16
  /-- gate -/
  ga : Vec Ideal S1024x1024 .bf16

/-- Cached rows of the second layer, then the new ones, then zeros. -/
def oldNew (x : Vec Ideal S2x16x32768x128 .f32) (y : Vec Ideal S1024x1024 .bf16) (b : Fin 16) (h : Fin 8) (j : Fin 4224) (e : Fin 128) : EReal :=
  if h1 : j.val < 4096 then x (ix4 1 b (cacheAt j.val h1 h) e)
  else if h2 : j.val < 4160 then y (ix2 (rowAt b ⟨j.val - 4096, by omega⟩) (colAt h e)) else 0

/-- A head of a batch element. -/
def Args.head (A : Args) (b : Fin 16) (h : Fin 8) : Head where
  q i e := A.q (ix2 (rowAt b i) (colAt h e))
  k j e := oldNew A.ck A.kn b h j e
  v j e := oldNew A.cv A.vn b h j e
  t j := if hj : j.val < 4096 then A.g (ix3 b h ⟨j.val, hj⟩) else -A.fr (ix3 b h ⟨j.val - 4096, by omega⟩)
  f i := A.fc (ix2 (rowAt b i) (laneAt h))

/-- The head's result: the softmax row of the scores over the values, times the gate. -/
def Args.out (A : Args) (b : Fin 16) (h : Fin 8) (i : Fin 64) (d : Fin 128) : EReal :=
  softRow ((A.head b h).rowScore i) (fun j => (A.head b h).v j d) * A.ga (ix2 (rowAt b i) (colAt h d))

/-- The whole result array. -/
def Args.arr (A : Args) : Vec Ideal S1024x1024 .bf16 := fun R => A.out (batchOf (R 0)) (headOf (R 1)) (rowIn (R 0)) (colIn (R 1))

theorem Args.arr_at (A : Args) (b : Fin 16) (h : Fin 8) (i : Fin 64) (d : Fin 128) : A.arr (ix2 (rowAt b i) (colAt h d)) = A.out b h i d := by
  show A.out (batchOf (rowAt b i)) (headOf (colAt h d)) (rowIn (rowAt b i)) (colIn (colAt h d)) = _
  rw [batchOf_rowAt, rowIn_rowAt, Attn.headOf_colAt, Attn.colIn_colAt]

/-- What the scores need: queries, keys and the forget terms are real numbers. -/
structure Args.Real (A : Args) : Prop where
  q : ∀ i, ∃ r : ℝ, A.q i = (r : EReal)
  ck : ∀ i, ∃ r : ℝ, A.ck i = (r : EReal)
  g : ∀ i, ∃ r : ℝ, A.g i = (r : EReal)
  fc : ∀ i, ∃ r : ℝ, A.fc i = (r : EReal)
  fr : ∀ i, ∃ r : ℝ, A.fr i = (r : EReal)
  kn : ∀ i, ∃ r : ℝ, A.kn i = (r : EReal)

theorem Args.Real.head {A : Args} (hA : A.Real) (b : Fin 16) (h : Fin 8) : (A.head b h).Real where
  q _ _ := hA.q _
  k j e := by
    show ∃ r : ℝ, oldNew A.ck A.kn b h j e = (r : EReal)
    unfold oldNew
    split
    · exact hA.ck _
    · split
      · exact hA.kn _
      · exact ⟨0, EReal.coe_zero.symm⟩
  t j := by
    show ∃ r : ℝ, (if hj : j.val < 4096 then A.g (ix3 b h ⟨j.val, hj⟩) else -A.fr (ix3 b h ⟨j.val - 4096, by omega⟩)) = (r : EReal)
    split
    · exact hA.g _
    · obtain ⟨r, hr⟩ := hA.fr (ix3 b h ⟨j.val - 4096, by omega⟩)
      exact ⟨-r, by rw [hr, EReal.coe_neg]⟩
  f _ := hA.fc _

/-! ## The blocks the points stage -/

/-- Which block each window stages: batch element by batch element, the two halves of its cache. -/
theorem index_eq : ∀ t : Fin grid0.N,
    win0_0.index t = ![t.val / 2, 0] ∧ win0_1.index t = ![1, t.val / 2, t.val % 2, 0] ∧ win0_2.index t = ![1, t.val / 2, t.val % 2, 0]
      ∧ win0_3.index t = ![t.val / 2, 0, t.val % 2] ∧ win0_4.index t = ![t.val / 2, 0] ∧ win0_5.index t = ![t.val / 2, 0, 0]
      ∧ win0_6.index t = ![t.val / 2, 0] ∧ win0_7.index t = ![t.val / 2, 0] ∧ win0_8.index t = ![t.val / 2, 0] ∧ win0_9.index t = ![t.val / 2, 0] := by
  decide +kernel

variable (m : (ℓ : Loc nD τ sig) → Buf (Elt Ideal) ℓ)

/-- The point's batch element. -/
def bAt (t : Fin cfg0.N) : Fin 16 := ⟨t.val / 2, by have : t.val < 32 := lt_of_lt_of_eq t.isLt N_0; omega⟩

/-- The arguments of device `c`. -/
def argsOf (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8)⟩

/-- An index of a batch element's rows, in the flat array. -/
theorem rows_idx {N : ℕ} {t : Fin cfg0.N} {ix : Fin 2 → ℕ} (e : ix = ![t.val / 2, 0]) (x : (⟨2, ![1024, N]⟩ : Shape).Idx) (r : Fin 64) (C : Fin N)
    (h0 : (x 0).val = ix 0 * 64 + 1 * r.val) (h1 : (x 1).val = ix 1 * N + 1 * C.val) : x = ix2 (rowAt (bAt t) r) C := by
  subst e
  funext a
  refine Fin.ext ?_
  match a with
  | ⟨0, _⟩ => exact h0.trans (by simp [rowAt, bAt, ix2])
  | ⟨1, _⟩ => exact h1.trans (by simp [ix2])

/-- A row of a half of the cache. -/
def halfRow (t : Fin cfg0.N) (s : Fin 16384) : Fin 32768 := ⟨t.val % 2 * 16384 + s.val, by omega⟩

/-- An index of a half of a batch element's cache. -/
theorem cache_idx {t : Fin cfg0.N} {ix : Fin 4 → ℕ} (e : ix = ![1, t.val / 2, t.val % 2, 0]) (x : S2x16x32768x128.Idx) (s : Fin 16384) (d : Fin 128)
    (h0 : (x 0).val = ix 0 * 1 + 1 * 0) (h1 : (x 1).val = ix 1 * 1 + 1 * 0) (h2 : (x 2).val = ix 2 * 16384 + 1 * s.val)
    (h3 : (x 3).val = ix 3 * 128 + 1 * d.val) : x = ix4 1 (bAt t) (halfRow t s) d := by
  subst e
  funext a
  refine Fin.ext ?_
  match a with
  | ⟨0, _⟩ => exact h0.trans (by simp [ix4])
  | ⟨1, _⟩ => exact h1.trans (by simp [ix4, bAt])
  | ⟨2, _⟩ => exact h2.trans (by simp [ix4, halfRow])
  | ⟨3, _⟩ => exact h3.trans (by simp [ix4])

section
variable (c : Dev nD) (t : Fin cfg0.N)

theorem iblk0 (r : Fin 64) (C : Fin 1024) : iblk m c 0 t (ix2 r C) = (argsOf m c).q (ix2 (rowAt (bAt t) r) C) :=
  congrArg (m ((c : Thread nD τ).loc main_arg0)) (rows_idx (index_eq t).1 _ r C rfl rfl)
theorem iblk4 (r : Fin 64) (l : Fin 128) : iblk m c 4 t (ix2 r l) = (argsOf m c).fc (ix2 (rowAt (bAt t) r) l) :=
  congrArg (m ((c : Thread nD τ).loc main_arg4)) (rows_idx (index_eq t).2.2.2.2.1 _ r l rfl rfl)
theorem iblk6 (r : Fin 64) (C : Fin 1024) : iblk m c 6 t (ix2 r C) = (argsOf m c).kn (ix2 (rowAt (bAt t) r) C) :=
  congrArg (m ((c : Thread nD τ).loc main_arg6)) (rows_idx (index_eq t).2.2.2.2.2.2.1 _ r C rfl rfl)
theorem iblk7 (r : Fin 64) (C : Fin 1024) : iblk m c 7 t (ix2 r C) = (argsOf m c).vn (ix2 (rowAt (bAt t) r) C) :=
  congrArg (m ((c : Thread nD τ).loc main_arg7)) (rows_idx (index_eq t).2.2.2.2.2.2.2.1 _ r C rfl rfl)
theorem iblk8 (r : Fin 64) (C : Fin 1024) : iblk m c 8 t (ix2 r C) = (argsOf m c).ga (ix2 (rowAt (bAt t) r) C) :=
  congrArg (m ((c : Thread nD τ).loc main_arg8)) (rows_idx (index_eq t).2.2.2.2.2.2.2.2.1 _ r C rfl rfl)
theorem iblk1 (s : Fin 16384) (d : Fin 128) : iblk m c 1 t (ix4 0 0 s d) = (argsOf m c).ck (ix4 1 (bAt t) (halfRow t s) d) :=
  congrArg (m ((c : Thread nD τ).loc main_arg1)) (cache_idx (index_eq t).2.1 _ s d rfl rfl rfl rfl)
theorem iblk2 (s : Fin 16384) (d : Fin 128) : iblk m c 2 t (ix4 0 0 s d) = (argsOf m c).cv (ix4 1 (bAt t) (halfRow t s) d) :=
  congrArg (m ((c : Thread nD τ).loc main_arg2)) (cache_idx (index_eq t).2.2.1 _ s d rfl rfl rfl rfl)

/-- The terms of the half's keys. -/
theorem iblk3 (h : Fin 8) (j : Fin 2048) : iblk m c 3 t (ix3 0 h j) = (argsOf m c).g (ix3 (bAt t) h ⟨t.val % 2 * 2048 + j.val, by omega⟩) := by
  refine congrArg (m ((c : Thread nD τ).loc main_arg3)) ?_
  have e := (index_eq t).2.2.2.1
  funext a
  refine Fin.ext ?_
  match a with
  | ⟨0, _⟩ => show win0_3.index t 0 * 1 + 1 * 0 = t.val / 2
              rw [e]; simp
  | ⟨1, _⟩ => show win0_3.index t 1 * 8 + 1 * h.val = h.val
              rw [e]; simp
  | ⟨2, _⟩ => show win0_3.index t 2 * 2048 + 1 * j.val = t.val % 2 * 2048 + j.val
              rw [e]; simp

/-- The terms of the new keys. -/
theorem iblk5 (h : Fin 8) (j : Fin 128) : iblk m c 5 t (ix3 0 h j) = (argsOf m c).fr (ix3 (bAt t) h j) := by
  refine congrArg (m ((c : Thread nD τ).loc main_arg5)) ?_
  have e := (index_eq t).2.2.2.2.2.1
  funext a
  refine Fin.ext ?_
  match a with
  | ⟨0, _⟩ => show win0_5.index t 0 * 1 + 1 * 0 = t.val / 2
              rw [e]; simp
  | ⟨1, _⟩ => show win0_5.index t 1 * 8 + 1 * h.val = h.val
              rw [e]; simp
  | ⟨2, _⟩ => show win0_5.index t 2 * 128 + 1 * j.val = j.val
              rw [e]; simp

end

/-! ## The two points of a batch element -/

/-- A head's state after the cache's half of a point. -/
abbrev ptOld (c : Dev nD) (t : Fin cfg0.N) (xs0 xs1 : Vec Ideal S8x64x128 .f32) (xs2 : Vec Ideal S64x1024 .f32) (n : Fin 8) : State :=
  stOld (iblk m c 0 t) (iblk m c 1 t) (iblk m c 2 t) (iblk m c 3 t) (iblk m c 4 t) xs0 xs1 xs2 n.val n.isLt

/-- A cached row staged by the point, as a row of the head's keys or values. -/
theorem half_eq (x : Vec Ideal S2x16x32768x128 .f32) (y : Vec Ideal S1024x1024 .bf16) (t : Fin cfg0.N) (n : Fin 8) (k : Fin 2048) (e : Fin 128) :
    x (ix4 1 (bAt t) (halfRow t (cacheRow k n)) e) = oldNew x y (bAt t) n (key (t.val % 2 * 2048) (by omega) k) e := by
  unfold oldNew
  rw [dif_pos (by rw [key_val]; omega)]
  refine congrArg (fun z => x (ix4 1 (bAt t) z e)) (Fin.ext ?_)
  show t.val % 2 * 16384 + (k.val * 8 + n.val) = (t.val % 2 * 2048 + k.val) * 8 + n.val
  omega

/-- One point's half of the cache: a row that had met the keys before the half has met the half's too. -/
theorem held_point (c : Dev nD) (hA : (argsOf m c).Real) (t : Fin cfg0.N) (n : Fin 8) (r : Fin 64) (d : Fin 128)
    {xs0 xs1 : Vec Ideal S8x64x128 .f32} {xs2 : Vec Ideal S64x1024 .f32}
    (h : Held ((argsOf m c).head (bAt t) n) r d (t.val % 2 * 2048) (xs0 (ix3 n r 0)) (xs1 (ix3 n r 0)) (xs2 (ix2 r (colAt n d)))) :
    Held ((argsOf m c).head (bAt t) n) r d (t.val % 2 * 2048 + 2048) ((ptOld m c t xs0 xs1 xs2 n).m (ix2 r 0))
      ((ptOld m c t xs0 xs1 xs2 n).l (ix2 r 0)) ((ptOld m c t xs0 xs1 xs2 n).a (ix2 r d)) := by
  refine held_old (hA.head _ _) (by omega) (fun e => ?_) (fun k e => ?_) (fun k => ?_) (fun k => ?_) ?_ ?_
  · rw [cols_apply, iblk0]; rfl
  · rw [cache_apply, iblk1]; exact half_eq _ _ t n k e
  · rw [cache_apply, iblk2]; exact half_eq _ _ t n k d
  · rw [oldTerms_apply, iblk3]
    have hk : (key (K := 2048) (t.val % 2 * 2048) (by omega) k).val < 4096 := by rw [key_val]; omega
    refine Eq.trans ?_ (dif_pos hk).symm
    refine congrArg (fun z => (argsOf m c).g (ix3 (bAt t) n z)) (Fin.ext ?_)
    show t.val % 2 * 2048 + k.val = (key (K := 2048) (t.val % 2 * 2048) (by omega) k).val
    rw [key_val]
  · rw [own_apply, iblk4]; rfl
  · show Held _ _ _ _ (lane xs0 n.val n.isLt (ix2 r 0)) (lane xs1 n.val n.isLt (ix2 r 0)) (cols xs2 n.val n.isLt (ix2 r d))
    rw [lane_apply, lane_apply, cols_apply]
    exact h

/-- The scratch before anything was met. -/
theorem start_m (i : S8x64x128.Idx) : k0_pay74 (F := Ideal) i = ⊥ := by
  unfold k0_pay74
  rw [shapeCast_self]
  exact mask_eq
theorem start_l (i : S8x64x128.Idx) : k0_pay75 (F := Ideal) i = 0 := by
  unfold k0_pay75
  rw [shapeCast_self]
  exact Ideal.ofBits_zero_f32
theorem start_a (i : S64x1024.Idx) : k0_pay76 (F := Ideal) i = 0 := by
  unfold k0_pay76
  rw [shapeCast_self]
  exact Ideal.ofBits_zero_f32

/-- A head's state after the first half of the cache, at an even point. -/
abbrev ptFirst (c : Dev nD) (t : Fin cfg0.N) (n : Fin 8) : State :=
  ptOld m c t (k0_pay74 (F := Ideal)) (k0_pay75 (F := Ideal)) (k0_pay76 (F := Ideal)) n

/-- After the first point a row has met the first half of the cache. -/
theorem held_first (c : Dev nD) (hA : (argsOf m c).Real) (t : Fin cfg0.N) (h0 : t.val % 2 = 0) (n : Fin 8) (r : Fin 64) (d : Fin 128) :
    Held ((argsOf m c).head (bAt t) n) r d 2048 ((ptFirst m c t n).m (ix2 r 0)) ((ptFirst m c t n).l (ix2 r 0)) ((ptFirst m c t n).a (ix2 r d)) := by
  have h := held_point m c hA t n r d (xs0 := k0_pay74 (F := Ideal)) (xs1 := k0_pay75 (F := Ideal)) (xs2 := k0_pay76 (F := Ideal)) (by
    rw [start_m, start_l, start_a, h0]
    exact held_start _ r d)
  rw [h0] at h
  exact h

/-- What the scratch holds when an odd point starts. -/
theorem scratch_m (c : Dev nD) (t : Fin cfg0.N) (h0 : t.val % 2 = 0) (n : Fin 8) (r : Fin 64) :
    (outsAt0 m c t.val t.isLt).2.1 (ix3 n r 0) = (ptFirst m c t n).m (ix2 r 0) := by
  rw [outsAt0_A m c t h0 (by omega)]
  dsimp only
  rw [first_m]
  rfl
theorem scratch_l (c : Dev nD) (t : Fin cfg0.N) (h0 : t.val % 2 = 0) (n : Fin 8) (r : Fin 64) :
    (outsAt0 m c t.val t.isLt).2.2.1 (ix3 n r 0) = (ptFirst m c t n).l (ix2 r 0) := by
  rw [outsAt0_A m c t h0 (by omega)]
  dsimp only
  rw [first_l]
  rfl
theorem scratch_a (c : Dev nD) (t : Fin cfg0.N) (h0 : t.val % 2 = 0) (n : Fin 8) (r : Fin 64) (d : Fin 128) :
    (outsAt0 m c t.val t.isLt).2.2.2 (ix2 r (colAt n d)) = (ptFirst m c t n).a (ix2 r d) := by
  rw [outsAt0_A m c t h0 (by omega)]
  dsimp only
  rw [first_a]
  have e : headOf (colAt n d) = n := Attn.headOf_colAt n d
  have e' : colIn (colAt n d) = d := Attn.colIn_colAt n d
  show (ptFirst m c t (headOf (colAt n d))).a (ix2 r (colIn (colAt n d))) = _
  rw [e, e']

/-- A new row staged by the point, as a row of the head's keys or values. -/
theorem new_eq (x : Vec Ideal S2x16x32768x128 .f32) (y : Vec Ideal S1024x1024 .bf16) (b : Fin 16) (n : Fin 8) (k : Fin 64) (e : Fin 128) :
    y (ix2 (rowAt b k) (colAt n e)) = oldNew x y b n (key 4096 (by norm_num) k) e := by
  have h1 : ¬ (key (K := 64) 4096 (by norm_num) k).val < 4096 := by rw [key_val]; omega
  have h2 : (key (K := 64) 4096 (by norm_num) k).val < 4160 := by rw [key_val]; omega
  unfold oldNew
  rw [dif_neg h1, dif_pos h2]
  refine congrArg (fun z => y (ix2 (rowAt b z) (colAt n e))) (Fin.ext ?_)
  show k.val = (key (K := 64) 4096 (by norm_num) k).val - 4096
  rw [key_val]
  omega

/-- What an odd point writes for a head: the softmax row over all its keys, times the gate. -/
theorem head_done (c : Dev nD) (hA : (argsOf m c).Real) (t : Fin cfg0.N) (h1 : t.val % 2 = 1) (n : Fin 8) (r : Fin 64) (d : Fin 128)
    {xs0 xs1 : Vec Ideal S8x64x128 .f32} {xs2 : Vec Ideal S64x1024 .f32}
    (h : Held ((argsOf m c).head (bAt t) n) r d 2048 (xs0 (ix3 n r 0)) (xs1 (ix3 n r 0)) (xs2 (ix2 r (colAt n d)))) :
    headResult (iblk m c 0 t) (iblk m c 1 t) (iblk m c 2 t) (iblk m c 3 t) (iblk m c 4 t) (iblk m c 5 t) (iblk m c 6 t) (iblk m c 7 t) (iblk m c 8 t)
      xs0 xs1 xs2 n.val n.isLt (ix2 r d) = (argsOf m c).out (bAt t) n r d := by
  have h' := held_point m c hA t n r d (xs0 := xs0) (xs1 := xs1) (xs2 := xs2) (by rw [h1]; exact h)
  rw [h1] at h'
  unfold headResult stNew
  refine (held_finish (hA.head _ _) (held_new (hA.head (bAt t) n) (fun e => ?_) (fun k e => ?_) (fun k => ?_) (fun j hj => ?_) (fun k => ?_) ?_ h')).trans ?_
  · rw [cols_apply, iblk0]; rfl
  · rw [cols_apply, iblk6]; exact new_eq _ _ _ n k e
  · rw [cols_apply, iblk7]; exact new_eq _ _ _ n k d
  · exact (dif_neg (by omega)).trans (dif_neg (by omega))
  · rw [newTerms_apply, iblk5]
    have hk : ¬ (key (K := 128) 4096 (by norm_num) k).val < 4096 := by rw [key_val]; omega
    refine Eq.trans ?_ (dif_neg hk).symm
    refine congrArg (fun z => -(argsOf m c).fr (ix3 (bAt t) n z)) (Fin.ext ?_)
    show k.val = (key (K := 128) 4096 (by norm_num) k).val - 4096
    rw [key_val]
    omega
  · rw [own_apply, iblk4]; rfl
  · rw [cols_apply, iblk8]; rfl

/-! ## The result array -/

/-- What an odd point writes back is its block of the whole array. -/
theorem flushed_eq (c : Dev nD) (hA : (argsOf m c).Real) (t : Fin cfg0.N) (h1 : t.val % 2 = 1) :
    (dats m 0 c).flushed 9 t = ((cfg0.win 9).blk t).view.read (Elt Ideal) (argsOf m c).arr := by
  have hp : t.val - 1 < cfg0.N := Nat.lt_of_le_of_lt (Nat.sub_le _ _) t.isLt
  have hb : bAt ⟨t.val - 1, hp⟩ = bAt t := Fin.ext (show (t.val - 1) / 2 = t.val / 2 by omega)
  have h0 : (⟨t.val - 1, hp⟩ : Fin cfg0.N).val % 2 = 0 := by show (t.val - 1) % 2 = 0; omega
  rw [Cert.Kernel5Ideal.Value.flushed9_B m c t (by omega) h1, second_out]
  have key : ∀ (n : Fin 8) (r : Fin 64) (d : Fin 128), headResult (iblk m c 0 t) (iblk m c 1 t) (iblk m c 2 t) (iblk m c 3 t) (iblk m c 4 t)
      (iblk m c 5 t) (iblk m c 6 t) (iblk m c 7 t) (iblk m c 8 t) (outsAt0 m c (t.val - 1) hp).2.1 (outsAt0 m c (t.val - 1) hp).2.2.1
      (outsAt0 m c (t.val - 1) hp).2.2.2 n.val n.isLt (ix2 r d) = (argsOf m c).arr (ix2 (rowAt (bAt t) r) (colAt n d)) := fun n r d => by
    rw [Args.arr_at]
    refine head_done m c hA t h1 n r d ?_
    have h := held_first m c hA ⟨t.val - 1, hp⟩ h0 n r d
    rw [hb] at h
    rw [scratch_m m c ⟨t.val - 1, hp⟩ h0, scratch_l m c ⟨t.val - 1, hp⟩ h0, scratch_a m c ⟨t.val - 1, hp⟩ h0]
    exact h
  funext j
  refine (key (headOf (j 1)) (j 0) (colIn (j 1))).trans ?_
  refine (congrArg (fun z => (argsOf m c).arr (ix2 (rowAt (bAt t) (j 0)) z)) (Attn.colAt_eta (j 1))).trans ?_
  exact (congrArg (argsOf m c).arr (rows_idx (index_eq t).2.2.2.2.2.2.2.2.2 _ (j 0) (j 1) rfl rfl)).symm

/-- An index of the result array is in a point's block when its row is. -/
theorem mem_blk (t : Fin cfg0.N) (i : S1024x1024.Idx) (h0 : t.val / 2 * 64 ≤ (i 0).val ∧ (i 0).val < t.val / 2 * 64 + 64) :
    i ∈ ((cfg0.win 9).blk t).view.set := by
  show i ∈ ((View.whole main_v0).slice (win0_9.rect t)).set
  rw [View.set_slice_whole, Rect.mem_set_unit]
  have e := (index_eq t).2.2.2.2.2.2.2.2.2
  intro a
  match a with
  | ⟨0, _⟩ =>
    show win0_9.index t 0 * 64 ≤ (i 0).val ∧ (i 0).val < win0_9.index t 0 * 64 + 64
    rw [e]; exact h0
  | ⟨1, _⟩ =>
    show win0_9.index t 1 * 1024 ≤ (i 1).val ∧ (i 1).val < win0_9.index t 1 * 1024 + 1024
    have h1 : (i 1).val < 1024 := (i 1).isLt
    rw [e]; exact ⟨by simp, by simpa using h1⟩

/-- The odd points' blocks fill the array. -/
theorem cover (i : S1024x1024.Idx) : ∃ t : Fin cfg0.N, (cfg0.win 9).flush t = true ∧ i ∈ ((cfg0.win 9).blk t).view.set := by
  have h0 : (i 0).val < 1024 := (i 0).isLt
  have hN : cfg0.N = 32 := N_0
  have ht : (i 0).val / 64 * 2 + 1 < cfg0.N := by omega
  refine ⟨⟨_, ht⟩, (flush0_9 _).mpr ?_, mem_blk _ i ?_⟩ <;> dsimp only <;> omega

/-- So the result array ends as the whole array. -/
theorem final_o (c : Dev nD) (hA : (argsOf m c).Real) : (dats m 0 c).arrAt 9 cfg0.N = (argsOf m c).arr :=
  (dats m 0 c).arrAt_eq_of_cover 9 (argsOf m c).arr (fun t hf => flushed_eq m c hA t ((flush0_9 t).mp hf)) cover

end Cert.Samp

end

end
-- ==== Proof.SampRef.lean ====
/-
  The sample attention's reference read at an index: the textbook softmax row over the 4160 cached and new keys is the
  softmax row the kernel's heads hold over 4224, the last 64 of which no row sees.
-/
module

public import proofs.«01_k».proof.Proof.SampArray
public import proofs.«01_k».proof.Proof.AttnRef
public import proofs.«01_k».proof.Proof.Gen.Reference5Ideal.Read

@[expose] public section

set_option maxRecDepth 16384

noncomputable section

namespace Cert.Samp

open Idealize.ShloMosaic Cert.Reference5Ideal Cert.Reference5Ideal.Gen Cert.Reference5Ideal.Read Cert.Softmax
open Cert.Attn (colAt headOf colIn laneAt eq_of_ix2 log_two neg_inf)
open scoped BigOperators

/-- A key of the reference, among the kernel's. -/
def wide : Fin 4160 ↪ Fin 4224 := ⟨fun j => ⟨j.val, by omega⟩, fun _ _ h => Fin.ext (Fin.mk.inj h)⟩
theorem wide_val (j : Fin 4160) : (wide j).val = j.val := rfl
theorem wide_zero : wide 0 = 0 := rfl

/-- The keys the reference does not have are the last ones. -/
theorem not_wide {k : Fin 4224} (h : k ∉ Set.range wide) : 4160 ≤ k.val := by
  by_contra hk
  exact h ⟨⟨k.val, by omega⟩, Fin.ext rfl⟩

/-- The flat index of row `i`, head `h`, lane `e` of a batch element. -/
theorem idx_heads (b : Fin 16) (i : Fin 64) (h : Fin 8) (e : Fin 128) : idx_main_v1 (ix4 b i h e) = ix2 (rowAt b i) (colAt h e) := by
  funext a
  refine Fin.ext ?_
  match a with
  | ⟨0, _⟩ => show (((b.val * 64 + i.val) * 8 + h.val) * 128 + e.val) / 1024 = b.val * 64 + i.val; omega
  | ⟨1, _⟩ => show (((b.val * 64 + i.val) * 8 + h.val) * 128 + e.val) % 1024 = h.val * 128 + e.val; omega

/-- The cache's index of key `j`, head `h`, lane `e` of a batch element. -/
theorem idx_cache (b : Fin 16) (j : Fin 4096) (h : Fin 8) (e : Fin 128) :
    idx_main_v2 (idx_main_v3 (idx_main_v4 (ix4 b j h e))) = ix4 1 b (cacheAt j.val j.isLt h) e := by
  have e4 : idx_main_v4 (ix4 b j h e) = ix3 b (cacheAt j.val j.isLt h) e := by
    funext a
    refine Fin.ext ?_
    match a with
    | ⟨0, _⟩ => show (((b.val * 4096 + j.val) * 8 + h.val) * 128 + e.val) / 4194304 = b.val; omega
    | ⟨1, _⟩ => show (((b.val * 4096 + j.val) * 8 + h.val) * 128 + e.val) / 128 % 32768 = j.val * 8 + h.val; omega
    | ⟨2, _⟩ => show (((b.val * 4096 + j.val) * 8 + h.val) * 128 + e.val) % 128 = e.val; omega
  rw [e4]
  generalize cacheAt j.val j.isLt h = s
  funext a
  refine Fin.ext ?_
  match a with
  | ⟨0, _⟩ => rfl
  | ⟨1, _⟩ => show ((b.val * 32768 + s.val) * 128 + e.val) / 4194304 % 16 = b.val; omega
  | ⟨2, _⟩ => show ((b.val * 32768 + s.val) * 128 + e.val) / 128 % 32768 = s.val; omega
  | ⟨3, _⟩ => show ((b.val * 32768 + s.val) * 128 + e.val) % 128 = e.val; omega

/-- The keys, cached and new. -/
theorem ref_keys (x : Vec Ideal S2x16x32768x128 .f32) (y : Vec Ideal S1024x1024 .bf16) (b : Fin 16) (j : Fin 4160) (h : Fin 8) (e : Fin 128) :
    val_main_v7 (F := Ideal) x y (ix4 b j h e) = oldNew x y b h (wide j) e := by
  unfold val_main_v7 oldNew
  by_cases h1 : j.val < 4096
  · rw [dif_pos (show (wide j).val < 4096 from h1)]
    refine (concatenate_pair_apply_left (s₁ := S16x4096x8x128) (s₂ := S16x64x8x128) 1 _ _ _ (ix4 b j h e) rfl (ix4 b (⟨j.val, h1⟩ : Fin 4096) h e) (fun a => by fin_cases a <;> rfl)).trans ?_
    rw [val_main_v4_apply, val_main_v3_apply, val_main_v2_apply]
    exact congrArg x (idx_cache b ⟨j.val, h1⟩ h e)
  · rw [dif_neg (show ¬ (wide j).val < 4096 from h1), dif_pos (show (wide j).val < 4160 from j.isLt)]
    refine (concatenate_pair_apply_right (s₁ := S16x4096x8x128) (s₂ := S16x64x8x128) 1 _ _ _ (ix4 b j h e) rfl rfl (ix4 b (⟨j.val - 4096, by omega⟩ : Fin 64) h e) (fun a ha => ?_) ?_).trans ?_
    · match a with
      | ⟨0, _⟩ => rfl
      | ⟨1, _⟩ => exact absurd rfl ha
      | ⟨2, _⟩ => rfl
      | ⟨3, _⟩ => rfl
    · show j.val - 4096 + 4096 = j.val
      omega
    rw [val_main_v6_apply, val_main_v5_apply]
    exact congrArg y (idx_heads b ⟨j.val - 4096, by omega⟩ h e)

/-- The values are laid out like the keys. -/
theorem ref_values (x : Vec Ideal S2x16x32768x128 .f32) (y : Vec Ideal S1024x1024 .bf16) (b : Fin 16) (j : Fin 4160) (h : Fin 8) (e : Fin 128) :
    val_main_v13 (F := Ideal) x y (ix4 b j h e) = oldNew x y b h (wide j) e := ref_keys x y b j h e

variable (A : Args)

/-- The terms of the keys, which the reference takes away. -/
theorem ref_terms (b : Fin 16) (h : Fin 8) (j : Fin 4160) :
    -(val_main_v19 (F := Ideal) A.g A.fr (ix3 b h j)) = (A.head b h).t (wide j) := by
  unfold val_main_v19
  by_cases h1 : j.val < 4096
  · refine Eq.trans ?_ (dif_pos (show (wide j).val < 4096 from h1)).symm
    refine (congrArg (fun z => -z) (concatenate_pair_apply_left (s₁ := S16x8x4096) (s₂ := S16x8x64) 2 _ _ _ (ix3 b h j) rfl (ix3 b h (⟨j.val, h1⟩ : Fin 4096))
      (fun a => by fin_cases a <;> rfl))).trans ?_
    rw [val_main_v17_apply]
    exact neg_neg _
  · refine Eq.trans ?_ (dif_neg (show ¬ (wide j).val < 4096 from h1)).symm
    refine (congrArg (fun z => -z) (concatenate_pair_apply_right (s₁ := S16x8x4096) (s₂ := S16x8x64) 2 _ _ _ (ix3 b h j) rfl rfl (ix3 b h (⟨j.val - 4096, by omega⟩ : Fin 64))
      (fun a ha => ?_) ?_)).trans ?_
    · match a with
      | ⟨0, _⟩ => rfl
      | ⟨1, _⟩ => rfl
      | ⟨2, _⟩ => exact absurd rfl ha
    · show j.val - 4096 + 4096 = j.val
      omega
    rw [val_main_v18_apply]
    refine congrArg (fun z => -A.fr z) ?_
    funext a
    match a with
    | ⟨0, _⟩ => rfl
    | ⟨1, _⟩ => rfl
    | ⟨2, _⟩ => rfl

/-- The reference's masked, scaled score. -/
theorem ref_score (hA : A.Real) (b : Fin 16) (h : Fin 8) (i : Fin 64) (j : Fin 4160) :
    val_main_v39 (F := Ideal) A.q A.ck A.g A.fc A.fr A.kn (ix4 b h i j)
      = (A.head b h).rowScore i (wide j) * ((Real.log 2 : ℝ) : EReal) := by
  have hH := hA.head b h
  simp only [val_main_v39_apply, val_main_call0_v1_apply, val_main_v34_apply, val_main_v32_apply, val_main_v27_apply, val_main_v26_apply,
    val_main_v33_apply, val_main_v31_apply, val_main_v30_apply, val_main_c_apply, val_main_v29_apply, val_main_v28_apply, val_main_v38_apply,
    val_main_v35_apply, val_main_v20_apply, val_main_v25_apply, val_main_v23_apply, val_main_v21_apply, val_main_v16_apply, val_main_v15_apply,
    val_main_v14_apply, val_main_v24_apply, val_main_v22_apply, val_main_v37_apply, val_main_v36_apply, val_main_cst_apply,
    val_main_call0_v2_apply, val_main_call0_v0_apply, val_main_cst_0_apply]
  have hs : (∑ e : Fin 128, val_main_v1 (F := Ideal) A.q (lidx_main_v20 (ix4 b h i j) e) * val_main_v7 (F := Ideal) A.ck A.kn (ridx_main_v20 (ix4 b h i j) e))
      = ∑ e : Fin 128, (A.head b h).q i e * (A.head b h).k (wide j) e := by
    refine Finset.sum_congr rfl fun e _ => congrArg₂ (· * ·) ?_ ?_
    · rw [val_main_v1_apply, val_main_v0_apply]
      exact congrArg A.q (idx_heads b i h e)
    · refine Eq.trans (congrArg _ ?_) (ref_keys A.ck A.kn b j h e)
      funext a
      match a with
      | ⟨0, _⟩ => rfl
      | ⟨1, _⟩ => rfl
      | ⟨2, _⟩ => rfl
      | ⟨3, _⟩ => rfl
  have e4 : idx_main_v14 (idx_main_v15 (idx_main_v16 (idx_main_v21 (idx_main_v23 (ix4 b h i j))))) = ix2 (rowAt b i) (laneAt h) := by
    funext a
    refine Fin.ext ?_
    match a with
    | ⟨0, _⟩ => show ((b.val * 64 + i.val) * 128 + h.val) / 128 = b.val * 64 + i.val; omega
    | ⟨1, _⟩ => show ((b.val * 64 + i.val) * 128 + h.val) % 128 = h.val; omega
  have e5 : idx_main_v22 (idx_main_v24 (ix4 b h i j)) = ix3 b h j := by
    funext a
    match a with
    | ⟨0, _⟩ => rfl
    | ⟨1, _⟩ => rfl
    | ⟨2, _⟩ => rfl
  rw [hs, e4, e5]
  have ht := ref_terms A b h j
  generalize val_main_v19 (F := Ideal) A.g A.fr (ix3 b h j) = w at ht ⊢
  show Scalar.select (IntOp.cmpi .sle (BitVec.ofNat 32 j.val) (IntOp.addi 4096#32 (BitVec.ofNat 32 i.val)))
    (((∑ e : Fin 128, (A.head b h).q i e * (A.head b h).k (wide j) e) + ((A.head b h).f i - w))
      * Ideal.log (FloatOps.ofBits (F := Ideal) .f32 0x40000000#32)) (Ideal.ofBits .f32 0xFF800000#32) = _
  have ha : IntOp.addi 4096#32 (BitVec.ofNat 32 i.val) = BitVec.ofNat 32 (4096 + i.val) := (BitVec.ofNat_add 4096 i.val).symm
  rw [log_two, neg_inf, Head.rowScore, ha]
  by_cases hj : j.val ≤ 4096 + i.val
  · have hc : IntOp.cmpi .sle (BitVec.ofNat 32 j.val) (BitVec.ofNat 32 (4096 + i.val)) = 1#1 :=
      (WordCmp.cmpi_sle_ofNat_eq_one_iff (by omega) (by omega)).mpr hj
    rw [if_pos (show (wide j).val ≤ 4096 + i.val from hj), hc]
    show (_ + (_ - w)) * _ = _
    obtain ⟨s, es⟩ := hH.product i (wide j)
    obtain ⟨u, eu⟩ := hH.f i
    rw [es, eu, sub_eq_add_neg, ht, add_comm ((u : ℝ) : EReal), ← add_assoc]
  · have hc : ¬ IntOp.cmpi .sle (BitVec.ofNat 32 j.val) (BitVec.ofNat 32 (4096 + i.val)) = 1#1 := fun hc =>
      hj ((WordCmp.cmpi_sle_ofNat_eq_one_iff (by omega) (by omega)).mp hc)
    rw [if_neg (show ¬ (wide j).val ≤ 4096 + i.val from hj)]
    exact (if_neg hc).trans (EReal.bot_mul_coe_of_pos (Real.log_pos (by norm_num))).symm

/-- The largest score of a row. -/
theorem ref_max (b : Fin 16) (h : Fin 8) (i : Fin 64) :
    val_main_v42 (F := Ideal) A.q A.ck A.g A.fc A.fr A.kn (ix3 b h i)
      = Finset.univ.sup fun j => val_main_v39 (F := Ideal) A.q A.ck A.g A.fc A.fr A.kn (ix4 b h i j) := by
  rw [val_main_v42_apply, val_main_v41_apply, val_main_cst_2_apply]
  unfold val_main_v40 val_main_cst_1
  generalize val_main_v39 (F := Ideal) A.q A.ck A.g A.fc A.fr A.kn = y
  pointwise
  rw [neg_inf, max_eq_right bot_le]
  rfl

/-- A weight of the reference before it is divided. -/
theorem ref_weight (hA : A.Real) (b : Fin 16) (h : Fin 8) (i : Fin 64) (j : Fin 4160) :
    val_main_v46 (F := Ideal) A.q A.ck A.g A.fc A.fr A.kn (ix4 b h i j)
      = Ideal.exp ((A.head b h).rowScore i (wide j) * ((Real.log 2 : ℝ) : EReal)
        - Finset.univ.sup fun j => (A.head b h).rowScore i (wide j) * ((Real.log 2 : ℝ) : EReal)) := by
  rw [val_main_v46_apply, val_main_v45_apply, val_main_v44_apply, val_main_v43_apply, ref_score A hA]
  have e : idx_main_v43 (idx_main_v44 (ix4 b h i j)) = ix3 b h i := by
    funext a
    match a with
    | ⟨0, _⟩ => rfl
    | ⟨1, _⟩ => rfl
    | ⟨2, _⟩ => rfl
  rw [e, ref_max]
  simp only [ref_score A hA]
  rfl

/-- The sum of a row's weights. -/
theorem ref_sum (b : Fin 16) (h : Fin 8) (i : Fin 64) :
    val_main_v47 (F := Ideal) A.q A.ck A.g A.fc A.fr A.kn (ix3 b h i)
      = ∑ j, val_main_v46 (F := Ideal) A.q A.ck A.g A.fc A.fr A.kn (ix4 b h i j) := by
  rw [val_main_v47_apply, val_main_cst_3_apply]
  refine (congrArg₂ (· + ·) (show FloatOps.ofBits (F := Ideal) .f32 0x00000000#32 = (0 : EReal) from Ideal.ofBits_zero_f32) rfl).trans ((zero_add _).trans ?_)
  refine Finset.sum_congr rfl fun j _ => congrArg _ ?_
  funext a
  match a with
  | ⟨0, _⟩ => rfl
  | ⟨1, _⟩ => rfl
  | ⟨2, _⟩ => rfl
  | ⟨3, _⟩ => rfl

/-- The reference's softmax row. -/
theorem ref_row (hA : A.Real) (b : Fin 16) (h : Fin 8) (i : Fin 64) (d : Fin 128) :
    val_main_v51 (F := Ideal) A.q A.ck A.cv A.g A.fc A.fr A.kn A.vn (ix4 b h d i)
      = softRow ((A.head b h).rowScore i) (fun j => (A.head b h).v j d) := by
  have hH := hA.head b h
  have htop := hH.ne_top i
  have hbot : (A.head b h).rowScore i (wide 0) ≠ ⊥ := hH.zero_ne_bot i
  rw [softRow_wider wide htop hbot fun k hk => if_neg (by have := not_wide hk; omega), val_main_v51_apply,
    ← softRow_exp (fun j => htop (wide j)) hbot]
  refine Finset.sum_congr rfl fun j _ => ?_
  have el : lidx_main_v51 (ix4 b h d i) j = ix4 b j h d := by
    funext a
    match a with
    | ⟨0, _⟩ => rfl
    | ⟨1, _⟩ => rfl
    | ⟨2, _⟩ => rfl
    | ⟨3, _⟩ => rfl
  have er : ridx_main_v51 (ix4 b h d i) j = ix4 b h i j := by
    funext a
    match a with
    | ⟨0, _⟩ => rfl
    | ⟨1, _⟩ => rfl
    | ⟨2, _⟩ => rfl
    | ⟨3, _⟩ => rfl
  have es : idx_main_v48 (idx_main_v49 (ix4 b h i j)) = ix3 b h i := by
    funext a
    match a with
    | ⟨0, _⟩ => rfl
    | ⟨1, _⟩ => rfl
    | ⟨2, _⟩ => rfl
  rw [el, er, mul_comm, val_main_v50_apply, val_main_v49_apply, val_main_v48_apply, es, ref_sum, ref_weight A hA, ref_values]
  simp only [ref_weight A hA]
  rfl

/-- The reference's array. -/
theorem ref_eq (hA : A.Real) : val_main_v56 (F := Ideal) A.q A.ck A.cv A.g A.fc A.fr A.kn A.vn A.ga = A.arr := by
  refine eq_of_ix2 fun R C => ?_
  obtain ⟨b, i, rfl⟩ : ∃ b i, R = rowAt b i := ⟨_, _, (rowAt_eta R).symm⟩
  obtain ⟨h, d, rfl⟩ : ∃ h d, C = colAt h d := ⟨_, _, (Attn.colAt_eta C).symm⟩
  have e : idx_main_v52 (idx_main_v53 (ix2 (rowAt b i) (colAt h d))) = ix4 b h d i := by
    funext a
    refine Fin.ext ?_
    match a with
    | ⟨0, _⟩ => show ((b.val * 64 + i.val) * 1024 + (h.val * 128 + d.val)) / 65536 = b.val; omega
    | ⟨1, _⟩ => show ((b.val * 64 + i.val) * 1024 + (h.val * 128 + d.val)) / 128 % 8 = h.val; omega
    | ⟨2, _⟩ => show ((b.val * 64 + i.val) * 1024 + (h.val * 128 + d.val)) % 128 = d.val; omega
    | ⟨3, _⟩ => show ((b.val * 64 + i.val) * 1024 + (h.val * 128 + d.val)) / 1024 % 64 = i.val; omega
  rw [Args.arr_at, val_main_v56_apply, val_main_v55_apply, val_main_v54_apply, val_main_v53_apply, val_main_v52_apply, e, ref_row A hA]
  rfl

end Cert.Samp

end

end
-- ==== Proof.SampClaims.lean ====
/-
  The claims about the sample attention: what the precondition says of the arguments, the two runs read at the whole
  array, and the claims themselves.
-/
module

public import proofs.«01_k».proof.Defs
public import proofs.«01_k».proof.Proof.SampRef
public import proofs.«01_k».proof.Proof.AttnClaims
public import proofs.«01_k».proof.Proof.Gen.Kernel5.Frame
public import proofs.«01_k».proof.Proof.Gen.Pre_finite_sample
public import Idealize.ShloMosaic.Lib.Quiescent

@[expose] public section

set_option maxRecDepth 16384

noncomputable section

namespace Cert.Samp

open Idealize.ShloMosaic Idealize.ShloMosaic.TcCoe Idealize.SL.Sem
open Cert.Attn (real_of_abs_lt)

/-- What the precondition says of the arguments. -/
theorem finite_args (m : (ℓ : Loc Cert.Kernel5Ideal.nD Cert.Kernel5Ideal.τ Cert.Kernel5Ideal.sig) → Buf (Elt Ideal) ℓ)
    (h : Cert.Pre_Kernel5Ideal_finite_sample (hPre_finite_sample := Cert.Pre_finite_sample.Gen.facts) m) (c : Dev Cert.Kernel5Ideal.nD) :
    (argsOf m c).Real := by
  obtain ⟨h0, h1, h2, h3, h4, h5⟩ := h c
  exact ⟨fun i => real_of_abs_lt (congrFun h0 i), fun i => real_of_abs_lt (congrFun h1 i), fun i => real_of_abs_lt (congrFun h2 i),
    fun i => real_of_abs_lt (congrFun h3 i), fun i => real_of_abs_lt (congrFun h4 i), fun i => real_of_abs_lt (congrFun h5 i)⟩

/-- The kernel runs and leaves its arguments, at the machine's floats. -/
theorem frame_p : Cert.quiescent_Kernel5 := fun m ρ _ => Cert.Kernel5.Gen.frame m ρ
/-- The kernel runs and leaves its arguments, at exact values. -/
theorem frame_pi : Cert.quiescent_Kernel5Ideal := fun m ρ _ => Cert.Kernel5Ideal.Gen.frame m ρ
/-- The same, where the precondition holds. -/
theorem frame_pi_pre : Cert.quiescent_Kernel5Ideal_pre_finite_sample (hPre_finite_sample := Cert.Pre_finite_sample.Gen.facts) :=
  fun m ρ _ => Cert.Kernel5Ideal.Gen.frame m ρ
/-- The reference runs and leaves its arguments. -/
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)
/-- The same, where the precondition holds. -/
theorem frame_ri_pre : Cert.quiescent_Reference5Ideal_pre_finite_sample (hPre_finite_sample := Cert.Pre_finite_sample.Gen.facts) :=
  fun m ρ _ => frame_ri m ρ trivial

/-- The mask stands for minus infinity wherever it occurs, and nothing else was replaced. -/
theorem preserves : Cert.preserves_Kernel5_Kernel5Ideal := IdealRules.named_const.statement Cert.Kernel5Ideal.κ "mask" .f32 0xF149F2CA#32 ⊥ rfl

/-- Kernel and reference end with the same array: the softmax rows of all heads, times the gate. -/
theorem algebraic : Cert.algebraic_Kernel5Ideal_Reference5Ideal_pre_finite_sample (hPre_finite_sample := Cert.Pre_finite_sample.Gen.facts) := by
  intro m ρ m' ρ' hpre hagree
  have hA := finite_args m hpre
  refine ⟨fun c => (argsOf m c).arr, ?_, ?_⟩
  · exact (θ_run Cert.Kernel5Ideal.defs _ _).mono (fun _ h c => ⟨(h c).1.trans (final_o m c (hA c)), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    rw [Cert.Reference5Ideal.Read.val_main_v56_eq]
    obtain ⟨e0, e1, e2, e3, e4, e5, e6, e7, e8⟩ := hagree c
    rw [e0, e1, e2, e3, e4, e5, e6, e7, e8]
    exact ref_eq (argsOf m c) (hA c)

end Cert.Samp

end

end
-- ==== Proof.NormArray.lean ====
/-
  The first layer's norm over the prompt: 8 points write 1024 rows each. Every entry is the norm of its row, with the scale
  and the shift of the row's batch element.
-/
module

public import proofs.«01_k».proof.Proof.OutRef
public import proofs.«01_k».proof.Proof.Gen.Kernel6Ideal.Value

@[expose] public section

set_option maxRecDepth 16384

noncomputable section

namespace Cert.Norm

open Idealize.ShloMosaic Cert.Kernel6Ideal Cert.Kernel6Ideal.Gen Cert.Kernel6Ideal.Facts
open Idealize.ShloMosaic.TcCoe Idealize.SL.Sem
open Idealize.ShloMosaic.Pipeline (Dat)
open Cert.OutProj (batchRow shiftCol scaleCol layerBlk layer_idx)
open scoped BigOperators

/-- The norm of row `R`, scaled and shifted. -/
def rowNorm (x : Vec Ideal S8192x2048 .f32) (md : Vec Ideal S2x24x6144 .f32) (g : Vec Ideal S2x1x2048 .f32) (R : Fin 8192) (d : Fin 2048) : EReal :=
  x (ix2 R d) * Ideal.rsqrt (Ideal.div (∑ k : Fin 2048, x (ix2 R k) * x (ix2 R k)) (Ideal.ofBits .f32 0x45000000#32) + Ideal.ofBits .f32 0x358637BD#32)
    * g (ix3 0 0 d) * (Ideal.ofBits .f32 0x3F800000#32 + md (ix3 0 (batchRow R) (scaleCol d))) + md (ix3 0 (batchRow R) (shiftCol d))

/-- What a point stores, at an index. -/
theorem store_apply (sh sc g : Vec Ideal S1x1x2048 .f32) (x : Vec Ideal S1024x2048 .f32) (r : Fin 1024) (d : Fin 2048) :
    k0_pay1 sh sc x g (ix2 r d)
      = x (ix2 r d) * Ideal.rsqrt (Ideal.div (∑ k : Fin 2048, x (ix2 r k) * x (ix2 r k)) (Ideal.ofBits .f32 0x45000000#32) + Ideal.ofBits .f32 0x358637BD#32)
          * g (ix3 0 0 d) * (Ideal.ofBits .f32 0x3F800000#32 + sc (ix3 0 0 d)) + sh (ix3 0 0 d) := by
  unfold k0_pay1
  pointwise

/-- The store's rectangle is the whole block. -/
theorem emb_all (h) (x : S1024x2048.Idx) : (Rect.unit (s := S1024x2048) ![0, 0] S1024x2048.size h).emb x = x :=
  funext fun a => Fin.ext (by
    match a with
    | ⟨0, _⟩ => show 0 + 1 * (x 0).val = (x 0).val; omega
    | ⟨1, _⟩ => show 0 + 1 * (x 1).val = (x 1).val; omega)

/-- What a point leaves in the result's staging buffer: the stored value, from the loads of its blocks. -/
theorem out_eq (c : Dev nD) (i : grid0.Coords) (arg1 : Memref sig .tc .vmem S1024x2048 .f32) (harg1 : arg1.IsWhole)
    (arg2 : Memref sig .tc .vmem S1x24x6144 .f32) (harg2 : arg2.IsWhole) (arg3 : Memref sig .tc .vmem S1x1x2048 .f32) (harg3 : arg3.IsWhole)
    (arg4 : Memref sig .tc .vmem S1024x2048 .bf16) (harg4 : arg4.IsWhole)
    (x0 : Vec Ideal S1024x2048 .f32) (x1 : Vec Ideal S1x24x6144 .f32) (x2 : Vec Ideal S1x1x2048 .f32) :
    out0_A_3 c i arg1 harg1 arg2 harg2 arg3 harg3 arg4 harg4 x0 x1 x2
      = k0_pay1 (View.ld x1 (Rect.unit (s := S1x24x6144) (k0_off1 i) S1x1x2048.size (k0_off1_inb i)))
          (View.ld x1 (Rect.unit (s := S1x24x6144) (k0_off2 i) S1x1x2048.size (k0_off2_inb i))) x0 x2 := by
  have hcov := cover0_A_3 c i arg1 harg1 arg2 harg2 arg3 harg3 arg4 harg4 x0 x1 x2
  have hz : (![0, 0] : Fin S1024x2048.rank → ℕ) = fun _ => 0 := by
    funext a; match a with | ⟨0, _⟩ => rfl | ⟨1, _⟩ => rfl
  have hz3 : (![0, 0, 0] : Fin S1x1x2048.rank → ℕ) = fun _ => 0 := by
    funext a; match a with | ⟨0, _⟩ => rfl | ⟨1, _⟩ => rfl | ⟨2, _⟩ => rfl
  unfold out0_A_3
  rw [View.read_writes_eq_canon _ _ _ hcov]
  funext y
  refine View.canon_apply_of_pieces _ _ ?_ y (hcov y)
  clear hcov
  unfold kernelRun0_A
  dsimp only
  sl_unfold_words
  simp only [View.readAt_eq_ld, harg1.read_unread, harg2.read_unread, harg3.read_unread]
  intro p hp x
  simp only [List.mem_cons, List.not_mem_nil, or_false] at hp
  rcases hp with rfl
  dsimp only
  rw [emb_all, View.ld_unit_zero hz, View.ld_unit_zero hz3]

/-! ## The points' blocks -/

/-- Row `r` of point `t`'s 1024 rows. -/
def rowAt (t : Fin cfg0.N) (r : Fin 1024) : Fin 8192 :=
  ⟨t.val * 1024 + r.val, by have : t.val < 8 := lt_of_lt_of_eq t.isLt N_0; omega⟩

/-- Which block each window stages. -/
theorem index_eq : ∀ t : Fin grid0.N,
    win0_0.index t = ![t.val, 0] ∧ win0_3.index t = ![t.val, 0] ∧ win0_1.index t = ![0, 0, 0] ∧ win0_2.index t = ![0, 0, 0] := by
  decide +kernel

/-- Where the point reads the modulation: the row of its batch element. -/
theorem off_eq : ∀ t : Fin grid0.N,
    k0_off1 (grid0.coords t) = ![0, t.val / 2, 0] ∧ k0_off2 (grid0.coords t) = ![0, t.val / 2, 2048] := by
  decide +kernel

/-- An index of a point's rows, in the array. -/
theorem row_idx {t : Fin cfg0.N} {ix : Fin 2 → ℕ} (e : ix = ![t.val, 0]) (x : S8192x2048.Idx) (j : S1024x2048.Idx)
    (h0 : (x 0).val = ix 0 * 1024 + 1 * (j 0).val) (h1 : (x 1).val = ix 1 * 2048 + 1 * (j 1).val) :
    x = ix2 (rowAt t (j 0)) (j 1) := by
  subst e
  funext a
  refine Fin.ext ?_
  match a with
  | ⟨0, _⟩ => exact h0.trans (by simp [rowAt, ix2])
  | ⟨1, _⟩ => exact h1.trans (by simp [ix2])

variable (m : (ℓ : Loc nD τ sig) → Buf (Elt Ideal) ℓ) (c : Dev nD) (t : Fin cfg0.N)

theorem iblk0 (j : S1024x2048.Idx) : iblk m c 0 t j = m ((c : Thread nD τ).loc main_arg0) (ix2 (rowAt t (j 0)) (j 1)) :=
  congrArg (m ((c : Thread nD τ).loc main_arg0)) (row_idx (index_eq t).1 _ j rfl rfl)
theorem iblk1 : iblk m c 1 t = layerBlk (m ((c : Thread nD τ).loc main_arg1)) 0 :=
  funext fun j => congrArg (m ((c : Thread nD τ).loc main_arg1)) (layer_idx (l := 0) (index_eq t).2.2.1 _ j rfl rfl rfl)
theorem iblk2 : iblk m c 2 t = layerBlk (m ((c : Thread nD τ).loc main_arg2)) 0 :=
  funext fun j => congrArg (m ((c : Thread nD τ).loc main_arg2)) (layer_idx (l := 0) (index_eq t).2.2.2 _ j rfl rfl rfl)

/-- A loaded row of the modulation, at a column. -/
abbrev modRow (x : Vec Ideal S1x24x6144 .f32) (off : Fin 3 → ℕ) (h : ∀ a, off a + S1x1x2048.size a ≤ S1x24x6144.size a) (d : Fin 2048) : EReal :=
  View.ld x (Rect.unit (s := S1x24x6144) off S1x1x2048.size h) (ix3 0 0 d)

/-- The row of the modulation that a point loads, at an offset in the columns. -/
theorem modRow_eq (x : Vec Ideal S2x24x6144 .f32) (off : Fin 3 → ℕ) (o : ℕ) (ho : off = ![0, t.val / 2, o])
    (h : ∀ a, off a + S1x1x2048.size a ≤ S1x24x6144.size a) (r : Fin 1024) (d : Fin 2048) (C : Fin 6144) (hC : C.val = o + d.val) :
    modRow (layerBlk x 0) off h d = x (ix3 0 (batchRow (rowAt t r)) C) := by
  subst ho
  refine congrArg x (funext fun a => Fin.ext ?_)
  match a with
  | ⟨0, _⟩ => rfl
  | ⟨1, _⟩ => show t.val / 2 + 1 * 0 = (t.val * 1024 + r.val) / 2048; omega
  | ⟨2, _⟩ => show o + 1 * d.val = C.val; omega

/-- The norm of the arguments of device `c`, as an array. -/
def spec : Vec Ideal S8192x2048 .bf16 := fun i =>
  rowNorm (m ((c : Thread nD τ).loc main_arg0)) (m ((c : Thread nD τ).loc main_arg1)) (m ((c : Thread nD τ).loc main_arg2)) (i 0) (i 1)

/-- What a point stores is its rows' norm. -/
theorem store_blk (r : Fin 1024) (d : Fin 2048) :
    k0_pay1 (View.ld (iblk m c 1 t) (Rect.unit (s := S1x24x6144) (k0_off1 (grid0.coords t)) S1x1x2048.size (k0_off1_inb (grid0.coords t))))
        (View.ld (iblk m c 1 t) (Rect.unit (s := S1x24x6144) (k0_off2 (grid0.coords t)) S1x1x2048.size (k0_off2_inb (grid0.coords t))))
        (iblk m c 0 t) (iblk m c 2 t) (ix2 r d)
      = rowNorm (m ((c : Thread nD τ).loc main_arg0)) (m ((c : Thread nD τ).loc main_arg1)) (m ((c : Thread nD τ).loc main_arg2)) (rowAt t r) d := by
  have hx := fun k : Fin 2048 => iblk0 m c t (ix2 r k)
  have es := modRow_eq t (m ((c : Thread nD τ).loc main_arg1)) _ 0 (off_eq t).1 (k0_off1_inb (grid0.coords t)) r d (shiftCol d) (Nat.zero_add _).symm
  have ec := modRow_eq t (m ((c : Thread nD τ).loc main_arg1)) _ 2048 (off_eq t).2 (k0_off2_inb (grid0.coords t)) r d (scaleCol d) rfl
  rw [iblk1, iblk2]
  generalize iblk m c 0 t = x at hx ⊢
  rw [store_apply]
  unfold rowNorm
  refine congrArg₂ (· + ·) (congrArg₂ (· * ·) (congrArg₂ (· * ·) (congrArg₂ (· * ·) (hx d) (congrArg (fun s => Ideal.rsqrt (Ideal.div s _ + _))
    (Finset.sum_congr rfl fun k _ => congrArg₂ (· * ·) (hx k) (hx k)))) rfl) (congrArg (_ + ·) ec)) es

/-- What a point writes back is its block of the array. -/
theorem flushed_eq : (dats m 0 c).flushed 3 t = ((cfg0.win 3).blk t).view.read (Elt Ideal) (spec m c) := by
  rw [Cert.Kernel6Ideal.Value.flushed3_A, out_eq]
  funext j
  obtain ⟨r, d, rfl⟩ : ∃ (r : Fin 1024) (d : Fin 2048), j = ix2 r d := ⟨j 0, j 1, eq_ix2 j⟩
  exact (store_blk m c t r d).trans (congrArg (spec m c) (row_idx (index_eq t).2.1 _ (ix2 r d) rfl rfl)).symm

omit t in
/-- Every index lies in some point's block. -/
theorem cover (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 8 := N_0
  obtain ⟨t, ht⟩ : ∃ t : Fin cfg0.N, t.val = (i 0).val / 1024 := ⟨⟨(i 0).val / 1024, by omega⟩, rfl⟩
  refine ⟨t, flush0_3 t, ?_⟩
  show i ∈ ((View.whole main_v0).slice (win0_3.rect t)).set
  rw [View.set_slice_whole, Rect.mem_set_unit]
  have e := (index_eq t).2.1
  intro a
  show win0_3.index t a * S1024x2048.size a ≤ (i a).val ∧ (i a).val < win0_3.index t a * S1024x2048.size a + S1024x2048.size a
  rw [e]
  match a with
  | ⟨0, _⟩ => show t.val * 1024 ≤ (i 0).val ∧ (i 0).val < t.val * 1024 + 1024; omega
  | ⟨1, _⟩ => show 0 * 2048 ≤ (i 1).val ∧ (i 1).val < 0 * 2048 + 2048; omega

omit t in
/-- The result's array ends as the whole array. -/
theorem final : (dats m 0 c).arrAt 3 cfg0.N = spec m c :=
  (dats m 0 c).arrAt_eq_of_cover 3 (spec m c) (fun t _ => flushed_eq m c t) cover

end Cert.Norm

end

end
-- ==== Proof.NormRef.lean ====
/-
  The reference of the first layer's norm, read at an index: the same norm, batch element by batch element.
-/
module

public import proofs.«01_k».proof.Proof.NormArray
public import proofs.«01_k».proof.Proof.Gen.Reference6Ideal.Read

@[expose] public section

set_option maxRecDepth 16384

noncomputable section

namespace Cert.Norm

open Idealize.ShloMosaic Cert.Reference6Ideal Cert.Reference6Ideal.Gen Cert.Reference6Ideal.Read
open Cert.OutProj (flatRow batchRow_flatRow flatRow_split)
open scoped BigOperators

variable (x0 : Vec Ideal S8192x2048 .f32) (x1 : Vec Ideal S2x24x6144 .f32) (x2 : Vec Ideal S2x1x2048 .f32)

/-- The reference's norm at a token of a batch element. -/
theorem ref_tok (b : Fin 4) (t d : Fin 2048) : val_main_v27 (F := Ideal) x0 x1 x2 (ix3 b t d) = rowNorm x0 x1 x2 (flatRow b t) d := by
  unfold val_main_v27 val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6
    val_main_v5 val_main_v4 val_main_v3 val_main_v2 val_main_v1 val_main_v0
  pointwise
  rw [val_main_cst_apply, val_main_cst_0_apply, val_main_cst_1_apply, val_main_cst_2_apply,
    show (FloatOps.ofBits .f32 0x00000000#32 : Ideal .f32) = 0 from Ideal.ofBits_zero_f32, zero_add]
  unfold rowNorm
  rw [batchRow_flatRow]
  rfl

/-- The reference's result is the norm of every row. -/
theorem ref_main : val_main_v29 (F := Ideal) x0 x1 x2 = fun i => rowNorm x0 x1 x2 (i 0) (i 1) := by
  funext i
  obtain ⟨R, d, rfl⟩ : ∃ (R : Fin 8192) (d : Fin 2048), i = ix2 R d := ⟨i 0, i 1, eq_ix2 i⟩
  have e : idx_main_v28 (ix2 R d) = ix3 ⟨R.val / 2048, by omega⟩ ⟨R.val % 2048, by omega⟩ d := by
    funext a
    match a with
    | ⟨0, _⟩ => exact Fin.ext (by show (R.val * 2048 + d.val) / 4194304 = R.val / 2048; omega)
    | ⟨1, _⟩ => exact Fin.ext (by show (R.val * 2048 + d.val) / 2048 % 2048 = R.val % 2048; omega)
    | ⟨2, _⟩ => exact Fin.ext (by show (R.val * 2048 + d.val) % 2048 = d.val; omega)
  rw [val_main_v29_apply, val_main_v28_apply, e, ref_tok, flatRow_split]
  rfl

end Cert.Norm

end

end
-- ==== Proof.NormClaims.lean ====
/-
  The claims about the first layer's norm over the prompt.
-/
module

public import proofs.«01_k».proof.Defs
public import proofs.«01_k».proof.Proof.NormRef
public import proofs.«01_k».proof.Proof.Gen.Kernel6.Frame
public import proofs.«01_k».proof.Proof.Gen.Reference6Ideal.Run
public import Idealize.ShloMosaic.Lib.Quiescent

@[expose] public section

set_option maxRecDepth 16384

noncomputable section

namespace Cert.Norm

open Idealize.ShloMosaic Idealize.ShloMosaic.TcCoe Idealize.SL.Sem

/-- The norm's kernel runs and leaves its arguments, at the machine's floats. -/
theorem frame_p : Cert.quiescent_Kernel6 := fun m ρ _ => Cert.Kernel6.Gen.frame m ρ
/-- The same, at exact values. -/
theorem frame_pi : Cert.quiescent_Kernel6Ideal := fun m ρ _ => Cert.Kernel6Ideal.Gen.frame m ρ
/-- The norm's reference runs and leaves its arguments. -/
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Nothing was replaced in the norm. -/
theorem preserves : Cert.preserves_Kernel6_Kernel6Ideal := trivial

/-- Kernel and reference end with the same norm of every row. -/
theorem algebraic : Cert.algebraic_Kernel6Ideal_Reference6Ideal := by
  intro m ρ m' ρ' _ hagree
  refine ⟨fun c => spec m c, ?_, ?_⟩
  · exact (θ_run Cert.Kernel6Ideal.defs _ _).mono (fun _ h c => ⟨(h c).1.trans (final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨e0, e1, e2⟩ := hagree c
    rw [Cert.Reference6Ideal.Read.val_main_v29_eq, e0, e1, e2]
    exact ref_main _ _ _

end Cert.Norm

end

end
-- ==== Proof.AdaArray.lean ====
/-
  The modulation of the layers: 12 points, each writing one layer's block of 1024 columns. Every entry is the product of the
  conditioning, each value times its logistic, with a column of the layer's weights, plus the column's bias.
-/
module

public import proofs.«01_k».proof.Proof.QkvArray
public import proofs.«01_k».proof.Proof.Gen.Kernel7Ideal.Value

@[expose] public section

set_option maxRecDepth 16384

noncomputable section

namespace Cert.Ada

open Idealize.ShloMosaic Cert.Kernel7Ideal Cert.Kernel7Ideal.Gen Cert.Kernel7Ideal.Facts
open Idealize.ShloMosaic.TcCoe Idealize.SL.Sem
open Idealize.ShloMosaic.Pipeline (Dat)
open Cert.Qkv (silu)
open scoped BigOperators

/-- The modulation of layer `l` for row `b` of the conditioning, at column `e`. -/
def modAt (x : Vec Ideal S24x2048 .f32) (w : Vec Ideal S2x2048x6144 .f32) (bias : Vec Ideal S2x6144 .f32) (l : Fin 2) (b : Fin 24) (e : Fin 6144) : EReal :=
  (∑ k : Fin 2048, silu (x (ix2 b k)) * w (ix3 l k e)) + bias (ix2 l e)

/-- What a point stores, at an index. -/
theorem store_apply (x : Vec Ideal S24x2048 .f32) (w : Vec Ideal S1x2048x1024 .f32) (bias : Vec Ideal S1x1x1024 .f32) (b : Fin 24) (e : Fin 1024) :
    k0_pay1 x w bias (ix3 0 b e) = (∑ k : Fin 2048, silu (x (ix2 b k)) * w (ix3 0 k e)) + bias (ix3 0 0 e) := by
  unfold k0_pay1
  pointwise
  simp only [zero_sub, zero_add]
  rfl

/-- The store's rectangle is the whole block. -/
theorem emb_all (h) (x : S1x24x1024.Idx) : (Rect.unit (s := S1x24x1024) ![0, 0, 0] S1x24x1024.size h).emb x = x :=
  funext fun a => Fin.ext (by
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega)

/-- What a point leaves in the result's staging buffer. -/
theorem out_eq (x0 : Vec Ideal S24x2048 .f32) (x1 : Vec Ideal S1x2048x1024 .f32) (x2 : Vec Ideal S1x1x1024 .f32) : out0_3 x0 x1 x2 = k0_pay1 x0 x1 x2 := by
  have hz : (![0, 0] : Fin S24x2048.rank → ℕ) = fun _ => 0 := by
    funext a; match a with | ⟨0, _⟩ => rfl | ⟨1, _⟩ => rfl
  have hz1 : (![0, 0, 0] : Fin S1x2048x1024.rank → ℕ) = fun _ => 0 := by
    funext a; match a with | ⟨0, _⟩ => rfl | ⟨1, _⟩ => rfl | ⟨2, _⟩ => rfl
  have hz2 : (![0, 0, 0] : Fin S1x1x1024.rank → ℕ) = fun _ => 0 := by
    funext a; match a with | ⟨0, _⟩ => rfl | ⟨1, _⟩ => rfl | ⟨2, _⟩ => rfl
  unfold out0_3
  funext y
  refine View.canon_apply_of_pieces _ _ ?_ y (cover0_3 _ y)
  intro p hp x
  simp only [List.mem_cons, List.not_mem_nil, or_false] at hp
  rcases hp with rfl
  dsimp only
  rw [emb_all, View.ld_unit_zero hz, View.ld_unit_zero hz1, View.ld_unit_zero hz2]

/-! ## The points' blocks -/

/-- The layer of point `t`, and the column of the array at which its column `e` lies. -/
def layerOf (t : Fin cfg0.N) : Fin 2 := ⟨t.val / 6, by have : t.val < 12 := lt_of_lt_of_eq t.isLt N_0; omega⟩
@[inherit_doc layerOf] def colAt (t : Fin cfg0.N) (e : Fin 1024) : Fin 6144 := ⟨t.val % 6 * 1024 + e.val, by omega⟩

/-- Which block each window stages. -/
theorem index_eq : ∀ t : Fin grid0.N,
    win0_0.index t = ![0, 0] ∧ win0_1.index t = ![t.val / 6, 0, t.val % 6] ∧ win0_2.index t = ![t.val / 6, 0, t.val % 6]
      ∧ win0_3.index t = ![t.val / 6, 0, t.val % 6] := by
  decide +kernel

/-- An index of a point's block, in the array of both layers. -/
theorem blk_idx {n : ℕ} {t : Fin cfg0.N} {ix : Fin 3 → ℕ} (e : ix = ![t.val / 6, 0, t.val % 6]) (x : (⟨3, ![2, n, 6144]⟩ : Shape).Idx)
    (j : (⟨3, ![1, n, 1024]⟩ : Shape).Idx)
    (h0 : (x 0).val = ix 0 * 1 + 1 * (j 0).val) (h1 : (x 1).val = ix 1 * n + 1 * (j 1).val) (h2 : (x 2).val = ix 2 * 1024 + 1 * (j 2).val) :
    x = ix3 (layerOf t) (j 1) (colAt t (j 2)) := by
  subst e
  have hj : (j 0).val = 0 := by have : (j 0).val < 1 := (j 0).isLt; omega
  funext a
  refine Fin.ext ?_
  match a with
  | ⟨0, _⟩ => exact h0.trans (by simp [ix3, layerOf, hj])
  | ⟨1, _⟩ => exact h1.trans (by simp [ix3])
  | ⟨2, _⟩ => exact h2.trans (by simp [ix3, colAt])

variable (m : (ℓ : Loc nD τ sig) → Buf (Elt Ideal) ℓ) (c : Dev nD) (t : Fin cfg0.N)

/-- The bias enters the call with an axis of one row. -/
theorem entry_bias : V m c main_v0 = shapeCast S2x1x6144 (m ((c : Thread nD τ).loc main_arg2)) shapeCasts_S2x6144_S2x1x6144 := by
  entry_read
  rfl

/-- That array at an index is the bias of the layer and the column. -/
theorem bias_apply (x : Vec Ideal S2x6144 .f32) (h) (l : Fin 2) (e : Fin 6144) : shapeCast S2x1x6144 x h (ix3 l 0 e) = x (ix2 l e) := by
  pointwise

theorem iblk0 (b : Fin 24) (k : Fin 2048) : iblk m c 0 t (ix2 b k) = m ((c : Thread nD τ).loc main_arg0) (ix2 b k) := by
  refine (congrFun (V_main_arg0 m c) _).trans (congrArg (m ((c : Thread nD τ).loc main_arg0)) ?_)
  funext a
  refine Fin.ext ?_
  have e := (index_eq t).1
  match a with
  | ⟨0, _⟩ => show win0_0.index t 0 * 24 + 1 * b.val = b.val; rw [e]; show 0 * 24 + 1 * b.val = b.val; omega
  | ⟨1, _⟩ => show win0_0.index t 1 * 2048 + 1 * k.val = k.val; rw [e]; show 0 * 2048 + 1 * k.val = k.val; omega
theorem iblk1 (j : S1x2048x1024.Idx) : iblk m c 1 t j = m ((c : Thread nD τ).loc main_arg1) (ix3 (layerOf t) (j 1) (colAt t (j 2))) :=
  (congrFun (V_main_arg1 m c) _).trans (congrArg (m ((c : Thread nD τ).loc main_arg1)) (blk_idx (index_eq t).2.1 _ j rfl rfl rfl))
theorem iblk2 (e : Fin 1024) : iblk m c 2 t (ix3 0 0 e) = m ((c : Thread nD τ).loc main_arg2) (ix2 (layerOf t) (colAt t e)) :=
  (congrFun (entry_bias m c) _).trans ((congrArg (shapeCast S2x1x6144 (m ((c : Thread nD τ).loc main_arg2)) shapeCasts_S2x6144_S2x1x6144)
    (blk_idx (n := 1) (index_eq t).2.2.1 _ (ix3 0 0 e) rfl rfl rfl)).trans (bias_apply _ _ (layerOf t) (colAt t e)))

/-- The modulation of the arguments of device `c`, as an array. -/
def spec : Vec Ideal S2x24x6144 .f32 := fun i =>
  modAt (m ((c : Thread nD τ).loc main_arg0)) (m ((c : Thread nD τ).loc main_arg1)) (m ((c : Thread nD τ).loc main_arg2)) (i 0) (i 1) (i 2)

/-- What a point stores is its block of the modulation. -/
theorem store_blk (b : Fin 24) (e : Fin 1024) :
    k0_pay1 (iblk m c 0 t) (iblk m c 1 t) (iblk m c 2 t) (ix3 0 b e)
      = modAt (m ((c : Thread nD τ).loc main_arg0)) (m ((c : Thread nD τ).loc main_arg1)) (m ((c : Thread nD τ).loc main_arg2)) (layerOf t) b (colAt t e) := by
  refine (store_apply (iblk m c 0 t) (iblk m c 1 t) (iblk m c 2 t) b e).trans ?_
  unfold modAt
  exact congrArg₂ (· + ·) (Finset.sum_congr rfl fun k _ => congrArg₂ (· * ·) (congrArg silu (iblk0 m c t b k)) (iblk1 m c t (ix3 0 k e)))
    (iblk2 m c t e)

/-- What a point writes back is its block of the array. -/
theorem flushed_eq : (dats m 0 c).flushed 3 t = ((cfg0.win 3).blk t).view.read (Elt Ideal) (spec m c) := by
  rw [Cert.Kernel7Ideal.Value.flushed3, out_eq]
  funext j
  obtain ⟨z, b, e, rfl⟩ : ∃ (z : Fin 1) (b : Fin 24) (e : Fin 1024), j = ix3 z b e := ⟨j 0, j 1, j 2, eq_ix3 j⟩
  obtain rfl : z = 0 := Subsingleton.elim _ _
  exact (store_blk m c t b e).trans (congrArg (spec m c) (blk_idx (index_eq t).2.2.2 _ (ix3 0 b e) rfl rfl rfl)).symm

omit t in
/-- Every index lies in some point's block. -/
theorem cover (i : S2x24x6144.Idx) : ∃ t : Fin cfg0.N, (cfg0.win 3).flush t = true ∧ i ∈ ((cfg0.win 3).blk t).view.set := by
  have h0 : (i 0).val < 2 := (i 0).isLt
  have h1 : (i 1).val < 24 := (i 1).isLt
  have h2 : (i 2).val < 6144 := (i 2).isLt
  have hN : cfg0.N = 12 := N_0
  obtain ⟨t, ht⟩ : ∃ t : Fin cfg0.N, t.val = (i 0).val * 6 + (i 2).val / 1024 := ⟨⟨(i 0).val * 6 + (i 2).val / 1024, by omega⟩, rfl⟩
  refine ⟨t, flush0_3 t, ?_⟩
  show i ∈ ((View.whole main_v1).slice (win0_3.rect t)).set
  rw [View.set_slice_whole, Rect.mem_set_unit]
  have e := (index_eq t).2.2.2
  intro a
  show win0_3.index t a * S1x24x1024.size a ≤ (i a).val ∧ (i a).val < win0_3.index t a * S1x24x1024.size a + S1x24x1024.size a
  rw [e]
  match a with
  | ⟨0, _⟩ => show t.val / 6 * 1 ≤ (i 0).val ∧ (i 0).val < t.val / 6 * 1 + 1; omega
  | ⟨1, _⟩ => show 0 * 24 ≤ (i 1).val ∧ (i 1).val < 0 * 24 + 24; omega
  | ⟨2, _⟩ => show t.val % 6 * 1024 ≤ (i 2).val ∧ (i 2).val < t.val % 6 * 1024 + 1024; omega

omit t in
/-- The result's array ends as the whole array. -/
theorem final : (dats m 0 c).arrAt 3 cfg0.N = spec m c :=
  (dats m 0 c).arrAt_eq_of_cover 3 (spec m c) (fun t _ => flushed_eq m c t) cover

end Cert.Ada

end

end
-- ==== Proof.AdaRef.lean ====
/-
  The reference of the layers' modulation, read at an index.
-/
module

public import proofs.«01_k».proof.Proof.AdaArray
public import proofs.«01_k».proof.Proof.Gen.Reference7Ideal.Read

@[expose] public section

set_option maxRecDepth 16384

noncomputable section

namespace Cert.Ada

open Idealize.ShloMosaic Cert.Reference7Ideal Cert.Reference7Ideal.Gen Cert.Reference7Ideal.Read
open Cert.Qkv (silu one_bits)
open scoped BigOperators

variable (x0 : Vec Ideal S24x2048 .f32) (x1 : Vec Ideal S2x2048x6144 .f32) (x2 : Vec Ideal S2x6144 .f32)

/-- The reference's conditioning, each value times its logistic. -/
theorem ref_silu (b : Fin 24) (k : Fin 2048) : val_main_v0 (F := Ideal) x0 (ix2 b k) = silu (x0 (ix2 b k)) := by
  unfold val_main_v0 val_main_call0_v5 val_main_call0_v4 val_main_call0_v3 val_main_call0_v2 val_main_call0_v1 val_main_call0_v0
  pointwise
  rw [val_main_call0_cst_apply, val_main_call0_cst_0_apply, one_bits]
  rfl

/-- The reference's modulation at an index: the same sum, its two factors the other way round. -/
theorem ref_at (l : Fin 2) (b : Fin 24) (e : Fin 6144) : val_main_v5 (F := Ideal) x0 x1 x2 (ix3 l b e) = modAt x0 x1 x2 l b e := by
  have h := ref_silu x0
  unfold val_main_v5 val_main_v4 val_main_v3 val_main_v2 val_main_v1
  generalize val_main_v0 (F := Ideal) x0 = a at h ⊢
  pointwise
  exact congrArg₂ (· + ·) (Finset.sum_congr rfl fun k _ => (mul_comm _ _).trans (congrArg (· * _) (h b k))) rfl

/-- The reference's result is the modulation. -/
theorem ref_main : val_main_v5 (F := Ideal) x0 x1 x2 = fun i => modAt x0 x1 x2 (i 0) (i 1) (i 2) := by
  funext i
  obtain ⟨l, b, e, rfl⟩ : ∃ (l : Fin 2) (b : Fin 24) (e : Fin 6144), i = ix3 l b e := ⟨i 0, i 1, i 2, eq_ix3 i⟩
  exact ref_at x0 x1 x2 l b e

end Cert.Ada

end

end
-- ==== Proof.AdaClaims.lean ====
/-
  The claims about the layers' modulation.
-/
module

public import proofs.«01_k».proof.Defs
public import proofs.«01_k».proof.Proof.AdaRef
public import proofs.«01_k».proof.Proof.Gen.Kernel7.Frame
public import proofs.«01_k».proof.Proof.Gen.Reference7Ideal.Run
public import Idealize.ShloMosaic.Lib.Quiescent

@[expose] public section

set_option maxRecDepth 16384

noncomputable section

namespace Cert.Ada

open Idealize.ShloMosaic Idealize.ShloMosaic.TcCoe Idealize.SL.Sem

/-- The modulation's kernel runs and leaves its arguments, at the machine's floats. -/
theorem frame_p : Cert.quiescent_Kernel7 := fun m ρ _ => Cert.Kernel7.Gen.frame m ρ
/-- The same, at exact values. -/
theorem frame_pi : Cert.quiescent_Kernel7Ideal := fun m ρ _ => Cert.Kernel7Ideal.Gen.frame m ρ
/-- The modulation's reference runs and leaves its arguments. -/
theorem frame_ri : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- Nothing was replaced in the modulation. -/
theorem preserves : Cert.preserves_Kernel7_Kernel7Ideal := trivial

/-- Kernel and reference end with the same modulation. -/
theorem algebraic : Cert.algebraic_Kernel7Ideal_Reference7Ideal := by
  intro m ρ m' ρ' _ hagree
  refine ⟨fun c => spec m c, ?_, ?_⟩
  · exact (θ_run Cert.Kernel7Ideal.defs _ _).mono (fun _ h c => ⟨(h c).1.trans (final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    obtain ⟨e0, e1, e2⟩ := hagree c
    rw [Cert.Reference7Ideal.Read.val_main_v5_eq, e0, e1, e2]
    exact ref_main _ _ _

end Cert.Ada

end

end
-- ==== Proof.CumStep.lean ====
/-
  One chunk of a running sum: the chunk's rows up to each row, summed with a triangle of ones and added to the row carried
  from the chunks before it. A value's rounded part and what rounding leaves are added back to the value itself.
-/
module

public import proofs.«01_k».proof.Proof.Gen.Kernel8Ideal.Frame
public import Idealize.ShloMosaic.Lib.Pipeline.Value
public import Idealize.ShloMosaic.Lib.Pipeline.ValueKit
public import Idealize.ShloMosaic.Lib.Tactic

@[expose] public section

set_option maxRecDepth 16384

noncomputable section

namespace Cert.Cum

open Idealize.ShloMosaic Cert.Kernel8Ideal Cert.Kernel8Ideal.Gen Cert.Kernel8Ideal.Facts
open scoped BigOperators

/-- A weight zero or one times a value, plus the same weight times what rounding leaves twice, is the weighted value. -/
theorem parts_add {x : EReal} (h : x < ⊤) (p : Prop) [Decidable p] :
    (if p then (1 : EReal) else 0) * x + (if p then (1 : EReal) else 0) * (x - x) + (if p then (1 : EReal) else 0) * (x - x - (x - x)) = if p then x else 0 := by
  split
  · rw [one_mul, one_mul, one_mul]
    induction x with
    | bot => rfl
    | coe r => norm_cast; simp
    | top => exact absurd h (lt_irrefl _)
  · simp

/-- The triangle of ones, at an index. -/
theorem tri_apply (r k : Fin 256) : k0_pay2 (F := Ideal) (ix2 r k) = if k.val ≤ r.val then 1 else 0 := by
  unfold k0_pay2
  pointwise
  exact if_congr (WordCmp.cmpi_sle_ofNat_eq_one_iff (by omega) (by omega)) rfl rfl

/-- One chunk of the running sum, at an index. -/
theorem step_apply (c : FVec Ideal S1x128 .f32) (x : Vec Ideal S256x128 .f32) (hx : ∀ i, x i < ⊤) (r : Fin 256) (l : Fin 128) :
    k0_pay19 k0_pay2 c x (ix2 r l) = (∑ k : Fin 256, if k.val ≤ r.val then x (ix2 k l) else 0) + c (ix2 0 l) := by
  have ht := tri_apply r
  unfold k0_pay19
  generalize k0_pay2 (F := Ideal) = w at ht ⊢
  pointwise
  simp only [ht, zero_add]
  rw [← Finset.sum_add_distrib, ← Finset.sum_add_distrib]
  exact congrArg (· + _) (Finset.sum_congr rfl fun k _ => parts_add (hx (ix2 k l)) _)

end Cert.Cum

end

end
-- ==== Proof.CumChunk.lean ====
/-
  The running sum of one batch element, chunk by chunk: the eight chunks' payloads are one step over and over, each from the
  last row of the chunk before it.
-/
module

public import proofs.«01_k».proof.Proof.CumStep

@[expose] public section

set_option maxRecDepth 16384

noncomputable section

namespace Cert.Cum

open Idealize.ShloMosaic Cert.Kernel8Ideal Cert.Kernel8Ideal.Gen Cert.Kernel8Ideal.Facts
open scoped BigOperators

/-- Lane `l` of row `k` of a batch element, zero past its end. -/
def rowVal (x : Vec Ideal S2048x128 .f32) (l : Fin 128) (k : ℕ) : EReal := if h : k < 2048 then x (ix2 ⟨k, h⟩ l) else 0

/-- The rows of one chunk. -/
def chunk (x : Vec Ideal S2048x128 .f32) (n : ℕ) : Vec Ideal S256x128 .f32 := fun j => rowVal x (j 1) (256 * n + (j 0).val)

/-- The last row of a chunk. -/
def lastRow (y : FVec Ideal S256x128 .f32) : FVec Ideal S1x128 .f32 := extractStridedSlice S1x128 ![255, 0] y slices_S256x128_o255_0_S1x128

/-- What the first chunk starts from. -/
def start : FVec Ideal S1x128 .f32 := broadcast S1x128 (Scalar.ofBits .f32 0x00000000#32)

/-- The running sums of a chunk, from the chunks before it. -/
def sums (x : Vec Ideal S2048x128 .f32) : ℕ → FVec Ideal S256x128 .f32
  | 0 => k0_pay19 k0_pay2 start (chunk x 0)
  | n + 1 => k0_pay19 k0_pay2 (lastRow (sums x n)) (chunk x (n + 1))

/-- A chunk's rows read from the block are its rows. -/
theorem chunk_ld (x : Vec Ideal S2048x128 .f32) (n : ℕ) (o : ℕ) (ho : o = 256 * n) (hn : n < 8) (h) :
    View.ld x (Rect.unit (s := S2048x128) ![o, 0] S256x128.size h) = chunk x n := by
  subst ho
  funext j
  have hj : (j 0).val < 256 := (j 0).isLt
  refine Eq.trans ?_ (dif_pos (show 256 * n + (j 0).val < 2048 by omega)).symm
  refine congrArg x ?_
  funext a
  refine Fin.ext ?_
  match a with
  | ⟨0, _⟩ => show 256 * n + 1 * (j 0).val = 256 * n + (j 0).val; omega
  | ⟨1, _⟩ => show 0 + 1 * (j 1).val = (j 1).val; omega

/-- The last row, at an index. -/
theorem lastRow_apply (y : FVec Ideal S256x128 .f32) (l : Fin 128) : lastRow y (ix2 0 l) = y (ix2 255 l) := by
  unfold lastRow
  pointwise

/-- The sum of a chunk's rows up to row `r`. -/
theorem chunk_sum (x : Vec Ideal S2048x128 .f32) (n : ℕ) (r : Fin 256) (l : Fin 128) :
    (∑ k : Fin 256, if k.val ≤ r.val then chunk x n (ix2 k l) else 0) = ∑ k ∈ Finset.range (r.val + 1), rowVal x l (256 * n + k) := by
  refine (Fin.sum_univ_eq_sum_range (fun k => if k ≤ r.val then rowVal x l (256 * n + k) else 0) 256).trans ?_
  rw [← Finset.sum_filter]
  refine Finset.sum_congr ?_ fun _ _ => rfl
  ext k
  have := r.isLt
  simp only [Finset.mem_filter, Finset.mem_range]
  omega

/-- A chunk's values are below infinity where the block's are. -/
theorem chunk_lt {x : Vec Ideal S2048x128 .f32} (hx : ∀ i, x i < ⊤) (n : ℕ) (i : S256x128.Idx) : chunk x n i < ⊤ := by
  unfold chunk rowVal
  split
  · exact hx _
  · exact EReal.zero_lt_top

/-- The running sums of a chunk are the sums of all the rows up to each row. -/
theorem sums_apply {x : Vec Ideal S2048x128 .f32} (hx : ∀ i, x i < ⊤) (n : ℕ) (r : Fin 256) (l : Fin 128) :
    sums x n (ix2 r l) = ∑ k ∈ Finset.range (256 * n + r.val + 1), rowVal x l k := by
  induction n generalizing r with
  | zero =>
    refine (step_apply start (chunk x 0) (chunk_lt hx 0) r l).trans ?_
    rw [chunk_sum]
    have h0 : start (ix2 0 l) = 0 := Ideal.ofBits_zero_f32
    rw [h0, add_zero]
    refine Finset.sum_congr (by congr 1; omega) fun k _ => ?_
    congr 1
    omega
  | succ n ih =>
    refine (step_apply (lastRow (sums x n)) (chunk x (n + 1)) (chunk_lt hx _) r l).trans ?_
    rw [chunk_sum, lastRow_apply, ih 255, add_comm]
    exact (congrArg (fun N => (∑ k ∈ Finset.range N, rowVal x l k) + _) (show 256 * n + 255 + 1 = 256 * (n + 1) by omega)).trans
      ((Finset.sum_range_add (rowVal x l) (256 * (n + 1)) (r.val + 1)).symm.trans (congrArg (fun N => ∑ k ∈ Finset.range N, rowVal x l k) (by omega)))

/-- What is stored of a chunk: its running sums in another base of logarithm. -/
def scaled (y : FVec Ideal S256x128 .f32) : FVec Ideal S256x128 .f32 := mulf y (broadcast S256x128 (Scalar.ofBits .f32 0x3FB8AA3B#32))

/-- What is stored of a chunk, at an index. -/
theorem scaled_apply (y : FVec Ideal S256x128 .f32) (i : S256x128.Idx) : scaled y i = y i * Ideal.ofBits .f32 0x3FB8AA3B#32 := rfl

/-- The same, its first eight lanes as rows. -/
def lanes (y : FVec Ideal S256x128 .f32) : FVec Ideal S1x8x256 .f32 :=
  shapeCast S1x8x256 (extractStridedSlice S8x256 ![0, 0] (transpose S128x256 [1, 0] y transposes_S256x128_p1_0_S128x256) slices_S128x256_o0_0_S8x256)
    shapeCasts_S8x256_S1x8x256

/-- One of the 128 lanes: the first eight. -/
def lane (h : Fin 8) : Fin 128 := ⟨h.val, by omega⟩

/-- Those rows, at an index. -/
theorem lanes_apply (y : FVec Ideal S256x128 .f32) (h : Fin 8) (r : Fin 256) : lanes y (ix3 0 h r) = y (ix2 r (lane h)) := by
  unfold lanes lane
  pointwise

variable (x : Vec Ideal S2048x128 .f32)

theorem ld_0 : View.ld x r0_0 = chunk x 0 := chunk_ld x 0 0 rfl (by omega) _
theorem ld_1 : View.ld x r0_2 = chunk x 1 := chunk_ld x 1 256 rfl (by omega) _
theorem ld_2 : View.ld x r0_4 = chunk x 2 := chunk_ld x 2 512 rfl (by omega) _
theorem ld_3 : View.ld x r0_6 = chunk x 3 := chunk_ld x 3 768 rfl (by omega) _
theorem ld_4 : View.ld x r0_8 = chunk x 4 := chunk_ld x 4 1024 rfl (by omega) _
theorem ld_5 : View.ld x r0_10 = chunk x 5 := chunk_ld x 5 1280 rfl (by omega) _
theorem ld_6 : View.ld x r0_12 = chunk x 6 := chunk_ld x 6 1536 rfl (by omega) _
theorem ld_7 : View.ld x r0_14 = chunk x 7 := chunk_ld x 7 1792 rfl (by omega) _

/-- The row carried past the first chunk. -/
theorem carry_0 : k0_pay38 x = lastRow (sums x 0) := by
  unfold k0_pay38
  rw [ld_0]
  rfl

/-- The row carried past the third chunk. -/
theorem carry_2 : k0_pay42 x = lastRow (sums x 2) := by
  unfold k0_pay42 k0_pay41 k0_pay40 k0_pay39 k0_pay37 k0_pay36
  rw [ld_1, ld_2, carry_0]
  rfl

/-- The fifth chunk's running sums. -/
theorem sums_4 : k0_pay43 x = sums x 4 := by
  unfold k0_pay43 k0_pay37
  rw [ld_3, ld_4, carry_2]
  rfl

/-- The row carried past the sixth chunk. -/
theorem carry_5 : k0_pay44 x = lastRow (sums x 5) := by
  unfold k0_pay44 k0_pay37
  rw [ld_5, sums_4]
  rfl

/-! ## What is stored of each chunk -/

theorem store_0 : k0_pay5 (View.ld x r0_0) = scaled (sums x 0) := by
  rw [ld_0]
  rfl
theorem store_1 : k0_pay12 (k0_pay37 x) (k0_pay38 x) (k0_pay39 x) (k0_pay40 x) (k0_pay41 x) (k0_pay36 x) = scaled (sums x 1) := by
  unfold k0_pay41 k0_pay40 k0_pay39 k0_pay37 k0_pay36
  rw [ld_1, carry_0]
  rfl
theorem store_2 : k0_pay16 (k0_pay37 x) (k0_pay38 x) (k0_pay39 x) (k0_pay40 x) (k0_pay41 x) (k0_pay36 x) (View.ld x r0_4) = scaled (sums x 2) := by
  unfold k0_pay41 k0_pay40 k0_pay39 k0_pay37 k0_pay36
  rw [ld_1, ld_2, carry_0]
  rfl
theorem store_3 : k0_pay20 (k0_pay37 x) (k0_pay42 x) (View.ld x r0_6) = scaled (sums x 3) := by
  unfold k0_pay37
  rw [ld_3, carry_2]
  rfl
theorem store_4 : k0_pay23 (k0_pay43 x) = scaled (sums x 4) := by
  rw [sums_4]
  rfl
theorem store_5 : k0_pay27 (k0_pay37 x) (k0_pay43 x) (View.ld x r0_10) = scaled (sums x 5) := by
  unfold k0_pay37
  rw [ld_5, sums_4]
  rfl
theorem store_6 : k0_pay32 (k0_pay37 x) (k0_pay44 x) (k0_pay45 x) (k0_pay46 x) = scaled (sums x 6) := by
  unfold k0_pay46 k0_pay45 k0_pay37
  rw [ld_6, carry_5]
  rfl
theorem store_7 : k0_pay34 (k0_pay37 x) (k0_pay44 x) (k0_pay45 x) (k0_pay46 x) (View.ld x r0_14) = scaled (sums x 7) := by
  unfold k0_pay46 k0_pay45 k0_pay37
  rw [ld_6, ld_7, carry_5]
  rfl

end Cert.Cum

end

end
-- ==== Proof.CumArray.lean ====
/-
  The running sums of the prompt: four points, each writing one batch element's block of each result. Every entry is the sum
  of the lane's values up to the token, in another base of logarithm.
-/
module

public import proofs.«01_k».proof.Proof.CumChunk
public import proofs.«01_k».proof.Proof.Gen.Kernel8Ideal.Value

@[expose] public section

set_option maxRecDepth 16384

noncomputable section

namespace Cert.Cum

open Idealize.ShloMosaic Cert.Kernel8Ideal Cert.Kernel8Ideal.Gen Cert.Kernel8Ideal.Facts
open Idealize.ShloMosaic.TcCoe Idealize.SL.Sem
open Idealize.ShloMosaic.Pipeline (Dat)
open scoped BigOperators

/-- The sum of lane `l` up to row `s` of a batch element, in another base of logarithm. -/
def sumTo (x : Vec Ideal S2048x128 .f32) (l : Fin 128) (s : ℕ) : EReal :=
  (∑ k ∈ Finset.range (s + 1), rowVal x l k) * Ideal.ofBits .f32 0x3FB8AA3B#32

/-- What a point leaves in each result's staging buffer. -/
def colBlk (x : Vec Ideal S2048x128 .f32) : Vec Ideal S2048x128 .f32 := fun i => sumTo x (i 1) (i 0).val
@[inherit_doc colBlk] def laneBlk (x : Vec Ideal S2048x128 .f32) : Vec Ideal S1x8x2048 .f32 := fun i => sumTo x (lane (i 1)) (i 2).val

variable {x : Vec Ideal S2048x128 .f32} (hx : ∀ i, x i < ⊤)
include hx

/-- What is stored of a chunk, at an index. -/
theorem scaled_sums (n : ℕ) (r : Fin 256) (l : Fin 128) : scaled (sums x n) (ix2 r l) = sumTo x l (256 * n + r.val) :=
  congrArg (· * _) (sums_apply hx n r l)

/-- A chunk's store into the first result. -/
theorem piece_col (n o : ℕ) (ho : o = 256 * n) (h) (j : S256x128.Idx) :
    scaled (sums x n) j = colBlk x ((Rect.unit (s := S2048x128) ![o, 0] S256x128.size h).emb j) := by
  subst ho
  obtain ⟨r, l, rfl⟩ : ∃ (r : Fin 256) (l : Fin 128), j = ix2 r l := ⟨j 0, j 1, eq_ix2 j⟩
  refine (scaled_sums hx n r l).trans (congrArg₂ (sumTo x) (Fin.ext ?_) ?_)
  · show l.val = 0 + 1 * l.val
    omega
  · show 256 * n + r.val = 256 * n + 1 * r.val
    omega

/-- A chunk's store into the second result. -/
theorem piece_lane (n o : ℕ) (ho : o = 256 * n) (h) (j : S1x8x256.Idx) :
    lanes (scaled (sums x n)) j = laneBlk x ((Rect.unit (s := S1x8x2048) ![0, 0, o] S1x8x256.size h).emb j) := by
  subst ho
  obtain ⟨z, e, r, rfl⟩ : ∃ (z : Fin 1) (e : Fin 8) (r : Fin 256), j = ix3 z e r := ⟨j 0, j 1, j 2, eq_ix3 j⟩
  obtain rfl : z = 0 := Subsingleton.elim _ _
  refine (lanes_apply _ e r).trans ((scaled_sums hx n r (lane e)).trans (congrArg₂ (sumTo x) (congrArg lane (Fin.ext ?_)) ?_))
  · show e.val = 0 + 1 * e.val
    omega
  · show 256 * n + r.val = 256 * n + 1 * r.val
    omega

/-- What a point leaves in the first result's staging buffer. -/
theorem out_col : out0_1 x = colBlk x := by
  unfold out0_1
  rw [store_0, store_1, store_2, store_3, store_4, store_5, store_6, store_7]
  funext y
  refine View.canon_apply_of_pieces _ _ ?_ y (cover0_1 _ _ _ _ _ _ _ _ y)
  intro p hp j
  simp only [List.mem_cons, List.not_mem_nil, or_false] at hp
  rcases hp with rfl | rfl | rfl | rfl | rfl | rfl | rfl | rfl
  · exact piece_col hx 7 1792 rfl (by decide) j
  · exact piece_col hx 6 1536 rfl (by decide) j
  · exact piece_col hx 5 1280 rfl (by decide) j
  · exact piece_col hx 4 1024 rfl (by decide) j
  · exact piece_col hx 3 768 rfl (by decide) j
  · exact piece_col hx 2 512 rfl (by decide) j
  · exact piece_col hx 1 256 rfl (by decide) j
  · exact piece_col hx 0 0 rfl (by decide) j

/-- What a point leaves in the second result's staging buffer. -/
theorem out_lane : out0_2 x = laneBlk x := by
  have e0 : k0_pay6 (View.ld x r0_0) = lanes (scaled (sums x 0)) := congrArg lanes (store_0 x)
  have e1 : k0_pay13 (k0_pay37 x) (k0_pay38 x) (k0_pay39 x) (k0_pay40 x) (k0_pay41 x) (k0_pay36 x) = lanes (scaled (sums x 1)) :=
    congrArg lanes (store_1 x)
  have e2 : k0_pay18 (k0_pay17 (k0_pay37 x) (k0_pay38 x) (k0_pay39 x) (k0_pay40 x) (k0_pay41 x) (k0_pay36 x) (View.ld x r0_4))
      = lanes (scaled (sums x 2)) := congrArg lanes (store_2 x)
  have e3 : k0_pay21 (k0_pay37 x) (k0_pay42 x) (View.ld x r0_6) = lanes (scaled (sums x 3)) := congrArg lanes (store_3 x)
  have e4 : k0_pay24 (k0_pay43 x) = lanes (scaled (sums x 4)) := congrArg lanes (store_4 x)
  have e5 : k0_pay28 (k0_pay37 x) (k0_pay43 x) (View.ld x r0_10) = lanes (scaled (sums x 5)) := congrArg lanes (store_5 x)
  have e6 : k0_pay33 (k0_pay37 x) (k0_pay44 x) (k0_pay45 x) (k0_pay46 x) = lanes (scaled (sums x 6)) := congrArg lanes (store_6 x)
  have e7 : k0_pay1 (k0_pay35 (k0_pay37 x) (k0_pay44 x) (k0_pay45 x) (k0_pay46 x) (View.ld x r0_14)) = lanes (scaled (sums x 7)) :=
    congrArg lanes (store_7 x)
  unfold out0_2
  rw [e0, e1, e2, e3, e4, e5, e6, e7]
  funext y
  refine View.canon_apply_of_pieces _ _ ?_ y (cover0_2 _ _ _ _ _ _ _ _ y)
  intro p hp j
  simp only [List.mem_cons, List.not_mem_nil, or_false] at hp
  rcases hp with rfl | rfl | rfl | rfl | rfl | rfl | rfl | rfl
  · exact piece_lane hx 7 1792 rfl (by decide) j
  · exact piece_lane hx 6 1536 rfl (by decide) j
  · exact piece_lane hx 5 1280 rfl (by decide) j
  · exact piece_lane hx 4 1024 rfl (by decide) j
  · exact piece_lane hx 3 768 rfl (by decide) j
  · exact piece_lane hx 2 512 rfl (by decide) j
  · exact piece_lane hx 1 256 rfl (by decide) j
  · exact piece_lane hx 0 0 rfl (by decide) j

omit hx

/-! ## The points' blocks -/

/-- Which block each window stages. -/
theorem index_eq : ∀ t : Fin grid0.N, win0_0.index t = ![t.val, 0] ∧ win0_1.index t = ![t.val, 0] ∧ win0_2.index t = ![t.val, 0, 0] := by
  decide +kernel

/-- The rows of batch element `b`. -/
def batchRows (X : Vec Ideal S8192x128 .f32) (b : Fin 4) : Vec Ideal S2048x128 .f32 := fun j =>
  X (ix2 ⟨b.val * 2048 + (j 0).val, by have : (j 0).val < 2048 := (j 0).isLt; omega⟩ (j 1))

/-- The results as arrays: every token's row, and the first eight lanes of every batch element. -/
def specCol (X : Vec Ideal S8192x128 .f32) : Vec Ideal S8192x128 .f32 := fun i =>
  sumTo (batchRows X ⟨(i 0).val / 2048, by have : (i 0).val < 8192 := (i 0).isLt; omega⟩) (i 1) ((i 0).val % 2048)
@[inherit_doc specCol] def specLane (X : Vec Ideal S8192x128 .f32) : Vec Ideal S4x8x2048 .f32 := fun i => sumTo (batchRows X (i 0)) (lane (i 1)) (i 2).val

variable (m : (ℓ : Loc nD τ sig) → Buf (Elt Ideal) ℓ) (c : Dev nD) (t : Fin cfg0.N)

/-- The batch element of point `t`. -/
def batchOf (t : Fin cfg0.N) : Fin 4 := ⟨t.val, lt_of_lt_of_eq t.isLt N_0⟩

/-- A point's block is its batch element's rows. -/
theorem iblk0 : iblk m c 0 t = batchRows (m ((c : Thread nD τ).loc main_arg0)) (batchOf t) := by
  funext j
  refine (congrFun (V_main_arg0 m c) _).trans (congrArg (m ((c : Thread nD τ).loc main_arg0)) ?_)
  funext a
  refine Fin.ext ?_
  have e := (index_eq t).1
  match a with
  | ⟨0, _⟩ => show win0_0.index t 0 * 2048 + 1 * (j 0).val = t.val * 2048 + (j 0).val; rw [e]; show t.val * 2048 + 1 * (j 0).val = _; omega
  | ⟨1, _⟩ => show win0_0.index t 1 * 128 + 1 * (j 1).val = (j 1).val; rw [e]; show 0 * 128 + 1 * (j 1).val = (j 1).val; omega

/-- The argument stays below infinity. -/
def Below (X : Vec Ideal S8192x128 .f32) : Prop := ∀ i, X i < ⊤

variable (hX : Below (m ((c : Thread nD τ).loc main_arg0)))
include hX

/-- What a point writes back is its block of the first result. -/
theorem flushed_col : (dats m 0 c).flushed 1 t = ((cfg0.win 1).blk t).view.read (Elt Ideal) (specCol (m ((c : Thread nD τ).loc main_arg0))) := by
  rw [Cert.Kernel8Ideal.Value.flushed1, iblk0, out_col (x := batchRows (m ((c : Thread nD τ).loc main_arg0)) (batchOf t)) fun _ => hX _]
  funext j
  have h0 : (j 0).val < 2048 := (j 0).isLt
  have e := (index_eq t).2.1
  show sumTo (batchRows _ (batchOf t)) (j 1) (j 0).val = specCol _ (((cfg0.win 1).blk t).view.emb j)
  have e0 : ((((cfg0.win 1).blk t).view.emb j) 0).val = t.val * 2048 + (j 0).val := by
    show win0_1.index t 0 * 2048 + 1 * (j 0).val = _
    rw [e]
    show t.val * 2048 + 1 * (j 0).val = _
    omega
  have e1 : ((((cfg0.win 1).blk t).view.emb j) 1).val = (j 1).val := by
    show win0_1.index t 1 * 128 + 1 * (j 1).val = _
    rw [e]
    show 0 * 128 + 1 * (j 1).val = _
    omega
  unfold specCol
  have eb : batchOf t = ⟨((((cfg0.win 1).blk t).view.emb j) 0).val / 2048, by rw [e0]; have : t.val < 4 := lt_of_lt_of_eq t.isLt N_0; omega⟩ :=
    Fin.ext (by show t.val = _; dsimp only; rw [e0]; omega)
  rw [eb]
  exact congrArg₂ (sumTo _) (Fin.ext e1.symm) (by rw [e0]; omega)

/-- What a point writes back is its block of the second result. -/
theorem flushed_lane : (dats m 0 c).flushed 2 t = ((cfg0.win 2).blk t).view.read (Elt Ideal) (specLane (m ((c : Thread nD τ).loc main_arg0))) := by
  rw [Cert.Kernel8Ideal.Value.flushed2, iblk0, out_lane (x := batchRows (m ((c : Thread nD τ).loc main_arg0)) (batchOf t)) fun _ => hX _]
  funext j
  have h0 : (j 0).val < 1 := (j 0).isLt
  have e := (index_eq t).2.2
  show sumTo (batchRows _ (batchOf t)) (lane (j 1)) (j 2).val = specLane _ (((cfg0.win 2).blk t).view.emb j)
  have e0 : batchOf t = (((cfg0.win 2).blk t).view.emb j) 0 := Fin.ext (by
    show t.val = win0_2.index t 0 * 1 + 1 * (j 0).val
    rw [e]
    show t.val = t.val * 1 + 1 * (j 0).val
    omega)
  have e1 : (j 1 : Fin 8) = (((cfg0.win 2).blk t).view.emb j) 1 := Fin.ext (by
    show (j 1).val = win0_2.index t 1 * 8 + 1 * (j 1).val
    rw [e]
    show (j 1).val = 0 * 8 + 1 * (j 1).val
    omega)
  have e2 : (j 2).val = ((((cfg0.win 2).blk t).view.emb j) 2).val := by
    show (j 2).val = win0_2.index t 2 * 2048 + 1 * (j 2).val
    rw [e]
    show (j 2).val = 0 * 2048 + 1 * (j 2).val
    omega
  unfold specLane
  rw [e0]
  exact congrArg₂ (sumTo _) (congrArg lane e1) e2

omit t hX in
/-- Every index of the first result lies in some point's block. -/
theorem cover_col (i : S8192x128.Idx) : ∃ t : Fin cfg0.N, (cfg0.win 1).flush t = true ∧ i ∈ ((cfg0.win 1).blk t).view.set := by
  have h0 : (i 0).val < 8192 := (i 0).isLt
  have h1 : (i 1).val < 128 := (i 1).isLt
  have hN : cfg0.N = 4 := N_0
  obtain ⟨t, ht⟩ : ∃ t : Fin cfg0.N, t.val = (i 0).val / 2048 := ⟨⟨(i 0).val / 2048, by omega⟩, rfl⟩
  refine ⟨t, flush0_1 t, ?_⟩
  show i ∈ ((View.whole main_v0_0).slice (win0_1.rect t)).set
  rw [View.set_slice_whole, Rect.mem_set_unit]
  have e := (index_eq t).2.1
  intro a
  show win0_1.index t a * S2048x128.size a ≤ (i a).val ∧ (i a).val < win0_1.index t a * S2048x128.size a + S2048x128.size a
  rw [e]
  match a with
  | ⟨0, _⟩ => show t.val * 2048 ≤ (i 0).val ∧ (i 0).val < t.val * 2048 + 2048; omega
  | ⟨1, _⟩ => show 0 * 128 ≤ (i 1).val ∧ (i 1).val < 0 * 128 + 128; omega

omit t hX in
/-- Every index of the second result lies in some point's block. -/
theorem cover_lane (i : S4x8x2048.Idx) : ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 2048 := (i 2).isLt
  have hN : cfg0.N = 4 := N_0
  obtain ⟨t, ht⟩ : ∃ t : Fin cfg0.N, t.val = (i 0).val := ⟨⟨(i 0).val, by omega⟩, rfl⟩
  refine ⟨t, flush0_2 t, ?_⟩
  show i ∈ ((View.whole main_v0_1).slice (win0_2.rect t)).set
  rw [View.set_slice_whole, Rect.mem_set_unit]
  have e := (index_eq t).2.2
  intro a
  show win0_2.index t a * S1x8x2048.size a ≤ (i a).val ∧ (i a).val < win0_2.index t a * S1x8x2048.size a + S1x8x2048.size a
  rw [e]
  match a with
  | ⟨0, _⟩ => show t.val * 1 ≤ (i 0).val ∧ (i 0).val < t.val * 1 + 1; omega
  | ⟨1, _⟩ => show 0 * 8 ≤ (i 1).val ∧ (i 1).val < 0 * 8 + 8; omega
  | ⟨2, _⟩ => show 0 * 2048 ≤ (i 2).val ∧ (i 2).val < 0 * 2048 + 2048; omega

omit t in
/-- The first result's array ends as the running sums of every token. -/
theorem final_col : (dats m 0 c).arrAt 1 cfg0.N = specCol (m ((c : Thread nD τ).loc main_arg0)) :=
  (dats m 0 c).arrAt_eq_of_cover 1 _ (fun t _ => flushed_col m c t hX) cover_col

omit t in
/-- The second result's array ends as the running sums of the first eight lanes. -/
theorem final_lane : (dats m 0 c).arrAt 2 cfg0.N = specLane (m ((c : Thread nD τ).loc main_arg0)) :=
  (dats m 0 c).arrAt_eq_of_cover 2 _ (fun t _ => flushed_lane m c t hX) cover_lane

end Cert.Cum

end

end
-- ==== Proof.CumRef.lean ====
/-
  The running sum the reference takes: a window over the whole sequence, padded below, ends at each row. Its entries are the
  sums of the rows up to and with that row.
-/
module

public import proofs.«01_k».proof.Proof.CumArray
public import proofs.«01_k».proof.Proof.Gen.Reference8Ideal.Read

@[expose] public section

set_option maxRecDepth 16384

noncomputable section

namespace Cert.Cum

open Idealize.ShloMosaic Cert.Reference8Ideal Cert.Reference8Ideal.Gen Cert.Reference8Ideal.Read
open scoped BigOperators

/-- Adding up a list's terms from the left, over all of a finite type's numbers, is the sum over them. -/
theorem foldl_add {n : ℕ} (g : Fin n → EReal) : (List.finRange n).foldl (fun r i => r + g i) 0 = ∑ i, g i := by
  have key : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [key, zero_add, ← List.ofFn_eq_map, List.sum_ofFn]

/-- The positions of a window along the middle axis. -/
def windowAt : Fin 2048 ≃ (⟨3, ![1, 2048, 1]⟩ : Shape).Idx where
  toFun k := ix3 0 k 0
  invFun i := i 1
  left_inv _ := rfl
  right_inv i := by
    have h0 : (i 0).val < 1 := (i 0).isLt
    have h2 : (i 2).val < 1 := (i 2).isLt
    funext a
    refine Fin.ext ?_
    match a with
    | ⟨0, _⟩ => show 0 = (i 0).val; omega
    | ⟨1, _⟩ => rfl
    | ⟨2, _⟩ => show 0 = (i 2).val; omega

/-- The part of a window padded below that lies in the sequence. -/
theorem window_sum (f : ℕ → EReal) (s : Fin 2048) :
    (∑ k : Fin 2048, if 2047 ≤ s.val + k.val then f (s.val + k.val - 2047) else 0) = ∑ k ∈ Finset.range (s.val + 1), f k := by
  rw [Fin.sum_univ_eq_sum_range (fun k => if 2047 ≤ s.val + k then f (s.val + k - 2047) else 0) 2048,
    congrArg Finset.range (show (2048 : ℕ) = (2047 - s.val) + (s.val + 1) by omega), Finset.sum_range_add, Finset.sum_eq_zero, zero_add]
  · refine Finset.sum_congr rfl fun k _ => ?_
    rw [if_pos (by omega)]
    congr 1
    omega
  · intro k hk
    have := Finset.mem_range.mp hk
    rw [if_neg (by omega)]

/-- What a position of a window adds: the operand's element there, or zero where it is padding. -/
def term {s t : Shape} (window strides lo hi : Fin s.rank → ℕ) (h : s.ReduceWindows window strides lo hi t) (x : s.Idx → EReal) (j : t.Idx)
    (q : (⟨s.rank, window⟩ : Shape).Idx) : EReal :=
  let p : Fin s.rank → ℕ := fun a => (j (a.cast h.1.symm)).val * strides a + (q a).val
  @dite EReal (∀ a, lo a ≤ p a ∧ p a - lo a < s.size a) (Nat.decidableForallFin _) (fun hin => x (fun a => ⟨p a - lo a, (hin a).2⟩)) (fun _ => 0)

/-- A window's sum from zero is the sum over its positions. -/
theorem window_eq {s t : Shape} (window strides lo hi : Fin s.rank → ℕ) (h : s.ReduceWindows window strides lo hi t) (x : s.Idx → EReal) (j : t.Idx) :
    Ideal.hostReduceWindowAdd window strides lo hi h x 0 j = ∑ q, term window strides lo hi h x j q :=
  (foldl_add fun n => term window strides lo hi h x j ((Shape.rowMajor ⟨s.rank, window⟩).symm n)).trans
    (Equiv.sum_comp (Shape.rowMajor ⟨s.rank, window⟩).symm (term window strides lo hi h x j))

/-- The running sum along the sequence, at an index. -/
theorem running_apply (x : Vec Ideal S4x2048x128 .f32) (f : ℕ → EReal) (b : Fin 4) (l : Fin 128) (hx : ∀ s : Fin 2048, x (ix3 b s l) = f s.val)
    (h : S4x2048x128.ReduceWindows ![1, 2048, 1] ![1, 1, 1] ![0, 2047, 0] ![0, 0, 0] S4x2048x128) (s : Fin 2048) :
    Ideal.hostReduceWindowAdd ![1, 2048, 1] ![1, 1, 1] ![0, 2047, 0] ![0, 0, 0] h x 0 (ix3 b s l) = ∑ k ∈ Finset.range (s.val + 1), f k := by
  refine (window_eq _ _ _ _ h x (ix3 b s l)).trans ?_
  refine Eq.trans ?_ (window_sum f s)
  refine Eq.symm (Fintype.sum_equiv windowAt _ _ fun k => ?_)
  have hb := b.isLt
  have hl := l.isLt
  by_cases hin : 2047 ≤ s.val + k.val
  · refine Eq.trans ?_ (dif_pos (fun a => match a with
      | ⟨0, _⟩ => by show 0 ≤ b.val * 1 + 0 ∧ b.val * 1 + 0 - 0 < 4; omega
      | ⟨1, _⟩ => by show 2047 ≤ s.val * 1 + k.val ∧ s.val * 1 + k.val - 2047 < 2048; omega
      | ⟨2, _⟩ => by show 0 ≤ l.val * 1 + 0 ∧ l.val * 1 + 0 - 0 < 128; omega)).symm
    rw [if_pos hin]
    refine ((congrArg x ?_).trans (hx ⟨s.val + k.val - 2047, by omega⟩)).symm
    funext a
    refine Fin.ext ?_
    match a with
    | ⟨0, _⟩ => show b.val * 1 + 0 - 0 = b.val; omega
    | ⟨1, _⟩ => show s.val * 1 + k.val - 2047 = s.val + k.val - 2047; omega
    | ⟨2, _⟩ => show l.val * 1 + 0 - 0 = l.val; omega
  · rw [if_neg hin]
    refine Eq.symm (Eq.trans (dif_neg fun h => ?_) rfl)
    have h1 : 2047 ≤ s.val * 1 + k.val := (h 1).1
    omega

variable (x0 : Vec Ideal S8192x128 .f32)

/-- A batch element's rows lie one after another in the argument. -/
theorem ref_rows (b : Fin 4) (s : Fin 2048) (l : Fin 128) : val_main_v0 (F := Ideal) x0 (ix3 b s l) = rowVal (batchRows x0 b) l s.val := by
  refine Eq.trans ?_ (Eq.trans (dif_pos s.isLt) rfl).symm
  refine (val_main_v0_apply x0 (ix3 b s l)).trans (congrArg x0 ?_)
  funext a
  refine Fin.ext ?_
  match a with
  | ⟨0, _⟩ => show ((b.val * 2048 + s.val) * 128 + l.val) / 128 = b.val * 2048 + s.val; omega
  | ⟨1, _⟩ => show ((b.val * 2048 + s.val) * 128 + l.val) % 128 = l.val; omega

/-- A window's sum from an initial value of zero. -/
theorem window_zero {s t u : Shape} (window strides lo hi : Fin s.rank → ℕ) (y : FVec Ideal s .f32) (v : u.Idx → Ideal .f32)
    (h : s.ReduceWindows window strides lo hi t) (hu : 0 < u.numel) (hz : v (Shape.Idx.first hu) = 0) :
    Host.reduceWindowAdd window strides lo hi y v h hu = Ideal.hostReduceWindowAdd window strides lo hi h y 0 := by
  rw [← hz]
  rfl

/-- The reference's running sum begins at zero. -/
theorem ref_zero : val_main_call0_call0_v0 (F := Ideal) (Shape.Idx.first h_S_) = 0 := by
  rw [val_main_call0_call0_v0_apply, val_main_call0_call0_cst_apply]
  exact Ideal.ofBits_zero_f32

/-- The reference's running sum before the change of base, at an index. -/
theorem ref_running (b : Fin 4) (s : Fin 2048) (l : Fin 128) :
    val_main_v1 (F := Ideal) x0 (ix3 b s l) = ∑ k ∈ Finset.range (s.val + 1), rowVal (batchRows x0 b) l k := by
  unfold val_main_v1
  rw [window_zero _ _ _ _ _ _ _ _ ref_zero]
  exact running_apply _ (rowVal (batchRows x0 b) l) b l (fun s => ref_rows x0 b s l) _ s

/-- The reference's running sum, at an index. -/
theorem ref_sum (b : Fin 4) (s : Fin 2048) (l : Fin 128) : val_main_v3 (F := Ideal) x0 (ix3 b s l) = sumTo (batchRows x0 b) l s.val := by
  refine (val_main_v3_apply x0 (ix3 b s l)).trans ?_
  rw [val_main_v2_apply, val_main_cst_apply, ref_running]
  rfl

/-- The reference's first result. -/
theorem ref_col : val_main_v4 (F := Ideal) x0 = specCol x0 := by
  funext i
  obtain ⟨R, l, rfl⟩ : ∃ (R : Fin 8192) (l : Fin 128), i = ix2 R l := ⟨i 0, i 1, eq_ix2 i⟩
  have e : idx_main_v4 (ix2 R l) = ix3 ⟨R.val / 2048, by omega⟩ ⟨R.val % 2048, by omega⟩ l := by
    funext a
    refine Fin.ext ?_
    match a with
    | ⟨0, _⟩ => show (R.val * 128 + l.val) / 262144 = R.val / 2048; omega
    | ⟨1, _⟩ => show (R.val * 128 + l.val) / 128 % 2048 = R.val % 2048; omega
    | ⟨2, _⟩ => show (R.val * 128 + l.val) % 128 = l.val; omega
  exact (val_main_v4_apply x0 _).trans ((congrArg _ e).trans (ref_sum x0 _ _ l))

/-- The reference's second result. -/
theorem ref_lane : val_main_v6 (F := Ideal) x0 = specLane x0 := by
  funext i
  obtain ⟨b, h, s, rfl⟩ : ∃ (b : Fin 4) (h : Fin 8) (s : Fin 2048), i = ix3 b h s := ⟨i 0, i 1, i 2, eq_ix3 i⟩
  have e : idx_main_v5 (idx_main_v6 (ix3 b h s)) = ix3 b s (lane h) := by
    funext a
    match a with
    | ⟨0, _⟩ => rfl
    | ⟨1, _⟩ => rfl
    | ⟨2, _⟩ => rfl
  exact (val_main_v6_apply x0 _).trans ((val_main_v5_apply x0 _).trans ((congrArg _ e).trans (ref_sum x0 b s (lane h))))

end Cert.Cum

end

end
-- ==== Proof.CumClaims.lean ====
/-
  The claims about the running sums of the prompt.
-/
module

public import proofs.«01_k».proof.Defs
public import proofs.«01_k».proof.Proof.CumRef
public import proofs.«01_k».proof.Proof.Gen.Kernel8.Frame
public import proofs.«01_k».proof.Proof.Gen.Reference8Ideal.Run
public import proofs.«01_k».proof.Proof.Gen.Pre_below_infinity
public import Idealize.ShloMosaic.Lib.Quiescent

@[expose] public section

set_option maxRecDepth 16384

noncomputable section

namespace Cert.Cum

open Idealize.ShloMosaic Idealize.ShloMosaic.TcCoe Idealize.SL.Sem

/-- A value the comparison finds below infinity is below infinity. -/
theorem lt_top {x : EReal} (h : Ideal.cmp .olt x (Ideal.ofBits .f32 0x7F800000#32) = 1#1) : x < ⊤ := by
  have htop : Ideal.ofBits .f32 0x7F800000#32 = ⊤ := by simp [Ideal.ofBits, Ideal.ieee]
  rw [htop] at h
  refine lt_top_iff_ne_top.mpr fun hx => ?_
  subst hx
  simp [Ideal.cmp] at h

/-- What the precondition says of the argument. -/
theorem below_args (m : (ℓ : Loc Cert.Kernel8Ideal.nD Cert.Kernel8Ideal.τ Cert.Kernel8Ideal.sig) → Buf (Elt Ideal) ℓ)
    (h : Cert.Pre_Kernel8Ideal_below_infinity (hPre_below_infinity := Cert.Pre_below_infinity.Gen.facts) m) (c : Dev Cert.Kernel8Ideal.nD) :
    Below (m ((c : Thread Cert.Kernel8Ideal.nD Cert.Kernel8Ideal.τ).loc Cert.Kernel8Ideal.main_arg0)) :=
  fun i => lt_top (congrFun (h c) i)

/-- The running sums' kernel runs and leaves its argument, at the machine's floats. -/
theorem frame_p : Cert.quiescent_Kernel8 := fun m ρ _ => Cert.Kernel8.Gen.frame m ρ
/-- The same, at exact values. -/
theorem frame_pi : Cert.quiescent_Kernel8Ideal := fun m ρ _ => Cert.Kernel8Ideal.Gen.frame m ρ
/-- The same, where the precondition holds. -/
theorem frame_pi_pre : Cert.quiescent_Kernel8Ideal_pre_below_infinity (hPre_below_infinity := Cert.Pre_below_infinity.Gen.facts) :=
  fun m ρ _ => Cert.Kernel8Ideal.Gen.frame m ρ
/-- The running sums' reference runs and leaves its argument. -/
theorem frame_ri : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)
/-- The same, where the precondition holds. -/
theorem frame_ri_pre : Cert.quiescent_Reference8Ideal_pre_below_infinity (hPre_below_infinity := Cert.Pre_below_infinity.Gen.facts) :=
  fun m ρ _ => frame_ri m ρ trivial

/-- Nothing was replaced in the running sums. -/
theorem preserves : Cert.preserves_Kernel8_Kernel8Ideal := trivial

/-- Kernel and reference end with the same running sums, in both results. -/
theorem algebraic : Cert.algebraic_Kernel8Ideal_Reference8Ideal_pre_below_infinity (hPre_below_infinity := Cert.Pre_below_infinity.Gen.facts) := by
  intro m ρ m' ρ' hpre hagree
  have hX := below_args m hpre
  refine ⟨fun c => specCol (m ((c : Thread Cert.Kernel8Ideal.nD Cert.Kernel8Ideal.τ).loc Cert.Kernel8Ideal.main_arg0)),
    fun c => specLane (m ((c : Thread Cert.Kernel8Ideal.nD Cert.Kernel8Ideal.τ).loc Cert.Kernel8Ideal.main_arg0)), ?_, ?_⟩
  · exact (θ_run Cert.Kernel8Ideal.defs _ _).mono
      (fun _ h c => ⟨(h c).1.trans (final_col m c (hX c)), (h c).2.1.trans (final_lane m c (hX c)), (h c).2.2⟩)
      (Cert.Kernel8Ideal.Value.run_blocks (F := Ideal) m ρ)
  · refine (θ_run Cert.Reference8Ideal.defs _ _).mono (fun _ h c => ⟨(h c).1.trans ?_, (h c).2.1.trans ?_, (h c).2.2⟩)
      (Cert.Reference8Ideal.Value.run (F := Ideal) m' ρ')
    · rw [Cert.Reference8Ideal.Read.val_main_v4_eq, hagree c]
      exact ref_col _
    · rw [Cert.Reference8Ideal.Read.val_main_v6_eq, hagree c]
      exact ref_lane _

end Cert.Cum

end

end
-- ==== Proof.ConvStep.lean ====
/-
  The causal convolution of one batch element, one block of 128 lanes at a time: 31 taps added one after another to zero, and the
  bias; then the layer norm of the whole rows, and the gate.
-/
module

public import proofs.«01_k».proof.Proof.Gen.Kernel9Ideal.Frame
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

namespace Cert.Conv

open Idealize.ShloMosaic Cert.Kernel9Ideal Cert.Kernel9Ideal.Gen Cert.Kernel9Ideal.Facts
open scoped BigOperators

/-- A tap's row is among the 31 rows of weights. -/
theorem slices_row (n : ℕ) (h : n < 31) : Shape.Slices S31x128 ![n, 0] S1x128 :=
  ⟨rfl, fun a => by
    match a with
    | ⟨0, _⟩ => exact h
    | ⟨1, _⟩ => exact le_rfl⟩

/-- The weights of one tap. -/
def tapRow (w : Vec Ideal S1x31x128 .f32) (n : ℕ) (h : n < 31) : FVec Ideal S1x128 .f32 :=
  extractStridedSlice S1x128 ![n, 0] (shapeCast S31x128 w shapeCasts_S1x31x128_S31x128) (slices_row n h)

/-- The first taps of a block of lanes, added one after another to zero; `e n` are the rows tap `n` sees. -/
def taps (w : Vec Ideal S1x31x128 .f32) (e : (n : ℕ) → n < 31 → Vec Ideal S1x64x128 .f32) : (n : ℕ) → n ≤ 31 → FVec Ideal S64x128 .f32
  | 0, _ => broadcast S64x128 (Scalar.ofBits .f32 0x00000000#32)
  | n + 1, h => addf (taps w e n (Nat.le_of_succ_le h))
      (mulf (broadcastTo S64x128 (tapRow w n h) broadcasts_S1x128_S64x128) (shapeCast S64x128 (e n h) shapeCasts_S1x64x128_S64x128))

/-- What is stored of a block of lanes: all its taps, and the bias. -/
def laneOut (w : Vec Ideal S1x31x128 .f32) (b : Vec Ideal S1x1x128 .f32) (e : (n : ℕ) → n < 31 → Vec Ideal S1x64x128 .f32) : FVec Ideal S64x128 .f32 :=
  shapeCast S64x128 (addf (taps w e 31 le_rfl) (broadcastTo S64x128 (shapeCast S1x128 b shapeCasts_S1x1x128_S1x128) broadcasts_S1x128_S64x128))
    shapeCasts_S64x128_S64x128

/-- A tap's weights, at a lane. -/
theorem tapRow_apply (w : Vec Ideal S1x31x128 .f32) (n : ℕ) (h : n < 31) (l : Fin 128) : tapRow w n h (ix2 0 l) = w (ix3 0 ⟨n, h⟩ l) := by
  unfold tapRow
  pointwise

/-- The taps so far, at an index: the sum of weights times rows. -/
theorem taps_apply (w : Vec Ideal S1x31x128 .f32) (e : (n : ℕ) → n < 31 → Vec Ideal S1x64x128 .f32) (r : Fin 64) (l : Fin 128) :
    ∀ (n : ℕ) (h : n ≤ 31), taps w e n h (ix2 r l)
      = ∑ k : Fin n, w (ix3 0 ⟨k.val, lt_of_lt_of_le k.isLt h⟩ l) * e k.val (lt_of_lt_of_le k.isLt h) (ix3 0 r l)
  | 0, _ => Ideal.ofBits_zero_f32.trans (Finset.sum_empty).symm
  | n + 1, h => by
    have hs : taps w e (n + 1) h (ix2 r l) = taps w e n (Nat.le_of_succ_le h) (ix2 r l) + tapRow w n h (ix2 0 l) * e n h (ix3 0 r l) := by
      rw [taps]
      pointwise
    rw [hs, taps_apply w e r l n, tapRow_apply, Fin.sum_univ_castSucc]
    rfl

/-- What is stored of a block of lanes, at an index. -/
theorem laneOut_apply (w : Vec Ideal S1x31x128 .f32) (b : Vec Ideal S1x1x128 .f32) (e : (n : ℕ) → n < 31 → Vec Ideal S1x64x128 .f32)
    (r : Fin 64) (l : Fin 128) :
    laneOut w b e (ix2 r l) = (∑ k : Fin 31, w (ix3 0 k l) * e k.val k.isLt (ix3 0 r l)) + b (ix3 0 0 l) := by
  refine Eq.trans ?_ (congrArg (· + b (ix3 0 0 l)) (taps_apply w e r l 31 le_rfl))
  unfold laneOut
  pointwise

/-- A row's entry less the row's mean. -/
def centred (cv : Vec Ideal S64x1024 .f32) (r : Fin 64) (d : Fin 1024) : EReal :=
  cv (ix2 r d) - Ideal.div (∑ k : Fin 1024, cv (ix2 r k)) (Ideal.ofBits .f32 0x44800000#32)

/-- The layer norm of a row, scaled and shifted. -/
def layerNorm (cv : Vec Ideal S64x1024 .f32) (g b : Fin 1024 → EReal) (r : Fin 64) (d : Fin 1024) : EReal :=
  centred cv r d * Ideal.rsqrt (Ideal.div (∑ k : Fin 1024, centred cv r k * centred cv r k) (Ideal.ofBits .f32 0x44800000#32) + Ideal.ofBits .f32 0x358637BD#32)
    * g d + b d

/-- A value times the logistic function of it. -/
def silu (y : EReal) : EReal :=
  y * Ideal.div (Ideal.ofBits .f32 0x3F800000#32) (Ideal.ofBits .f32 0x3F800000#32 + Ideal.exp (Ideal.ofBits .f32 0x00000000#32 - y))

/-- The centred rows, at an index. -/
theorem centred_apply (cv : Vec Ideal S64x1024 .f32) (r : Fin 64) (d : Fin 1024) :
    k0_pay146 cv (k0_pay145 cv) (Scalar.ofBits .f32 0x44800000#32) (ix2 r d) = centred cv r d := by
  unfold k0_pay146 k0_pay145 centred
  pointwise

/-- The sums of the centred rows' squares, at a row. -/
theorem squares_apply (cv : Vec Ideal S64x1024 .f32) (r : Fin 64) :
    k0_pay147 cv (k0_pay145 cv) (Scalar.ofBits .f32 0x44800000#32) (ix2 r 0) = ∑ k : Fin 1024, centred cv r k * centred cv r k := by
  refine Eq.trans ?_ (Finset.sum_congr rfl fun k _ => congrArg₂ (· * ·) (centred_apply cv r k) (centred_apply cv r k))
  unfold k0_pay147
  generalize k0_pay146 cv (k0_pay145 cv) (Scalar.ofBits .f32 0x44800000#32) = z
  pointwise

/-- What is stored of a row, from its centred entries and the sum of their squares. -/
theorem gated_apply (z : FVec Ideal S64x1024 .f32) (q : FVec Ideal S64x1 .f32) (g b : Vec Ideal S1x1x1024 .f32) (u : Vec Ideal S64x1024 .bf16)
    (r : Fin 64) (d : Fin 1024) :
    k0_pay1 z q g b u (ix2 r d)
      = silu (z (ix2 r d) * Ideal.rsqrt (Ideal.div (q (ix2 r 0)) (Ideal.ofBits .f32 0x44800000#32) + Ideal.ofBits .f32 0x358637BD#32)
          * g (ix3 0 0 d) + b (ix3 0 0 d)) * u (ix2 r d) := by
  unfold k0_pay1 silu
  pointwise

/-- What is stored of the convolved rows: their layer norm, gated. -/
theorem final_apply (cv : Vec Ideal S64x1024 .f32) (g b : Vec Ideal S1x1x1024 .f32) (u : Vec Ideal S64x1024 .bf16) (r : Fin 64) (d : Fin 1024) :
    k0_pay1 (k0_pay146 cv (k0_pay145 cv) (Scalar.ofBits .f32 0x44800000#32)) (k0_pay147 cv (k0_pay145 cv) (Scalar.ofBits .f32 0x44800000#32)) g b u (ix2 r d)
      = silu (layerNorm cv (fun k => g (ix3 0 0 k)) (fun k => b (ix3 0 0 k)) r d) * u (ix2 r d) := by
  rw [gated_apply, centred_apply, squares_apply]
  rfl

end Cert.Conv

end

end
-- ==== Proof.ConvBlock.lean ====
/-
  What a point of the convolution leaves in its staging buffer: the kept frames and the new ones laid out in eight blocks of
  lanes, each block's taps read from there, the eight stored blocks read back as whole rows, and their gated layer norm.
-/
module

public import proofs.«01_k».proof.Proof.ConvStep

@[expose] public section

set_option maxRecDepth 16384

noncomputable section

namespace Cert.Conv

open Idealize.ShloMosaic Cert.Kernel9Ideal Cert.Kernel9Ideal.Gen Cert.Kernel9Ideal.Facts
open scoped BigOperators

/-- Lane `l` of block `n`. -/
def laneOf (n : ℕ) (h : n < 8) (l : Fin 128) : Fin 1024 := ⟨128 * n + l.val, by omega⟩

/-- Frame `p` of a batch element: the 30 kept frames, then the 64 new ones. -/
def frameAt (x0 : Vec Ideal S64x1024 .f32) (x1 : Vec Ideal S1x1x30x1024 .f32) (p : ℕ) (d : Fin 1024) : EReal :=
  if h : p < 30 then x1 (ix4 0 0 ⟨p, h⟩ d) else if h' : p - 30 < 64 then x0 (ix2 ⟨p - 30, h'⟩ d) else 0

/-- A kept frame. -/
theorem frameAt_kept (x0 : Vec Ideal S64x1024 .f32) (x1 : Vec Ideal S1x1x30x1024 .f32) (p : Fin 30) (d : Fin 1024) :
    frameAt x0 x1 p.val d = x1 (ix4 0 0 p d) := dif_pos p.isLt

/-- A new frame. -/
theorem frameAt_new (x0 : Vec Ideal S64x1024 .f32) (x1 : Vec Ideal S1x1x30x1024 .f32) (p : Fin 64) (d : Fin 1024) :
    frameAt x0 x1 (30 + p.val) d = x0 (ix2 p d) := by
  unfold frameAt
  rw [dif_neg (by omega), dif_pos (by omega)]
  exact congrArg (fun q => x0 (ix2 q d)) (Fin.ext (by show 30 + p.val - 30 = p.val; omega))

/-- The convolution's rows: 31 taps and the bias. -/
def convRows (x0 : Vec Ideal S64x1024 .f32) (x1 : Vec Ideal S1x1x30x1024 .f32) (w : Vec Ideal S1x31x1024 .f32) (b : Vec Ideal S1x1x1024 .f32) :
    Vec Ideal S64x1024 .f32 :=
  fun j => (∑ k : Fin 31, w (ix3 0 k (j 1)) * frameAt x0 x1 (k.val + (j 0).val) (j 1)) + b (ix3 0 0 (j 1))

/-! ## The frames as they are laid out -/

/-- The kept frames' rows of block `n` are in the layout. -/
theorem halo_inb (n : ℕ) (h : n < 8) : ∀ a, (![n, 2, 0] : Fin 3 → ℕ) a + S1x30x128.size a ≤ S8x96x128.size a := fun a => by
  match a with
  | ⟨0, _⟩ => exact h
  | ⟨1, _⟩ => show 2 + 30 ≤ 96; omega
  | ⟨2, _⟩ => show 0 + 128 ≤ 128; omega

/-- The new frames' rows of block `n` are in the layout. -/
theorem body_inb (n : ℕ) (h : n < 8) : ∀ a, (![n, 32, 0] : Fin 3 → ℕ) a + S1x64x128.size a ≤ S8x96x128.size a := fun a => by
  match a with
  | ⟨0, _⟩ => exact h
  | ⟨1, _⟩ => show 32 + 64 ≤ 96; omega
  | ⟨2, _⟩ => show 0 + 128 ≤ 128; omega

/-- The rows tap `k` sees of block `n` are in the layout. -/
theorem tap_inb (n : ℕ) (h : n < 8) (k : ℕ) (hk : k < 31) : ∀ a, (![n, k + 2, 0] : Fin 3 → ℕ) a + S1x64x128.size a ≤ S8x96x128.size a := fun a => by
  match a with
  | ⟨0, _⟩ => exact h
  | ⟨1, _⟩ => show k + 2 + 64 ≤ 96; omega
  | ⟨2, _⟩ => show 0 + 128 ≤ 128; omega

/-- Block `n`'s lanes of the kept frames. -/
theorem halo_ld_inb (n : ℕ) (h : n < 8) : ∀ a, (![0, 0, 0, 128 * n] : Fin 4 → ℕ) a + S1x1x30x128.size a ≤ S1x1x30x1024.size a := fun a => by
  match a with
  | ⟨0, _⟩ => exact le_rfl
  | ⟨1, _⟩ => exact le_rfl
  | ⟨2, _⟩ => exact le_rfl
  | ⟨3, _⟩ => show 128 * n + 128 ≤ 1024; omega

/-- Block `n`'s lanes of 64 rows. -/
theorem rows_inb (n : ℕ) (h : n < 8) : ∀ a, (![0, 128 * n] : Fin 2 → ℕ) a + S64x128.size a ≤ S64x1024.size a := fun a => by
  match a with
  | ⟨0, _⟩ => exact le_rfl
  | ⟨1, _⟩ => show 128 * n + 128 ≤ 1024; omega

/-- Block `n`'s lanes of the weights. -/
theorem weights_inb (n : ℕ) (h : n < 8) : ∀ a, (![0, 0, 128 * n] : Fin 3 → ℕ) a + S1x31x128.size a ≤ S1x31x1024.size a := fun a => by
  match a with
  | ⟨0, _⟩ => exact le_rfl
  | ⟨1, _⟩ => exact le_rfl
  | ⟨2, _⟩ => show 128 * n + 128 ≤ 1024; omega

/-- Block `n`'s lanes of a row. -/
theorem row_inb (n : ℕ) (h : n < 8) : ∀ a, (![0, 0, 128 * n] : Fin 3 → ℕ) a + S1x1x128.size a ≤ S1x1x1024.size a := fun a => by
  match a with
  | ⟨0, _⟩ => exact le_rfl
  | ⟨1, _⟩ => exact le_rfl
  | ⟨2, _⟩ => show 128 * n + 128 ≤ 1024; omega

/-- The kept frames of block `n`, as stored. -/
def halo (x1 : Vec Ideal S1x1x30x1024 .f32) (n : ℕ) (h : n < 8) : FVec Ideal S1x30x128 .f32 :=
  shapeCast S1x30x128 (shapeCast S30x128 (View.ld x1 (Rect.unit (s := S1x1x30x1024) ![0, 0, 0, 128 * n] S1x1x30x128.size (halo_ld_inb n h)))
    shapeCasts_S1x1x30x128_S30x128) shapeCasts_S30x128_S1x30x128

/-- The new frames of block `n`, as stored. -/
def body (x0 : Vec Ideal S64x1024 .f32) (n : ℕ) (h : n < 8) : FVec Ideal S1x64x128 .f32 :=
  shapeCast S1x64x128 (View.ld x0 (Rect.unit (s := S64x1024) ![0, 128 * n] S64x128.size (rows_inb n h))) shapeCasts_S64x128_S1x64x128

/-- The stores of the new frames, the last block first. -/
def bodies (x0 : Vec Ideal S64x1024 .f32) : (n : ℕ) → n ≤ 8 → List (View.Piece (Elt Ideal) S8x96x128 .f32)
  | 0, _ => []
  | n + 1, h => ⟨Rect.unit (s := S8x96x128) ![n, 32, 0] S1x64x128.size (body_inb n h), body x0 n h⟩ :: bodies x0 n (Nat.le_of_succ_le h)

/-- The stores of the kept frames, the last block first, before them those of the new frames. -/
def halos (x0 : Vec Ideal S64x1024 .f32) (x1 : Vec Ideal S1x1x30x1024 .f32) : (n : ℕ) → n ≤ 8 → List (View.Piece (Elt Ideal) S8x96x128 .f32)
  | 0, _ => bodies x0 8 le_rfl
  | n + 1, h => ⟨Rect.unit (s := S8x96x128) ![n, 2, 0] S1x30x128.size (halo_inb n h), halo x1 n h⟩ :: halos x0 x1 n (Nat.le_of_succ_le h)

/-- The layout: block, frame two rows down, lane. -/
def layout (x0 : Vec Ideal S64x1024 .f32) (x1 : Vec Ideal S1x1x30x1024 .f32) : Vec Ideal S8x96x128 .f32 :=
  fun y => frameAt x0 x1 ((y 1).val - 2) (laneOf (y 0).val (y 0).isLt (y 2))

/-- The reshapes of the kept frames, at an index. -/
theorem halo_cast_apply (v : Vec Ideal S1x1x30x128 .f32) (r : Fin 30) (l : Fin 128) :
    (shapeCast S1x30x128 (shapeCast S30x128 v shapeCasts_S1x1x30x128_S30x128) shapeCasts_S30x128_S1x30x128 : FVec Ideal S1x30x128 .f32) (ix3 0 r l)
      = v (ix4 0 0 r l) := by
  pointwise

/-- The reshape of the new frames, at an index. -/
theorem body_cast_apply (v : Vec Ideal S64x128 .f32) (r : Fin 64) (l : Fin 128) :
    (shapeCast S1x64x128 v shapeCasts_S64x128_S1x64x128 : FVec Ideal S1x64x128 .f32) (ix3 0 r l) = v (ix2 r l) := by
  pointwise

/-- A stored block of kept frames is the layout on its rows. -/
theorem halo_eq (x0 : Vec Ideal S64x1024 .f32) (x1 : Vec Ideal S1x1x30x1024 .f32) (n : ℕ) (h : n < 8) (x : S1x30x128.Idx) :
    halo x1 n h x = layout x0 x1 ((Rect.unit (s := S8x96x128) ![n, 2, 0] S1x30x128.size (halo_inb n h)).emb x) := by
  obtain ⟨z, r, l, rfl⟩ : ∃ z r l, x = ix3 z r l := ⟨x 0, x 1, x 2, eq_ix3 x⟩
  obtain rfl : z = 0 := Subsingleton.elim _ _
  have e1 : halo x1 n h (ix3 0 r l)
      = View.ld x1 (Rect.unit (s := S1x1x30x1024) ![0, 0, 0, 128 * n] S1x1x30x128.size (halo_ld_inb n h)) (ix4 0 0 r l) := by
    unfold halo
    exact halo_cast_apply _ r l
  have e2 : (Rect.unit (s := S8x96x128) ![n, 2, 0] S1x30x128.size (halo_inb n h)).emb (ix3 0 r l) = ix3 ⟨n, h⟩ ⟨r.val + 2, by omega⟩ l :=
    funext fun a => Fin.ext (by
      match a with
      | ⟨0, _⟩ => show n + 1 * 0 = n; omega
      | ⟨1, _⟩ => show 2 + 1 * r.val = r.val + 2; omega
      | ⟨2, _⟩ => show 0 + 1 * l.val = l.val; omega)
  rw [e1, e2]
  unfold layout
  refine Eq.trans (congrArg x1 ?_) (frameAt_kept x0 x1 ⟨r.val + 2 - 2, show r.val + 2 - 2 < 30 by omega⟩ _).symm
  funext a
  refine Fin.ext ?_
  match a with
  | ⟨0, _⟩ => rfl
  | ⟨1, _⟩ => rfl
  | ⟨2, _⟩ => show 0 + 1 * r.val = r.val + 2 - 2; omega
  | ⟨3, _⟩ => show 128 * n + 1 * l.val = 128 * n + l.val; omega

/-- A stored block of new frames is the layout on its rows. -/
theorem body_eq (x0 : Vec Ideal S64x1024 .f32) (x1 : Vec Ideal S1x1x30x1024 .f32) (n : ℕ) (h : n < 8) (x : S1x64x128.Idx) :
    body x0 n h x = layout x0 x1 ((Rect.unit (s := S8x96x128) ![n, 32, 0] S1x64x128.size (body_inb n h)).emb x) := by
  obtain ⟨z, r, l, rfl⟩ : ∃ z r l, x = ix3 z r l := ⟨x 0, x 1, x 2, eq_ix3 x⟩
  obtain rfl : z = 0 := Subsingleton.elim _ _
  have e1 : body x0 n h (ix3 0 r l) = View.ld x0 (Rect.unit (s := S64x1024) ![0, 128 * n] S64x128.size (rows_inb n h)) (ix2 r l) := by
    unfold body
    exact body_cast_apply _ r l
  have e2 : (Rect.unit (s := S8x96x128) ![n, 32, 0] S1x64x128.size (body_inb n h)).emb (ix3 0 r l) = ix3 ⟨n, h⟩ ⟨r.val + 32, by omega⟩ l :=
    funext fun a => Fin.ext (by
      match a with
      | ⟨0, _⟩ => show n + 1 * 0 = n; omega
      | ⟨1, _⟩ => show 32 + 1 * r.val = r.val + 32; omega
      | ⟨2, _⟩ => show 0 + 1 * l.val = l.val; omega)
  rw [e1, e2]
  unfold layout
  refine Eq.trans (congrArg x0 ?_) ((congrArg (fun p => frameAt x0 x1 p _) (show r.val + 32 - 2 = 30 + r.val by omega)).trans (frameAt_new x0 x1 r _)).symm
  funext a
  refine Fin.ext ?_
  match a with
  | ⟨0, _⟩ => show 0 + 1 * r.val = r.val; omega
  | ⟨1, _⟩ => show 128 * n + 1 * l.val = 128 * n + l.val; omega

/-- Every stored block of new frames is the layout on its rows. -/
theorem bodies_ok (x0 : Vec Ideal S64x1024 .f32) (x1 : Vec Ideal S1x1x30x1024 .f32) :
    ∀ (n : ℕ) (h : n ≤ 8), ∀ p ∈ bodies x0 n h, ∀ x, p.2 x = layout x0 x1 (p.1.emb x)
  | 0, _, p, hp => absurd hp List.not_mem_nil
  | n + 1, h, p, hp => by
    rcases List.mem_cons.1 hp with rfl | hp
    · exact body_eq x0 x1 n h
    · exact bodies_ok x0 x1 n _ p hp

/-- Every stored block is the layout on its rows. -/
theorem halos_ok (x0 : Vec Ideal S64x1024 .f32) (x1 : Vec Ideal S1x1x30x1024 .f32) :
    ∀ (n : ℕ) (h : n ≤ 8), ∀ p ∈ halos x0 x1 n h, ∀ x, p.2 x = layout x0 x1 (p.1.emb x)
  | 0, _, p, hp => bodies_ok x0 x1 8 le_rfl p hp
  | n + 1, h, p, hp => by
    rcases List.mem_cons.1 hp with rfl | hp
    · exact halo_eq x0 x1 n h
    · exact halos_ok x0 x1 n _ p hp

/-- Rows 32 and on of the blocks stored so far are covered. -/
theorem bodies_cover (x0 : Vec Ideal S64x1024 .f32) (y : S8x96x128.Idx) (hy : 32 ≤ (y 1).val) :
    ∀ (n : ℕ) (h : n ≤ 8), (y 0).val < n → ∃ p ∈ bodies x0 n h, y ∈ p.1.set
  | 0, _, h0 => absurd h0 (Nat.not_lt_zero _)
  | n + 1, h, h0 => by
    by_cases hn : (y 0).val < n
    · obtain ⟨p, hp, h'⟩ := bodies_cover x0 y hy n (Nat.le_of_succ_le h) hn
      exact ⟨p, List.mem_cons_of_mem _ hp, h'⟩
    · refine ⟨_, List.mem_cons_self, ?_⟩
      rw [Rect.mem_set_unit]
      have e1 : (y 1).val < 96 := (y 1).isLt
      have e2 : (y 2).val < 128 := (y 2).isLt
      intro a
      match a with
      | ⟨0, _⟩ => exact ⟨by show n ≤ (y 0).val; omega, by show (y 0).val < n + 1; omega⟩
      | ⟨1, _⟩ => exact ⟨hy, by show (y 1).val < 32 + 64; omega⟩
      | ⟨2, _⟩ => exact ⟨Nat.zero_le _, by show (y 2).val < 0 + 128; omega⟩

/-- Rows 2 and on are covered. -/
theorem halos_cover (x0 : Vec Ideal S64x1024 .f32) (x1 : Vec Ideal S1x1x30x1024 .f32) (y : S8x96x128.Idx) (hy : 2 ≤ (y 1).val) :
    ∀ (n : ℕ) (h : n ≤ 8), (y 0).val < n ∨ 32 ≤ (y 1).val → ∃ p ∈ halos x0 x1 n h, y ∈ p.1.set
  | 0, _, h0 => bodies_cover x0 y (h0.resolve_left (Nat.not_lt_zero _)) 8 le_rfl (y 0).isLt
  | n + 1, h, h0 => by
    by_cases hn : (y 0).val < n ∨ 32 ≤ (y 1).val
    · obtain ⟨p, hp, h'⟩ := halos_cover x0 x1 y hy n (Nat.le_of_succ_le h) hn
      exact ⟨p, List.mem_cons_of_mem _ hp, h'⟩
    · refine ⟨_, List.mem_cons_self, ?_⟩
      rw [Rect.mem_set_unit]
      have e2 : (y 2).val < 128 := (y 2).isLt
      intro a
      match a with
      | ⟨0, _⟩ => exact ⟨by show n ≤ (y 0).val; omega, by show (y 0).val < n + 1; omega⟩
      | ⟨1, _⟩ => exact ⟨hy, by show (y 1).val < 2 + 30; omega⟩
      | ⟨2, _⟩ => exact ⟨Nat.zero_le _, by show (y 2).val < 0 + 128; omega⟩

/-- The rows tap `k` of block `n` reads from the layout are the frames from the `k`th on. -/
theorem tap_read {sp : Space} (v : View sig .tc sp S8x96x128 .f32) (x0 : Vec Ideal S64x1024 .f32) (x1 : Vec Ideal S1x1x30x1024 .f32)
    (n : ℕ) (h : n < 8) (k : ℕ) (hk : k < 31) (r : Fin 64) (l : Fin 128) :
    v.readCov (Val := Elt Ideal) (halos x0 x1 8 le_rfl) (Rect.unit (s := S8x96x128) ![n, k + 2, 0] S1x64x128.size (tap_inb n h k hk)).toLoadRect (ix3 0 r l)
      = frameAt x0 x1 (k + r.val) (laneOf n h l) := by
  rw [View.readCov_eq_canon']
  have e2 : (Rect.unit (s := S8x96x128) ![n, k + 2, 0] S1x64x128.size (tap_inb n h k hk)).toLoadRect.idx (ix3 0 r l)
      = ix3 ⟨n, h⟩ ⟨k + r.val + 2, by omega⟩ l :=
    funext fun a => Fin.ext (by
      match a with
      | ⟨0, _⟩ => show n + 1 * 0 = n; omega
      | ⟨1, _⟩ => show k + 2 + 1 * r.val = k + r.val + 2; omega
      | ⟨2, _⟩ => show 0 + 1 * l.val = l.val; omega)
  refine (congrArg (View.canon (halos x0 x1 8 le_rfl)) e2).trans ?_
  refine (View.canon_apply_of_pieces (layout x0 x1) _ (halos_ok x0 x1 8 le_rfl) _
    (halos_cover x0 x1 _ (show 2 ≤ k + r.val + 2 by omega) 8 le_rfl (.inl h))).trans ?_
  rfl

/-! ## The stored blocks of lanes -/

/-- A stored block of lanes is the convolution's rows on its lanes. -/
theorem block_ok {sp : Space} (v : View sig .tc sp S8x96x128 .f32) (x0 : Vec Ideal S64x1024 .f32) (x1 : Vec Ideal S1x1x30x1024 .f32)
    (w : Vec Ideal S1x31x1024 .f32) (b : Vec Ideal S1x1x1024 .f32) (n : ℕ) (h : n < 8) (L : List (View.Piece (Elt Ideal) S8x96x128 .f32))
    (p : Vec Ideal S64x128 .f32)
    (hp : p = laneOut (View.ld w (Rect.unit (s := S1x31x1024) ![0, 0, 128 * n] S1x31x128.size (weights_inb n h)))
      (View.ld b (Rect.unit (s := S1x1x1024) ![0, 0, 128 * n] S1x1x128.size (row_inb n h)))
      (fun k hk => v.readCov (Val := Elt Ideal) L (Rect.unit (s := S8x96x128) ![n, k + 2, 0] S1x64x128.size (tap_inb n h k hk)).toLoadRect))
    (hL : L = halos x0 x1 8 le_rfl)
    (off : Fin 2 → ℕ) (hoff : off = ![0, 128 * n]) (x : S64x128.Idx) :
    p x = convRows x0 x1 w b ((Rect.unit (s := S64x1024) off S64x128.size (hoff ▸ rows_inb n h)).emb x) := by
  subst hp hL hoff
  obtain ⟨r, l, rfl⟩ : ∃ r l, x = ix2 r l := ⟨x 0, x 1, eq_ix2 x⟩
  have e2 : (Rect.unit (s := S64x1024) ![0, 128 * n] S64x128.size (rows_inb n h)).emb (ix2 r l) = ix2 r (laneOf n h l) :=
    funext fun a => Fin.ext (by
      match a with
      | ⟨0, _⟩ => show 0 + 1 * r.val = r.val; omega
      | ⟨1, _⟩ => show 128 * n + 1 * l.val = 128 * n + l.val; omega)
  rw [e2, laneOut_apply]
  refine congrArg₂ (· + ·) (Finset.sum_congr rfl fun k _ => congrArg₂ (· * ·) (congrArg w ?_) (tap_read v x0 x1 n h k.val k.isLt r l)) (congrArg b ?_)
  · funext a
    refine Fin.ext ?_
    match a with
    | ⟨0, _⟩ => rfl
    | ⟨1, _⟩ => show 0 + 1 * k.val = k.val; omega
    | ⟨2, _⟩ => show 128 * n + 1 * l.val = 128 * n + l.val; omega
  · funext a
    refine Fin.ext ?_
    match a with
    | ⟨0, _⟩ => rfl
    | ⟨1, _⟩ => rfl
    | ⟨2, _⟩ => show 128 * n + 1 * l.val = 128 * n + l.val; omega

/-- An index whose lane is in block `n` is in that block's rectangle. -/
theorem mem_block (off : Fin 2 → ℕ) (n : ℕ) (hn : n < 8) (hoff : off = ![0, 128 * n]) (y : S64x1024.Idx) (h : 128 * n ≤ (y 1).val ∧ (y 1).val < 128 * n + 128) :
    y ∈ (Rect.unit (s := S64x1024) off S64x128.size (hoff ▸ rows_inb n hn)).set := by
  subst hoff
  rw [Rect.mem_set_unit]
  have e0 : (y 0).val < 64 := (y 0).isLt
  intro a
  match a with
  | ⟨0, _⟩ => exact ⟨Nat.zero_le _, by show (y 0).val < 0 + 64; omega⟩
  | ⟨1, _⟩ => exact h

/-- Stored pieces of an array that cover it, read back whole, are the array. -/
theorem readback {sp : Space} (v : View sig .tc sp S64x1024 .f32) (L : List (View.Piece (Elt Ideal) S64x1024 .f32)) (G : Vec Ideal S64x1024 .f32) (hw)
    (hL : ∀ p ∈ L, ∀ x, p.2 x = G (p.1.emb x)) (hc : ∀ y : S64x1024.Idx, ∃ p ∈ L, y ∈ p.1.set) :
    v.readCov (Val := Elt Ideal) L (Rect.unit (s := S64x1024) ![0, 0] S64x1024.size hw).toLoadRect = G := by
  have hz : (![0, 0] : Fin S64x1024.rank → ℕ) = fun _ => 0 := by
    funext a; match a with | ⟨0, _⟩ => rfl | ⟨1, _⟩ => rfl
  rw [View.readCov_eq_canon_ld _ _ _ hc, View.ld_unit_zero hz]
  exact funext fun y => View.canon_apply_of_pieces G L hL y (hc y)

end Cert.Conv

end

end
-- ==== Proof.ConvRun.lean ====
/-
  What the run of a point of the convolution leaves in its staging buffer.
-/
module

public import proofs.«01_k».proof.Proof.ConvBlock

@[expose] public section

set_option maxRecDepth 16384

noncomputable section

namespace Cert.Conv

open Idealize.ShloMosaic Cert.Kernel9Ideal Cert.Kernel9Ideal.Gen Cert.Kernel9Ideal.Facts
open scoped BigOperators

/-- A batch element's result: the convolved rows' layer norm, gated. -/
def resultRows (cv : Vec Ideal S64x1024 .f32) (g b : Vec Ideal S1x1x1024 .f32) (u : Vec Ideal S64x1024 .bf16) : Vec Ideal S64x1024 .bf16 :=
  fun j => silu (layerNorm cv (fun k => g (ix3 0 0 k)) (fun k => b (ix3 0 0 k)) (j 0) (j 1)) * u j

/-- A load of the whole block puts an index at itself. -/
theorem emb_whole (h) (x : S64x1024.Idx) : (Rect.unit (s := S64x1024) ![0, 0] S64x1024.size h).emb x = x :=
  funext fun a => Fin.ext (by
    match a with
    | ⟨0, _⟩ => show 0 + 1 * (x 0).val = (x 0).val; omega
    | ⟨1, _⟩ => show 0 + 1 * (x 1).val = (x 1).val; omega)

/-- What is stored is the batch element's result. -/
theorem result_eq (cv : Vec Ideal S64x1024 .f32) (g b : Vec Ideal S1x1x1024 .f32) (u : Vec Ideal S64x1024 .bf16) (hg hb hu) :
    k0_pay1 (k0_pay146 cv (k0_pay145 cv) (Scalar.ofBits .f32 0x44800000#32)) (k0_pay147 cv (k0_pay145 cv) (Scalar.ofBits .f32 0x44800000#32))
        (View.ld g (Rect.unit (s := S1x1x1024) ![0, 0, 0] S1x1x1024.size hg)) (View.ld b (Rect.unit (s := S1x1x1024) ![0, 0, 0] S1x1x1024.size hb))
        (View.ld u (Rect.unit (s := S64x1024) ![0, 0] S64x1024.size hu))
      = resultRows cv g b u := by
  have hz : (![0, 0] : Fin S64x1024.rank → ℕ) = fun _ => 0 := by
    funext a; match a with | ⟨0, _⟩ => rfl | ⟨1, _⟩ => rfl
  have hz3 : (![0, 0, 0] : Fin S1x1x1024.rank → ℕ) = fun _ => 0 := by
    funext a; match a with | ⟨0, _⟩ => rfl | ⟨1, _⟩ => rfl | ⟨2, _⟩ => rfl
  rw [View.ld_unit_zero (S := S64x1024) hz, View.ld_unit_zero (S := S1x1x1024) hz3, View.ld_unit_zero (S := S1x1x1024) hz3]
  funext j
  obtain ⟨r, d, rfl⟩ : ∃ r d, j = ix2 r d := ⟨j 0, j 1, eq_ix2 j⟩
  exact final_apply cv g b u r d

variable (c : Dev nD) (i : grid0.Coords) (arg1 : Memref sig .tc .vmem S64x1024 .f32) (harg1 : arg1.IsWhole) (arg2 : Memref sig .tc .vmem S1x1x30x1024 .f32) (harg2 : arg2.IsWhole) (arg3 : Memref sig .tc .vmem S64x1024 .bf16) (harg3 : arg3.IsWhole) (arg4 : Memref sig .tc .vmem S1x31x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S64x1024 .bf16) (harg8 : arg8.IsWhole) (arg9 : Memref sig .tc .vmem S8x96x128 .f32) (harg9 : arg9.IsWhole) (arg10 : Memref sig .tc .vmem S64x1024 .f32) (harg10 : arg10.IsWhole)
    (x0 : Vec Ideal S64x1024 .f32) (x1 : Vec Ideal S1x1x30x1024 .f32) (x2 : Vec Ideal S64x1024 .bf16) (x3 : Vec Ideal S1x31x1024 .f32) (x4 : Vec Ideal S1x1x1024 .f32) (x5 : Vec Ideal S1x1x1024 .f32) (x6 : Vec Ideal S1x1x1024 .f32)
set_option maxHeartbeats 4000000 in
/-- What the point leaves in its staging buffer: its batch element's result. -/
theorem out_y :
    out0_A_7 c i arg1 harg1 arg2 harg2 arg3 harg3 arg4 harg4 arg5 harg5 arg6 harg6 arg7 harg7 arg8 harg8 arg9 harg9 arg10 harg10 x0 x1 x2 x3 x4 x5 x6
      = resultRows (convRows x0 x1 x3 x4) x5 x6 x2 := by
  have hcov := cover0_A_7 c i arg1 harg1 arg2 harg2 arg3 harg3 arg4 harg4 arg5 harg5 arg6 harg6 arg7 harg7 arg8 harg8 arg9 harg9 arg10 harg10 x0 x1 x2 x3 x4 x5 x6
  unfold out0_A_7
  rw [View.read_writes_eq_canon _ _ _ hcov]
  funext y
  refine View.canon_apply_of_pieces _ _ ?_ y (hcov y)
  clear hcov
  unfold kernelRun0_A
  dsimp only
  sl_unfold_words
  simp only [View.readAt_eq_ld, harg1.read_unread, harg2.read_unread, harg3.read_unread, harg4.read_unread, harg5.read_unread, harg6.read_unread,
    harg7.read_unread]
  intro p hp x
  simp only [List.mem_cons, List.not_mem_nil, or_false] at hp
  rcases hp with rfl
  dsimp only
  rw [emb_whole]
  refine Eq.trans (congrArg (fun cv => k0_pay1 (k0_pay146 cv (k0_pay145 cv) _) (k0_pay147 cv (k0_pay145 cv) _) _ _ _ x)
    (readback arg10.view _ (convRows x0 x1 x3 x4) _ ?_ ?_)) ?_
  · refine List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, List.forall_mem_cons.2 ⟨?_, fun _ h => absurd h List.not_mem_nil⟩⟩⟩⟩⟩⟩⟩⟩
    · exact block_ok arg9.view x0 x1 x3 x4 7 (by omega) _ _ rfl rfl _ rfl
    · exact block_ok arg9.view x0 x1 x3 x4 6 (by omega) _ _ rfl rfl _ rfl
    · exact block_ok arg9.view x0 x1 x3 x4 5 (by omega) _ _ rfl rfl _ rfl
    · exact block_ok arg9.view x0 x1 x3 x4 4 (by omega) _ _ rfl rfl _ rfl
    · exact block_ok arg9.view x0 x1 x3 x4 3 (by omega) _ _ rfl rfl _ rfl
    · exact block_ok arg9.view x0 x1 x3 x4 2 (by omega) _ _ rfl rfl _ rfl
    · exact block_ok arg9.view x0 x1 x3 x4 1 (by omega) _ _ rfl rfl _ rfl
    · exact block_ok arg9.view x0 x1 x3 x4 0 (by omega) _ _ rfl rfl _ rfl
  · intro y
    have hy : (y 1).val < 1024 := (y 1).isLt
    by_cases c0 : (y 1).val < 128
    · exact ⟨_, .tail _ (.tail _ (.tail _ (.tail _ (.tail _ (.tail _ (.tail _ (.head _))))))), mem_block _ 0 (by omega) rfl y (by omega)⟩
    by_cases c1 : (y 1).val < 256
    · exact ⟨_, .tail _ (.tail _ (.tail _ (.tail _ (.tail _ (.tail _ (.head _)))))), mem_block _ 1 (by omega) rfl y (by omega)⟩
    by_cases c2 : (y 1).val < 384
    · exact ⟨_, .tail _ (.tail _ (.tail _ (.tail _ (.tail _ (.head _))))), mem_block _ 2 (by omega) rfl y (by omega)⟩
    by_cases c3 : (y 1).val < 512
    · exact ⟨_, .tail _ (.tail _ (.tail _ (.tail _ (.head _)))), mem_block _ 3 (by omega) rfl y (by omega)⟩
    by_cases c4 : (y 1).val < 640
    · exact ⟨_, .tail _ (.tail _ (.tail _ (.head _))), mem_block _ 4 (by omega) rfl y (by omega)⟩
    by_cases c5 : (y 1).val < 768
    · exact ⟨_, .tail _ (.tail _ (.head _)), mem_block _ 5 (by omega) rfl y (by omega)⟩
    by_cases c6 : (y 1).val < 896
    · exact ⟨_, .tail _ (.head _), mem_block _ 6 (by omega) rfl y (by omega)⟩
    · exact ⟨_, .head _, mem_block _ 7 (by omega) rfl y (by omega)⟩
  · exact congrFun (result_eq _ x5 x6 x2 _ _ _) x

end Cert.Conv

end

end
-- ==== Proof.ConvArray.lean ====
/-
  The first layer's convolution over the sample: a point per batch element writes its 64 rows. Every entry is the gated
  layer norm of its batch element's convolved rows.
-/
module

public import proofs.«01_k».proof.Proof.ConvRun
public import proofs.«01_k».proof.Proof.OutRef
public import proofs.«01_k».proof.Proof.Gen.Kernel9Ideal.Value

@[expose] public section

set_option maxRecDepth 16384

noncomputable section

namespace Cert.Conv

open Idealize.ShloMosaic Cert.Kernel9Ideal Cert.Kernel9Ideal.Gen Cert.Kernel9Ideal.Facts
open Idealize.ShloMosaic.TcCoe Idealize.SL.Sem
open Idealize.ShloMosaic.Pipeline (Dat)
open Cert.OutProj (layerBlk layer_idx)
open scoped BigOperators

/-- Row `r` of batch element `b`, among all the rows. -/
def flatTok (b : Fin 16) (r : Fin 64) : Fin 1024 := ⟨b.val * 64 + r.val, by omega⟩
/-- The batch element of a row. -/
def elemOf (R : Fin 1024) : Fin 16 := ⟨R.val / 64, by omega⟩
/-- A row's place in its batch element. -/
def tokOf (R : Fin 1024) : Fin 64 := ⟨R.val % 64, by omega⟩

theorem elemOf_flatTok (b : Fin 16) (r : Fin 64) : elemOf (flatTok b r) = b := Fin.ext (by show (b.val * 64 + r.val) / 64 = b.val; omega)
theorem tokOf_flatTok (b : Fin 16) (r : Fin 64) : tokOf (flatTok b r) = r := Fin.ext (by show (b.val * 64 + r.val) % 64 = r.val; omega)
theorem flatTok_split (R : Fin 1024) : flatTok (elemOf R) (tokOf R) = R := Fin.ext (by show R.val / 64 * 64 + R.val % 64 = R.val; omega)

/-- The rows of a batch element. -/
def elemRows (x : S1024x1024.Idx → EReal) (b : Fin 16) : S64x1024.Idx → EReal := fun j => x (ix2 (flatTok b (j 0)) (j 1))
/-- The rows kept from before, of a batch element in the first layer. -/
def keptRows (x : S2x16x30x1024.Idx → EReal) (b : Fin 16) : S1x1x30x1024.Idx → EReal := fun j => x (ix4 0 b (j 2) (j 3))

/-- What the convolution makes of row `r` of batch element `b`. -/
def elemOut (u : Vec Ideal S1024x1024 .f32) (st : Vec Ideal S2x16x30x1024 .f32) (gb : Vec Ideal S1024x1024 .bf16) (w : Vec Ideal S2x31x1024 .f32)
    (cb g be : Vec Ideal S2x1x1024 .f32) (b : Fin 16) : Vec Ideal S64x1024 .bf16 :=
  resultRows (convRows (elemRows u b) (keptRows st b) (layerBlk w 0) (layerBlk cb 0)) (layerBlk g 0) (layerBlk be 0) (elemRows gb b)

/-! ## The points' blocks -/

/-- The batch element of a point. -/
def elemAt (t : Fin cfg0.N) : Fin 16 := ⟨t.val, lt_of_lt_of_eq t.isLt N_0⟩

/-- Which block each window stages. -/
theorem index_eq : ∀ t : Fin grid0.N,
    win0_0.index t = ![t.val, 0] ∧ win0_1.index t = ![0, t.val, 0, 0] ∧ win0_2.index t = ![t.val, 0] ∧ win0_3.index t = ![0, 0, 0]
      ∧ win0_4.index t = ![0, 0, 0] ∧ win0_5.index t = ![0, 0, 0] ∧ win0_6.index t = ![0, 0, 0] ∧ win0_7.index t = ![t.val, 0] := by
  decide +kernel

/-- An index of a point's rows, in the array. -/
theorem row_idx {t : Fin cfg0.N} {ix : Fin 2 → ℕ} (e : ix = ![t.val, 0]) (x : S1024x1024.Idx) (j : S64x1024.Idx)
    (h0 : (x 0).val = ix 0 * 64 + 1 * (j 0).val) (h1 : (x 1).val = ix 1 * 1024 + 1 * (j 1).val) :
    x = ix2 (flatTok (elemAt t) (j 0)) (j 1) := by
  subst e
  funext a
  refine Fin.ext ?_
  match a with
  | ⟨0, _⟩ => exact h0.trans (by simp [flatTok, elemAt, ix2])
  | ⟨1, _⟩ => exact h1.trans (by simp [ix2])

/-- An index of a point's kept rows, in the array. -/
theorem kept_idx {t : Fin cfg0.N} {ix : Fin 4 → ℕ} (e : ix = ![0, t.val, 0, 0]) (x : S2x16x30x1024.Idx) (j : S1x1x30x1024.Idx)
    (h0 : (x 0).val = ix 0 * 1 + 1 * (j 0).val) (h1 : (x 1).val = ix 1 * 1 + 1 * (j 1).val)
    (h2 : (x 2).val = ix 2 * 30 + 1 * (j 2).val) (h3 : (x 3).val = ix 3 * 1024 + 1 * (j 3).val) :
    x = ix4 0 (elemAt t) (j 2) (j 3) := by
  subst e
  have hj0 : (j 0).val = 0 := by have : (j 0).val < 1 := (j 0).isLt; omega
  have hj1 : (j 1).val = 0 := by have : (j 1).val < 1 := (j 1).isLt; omega
  funext a
  refine Fin.ext ?_
  match a with
  | ⟨0, _⟩ => exact h0.trans (by simp [ix4, hj0])
  | ⟨1, _⟩ => exact h1.trans (by simp [ix4, hj1, elemAt])
  | ⟨2, _⟩ => exact h2.trans (by simp [ix4])
  | ⟨3, _⟩ => exact h3.trans (by simp [ix4])

variable (m : (ℓ : Loc nD τ sig) → Buf (Elt Ideal) ℓ) (c : Dev nD) (t : Fin cfg0.N)

theorem iblk0 : iblk m c 0 t = elemRows (m ((c : Thread nD τ).loc main_arg0)) (elemAt t) :=
  funext fun j => congrArg (m ((c : Thread nD τ).loc main_arg0)) (row_idx (index_eq t).1 _ j rfl rfl)
theorem iblk1 : iblk m c 1 t = keptRows (m ((c : Thread nD τ).loc main_arg1)) (elemAt t) :=
  funext fun j => congrArg (m ((c : Thread nD τ).loc main_arg1)) (kept_idx (index_eq t).2.1 _ j rfl rfl rfl rfl)
theorem iblk2 : iblk m c 2 t = elemRows (m ((c : Thread nD τ).loc main_arg2)) (elemAt t) :=
  funext fun j => congrArg (m ((c : Thread nD τ).loc main_arg2)) (row_idx (index_eq t).2.2.1 _ j rfl rfl)
theorem iblk3 : iblk m c 3 t = layerBlk (m ((c : Thread nD τ).loc main_arg3)) 0 :=
  funext fun j => congrArg (m ((c : Thread nD τ).loc main_arg3)) (layer_idx (l := 0) (index_eq t).2.2.2.1 _ j rfl rfl rfl)
theorem iblk4 : iblk m c 4 t = layerBlk (m ((c : Thread nD τ).loc main_arg4)) 0 :=
  funext fun j => congrArg (m ((c : Thread nD τ).loc main_arg4)) (layer_idx (l := 0) (index_eq t).2.2.2.2.1 _ j rfl rfl rfl)
theorem iblk5 : iblk m c 5 t = layerBlk (m ((c : Thread nD τ).loc main_arg5)) 0 :=
  funext fun j => congrArg (m ((c : Thread nD τ).loc main_arg5)) (layer_idx (l := 0) (index_eq t).2.2.2.2.2.1 _ j rfl rfl rfl)
theorem iblk6 : iblk m c 6 t = layerBlk (m ((c : Thread nD τ).loc main_arg6)) 0 :=
  funext fun j => congrArg (m ((c : Thread nD τ).loc main_arg6)) (layer_idx (l := 0) (index_eq t).2.2.2.2.2.2.1 _ j rfl rfl rfl)

/-- The convolution's result for the arguments of device `c`, batch element by batch element. -/
def specElem (b : Fin 16) : Vec Ideal S64x1024 .bf16 :=
  elemOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b

/-- The same, as an array. -/
def spec : Vec Ideal S1024x1024 .bf16 := fun i => specElem m c (elemOf (i 0)) (ix2 (tokOf (i 0)) (i 1))

/-- The array at a point's row. -/
theorem spec_row (b : Fin 16) (r : Fin 64) (d : Fin 1024) : spec m c (ix2 (flatTok b r) d) = specElem m c b (ix2 r d) := by
  show specElem m c (elemOf (flatTok b r)) (ix2 (tokOf (flatTok b r)) d) = _
  rw [elemOf_flatTok, tokOf_flatTok]

/-- What a point writes back is its block of the array. -/
theorem flushed_eq : (dats m 0 c).flushed 7 t = ((cfg0.win 7).blk t).view.read (Elt Ideal) (spec m c) := by
  rw [Cert.Kernel9Ideal.Value.flushed7_A, out_y, iblk0, iblk1, iblk2, iblk3, iblk4, iblk5, iblk6]
  funext j
  obtain ⟨r, d, rfl⟩ : ∃ (r : Fin 64) (d : Fin 1024), j = ix2 r d := ⟨j 0, j 1, eq_ix2 j⟩
  exact (spec_row m c (elemAt t) r d).symm.trans (congrArg (spec m c) (row_idx (index_eq t).2.2.2.2.2.2.2 _ (ix2 r d) rfl rfl)).symm

omit t in
/-- Every index lies in some point's block. -/
theorem cover (i : S1024x1024.Idx) : ∃ t : Fin cfg0.N, (cfg0.win 7).flush t = true ∧ i ∈ ((cfg0.win 7).blk t).view.set := by
  have h0 : (i 0).val < 1024 := (i 0).isLt
  have h1 : (i 1).val < 1024 := (i 1).isLt
  have hN : cfg0.N = 16 := N_0
  obtain ⟨t, ht⟩ : ∃ t : Fin cfg0.N, t.val = (i 0).val / 64 := ⟨⟨(i 0).val / 64, by omega⟩, rfl⟩
  refine ⟨t, flush0_7 t, ?_⟩
  show i ∈ ((View.whole main_v0).slice (win0_7.rect t)).set
  rw [View.set_slice_whole, Rect.mem_set_unit]
  have e := (index_eq t).2.2.2.2.2.2.2
  intro a
  show win0_7.index t a * S64x1024.size a ≤ (i a).val ∧ (i a).val < win0_7.index t a * S64x1024.size a + S64x1024.size a
  rw [e]
  match a with
  | ⟨0, _⟩ => show t.val * 64 ≤ (i 0).val ∧ (i 0).val < t.val * 64 + 64; omega
  | ⟨1, _⟩ => show 0 * 1024 ≤ (i 1).val ∧ (i 1).val < 0 * 1024 + 1024; omega

omit t in
/-- The result's array ends as the whole array. -/
theorem final : (dats m 0 c).arrAt 7 cfg0.N = spec m c :=
  (dats m 0 c).arrAt_eq_of_cover 7 (spec m c) (fun t _ => flushed_eq m c t) cover

end Cert.Conv

end

end
-- ==== Proof.ConvWin.lean ====
/-
  The reference's windows: every row's 31 frames side by side, read at an index.
-/
module

public import proofs.«01_k».proof.Proof.ConvArray
public import proofs.«01_k».proof.Proof.Gen.Reference9Ideal.Read

@[expose] public section

set_option maxRecDepth 16384

noncomputable section

namespace Cert.Conv

open Idealize.ShloMosaic Cert.Reference9Ideal Cert.Reference9Ideal.Gen Cert.Reference9Ideal.Read Cert.Reference9Ideal.Facts
open Cert.OutProj (layerBlk)
open scoped BigOperators

/-- The 64 rows that tap `k` meets lie in the 94 frames. -/
theorem win_slices (k : ℕ) (hk : k < 31) : S16x94x1024.Slices ![0, k, 0] S16x64x1024 :=
  ⟨rfl, fun a => by
    match a with
    | ⟨0, _⟩ => exact le_rfl
    | ⟨1, _⟩ => show k + 64 ≤ 94; omega
    | ⟨2, _⟩ => exact le_rfl⟩

/-- The frames tap `k` meets, with the tap's axis put in. -/
def win (f : S16x94x1024.Idx → EReal) (k : ℕ) (hk : k < 31) : S16x64x1x1024.Idx → EReal :=
  broadcastInDim S16x64x1x1024 ![0, 1, 3] bcast_S16x64x1024_S16x64x1x1024_0_1_3 (extractStridedSlice S16x64x1024 ![0, k, 0] f (win_slices k hk))

/-- A tap's frame at an index. -/
theorem win_apply (f : S16x94x1024.Idx → EReal) (k : ℕ) (hk : k < 31) (b : Fin 16) (t : Fin 64) (d : Fin 1024) :
    win f k hk (ix4 b t 0 d) = f (ix3 b ⟨k + t.val, by omega⟩ d) := by
  unfold win
  refine (broadcastInDim_apply _ _ _ (ix4 b t 0 d) (ix3 b t d) (fun a => ?_)).trans (congrArg f (funext fun a => Fin.ext ?_))
  · fin_cases a <;> rfl
  · match a with
    | ⟨0, _⟩ => show 0 + b.val = b.val; omega
    | ⟨1, _⟩ => rfl
    | ⟨2, _⟩ => show 0 + d.val = d.val; omega

variable (x0 : Vec Ideal S1024x1024 .f32) (x1 : Vec Ideal S2x16x30x1024 .f32)

/-- The first sixteen windows, as a family. -/
theorem v66_apply (b : Fin 16) (t : Fin 64) (n : Fin 16) (d : Fin 1024) :
    val_main_v66 (F := Ideal) x0 x1 (ix4 b t n d) = val_main_v3 (F := Ideal) x0 x1 (ix3 b ⟨n.val + t.val, by omega⟩ d) := by
  unfold val_main_v66 val_main_v35 val_main_v36 val_main_v37 val_main_v38 val_main_v39 val_main_v40 val_main_v41 val_main_v42 val_main_v43
    val_main_v44 val_main_v45 val_main_v46 val_main_v47 val_main_v48 val_main_v49 val_main_v50
    val_main_v4 val_main_v5 val_main_v6 val_main_v7 val_main_v8 val_main_v9 val_main_v10 val_main_v11 val_main_v12 val_main_v13 val_main_v14
    val_main_v15 val_main_v16 val_main_v17 val_main_v18 val_main_v19
  generalize val_main_v3 (F := Ideal) x0 x1 = f
  refine concatenate_ofFn_unit_eq (t := S16x64x16x1024) (s₁ := S16x64x1x1024) 2 (fun n : Fin 16 => win f n.val (by omega)) _ (ix4 b t n d) _ rfl rfl
    (fun q i hq h0 hb => ?_)
  obtain rfl : n = q := Fin.ext hq
  obtain rfl : i = ix4 b t 0 d := funext fun a => Fin.ext (by
    match a with
    | ⟨0, _⟩ => exact hb 0 (by decide)
    | ⟨1, _⟩ => exact hb 1 (by decide)
    | ⟨2, _⟩ => exact h0
    | ⟨3, _⟩ => exact hb 3 (by decide))
  exact win_apply f _ _ b t d

/-- The other fifteen windows. -/
theorem v67_apply (b : Fin 16) (t : Fin 64) (n : Fin 15) (d : Fin 1024) :
    val_main_v67 (F := Ideal) x0 x1 (ix4 b t n d) = val_main_v3 (F := Ideal) x0 x1 (ix3 b ⟨16 + n.val + t.val, by omega⟩ d) := by
  unfold val_main_v67 val_main_v51 val_main_v52 val_main_v53 val_main_v54 val_main_v55 val_main_v56 val_main_v57 val_main_v58 val_main_v59
    val_main_v60 val_main_v61 val_main_v62 val_main_v63 val_main_v64 val_main_v65
    val_main_v20 val_main_v21 val_main_v22 val_main_v23 val_main_v24 val_main_v25 val_main_v26 val_main_v27 val_main_v28 val_main_v29 val_main_v30
    val_main_v31 val_main_v32 val_main_v33 val_main_v34
  generalize val_main_v3 (F := Ideal) x0 x1 = f
  refine concatenate_ofFn_unit_eq (t := S16x64x15x1024) (s₁ := S16x64x1x1024) 2 (fun n : Fin 15 => win f (16 + n.val) (by omega)) _ (ix4 b t n d) _ rfl rfl
    (fun q i hq h0 hb => ?_)
  obtain rfl : n = q := Fin.ext hq
  obtain rfl : i = ix4 b t 0 d := funext fun a => Fin.ext (by
    match a with
    | ⟨0, _⟩ => exact hb 0 (by decide)
    | ⟨1, _⟩ => exact hb 1 (by decide)
    | ⟨2, _⟩ => exact h0
    | ⟨3, _⟩ => exact hb 3 (by decide))
  exact win_apply f _ _ b t d

/-- Every window. -/
theorem v68_apply (b : Fin 16) (t : Fin 64) (k : Fin 31) (d : Fin 1024) :
    val_main_v68 (F := Ideal) x0 x1 (ix4 b t k d) = val_main_v3 (F := Ideal) x0 x1 (ix3 b ⟨k.val + t.val, by omega⟩ d) := by
  unfold val_main_v68
  by_cases h : k.val < 16
  · refine (concatenate_pair_apply_left (s₁ := S16x64x16x1024) (s₂ := S16x64x15x1024) 2 _ _ _ (ix4 b t k d) rfl
      (ix4 b t (⟨k.val, h⟩ : Fin 16) d) (fun a => by fin_cases a <;> rfl)).trans ?_
    exact v66_apply x0 x1 b t ⟨k.val, h⟩ d
  · refine (concatenate_pair_apply_right (s₁ := S16x64x16x1024) (s₂ := S16x64x15x1024) 2 _ _ _ (ix4 b t k d) rfl rfl
      (ix4 b t (⟨k.val - 16, by omega⟩ : Fin 15) d) (fun a ha => ?_) ?_).trans ?_
    · fin_cases a <;> first | rfl | exact absurd rfl ha
    · show (k.val - 16) + 16 = k.val; omega
    · refine (v67_apply x0 x1 b t ⟨k.val - 16, by omega⟩ d).trans (congrArg (fun p => val_main_v3 (F := Ideal) x0 x1 (ix3 b p d)) (Fin.ext ?_))
      show 16 + (k.val - 16) + t.val = k.val + t.val; omega

/-- The frames of a batch element, kept and new. -/
theorem v3_apply (b : Fin 16) (p : Fin 94) (d : Fin 1024) :
    val_main_v3 (F := Ideal) x0 x1 (ix3 b p d) = frameAt (elemRows x0 b) (keptRows x1 b) p.val d := by
  unfold val_main_v3
  by_cases h : p.val < 30
  · refine (concatenate_pair_apply_left (s₁ := S16x30x1024) (s₂ := S16x64x1024) 1 _ _ _ (ix3 b p d) rfl
      (ix3 b (⟨p.val, h⟩ : Fin 30) d) (fun a => by fin_cases a <;> rfl)).trans ?_
    refine Eq.trans ?_ (frameAt_kept (elemRows x0 b) (keptRows x1 b) ⟨p.val, h⟩ d).symm
    unfold val_main_v1 val_main_v0
    pointwise
    rfl
  · refine (concatenate_pair_apply_right (s₁ := S16x30x1024) (s₂ := S16x64x1024) 1 _ _ _ (ix3 b p d) rfl rfl
      (ix3 b (⟨p.val - 30, by omega⟩ : Fin 64) d) (fun a ha => ?_) ?_).trans ?_
    · fin_cases a <;> first | rfl | exact absurd rfl ha
    · show (p.val - 30) + 30 = p.val; omega
    · refine Eq.trans ?_ ((frameAt_new (elemRows x0 b) (keptRows x1 b) ⟨p.val - 30, by omega⟩ d).symm.trans
        (congrArg (fun q => frameAt (elemRows x0 b) (keptRows x1 b) q d) (by show 30 + (p.val - 30) = p.val; omega)))
      rw [val_main_v2_apply]
      refine congrArg x0 (funext fun a => Fin.ext ?_)
      match a with
      | ⟨0, _⟩ => show ((b.val * 64 + (p.val - 30)) * 1024 + d.val) / 1024 = b.val * 64 + (p.val - 30); omega
      | ⟨1, _⟩ => show ((b.val * 64 + (p.val - 30)) * 1024 + d.val) % 1024 = d.val; omega

end Cert.Conv

end

end
-- ==== Proof.ConvRef.lean ====
/-
  The reference of the first layer's convolution over the sample, read at an index: the same 31 taps, the same layer norm,
  the same gate, batch element by batch element.
-/
module

public import proofs.«01_k».proof.Proof.ConvWin

@[expose] public section

set_option maxRecDepth 16384

noncomputable section

namespace Cert.Conv

open Idealize.ShloMosaic Cert.Reference9Ideal Cert.Reference9Ideal.Gen Cert.Reference9Ideal.Read
open Cert.OutProj (layerBlk)
open scoped BigOperators

variable (x0 : Vec Ideal S1024x1024 .f32) (x1 : Vec Ideal S2x16x30x1024 .f32) (x2 : Vec Ideal S1024x1024 .bf16) (x3 : Vec Ideal S2x31x1024 .f32)
  (x4 x5 x6 : Vec Ideal S2x1x1024 .f32)

/-- The reference's weights are the first layer's. -/
theorem v70_apply (k : Fin 31) (d : Fin 1024) : val_main_v70 (F := Ideal) x3 (ix2 k d) = x3 (ix3 0 k d) := by
  unfold val_main_v70 val_main_v69
  pointwise

/-- The reference's bias is the first layer's. -/
theorem v76_apply (b : Fin 16) (t : Fin 64) (d : Fin 1024) : val_main_v76 (F := Ideal) x4 (ix3 b t d) = x4 (ix3 0 0 d) := by
  unfold val_main_v76 val_main_v75 val_main_v74 val_main_v73
  pointwise

/-- The reference's sum over the taps. -/
theorem v72_apply (b : Fin 16) (t : Fin 64) (d : Fin 1024) :
    val_main_v72 (F := Ideal) x0 x1 x3 (ix3 b t d)
      = ∑ k : Fin 31, x3 (ix3 0 k d) * frameAt (elemRows x0 b) (keptRows x1 b) (k.val + t.val) d := by
  rw [val_main_v72_apply, val_main_v71_apply]
  refine Finset.sum_congr rfl fun k _ => congrArg₂ (· * ·) ?_ ?_
  · exact (congrArg (val_main_v70 (F := Ideal) x3) (eq_ix2 _)).trans (v70_apply x3 k d)
  · exact (congrArg (val_main_v68 (F := Ideal) x0 x1) (eq_ix4 _)).trans ((v68_apply x0 x1 b t k d).trans (v3_apply x0 x1 b _ d))

/-- The reference's convolution, a batch element at a time. -/
theorem ref_conv (b : Fin 16) :
    (fun j : Cert.Kernel9Ideal.S64x1024.Idx => val_main_v77 (F := Ideal) x0 x1 x3 x4 (ix3 b (j 0) (j 1)))
      = convRows (elemRows x0 b) (keptRows x1 b) (layerBlk x3 0) (layerBlk x4 0) := by
  funext j
  exact congrArg₂ (· + ·) (v72_apply x0 x1 x3 b (j 0) (j 1)) (v76_apply x4 b (j 0) (j 1))

/-- The reference's layer norm, of its convolution. -/
theorem ref_norm (b : Fin 16) (t : Fin 64) (d : Fin 1024) :
    val_main_v105 (F := Ideal) x0 x1 x3 x4 x5 x6 (ix3 b t d)
      = layerNorm (fun j : Cert.Kernel9Ideal.S64x1024.Idx => val_main_v77 (F := Ideal) x0 x1 x3 x4 (ix3 b (j 0) (j 1)))
          (fun k => layerBlk x5 0 (ix3 0 0 k)) (fun k => layerBlk x6 0 (ix3 0 0 k)) t d := by
  unfold val_main_v105 val_main_v104 val_main_v103 val_main_v102 val_main_v101 val_main_v100 val_main_v99 val_main_v98 val_main_v97 val_main_v96
    val_main_v95 val_main_v94 val_main_v93 val_main_v92 val_main_v91 val_main_v90 val_main_v89 val_main_v88 val_main_v87 val_main_v86 val_main_v85
    val_main_v84 val_main_v83 val_main_v82 val_main_v81 val_main_v80 val_main_v79 val_main_v78
  generalize val_main_v77 (F := Ideal) x0 x1 x3 x4 = cv
  pointwise
  simp only [val_main_cst_apply, val_main_cst_0_apply, val_main_cst_1_apply, val_main_cst_2_apply, val_main_cst_3_apply,
    show (FloatOps.ofBits .f32 0x00000000#32 : Ideal .f32) = 0 from Ideal.ofBits_zero_f32, zero_add]
  rfl

/-- A value times its logistic, the negation written as the reference writes it. -/
theorem silu_eq (y : EReal) : silu y = y * Ideal.div 1 (1 + Ideal.exp (-y)) := by
  unfold silu
  rw [Ideal.ofBits_zero_f32, zero_sub, Ideal.ofBits_one_f32]

/-- The reference's gate. -/
theorem ref_gate (b : Fin 16) (t : Fin 64) (d : Fin 1024) :
    val_main_v106 (F := Ideal) x0 x1 x3 x4 x5 x6 (ix3 b t d) = silu (val_main_v105 (F := Ideal) x0 x1 x3 x4 x5 x6 (ix3 b t d)) := by
  rw [silu_eq]
  unfold val_main_v106 val_main_call0_v5 val_main_call0_v4 val_main_call0_v3 val_main_call0_v2 val_main_call0_v1 val_main_call0_v0
  generalize val_main_v105 (F := Ideal) x0 x1 x3 x4 x5 x6 = y
  pointwise
  rw [val_main_call0_cst_apply, val_main_call0_cst_0_apply,
    show (FloatOps.ofBits .f32 0x3F800000#32 : Ideal .f32) = 1 from Ideal.ofBits_one_f32]

/-- The reference's result is the kernel's array. -/
theorem ref_main :
    val_main_v110 (F := Ideal) x0 x1 x2 x3 x4 x5 x6
      = fun i => elemOut x0 x1 x2 x3 x4 x5 x6 (elemOf (i 0)) (ix2 (tokOf (i 0)) (i 1)) := by
  funext i
  obtain ⟨R, d, rfl⟩ : ∃ (R : Fin 1024) (d : Fin 1024), i = ix2 R d := ⟨i 0, i 1, eq_ix2 i⟩
  have e : idx_main_v107 (ix2 R d) = ix3 (elemOf R) (tokOf R) d := by
    funext a
    match a with
    | ⟨0, _⟩ => exact Fin.ext (by show (R.val * 1024 + d.val) / 65536 = R.val / 64; omega)
    | ⟨1, _⟩ => exact Fin.ext (by show (R.val * 1024 + d.val) / 1024 % 64 = R.val % 64; omega)
    | ⟨2, _⟩ => exact Fin.ext (by show (R.val * 1024 + d.val) % 1024 = d.val; omega)
  have hr : val_main_v107 (F := Ideal) x0 x1 x3 x4 x5 x6 (ix2 R d)
      = silu (layerNorm (convRows (elemRows x0 (elemOf R)) (keptRows x1 (elemOf R)) (layerBlk x3 0) (layerBlk x4 0))
          (fun k => layerBlk x5 0 (ix3 0 0 k)) (fun k => layerBlk x6 0 (ix3 0 0 k)) (tokOf R) d) := by
    rw [val_main_v107_apply, e, ref_gate, ref_norm, ref_conv]
  have hg : elemRows x2 (elemOf R) (ix2 (tokOf R) d) = x2 (ix2 R d) := congrArg (fun q => x2 (ix2 q d)) (flatTok_split R)
  exact congrArg₂ (· * ·) hr hg.symm

end Cert.Conv

end

end
-- ==== Proof.ConvClaims.lean ====
/-
  The claims about the first layer's convolution over the sample.
-/
module

public import proofs.«01_k».proof.Defs
public import proofs.«01_k».proof.Proof.ConvRef
public import proofs.«01_k».proof.Proof.Gen.Kernel9.Frame
public import proofs.«01_k».proof.Proof.Gen.Reference9Ideal.Run
public import Idealize.ShloMosaic.Lib.Quiescent

@[expose] public section

set_option maxRecDepth 16384

noncomputable section

namespace Cert.Conv

open Idealize.ShloMosaic Idealize.ShloMosaic.TcCoe Idealize.SL.Sem

/-- The convolution's kernel runs and leaves its arguments, at the machine's floats. -/
theorem frame_p : Cert.quiescent_Kernel9 := fun m ρ _ => Cert.Kernel9.Gen.frame m ρ
/-- The same, at exact values. -/
theorem frame_pi : Cert.quiescent_Kernel9Ideal := fun m ρ _ => Cert.Kernel9Ideal.Gen.frame m ρ
/-- The convolution's reference runs and leaves its arguments. -/
theorem frame_ri : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- Nothing was replaced in the convolution. -/
theorem preserves : Cert.preserves_Kernel9_Kernel9Ideal := trivial

/-- The reference's result, for arguments that are device `c`'s, is its array. -/
theorem ref_spec (m : (ℓ : Loc Cert.Kernel9Ideal.nD Cert.Kernel9Ideal.τ Cert.Kernel9Ideal.sig) → Buf (Elt Ideal) ℓ) (c : Dev Cert.Kernel9Ideal.nD)
    {y0 : Vec Ideal Cert.Kernel9Ideal.S1024x1024 .f32} {y1 : Vec Ideal Cert.Kernel9Ideal.S2x16x30x1024 .f32} {y2 : Vec Ideal Cert.Kernel9Ideal.S1024x1024 .bf16}
    {y3 : Vec Ideal Cert.Kernel9Ideal.S2x31x1024 .f32} {y4 y5 y6 : Vec Ideal Cert.Kernel9Ideal.S2x1x1024 .f32}
    (e0 : y0 = m ((c : Thread Cert.Kernel9Ideal.nD Cert.Kernel9Ideal.τ).loc Cert.Kernel9Ideal.main_arg0))
    (e1 : y1 = m ((c : Thread Cert.Kernel9Ideal.nD Cert.Kernel9Ideal.τ).loc Cert.Kernel9Ideal.main_arg1))
    (e2 : y2 = m ((c : Thread Cert.Kernel9Ideal.nD Cert.Kernel9Ideal.τ).loc Cert.Kernel9Ideal.main_arg2))
    (e3 : y3 = m ((c : Thread Cert.Kernel9Ideal.nD Cert.Kernel9Ideal.τ).loc Cert.Kernel9Ideal.main_arg3))
    (e4 : y4 = m ((c : Thread Cert.Kernel9Ideal.nD Cert.Kernel9Ideal.τ).loc Cert.Kernel9Ideal.main_arg4))
    (e5 : y5 = m ((c : Thread Cert.Kernel9Ideal.nD Cert.Kernel9Ideal.τ).loc Cert.Kernel9Ideal.main_arg5))
    (e6 : y6 = m ((c : Thread Cert.Kernel9Ideal.nD Cert.Kernel9Ideal.τ).loc Cert.Kernel9Ideal.main_arg6)) :
    Cert.Reference9Ideal.Read.val_main_v110 (F := Ideal) y0 y1 y2 y3 y4 y5 y6 = spec m c := by
  subst e0 e1 e2 e3 e4 e5 e6
  exact ref_main _ _ _ _ _ _ _

/-- Kernel and reference end with the same convolved, normed and gated rows. -/
theorem algebraic : Cert.algebraic_Kernel9Ideal_Reference9Ideal := by
  intro m ρ m' ρ' _ hagree
  refine ⟨fun c => spec m c, ?_, ?_⟩
  · exact (θ_run Cert.Kernel9Ideal.defs _ _).mono (fun _ h c => ⟨(h c).1.trans (final m c), (h c).2⟩)
      (Cert.Kernel9Ideal.Value.run_blocks (F := Ideal) m ρ)
  · refine (θ_run Cert.Reference9Ideal.defs _ _).mono (fun _ h c => ⟨(h c).1.trans ?_, (h c).2⟩)
      (Cert.Reference9Ideal.Value.run (F := Ideal) m' ρ')
    obtain ⟨e0, e1, e2, e3, e4, e5, e6⟩ := hagree c
    rw [Cert.Reference9Ideal.Read.val_main_v110_eq]
    exact ref_spec m c e0 e1 e2 e3 e4 e5 e6

end Cert.Conv

end

end
-- ==== Proof.lean ====
/- The proof of everything claimed: the programs' stated facts first, then the frames, what the named constant stands
   for, and the equality with the reference, each from its own module. -/
module

public import proofs.«01_k».proof.Defs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_sample
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_below_infinity
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.AttnClaims
public import proofs.«01_k».proof.Proof.InClaims
public import proofs.«01_k».proof.Proof.OutClaims
public import proofs.«01_k».proof.Proof.QkvClaims
public import proofs.«01_k».proof.Proof.SampClaims
public import proofs.«01_k».proof.Proof.NormClaims
public import proofs.«01_k».proof.Proof.AdaClaims
public import proofs.«01_k».proof.Proof.CumClaims
public import proofs.«01_k».proof.Proof.ConvClaims
public import Idealize.ShloMosaic.Adequacy
public import Idealize.ShloMosaic.Init

@[expose] public section

noncomputable section

namespace Cert.Proof

open Idealize.ShloMosaic Idealize.SL.Sem Cert.Kernel

/-- All that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_scores.Gen.facts, Cert.Pre_finite_sample.Gen.facts, Cert.Pre_below_infinity.Gen.facts,
  Cert.Attn.frame_p, Cert.Attn.frame_pi, Cert.Attn.frame_pi_pre, Cert.Attn.frame_ri, Cert.Attn.frame_ri_pre,
  Cert.InProj.frame_p, Cert.InProj.frame_pi, Cert.InProj.frame_ri,
  Cert.OutProj.frame_p, Cert.OutProj.frame_pi, Cert.OutProj.frame_ri,
  Cert.Qkv.frame_p, Cert.Qkv.frame_pi, Cert.Qkv.frame_ri,
  Cert.Samp.frame_p, Cert.Samp.frame_pi, Cert.Samp.frame_pi_pre, Cert.Samp.frame_ri, Cert.Samp.frame_ri_pre,
  Cert.Norm.frame_p, Cert.Norm.frame_pi, Cert.Norm.frame_ri,
  Cert.Ada.frame_p, Cert.Ada.frame_pi, Cert.Ada.frame_ri,
  Cert.Cum.frame_p, Cert.Cum.frame_pi, Cert.Cum.frame_pi_pre, Cert.Cum.frame_ri, Cert.Cum.frame_ri_pre,
  Cert.Conv.frame_p, Cert.Conv.frame_pi, Cert.Conv.frame_ri,
  Cert.Attn.preserves, Cert.Attn.algebraic,
  Cert.InProj.preserves, Cert.InProj.algebraic, Cert.OutProj.preserves, Cert.OutProj.algebraic,
  Cert.Qkv.preserves, Cert.Qkv.algebraic, Cert.Samp.preserves, Cert.Samp.algebraic,
  Cert.Norm.preserves, Cert.Norm.algebraic, Cert.Ada.preserves, Cert.Ada.algebraic,
  Cert.Cum.preserves, Cert.Cum.algebraic,
  Cert.Conv.preserves, Cert.Conv.algebraic⟩

end Cert.Proof

end
